-- ==== Defs.lean ====
def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_MlpLast (m : (ℓ : Loc Cert.MlpLast.nD Cert.MlpLast.τ Cert.MlpLast.sig) → Buf (Elt Bits) ℓ) : Prop :=
  True

def Pre_MlpLastIdeal (m : (ℓ : Loc Cert.MlpLastIdeal.nD Cert.MlpLastIdeal.τ Cert.MlpLastIdeal.sig) → Buf (Elt Ideal) ℓ) : Prop :=
  True

def Pre_MlpLastRefIdeal (m : (ℓ : Loc Cert.MlpLastRefIdeal.nD Cert.MlpLastRefIdeal.τ Cert.MlpLastRefIdeal.sig) → Buf (Elt Ideal) ℓ) : Prop :=
  True

def Pre_MlpSample (m : (ℓ : Loc Cert.MlpSample.nD Cert.MlpSample.τ Cert.MlpSample.sig) → Buf (Elt Bits) ℓ) : Prop :=
  True

def Pre_MlpSampleIdeal (m : (ℓ : Loc Cert.MlpSampleIdeal.nD Cert.MlpSampleIdeal.τ Cert.MlpSampleIdeal.sig) → Buf (Elt Ideal) ℓ) : Prop :=
  True

def Pre_MlpSampleRefIdeal (m : (ℓ : Loc Cert.MlpSampleRefIdeal.nD Cert.MlpSampleRefIdeal.τ Cert.MlpSampleRefIdeal.sig) → Buf (Elt Ideal) ℓ) : Prop :=
  True

def Pre_RgSample (m : (ℓ : Loc Cert.RgSample.nD Cert.RgSample.τ Cert.RgSample.sig) → Buf (Elt Bits) ℓ) : Prop :=
  True

def Pre_RgSampleIdeal (m : (ℓ : Loc Cert.RgSampleIdeal.nD Cert.RgSampleIdeal.τ Cert.RgSampleIdeal.sig) → Buf (Elt Ideal) ℓ) : Prop :=
  True

def Pre_RgSampleRefIdeal (m : (ℓ : Loc Cert.RgSampleRefIdeal.nD Cert.RgSampleRefIdeal.τ Cert.RgSampleRefIdeal.sig) → Buf (Elt Ideal) ℓ) : Prop :=
  True

def Pre_BandProj (m : (ℓ : Loc Cert.BandProj.nD Cert.BandProj.τ Cert.BandProj.sig) → Buf (Elt Bits) ℓ) : Prop :=
  True

def Pre_BandProjIdeal (m : (ℓ : Loc Cert.BandProjIdeal.nD Cert.BandProjIdeal.τ Cert.BandProjIdeal.sig) → Buf (Elt Ideal) ℓ) : Prop :=
  True

def Pre_BandProjRefIdeal (m : (ℓ : Loc Cert.BandProjRefIdeal.nD Cert.BandProjRefIdeal.τ Cert.BandProjRefIdeal.sig) → Buf (Elt Ideal) ℓ) : Prop :=
  True

def Pre_BandRows (m : (ℓ : Loc Cert.BandRows.nD Cert.BandRows.τ Cert.BandRows.sig) → Buf (Elt Bits) ℓ) : Prop :=
  True

def Pre_BandRowsIdeal (m : (ℓ : Loc Cert.BandRowsIdeal.nD Cert.BandRowsIdeal.τ Cert.BandRowsIdeal.sig) → Buf (Elt Ideal) ℓ) : Prop :=
  True

def Pre_BandRowsRefIdeal (m : (ℓ : Loc Cert.BandRowsRefIdeal.nD Cert.BandRowsRefIdeal.τ Cert.BandRowsRefIdeal.sig) → Buf (Elt Ideal) ℓ) : Prop :=
  True

def Pre_DiffRows (m : (ℓ : Loc Cert.DiffRows.nD Cert.DiffRows.τ Cert.DiffRows.sig) → Buf (Elt Bits) ℓ) : Prop :=
  True

def Pre_DiffRowsIdeal (m : (ℓ : Loc Cert.DiffRowsIdeal.nD Cert.DiffRowsIdeal.τ Cert.DiffRowsIdeal.sig) → Buf (Elt Ideal) ℓ) : Prop :=
  True

def Pre_DiffRowsRefIdeal (m : (ℓ : Loc Cert.DiffRowsRefIdeal.nD Cert.DiffRowsRefIdeal.τ Cert.DiffRowsRefIdeal.sig) → Buf (Elt Ideal) ℓ) : Prop :=
  True

def Pre_DiffProj (m : (ℓ : Loc Cert.DiffProj.nD Cert.DiffProj.τ Cert.DiffProj.sig) → Buf (Elt Bits) ℓ) : Prop :=
  True

def Pre_DiffProjIdeal (m : (ℓ : Loc Cert.DiffProjIdeal.nD Cert.DiffProjIdeal.τ Cert.DiffProjIdeal.sig) → Buf (Elt Ideal) ℓ) : Prop :=
  True

def Pre_DiffProjRefIdeal (m : (ℓ : Loc Cert.DiffProjRefIdeal.nD Cert.DiffProjRefIdeal.τ Cert.DiffProjRefIdeal.sig) → Buf (Elt Ideal) ℓ) : Prop :=
  True

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_MlpLast [hMlpLast : Cert.MlpLast.Facts] : Prop :=
  ∀ (m : (ℓ : Loc Cert.MlpLast.nD Cert.MlpLast.τ Cert.MlpLast.sig) → Buf (Elt Bits) ℓ) (g : Dev Cert.MlpLast.nD → PrngReg), Pre_MlpLast m →
    θ_run (Cert.MlpLast.defs (F := Bits)) (onTc (τ := Cert.MlpLast.τ) (Cert.MlpLast.main (F := Bits))) ⟨m, fun _ => 0, g⟩ (fun r => (∀ c : Dev Cert.MlpLast.nD,
      r.2.mem ((c.tc : Thread Cert.MlpLast.nD Cert.MlpLast.τ).loc Cert.MlpLast.main_arg0) = m ((c.tc : Thread Cert.MlpLast.nD Cert.MlpLast.τ).loc Cert.MlpLast.main_arg0)
      ∧ r.2.mem ((c.tc : Thread Cert.MlpLast.nD Cert.MlpLast.τ).loc Cert.MlpLast.main_arg1) = m ((c.tc : Thread Cert.MlpLast.nD Cert.MlpLast.τ).loc Cert.MlpLast.main_arg1)
      ∧ r.2.mem ((c.tc : Thread Cert.MlpLast.nD Cert.MlpLast.τ).loc Cert.MlpLast.main_arg2) = m ((c.tc : Thread Cert.MlpLast.nD Cert.MlpLast.τ).loc Cert.MlpLast.main_arg2)
      ∧ r.2.mem ((c.tc : Thread Cert.MlpLast.nD Cert.MlpLast.τ).loc Cert.MlpLast.main_arg3) = m ((c.tc : Thread Cert.MlpLast.nD Cert.MlpLast.τ).loc Cert.MlpLast.main_arg3)
      ∧ r.2.mem ((c.tc : Thread Cert.MlpLast.nD Cert.MlpLast.τ).loc Cert.MlpLast.main_arg4) = m ((c.tc : Thread Cert.MlpLast.nD Cert.MlpLast.τ).loc Cert.MlpLast.main_arg4))
      ∧ r.2.sem = fun _ => 0)

def quiescent_MlpLastIdeal [hMlpLastIdeal : Cert.MlpLastIdeal.Facts] : Prop :=
  ∀ (m : (ℓ : Loc Cert.MlpLastIdeal.nD Cert.MlpLastIdeal.τ Cert.MlpLastIdeal.sig) → Buf (Elt Ideal) ℓ) (g : Dev Cert.MlpLastIdeal.nD → PrngReg), Pre_MlpLastIdeal m →
    θ_run (Cert.MlpLastIdeal.defs (F := Ideal)) (onTc (τ := Cert.MlpLastIdeal.τ) (Cert.MlpLastIdeal.main (F := Ideal))) ⟨m, fun _ => 0, g⟩ (fun r => (∀ c : Dev Cert.MlpLastIdeal.nD,
      r.2.mem ((c.tc : Thread Cert.MlpLastIdeal.nD Cert.MlpLastIdeal.τ).loc Cert.MlpLastIdeal.main_arg0) = m ((c.tc : Thread Cert.MlpLastIdeal.nD Cert.MlpLastIdeal.τ).loc Cert.MlpLastIdeal.main_arg0)
      ∧ r.2.mem ((c.tc : Thread Cert.MlpLastIdeal.nD Cert.MlpLastIdeal.τ).loc Cert.MlpLastIdeal.main_arg1) = m ((c.tc : Thread Cert.MlpLastIdeal.nD Cert.MlpLastIdeal.τ).loc Cert.MlpLastIdeal.main_arg1)
      ∧ r.2.mem ((c.tc : Thread Cert.MlpLastIdeal.nD Cert.MlpLastIdeal.τ).loc Cert.MlpLastIdeal.main_arg2) = m ((c.tc : Thread Cert.MlpLastIdeal.nD Cert.MlpLastIdeal.τ).loc Cert.MlpLastIdeal.main_arg2)
      ∧ r.2.mem ((c.tc : Thread Cert.MlpLastIdeal.nD Cert.MlpLastIdeal.τ).loc Cert.MlpLastIdeal.main_arg3) = m ((c.tc : Thread Cert.MlpLastIdeal.nD Cert.MlpLastIdeal.τ).loc Cert.MlpLastIdeal.main_arg3)
      ∧ r.2.mem ((c.tc : Thread Cert.MlpLastIdeal.nD Cert.MlpLastIdeal.τ).loc Cert.MlpLastIdeal.main_arg4) = m ((c.tc : Thread Cert.MlpLastIdeal.nD Cert.MlpLastIdeal.τ).loc Cert.MlpLastIdeal.main_arg4))
      ∧ r.2.sem = fun _ => 0)

def quiescent_MlpLastRefIdeal [hMlpLastRefIdeal : Cert.MlpLastRefIdeal.Facts] : Prop :=
  ∀ (m : (ℓ : Loc Cert.MlpLastRefIdeal.nD Cert.MlpLastRefIdeal.τ Cert.MlpLastRefIdeal.sig) → Buf (Elt Ideal) ℓ) (g : Dev Cert.MlpLastRefIdeal.nD → PrngReg), Pre_MlpLastRefIdeal m →
    θ_run (Cert.MlpLastRefIdeal.defs (F := Ideal)) (onTc (τ := Cert.MlpLastRefIdeal.τ) (Cert.MlpLastRefIdeal.main (F := Ideal))) ⟨m, fun _ => 0, g⟩ (fun r => (∀ c : Dev Cert.MlpLastRefIdeal.nD,
      r.2.mem ((c.tc : Thread Cert.MlpLastRefIdeal.nD Cert.MlpLastRefIdeal.τ).loc Cert.MlpLastRefIdeal.main_arg0) = m ((c.tc : Thread Cert.MlpLastRefIdeal.nD Cert.MlpLastRefIdeal.τ).loc Cert.MlpLastRefIdeal.main_arg0)
      ∧ r.2.mem ((c.tc : Thread Cert.MlpLastRefIdeal.nD Cert.MlpLastRefIdeal.τ).loc Cert.MlpLastRefIdeal.main_arg1) = m ((c.tc : Thread Cert.MlpLastRefIdeal.nD Cert.MlpLastRefIdeal.τ).loc Cert.MlpLastRefIdeal.main_arg1)
      ∧ r.2.mem ((c.tc : Thread Cert.MlpLastRefIdeal.nD Cert.MlpLastRefIdeal.τ).loc Cert.MlpLastRefIdeal.main_arg2) = m ((c.tc : Thread Cert.MlpLastRefIdeal.nD Cert.MlpLastRefIdeal.τ).loc Cert.MlpLastRefIdeal.main_arg2)
      ∧ r.2.mem ((c.tc : Thread Cert.MlpLastRefIdeal.nD Cert.MlpLastRefIdeal.τ).loc Cert.MlpLastRefIdeal.main_arg3) = m ((c.tc : Thread Cert.MlpLastRefIdeal.nD Cert.MlpLastRefIdeal.τ).loc Cert.MlpLastRefIdeal.main_arg3)
      ∧ r.2.mem ((c.tc : Thread Cert.MlpLastRefIdeal.nD Cert.MlpLastRefIdeal.τ).loc Cert.MlpLastRefIdeal.main_arg4) = m ((c.tc : Thread Cert.MlpLastRefIdeal.nD Cert.MlpLastRefIdeal.τ).loc Cert.MlpLastRefIdeal.main_arg4))
      ∧ r.2.sem = fun _ => 0)

def quiescent_MlpSample [hMlpSample : Cert.MlpSample.Facts] : Prop :=
  ∀ (m : (ℓ : Loc Cert.MlpSample.nD Cert.MlpSample.τ Cert.MlpSample.sig) → Buf (Elt Bits) ℓ) (g : Dev Cert.MlpSample.nD → PrngReg), Pre_MlpSample m →
    θ_run (Cert.MlpSample.defs (F := Bits)) (onTc (τ := Cert.MlpSample.τ) (Cert.MlpSample.main (F := Bits))) ⟨m, fun _ => 0, g⟩ (fun r => (∀ c : Dev Cert.MlpSample.nD,
      r.2.mem ((c.tc : Thread Cert.MlpSample.nD Cert.MlpSample.τ).loc Cert.MlpSample.main_arg0) = m ((c.tc : Thread Cert.MlpSample.nD Cert.MlpSample.τ).loc Cert.MlpSample.main_arg0)
      ∧ r.2.mem ((c.tc : Thread Cert.MlpSample.nD Cert.MlpSample.τ).loc Cert.MlpSample.main_arg1) = m ((c.tc : Thread Cert.MlpSample.nD Cert.MlpSample.τ).loc Cert.MlpSample.main_arg1)
      ∧ r.2.mem ((c.tc : Thread Cert.MlpSample.nD Cert.MlpSample.τ).loc Cert.MlpSample.main_arg2) = m ((c.tc : Thread Cert.MlpSample.nD Cert.MlpSample.τ).loc Cert.MlpSample.main_arg2)
      ∧ r.2.mem ((c.tc : Thread Cert.MlpSample.nD Cert.MlpSample.τ).loc Cert.MlpSample.main_arg3) = m ((c.tc : Thread Cert.MlpSample.nD Cert.MlpSample.τ).loc Cert.MlpSample.main_arg3)
      ∧ r.2.mem ((c.tc : Thread Cert.MlpSample.nD Cert.MlpSample.τ).loc Cert.MlpSample.main_arg4) = m ((c.tc : Thread Cert.MlpSample.nD Cert.MlpSample.τ).loc Cert.MlpSample.main_arg4))
      ∧ r.2.sem = fun _ => 0)

def quiescent_MlpSampleIdeal [hMlpSampleIdeal : Cert.MlpSampleIdeal.Facts] : Prop :=
  ∀ (m : (ℓ : Loc Cert.MlpSampleIdeal.nD Cert.MlpSampleIdeal.τ Cert.MlpSampleIdeal.sig) → Buf (Elt Ideal) ℓ) (g : Dev Cert.MlpSampleIdeal.nD → PrngReg), Pre_MlpSampleIdeal m →
    θ_run (Cert.MlpSampleIdeal.defs (F := Ideal)) (onTc (τ := Cert.MlpSampleIdeal.τ) (Cert.MlpSampleIdeal.main (F := Ideal))) ⟨m, fun _ => 0, g⟩ (fun r => (∀ c : Dev Cert.MlpSampleIdeal.nD,
      r.2.mem ((c.tc : Thread Cert.MlpSampleIdeal.nD Cert.MlpSampleIdeal.τ).loc Cert.MlpSampleIdeal.main_arg0) = m ((c.tc : Thread Cert.MlpSampleIdeal.nD Cert.MlpSampleIdeal.τ).loc Cert.MlpSampleIdeal.main_arg0)
      ∧ r.2.mem ((c.tc : Thread Cert.MlpSampleIdeal.nD Cert.MlpSampleIdeal.τ).loc Cert.MlpSampleIdeal.main_arg1) = m ((c.tc : Thread Cert.MlpSampleIdeal.nD Cert.MlpSampleIdeal.τ).loc Cert.MlpSampleIdeal.main_arg1)
      ∧ r.2.mem ((c.tc : Thread Cert.MlpSampleIdeal.nD Cert.MlpSampleIdeal.τ).loc Cert.MlpSampleIdeal.main_arg2) = m ((c.tc : Thread Cert.MlpSampleIdeal.nD Cert.MlpSampleIdeal.τ).loc Cert.MlpSampleIdeal.main_arg2)
      ∧ r.2.mem ((c.tc : Thread Cert.MlpSampleIdeal.nD Cert.MlpSampleIdeal.τ).loc Cert.MlpSampleIdeal.main_arg3) = m ((c.tc : Thread Cert.MlpSampleIdeal.nD Cert.MlpSampleIdeal.τ).loc Cert.MlpSampleIdeal.main_arg3)
      ∧ r.2.mem ((c.tc : Thread Cert.MlpSampleIdeal.nD Cert.MlpSampleIdeal.τ).loc Cert.MlpSampleIdeal.main_arg4) = m ((c.tc : Thread Cert.MlpSampleIdeal.nD Cert.MlpSampleIdeal.τ).loc Cert.MlpSampleIdeal.main_arg4))
      ∧ r.2.sem = fun _ => 0)

def quiescent_MlpSampleRefIdeal [hMlpSampleRefIdeal : Cert.MlpSampleRefIdeal.Facts] : Prop :=
  ∀ (m : (ℓ : Loc Cert.MlpSampleRefIdeal.nD Cert.MlpSampleRefIdeal.τ Cert.MlpSampleRefIdeal.sig) → Buf (Elt Ideal) ℓ) (g : Dev Cert.MlpSampleRefIdeal.nD → PrngReg), Pre_MlpSampleRefIdeal m →
    θ_run (Cert.MlpSampleRefIdeal.defs (F := Ideal)) (onTc (τ := Cert.MlpSampleRefIdeal.τ) (Cert.MlpSampleRefIdeal.main (F := Ideal))) ⟨m, fun _ => 0, g⟩ (fun r => (∀ c : Dev Cert.MlpSampleRefIdeal.nD,
      r.2.mem ((c.tc : Thread Cert.MlpSampleRefIdeal.nD Cert.MlpSampleRefIdeal.τ).loc Cert.MlpSampleRefIdeal.main_arg0) = m ((c.tc : Thread Cert.MlpSampleRefIdeal.nD Cert.MlpSampleRefIdeal.τ).loc Cert.MlpSampleRefIdeal.main_arg0)
      ∧ r.2.mem ((c.tc : Thread Cert.MlpSampleRefIdeal.nD Cert.MlpSampleRefIdeal.τ).loc Cert.MlpSampleRefIdeal.main_arg1) = m ((c.tc : Thread Cert.MlpSampleRefIdeal.nD Cert.MlpSampleRefIdeal.τ).loc Cert.MlpSampleRefIdeal.main_arg1)
      ∧ r.2.mem ((c.tc : Thread Cert.MlpSampleRefIdeal.nD Cert.MlpSampleRefIdeal.τ).loc Cert.MlpSampleRefIdeal.main_arg2) = m ((c.tc : Thread Cert.MlpSampleRefIdeal.nD Cert.MlpSampleRefIdeal.τ).loc Cert.MlpSampleRefIdeal.main_arg2)
      ∧ r.2.mem ((c.tc : Thread Cert.MlpSampleRefIdeal.nD Cert.MlpSampleRefIdeal.τ).loc Cert.MlpSampleRefIdeal.main_arg3) = m ((c.tc : Thread Cert.MlpSampleRefIdeal.nD Cert.MlpSampleRefIdeal.τ).loc Cert.MlpSampleRefIdeal.main_arg3)
      ∧ r.2.mem ((c.tc : Thread Cert.MlpSampleRefIdeal.nD Cert.MlpSampleRefIdeal.τ).loc Cert.MlpSampleRefIdeal.main_arg4) = m ((c.tc : Thread Cert.MlpSampleRefIdeal.nD Cert.MlpSampleRefIdeal.τ).loc Cert.MlpSampleRefIdeal.main_arg4))
      ∧ r.2.sem = fun _ => 0)

def quiescent_RgSample [hRgSample : Cert.RgSample.Facts] : Prop :=
  ∀ (m : (ℓ : Loc Cert.RgSample.nD Cert.RgSample.τ Cert.RgSample.sig) → Buf (Elt Bits) ℓ) (g : Dev Cert.RgSample.nD → PrngReg), Pre_RgSample m →
    θ_run (Cert.RgSample.defs (F := Bits)) (onTc (τ := Cert.RgSample.τ) (Cert.RgSample.main (F := Bits))) ⟨m, fun _ => 0, g⟩ (fun r => (∀ c : Dev Cert.RgSample.nD,
      r.2.mem ((c.tc : Thread Cert.RgSample.nD Cert.RgSample.τ).loc Cert.RgSample.main_arg0) = m ((c.tc : Thread Cert.RgSample.nD Cert.RgSample.τ).loc Cert.RgSample.main_arg0)
      ∧ r.2.mem ((c.tc : Thread Cert.RgSample.nD Cert.RgSample.τ).loc Cert.RgSample.main_arg1) = m ((c.tc : Thread Cert.RgSample.nD Cert.RgSample.τ).loc Cert.RgSample.main_arg1)
      ∧ r.2.mem ((c.tc : Thread Cert.RgSample.nD Cert.RgSample.τ).loc Cert.RgSample.main_arg2) = m ((c.tc : Thread Cert.RgSample.nD Cert.RgSample.τ).loc Cert.RgSample.main_arg2)
      ∧ r.2.mem ((c.tc : Thread Cert.RgSample.nD Cert.RgSample.τ).loc Cert.RgSample.main_arg3) = m ((c.tc : Thread Cert.RgSample.nD Cert.RgSample.τ).loc Cert.RgSample.main_arg3)
      ∧ r.2.mem ((c.tc : Thread Cert.RgSample.nD Cert.RgSample.τ).loc Cert.RgSample.main_arg4) = m ((c.tc : Thread Cert.RgSample.nD Cert.RgSample.τ).loc Cert.RgSample.main_arg4)
      ∧ r.2.mem ((c.tc : Thread Cert.RgSample.nD Cert.RgSample.τ).loc Cert.RgSample.main_arg5) = m ((c.tc : Thread Cert.RgSample.nD Cert.RgSample.τ).loc Cert.RgSample.main_arg5)
      ∧ r.2.mem ((c.tc : Thread Cert.RgSample.nD Cert.RgSample.τ).loc Cert.RgSample.main_arg6) = m ((c.tc : Thread Cert.RgSample.nD Cert.RgSample.τ).loc Cert.RgSample.main_arg6)
      ∧ r.2.mem ((c.tc : Thread Cert.RgSample.nD Cert.RgSample.τ).loc Cert.RgSample.main_arg7) = m ((c.tc : Thread Cert.RgSample.nD Cert.RgSample.τ).loc Cert.RgSample.main_arg7)
      ∧ r.2.mem ((c.tc : Thread Cert.RgSample.nD Cert.RgSample.τ).loc Cert.RgSample.main_arg8) = m ((c.tc : Thread Cert.RgSample.nD Cert.RgSample.τ).loc Cert.RgSample.main_arg8)
      ∧ r.2.mem ((c.tc : Thread Cert.RgSample.nD Cert.RgSample.τ).loc Cert.RgSample.main_arg9) = m ((c.tc : Thread Cert.RgSample.nD Cert.RgSample.τ).loc Cert.RgSample.main_arg9)
      ∧ r.2.mem ((c.tc : Thread Cert.RgSample.nD Cert.RgSample.τ).loc Cert.RgSample.main_arg10) = m ((c.tc : Thread Cert.RgSample.nD Cert.RgSample.τ).loc Cert.RgSample.main_arg10)
      ∧ r.2.mem ((c.tc : Thread Cert.RgSample.nD Cert.RgSample.τ).loc Cert.RgSample.main_arg11) = m ((c.tc : Thread Cert.RgSample.nD Cert.RgSample.τ).loc Cert.RgSample.main_arg11)
      ∧ r.2.mem ((c.tc : Thread Cert.RgSample.nD Cert.RgSample.τ).loc Cert.RgSample.main_arg12) = m ((c.tc : Thread Cert.RgSample.nD Cert.RgSample.τ).loc Cert.RgSample.main_arg12)
      ∧ r.2.mem ((c.tc : Thread Cert.RgSample.nD Cert.RgSample.τ).loc Cert.RgSample.main_arg13) = m ((c.tc : Thread Cert.RgSample.nD Cert.RgSample.τ).loc Cert.RgSample.main_arg13))
      ∧ r.2.sem = fun _ => 0)

def quiescent_RgSampleIdeal [hRgSampleIdeal : Cert.RgSampleIdeal.Facts] : Prop :=
  ∀ (m : (ℓ : Loc Cert.RgSampleIdeal.nD Cert.RgSampleIdeal.τ Cert.RgSampleIdeal.sig) → Buf (Elt Ideal) ℓ) (g : Dev Cert.RgSampleIdeal.nD → PrngReg), Pre_RgSampleIdeal m →
    θ_run (Cert.RgSampleIdeal.defs (F := Ideal)) (onTc (τ := Cert.RgSampleIdeal.τ) (Cert.RgSampleIdeal.main (F := Ideal))) ⟨m, fun _ => 0, g⟩ (fun r => (∀ c : Dev Cert.RgSampleIdeal.nD,
      r.2.mem ((c.tc : Thread Cert.RgSampleIdeal.nD Cert.RgSampleIdeal.τ).loc Cert.RgSampleIdeal.main_arg0) = m ((c.tc : Thread Cert.RgSampleIdeal.nD Cert.RgSampleIdeal.τ).loc Cert.RgSampleIdeal.main_arg0)
      ∧ r.2.mem ((c.tc : Thread Cert.RgSampleIdeal.nD Cert.RgSampleIdeal.τ).loc Cert.RgSampleIdeal.main_arg1) = m ((c.tc : Thread Cert.RgSampleIdeal.nD Cert.RgSampleIdeal.τ).loc Cert.RgSampleIdeal.main_arg1)
      ∧ r.2.mem ((c.tc : Thread Cert.RgSampleIdeal.nD Cert.RgSampleIdeal.τ).loc Cert.RgSampleIdeal.main_arg2) = m ((c.tc : Thread Cert.RgSampleIdeal.nD Cert.RgSampleIdeal.τ).loc Cert.RgSampleIdeal.main_arg2)
      ∧ r.2.mem ((c.tc : Thread Cert.RgSampleIdeal.nD Cert.RgSampleIdeal.τ).loc Cert.RgSampleIdeal.main_arg3) = m ((c.tc : Thread Cert.RgSampleIdeal.nD Cert.RgSampleIdeal.τ).loc Cert.RgSampleIdeal.main_arg3)
      ∧ r.2.mem ((c.tc : Thread Cert.RgSampleIdeal.nD Cert.RgSampleIdeal.τ).loc Cert.RgSampleIdeal.main_arg4) = m ((c.tc : Thread Cert.RgSampleIdeal.nD Cert.RgSampleIdeal.τ).loc Cert.RgSampleIdeal.main_arg4)
      ∧ r.2.mem ((c.tc : Thread Cert.RgSampleIdeal.nD Cert.RgSampleIdeal.τ).loc Cert.RgSampleIdeal.main_arg5) = m ((c.tc : Thread Cert.RgSampleIdeal.nD Cert.RgSampleIdeal.τ).loc Cert.RgSampleIdeal.main_arg5)
      ∧ r.2.mem ((c.tc : Thread Cert.RgSampleIdeal.nD Cert.RgSampleIdeal.τ).loc Cert.RgSampleIdeal.main_arg6) = m ((c.tc : Thread Cert.RgSampleIdeal.nD Cert.RgSampleIdeal.τ).loc Cert.RgSampleIdeal.main_arg6)
      ∧ r.2.mem ((c.tc : Thread Cert.RgSampleIdeal.nD Cert.RgSampleIdeal.τ).loc Cert.RgSampleIdeal.main_arg7) = m ((c.tc : Thread Cert.RgSampleIdeal.nD Cert.RgSampleIdeal.τ).loc Cert.RgSampleIdeal.main_arg7)
      ∧ r.2.mem ((c.tc : Thread Cert.RgSampleIdeal.nD Cert.RgSampleIdeal.τ).loc Cert.RgSampleIdeal.main_arg8) = m ((c.tc : Thread Cert.RgSampleIdeal.nD Cert.RgSampleIdeal.τ).loc Cert.RgSampleIdeal.main_arg8)
      ∧ r.2.mem ((c.tc : Thread Cert.RgSampleIdeal.nD Cert.RgSampleIdeal.τ).loc Cert.RgSampleIdeal.main_arg9) = m ((c.tc : Thread Cert.RgSampleIdeal.nD Cert.RgSampleIdeal.τ).loc Cert.RgSampleIdeal.main_arg9)
      ∧ r.2.mem ((c.tc : Thread Cert.RgSampleIdeal.nD Cert.RgSampleIdeal.τ).loc Cert.RgSampleIdeal.main_arg10) = m ((c.tc : Thread Cert.RgSampleIdeal.nD Cert.RgSampleIdeal.τ).loc Cert.RgSampleIdeal.main_arg10)
      ∧ r.2.mem ((c.tc : Thread Cert.RgSampleIdeal.nD Cert.RgSampleIdeal.τ).loc Cert.RgSampleIdeal.main_arg11) = m ((c.tc : Thread Cert.RgSampleIdeal.nD Cert.RgSampleIdeal.τ).loc Cert.RgSampleIdeal.main_arg11)
      ∧ r.2.mem ((c.tc : Thread Cert.RgSampleIdeal.nD Cert.RgSampleIdeal.τ).loc Cert.RgSampleIdeal.main_arg12) = m ((c.tc : Thread Cert.RgSampleIdeal.nD Cert.RgSampleIdeal.τ).loc Cert.RgSampleIdeal.main_arg12)
      ∧ r.2.mem ((c.tc : Thread Cert.RgSampleIdeal.nD Cert.RgSampleIdeal.τ).loc Cert.RgSampleIdeal.main_arg13) = m ((c.tc : Thread Cert.RgSampleIdeal.nD Cert.RgSampleIdeal.τ).loc Cert.RgSampleIdeal.main_arg13))
      ∧ r.2.sem = fun _ => 0)

def quiescent_RgSampleRefIdeal [hRgSampleRefIdeal : Cert.RgSampleRefIdeal.Facts] : Prop :=
  ∀ (m : (ℓ : Loc Cert.RgSampleRefIdeal.nD Cert.RgSampleRefIdeal.τ Cert.RgSampleRefIdeal.sig) → Buf (Elt Ideal) ℓ) (g : Dev Cert.RgSampleRefIdeal.nD → PrngReg), Pre_RgSampleRefIdeal m →
    θ_run (Cert.RgSampleRefIdeal.defs (F := Ideal)) (onTc (τ := Cert.RgSampleRefIdeal.τ) (Cert.RgSampleRefIdeal.main (F := Ideal))) ⟨m, fun _ => 0, g⟩ (fun r => (∀ c : Dev Cert.RgSampleRefIdeal.nD,
      r.2.mem ((c.tc : Thread Cert.RgSampleRefIdeal.nD Cert.RgSampleRefIdeal.τ).loc Cert.RgSampleRefIdeal.main_arg0) = m ((c.tc : Thread Cert.RgSampleRefIdeal.nD Cert.RgSampleRefIdeal.τ).loc Cert.RgSampleRefIdeal.main_arg0)
      ∧ r.2.mem ((c.tc : Thread Cert.RgSampleRefIdeal.nD Cert.RgSampleRefIdeal.τ).loc Cert.RgSampleRefIdeal.main_arg1) = m ((c.tc : Thread Cert.RgSampleRefIdeal.nD Cert.RgSampleRefIdeal.τ).loc Cert.RgSampleRefIdeal.main_arg1)
      ∧ r.2.mem ((c.tc : Thread Cert.RgSampleRefIdeal.nD Cert.RgSampleRefIdeal.τ).loc Cert.RgSampleRefIdeal.main_arg2) = m ((c.tc : Thread Cert.RgSampleRefIdeal.nD Cert.RgSampleRefIdeal.τ).loc Cert.RgSampleRefIdeal.main_arg2)
      ∧ r.2.mem ((c.tc : Thread Cert.RgSampleRefIdeal.nD Cert.RgSampleRefIdeal.τ).loc Cert.RgSampleRefIdeal.main_arg3) = m ((c.tc : Thread Cert.RgSampleRefIdeal.nD Cert.RgSampleRefIdeal.τ).loc Cert.RgSampleRefIdeal.main_arg3)
      ∧ r.2.mem ((c.tc : Thread Cert.RgSampleRefIdeal.nD Cert.RgSampleRefIdeal.τ).loc Cert.RgSampleRefIdeal.main_arg4) = m ((c.tc : Thread Cert.RgSampleRefIdeal.nD Cert.RgSampleRefIdeal.τ).loc Cert.RgSampleRefIdeal.main_arg4)
      ∧ r.2.mem ((c.tc : Thread Cert.RgSampleRefIdeal.nD Cert.RgSampleRefIdeal.τ).loc Cert.RgSampleRefIdeal.main_arg5) = m ((c.tc : Thread Cert.RgSampleRefIdeal.nD Cert.RgSampleRefIdeal.τ).loc Cert.RgSampleRefIdeal.main_arg5)
      ∧ r.2.mem ((c.tc : Thread Cert.RgSampleRefIdeal.nD Cert.RgSampleRefIdeal.τ).loc Cert.RgSampleRefIdeal.main_arg6) = m ((c.tc : Thread Cert.RgSampleRefIdeal.nD Cert.RgSampleRefIdeal.τ).loc Cert.RgSampleRefIdeal.main_arg6)
      ∧ r.2.mem ((c.tc : Thread Cert.RgSampleRefIdeal.nD Cert.RgSampleRefIdeal.τ).loc Cert.RgSampleRefIdeal.main_arg7) = m ((c.tc : Thread Cert.RgSampleRefIdeal.nD Cert.RgSampleRefIdeal.τ).loc Cert.RgSampleRefIdeal.main_arg7)
      ∧ r.2.mem ((c.tc : Thread Cert.RgSampleRefIdeal.nD Cert.RgSampleRefIdeal.τ).loc Cert.RgSampleRefIdeal.main_arg8) = m ((c.tc : Thread Cert.RgSampleRefIdeal.nD Cert.RgSampleRefIdeal.τ).loc Cert.RgSampleRefIdeal.main_arg8)
      ∧ r.2.mem ((c.tc : Thread Cert.RgSampleRefIdeal.nD Cert.RgSampleRefIdeal.τ).loc Cert.RgSampleRefIdeal.main_arg9) = m ((c.tc : Thread Cert.RgSampleRefIdeal.nD Cert.RgSampleRefIdeal.τ).loc Cert.RgSampleRefIdeal.main_arg9)
      ∧ r.2.mem ((c.tc : Thread Cert.RgSampleRefIdeal.nD Cert.RgSampleRefIdeal.τ).loc Cert.RgSampleRefIdeal.main_arg10) = m ((c.tc : Thread Cert.RgSampleRefIdeal.nD Cert.RgSampleRefIdeal.τ).loc Cert.RgSampleRefIdeal.main_arg10)
      ∧ r.2.mem ((c.tc : Thread Cert.RgSampleRefIdeal.nD Cert.RgSampleRefIdeal.τ).loc Cert.RgSampleRefIdeal.main_arg11) = m ((c.tc : Thread Cert.RgSampleRefIdeal.nD Cert.RgSampleRefIdeal.τ).loc Cert.RgSampleRefIdeal.main_arg11)
      ∧ r.2.mem ((c.tc : Thread Cert.RgSampleRefIdeal.nD Cert.RgSampleRefIdeal.τ).loc Cert.RgSampleRefIdeal.main_arg12) = m ((c.tc : Thread Cert.RgSampleRefIdeal.nD Cert.RgSampleRefIdeal.τ).loc Cert.RgSampleRefIdeal.main_arg12)
      ∧ r.2.mem ((c.tc : Thread Cert.RgSampleRefIdeal.nD Cert.RgSampleRefIdeal.τ).loc Cert.RgSampleRefIdeal.main_arg13) = m ((c.tc : Thread Cert.RgSampleRefIdeal.nD Cert.RgSampleRefIdeal.τ).loc Cert.RgSampleRefIdeal.main_arg13))
      ∧ r.2.sem = fun _ => 0)

def quiescent_BandProj [hBandProj : Cert.BandProj.Facts] : Prop :=
  ∀ (m : (ℓ : Loc Cert.BandProj.nD Cert.BandProj.τ Cert.BandProj.sig) → Buf (Elt Bits) ℓ) (g : Dev Cert.BandProj.nD → PrngReg), Pre_BandProj m →
    θ_run (Cert.BandProj.defs (F := Bits)) (onTc (τ := Cert.BandProj.τ) (Cert.BandProj.main (F := Bits))) ⟨m, fun _ => 0, g⟩ (fun r => (∀ c : Dev Cert.BandProj.nD,
      r.2.mem ((c.tc : Thread Cert.BandProj.nD Cert.BandProj.τ).loc Cert.BandProj.main_arg0) = m ((c.tc : Thread Cert.BandProj.nD Cert.BandProj.τ).loc Cert.BandProj.main_arg0)
      ∧ r.2.mem ((c.tc : Thread Cert.BandProj.nD Cert.BandProj.τ).loc Cert.BandProj.main_arg1) = m ((c.tc : Thread Cert.BandProj.nD Cert.BandProj.τ).loc Cert.BandProj.main_arg1)
      ∧ r.2.mem ((c.tc : Thread Cert.BandProj.nD Cert.BandProj.τ).loc Cert.BandProj.main_arg2) = m ((c.tc : Thread Cert.BandProj.nD Cert.BandProj.τ).loc Cert.BandProj.main_arg2)
      ∧ r.2.mem ((c.tc : Thread Cert.BandProj.nD Cert.BandProj.τ).loc Cert.BandProj.main_arg3) = m ((c.tc : Thread Cert.BandProj.nD Cert.BandProj.τ).loc Cert.BandProj.main_arg3)
      ∧ r.2.mem ((c.tc : Thread Cert.BandProj.nD Cert.BandProj.τ).loc Cert.BandProj.main_arg4) = m ((c.tc : Thread Cert.BandProj.nD Cert.BandProj.τ).loc Cert.BandProj.main_arg4))
      ∧ r.2.sem = fun _ => 0)

def quiescent_BandProjIdeal [hBandProjIdeal : Cert.BandProjIdeal.Facts] : Prop :=
  ∀ (m : (ℓ : Loc Cert.BandProjIdeal.nD Cert.BandProjIdeal.τ Cert.BandProjIdeal.sig) → Buf (Elt Ideal) ℓ) (g : Dev Cert.BandProjIdeal.nD → PrngReg), Pre_BandProjIdeal m →
    θ_run (Cert.BandProjIdeal.defs (F := Ideal)) (onTc (τ := Cert.BandProjIdeal.τ) (Cert.BandProjIdeal.main (F := Ideal))) ⟨m, fun _ => 0, g⟩ (fun r => (∀ c : Dev Cert.BandProjIdeal.nD,
      r.2.mem ((c.tc : Thread Cert.BandProjIdeal.nD Cert.BandProjIdeal.τ).loc Cert.BandProjIdeal.main_arg0) = m ((c.tc : Thread Cert.BandProjIdeal.nD Cert.BandProjIdeal.τ).loc Cert.BandProjIdeal.main_arg0)
      ∧ r.2.mem ((c.tc : Thread Cert.BandProjIdeal.nD Cert.BandProjIdeal.τ).loc Cert.BandProjIdeal.main_arg1) = m ((c.tc : Thread Cert.BandProjIdeal.nD Cert.BandProjIdeal.τ).loc Cert.BandProjIdeal.main_arg1)
      ∧ r.2.mem ((c.tc : Thread Cert.BandProjIdeal.nD Cert.BandProjIdeal.τ).loc Cert.BandProjIdeal.main_arg2) = m ((c.tc : Thread Cert.BandProjIdeal.nD Cert.BandProjIdeal.τ).loc Cert.BandProjIdeal.main_arg2)
      ∧ r.2.mem ((c.tc : Thread Cert.BandProjIdeal.nD Cert.BandProjIdeal.τ).loc Cert.BandProjIdeal.main_arg3) = m ((c.tc : Thread Cert.BandProjIdeal.nD Cert.BandProjIdeal.τ).loc Cert.BandProjIdeal.main_arg3)
      ∧ r.2.mem ((c.tc : Thread Cert.BandProjIdeal.nD Cert.BandProjIdeal.τ).loc Cert.BandProjIdeal.main_arg4) = m ((c.tc : Thread Cert.BandProjIdeal.nD Cert.BandProjIdeal.τ).loc Cert.BandProjIdeal.main_arg4))
      ∧ r.2.sem = fun _ => 0)

def quiescent_BandProjRefIdeal [hBandProjRefIdeal : Cert.BandProjRefIdeal.Facts] : Prop :=
  ∀ (m : (ℓ : Loc Cert.BandProjRefIdeal.nD Cert.BandProjRefIdeal.τ Cert.BandProjRefIdeal.sig) → Buf (Elt Ideal) ℓ) (g : Dev Cert.BandProjRefIdeal.nD → PrngReg), Pre_BandProjRefIdeal m →
    θ_run (Cert.BandProjRefIdeal.defs (F := Ideal)) (onTc (τ := Cert.BandProjRefIdeal.τ) (Cert.BandProjRefIdeal.main (F := Ideal))) ⟨m, fun _ => 0, g⟩ (fun r => (∀ c : Dev Cert.BandProjRefIdeal.nD,
      r.2.mem ((c.tc : Thread Cert.BandProjRefIdeal.nD Cert.BandProjRefIdeal.τ).loc Cert.BandProjRefIdeal.main_arg0) = m ((c.tc : Thread Cert.BandProjRefIdeal.nD Cert.BandProjRefIdeal.τ).loc Cert.BandProjRefIdeal.main_arg0)
      ∧ r.2.mem ((c.tc : Thread Cert.BandProjRefIdeal.nD Cert.BandProjRefIdeal.τ).loc Cert.BandProjRefIdeal.main_arg1) = m ((c.tc : Thread Cert.BandProjRefIdeal.nD Cert.BandProjRefIdeal.τ).loc Cert.BandProjRefIdeal.main_arg1)
      ∧ r.2.mem ((c.tc : Thread Cert.BandProjRefIdeal.nD Cert.BandProjRefIdeal.τ).loc Cert.BandProjRefIdeal.main_arg2) = m ((c.tc : Thread Cert.BandProjRefIdeal.nD Cert.BandProjRefIdeal.τ).loc Cert.BandProjRefIdeal.main_arg2)
      ∧ r.2.mem ((c.tc : Thread Cert.BandProjRefIdeal.nD Cert.BandProjRefIdeal.τ).loc Cert.BandProjRefIdeal.main_arg3) = m ((c.tc : Thread Cert.BandProjRefIdeal.nD Cert.BandProjRefIdeal.τ).loc Cert.BandProjRefIdeal.main_arg3)
      ∧ r.2.mem ((c.tc : Thread Cert.BandProjRefIdeal.nD Cert.BandProjRefIdeal.τ).loc Cert.BandProjRefIdeal.main_arg4) = m ((c.tc : Thread Cert.BandProjRefIdeal.nD Cert.BandProjRefIdeal.τ).loc Cert.BandProjRefIdeal.main_arg4))
      ∧ r.2.sem = fun _ => 0)

def quiescent_BandRows [hBandRows : Cert.BandRows.Facts] : Prop :=
  ∀ (m : (ℓ : Loc Cert.BandRows.nD Cert.BandRows.τ Cert.BandRows.sig) → Buf (Elt Bits) ℓ) (g : Dev Cert.BandRows.nD → PrngReg), Pre_BandRows m →
    θ_run (Cert.BandRows.defs (F := Bits)) (onTc (τ := Cert.BandRows.τ) (Cert.BandRows.main (F := Bits))) ⟨m, fun _ => 0, g⟩ (fun r => (∀ c : Dev Cert.BandRows.nD,
      r.2.mem ((c.tc : Thread Cert.BandRows.nD Cert.BandRows.τ).loc Cert.BandRows.main_arg0) = m ((c.tc : Thread Cert.BandRows.nD Cert.BandRows.τ).loc Cert.BandRows.main_arg0)
      ∧ r.2.mem ((c.tc : Thread Cert.BandRows.nD Cert.BandRows.τ).loc Cert.BandRows.main_arg1) = m ((c.tc : Thread Cert.BandRows.nD Cert.BandRows.τ).loc Cert.BandRows.main_arg1)
      ∧ r.2.mem ((c.tc : Thread Cert.BandRows.nD Cert.BandRows.τ).loc Cert.BandRows.main_arg2) = m ((c.tc : Thread Cert.BandRows.nD Cert.BandRows.τ).loc Cert.BandRows.main_arg2)
      ∧ r.2.mem ((c.tc : Thread Cert.BandRows.nD Cert.BandRows.τ).loc Cert.BandRows.main_arg3) = m ((c.tc : Thread Cert.BandRows.nD Cert.BandRows.τ).loc Cert.BandRows.main_arg3)
      ∧ r.2.mem ((c.tc : Thread Cert.BandRows.nD Cert.BandRows.τ).loc Cert.BandRows.main_arg4) = m ((c.tc : Thread Cert.BandRows.nD Cert.BandRows.τ).loc Cert.BandRows.main_arg4))
      ∧ r.2.sem = fun _ => 0)

def quiescent_BandRowsIdeal [hBandRowsIdeal : Cert.BandRowsIdeal.Facts] : Prop :=
  ∀ (m : (ℓ : Loc Cert.BandRowsIdeal.nD Cert.BandRowsIdeal.τ Cert.BandRowsIdeal.sig) → Buf (Elt Ideal) ℓ) (g : Dev Cert.BandRowsIdeal.nD → PrngReg), Pre_BandRowsIdeal m →
    θ_run (Cert.BandRowsIdeal.defs (F := Ideal)) (onTc (τ := Cert.BandRowsIdeal.τ) (Cert.BandRowsIdeal.main (F := Ideal))) ⟨m, fun _ => 0, g⟩ (fun r => (∀ c : Dev Cert.BandRowsIdeal.nD,
      r.2.mem ((c.tc : Thread Cert.BandRowsIdeal.nD Cert.BandRowsIdeal.τ).loc Cert.BandRowsIdeal.main_arg0) = m ((c.tc : Thread Cert.BandRowsIdeal.nD Cert.BandRowsIdeal.τ).loc Cert.BandRowsIdeal.main_arg0)
      ∧ r.2.mem ((c.tc : Thread Cert.BandRowsIdeal.nD Cert.BandRowsIdeal.τ).loc Cert.BandRowsIdeal.main_arg1) = m ((c.tc : Thread Cert.BandRowsIdeal.nD Cert.BandRowsIdeal.τ).loc Cert.BandRowsIdeal.main_arg1)
      ∧ r.2.mem ((c.tc : Thread Cert.BandRowsIdeal.nD Cert.BandRowsIdeal.τ).loc Cert.BandRowsIdeal.main_arg2) = m ((c.tc : Thread Cert.BandRowsIdeal.nD Cert.BandRowsIdeal.τ).loc Cert.BandRowsIdeal.main_arg2)
      ∧ r.2.mem ((c.tc : Thread Cert.BandRowsIdeal.nD Cert.BandRowsIdeal.τ).loc Cert.BandRowsIdeal.main_arg3) = m ((c.tc : Thread Cert.BandRowsIdeal.nD Cert.BandRowsIdeal.τ).loc Cert.BandRowsIdeal.main_arg3)
      ∧ r.2.mem ((c.tc : Thread Cert.BandRowsIdeal.nD Cert.BandRowsIdeal.τ).loc Cert.BandRowsIdeal.main_arg4) = m ((c.tc : Thread Cert.BandRowsIdeal.nD Cert.BandRowsIdeal.τ).loc Cert.BandRowsIdeal.main_arg4))
      ∧ r.2.sem = fun _ => 0)

def quiescent_BandRowsRefIdeal [hBandRowsRefIdeal : Cert.BandRowsRefIdeal.Facts] : Prop :=
  ∀ (m : (ℓ : Loc Cert.BandRowsRefIdeal.nD Cert.BandRowsRefIdeal.τ Cert.BandRowsRefIdeal.sig) → Buf (Elt Ideal) ℓ) (g : Dev Cert.BandRowsRefIdeal.nD → PrngReg), Pre_BandRowsRefIdeal m →
    θ_run (Cert.BandRowsRefIdeal.defs (F := Ideal)) (onTc (τ := Cert.BandRowsRefIdeal.τ) (Cert.BandRowsRefIdeal.main (F := Ideal))) ⟨m, fun _ => 0, g⟩ (fun r => (∀ c : Dev Cert.BandRowsRefIdeal.nD,
      r.2.mem ((c.tc : Thread Cert.BandRowsRefIdeal.nD Cert.BandRowsRefIdeal.τ).loc Cert.BandRowsRefIdeal.main_arg0) = m ((c.tc : Thread Cert.BandRowsRefIdeal.nD Cert.BandRowsRefIdeal.τ).loc Cert.BandRowsRefIdeal.main_arg0)
      ∧ r.2.mem ((c.tc : Thread Cert.BandRowsRefIdeal.nD Cert.BandRowsRefIdeal.τ).loc Cert.BandRowsRefIdeal.main_arg1) = m ((c.tc : Thread Cert.BandRowsRefIdeal.nD Cert.BandRowsRefIdeal.τ).loc Cert.BandRowsRefIdeal.main_arg1)
      ∧ r.2.mem ((c.tc : Thread Cert.BandRowsRefIdeal.nD Cert.BandRowsRefIdeal.τ).loc Cert.BandRowsRefIdeal.main_arg2) = m ((c.tc : Thread Cert.BandRowsRefIdeal.nD Cert.BandRowsRefIdeal.τ).loc Cert.BandRowsRefIdeal.main_arg2)
      ∧ r.2.mem ((c.tc : Thread Cert.BandRowsRefIdeal.nD Cert.BandRowsRefIdeal.τ).loc Cert.BandRowsRefIdeal.main_arg3) = m ((c.tc : Thread Cert.BandRowsRefIdeal.nD Cert.BandRowsRefIdeal.τ).loc Cert.BandRowsRefIdeal.main_arg3)
      ∧ r.2.mem ((c.tc : Thread Cert.BandRowsRefIdeal.nD Cert.BandRowsRefIdeal.τ).loc Cert.BandRowsRefIdeal.main_arg4) = m ((c.tc : Thread Cert.BandRowsRefIdeal.nD Cert.BandRowsRefIdeal.τ).loc Cert.BandRowsRefIdeal.main_arg4))
      ∧ r.2.sem = fun _ => 0)

def quiescent_DiffRows [hDiffRows : Cert.DiffRows.Facts] : Prop :=
  ∀ (m : (ℓ : Loc Cert.DiffRows.nD Cert.DiffRows.τ Cert.DiffRows.sig) → Buf (Elt Bits) ℓ) (g : Dev Cert.DiffRows.nD → PrngReg), Pre_DiffRows m →
    θ_run (Cert.DiffRows.defs (F := Bits)) (onTc (τ := Cert.DiffRows.τ) (Cert.DiffRows.main (F := Bits))) ⟨m, fun _ => 0, g⟩ (fun r => (∀ c : Dev Cert.DiffRows.nD,
      r.2.mem ((c.tc : Thread Cert.DiffRows.nD Cert.DiffRows.τ).loc Cert.DiffRows.main_arg0) = m ((c.tc : Thread Cert.DiffRows.nD Cert.DiffRows.τ).loc Cert.DiffRows.main_arg0)
      ∧ r.2.mem ((c.tc : Thread Cert.DiffRows.nD Cert.DiffRows.τ).loc Cert.DiffRows.main_arg1) = m ((c.tc : Thread Cert.DiffRows.nD Cert.DiffRows.τ).loc Cert.DiffRows.main_arg1)
      ∧ r.2.mem ((c.tc : Thread Cert.DiffRows.nD Cert.DiffRows.τ).loc Cert.DiffRows.main_arg2) = m ((c.tc : Thread Cert.DiffRows.nD Cert.DiffRows.τ).loc Cert.DiffRows.main_arg2)
      ∧ r.2.mem ((c.tc : Thread Cert.DiffRows.nD Cert.DiffRows.τ).loc Cert.DiffRows.main_arg3) = m ((c.tc : Thread Cert.DiffRows.nD Cert.DiffRows.τ).loc Cert.DiffRows.main_arg3)
      ∧ r.2.mem ((c.tc : Thread Cert.DiffRows.nD Cert.DiffRows.τ).loc Cert.DiffRows.main_arg4) = m ((c.tc : Thread Cert.DiffRows.nD Cert.DiffRows.τ).loc Cert.DiffRows.main_arg4))
      ∧ r.2.sem = fun _ => 0)

def quiescent_DiffRowsIdeal [hDiffRowsIdeal : Cert.DiffRowsIdeal.Facts] : Prop :=
  ∀ (m : (ℓ : Loc Cert.DiffRowsIdeal.nD Cert.DiffRowsIdeal.τ Cert.DiffRowsIdeal.sig) → Buf (Elt Ideal) ℓ) (g : Dev Cert.DiffRowsIdeal.nD → PrngReg), Pre_DiffRowsIdeal m →
    θ_run (Cert.DiffRowsIdeal.defs (F := Ideal)) (onTc (τ := Cert.DiffRowsIdeal.τ) (Cert.DiffRowsIdeal.main (F := Ideal))) ⟨m, fun _ => 0, g⟩ (fun r => (∀ c : Dev Cert.DiffRowsIdeal.nD,
      r.2.mem ((c.tc : Thread Cert.DiffRowsIdeal.nD Cert.DiffRowsIdeal.τ).loc Cert.DiffRowsIdeal.main_arg0) = m ((c.tc : Thread Cert.DiffRowsIdeal.nD Cert.DiffRowsIdeal.τ).loc Cert.DiffRowsIdeal.main_arg0)
      ∧ r.2.mem ((c.tc : Thread Cert.DiffRowsIdeal.nD Cert.DiffRowsIdeal.τ).loc Cert.DiffRowsIdeal.main_arg1) = m ((c.tc : Thread Cert.DiffRowsIdeal.nD Cert.DiffRowsIdeal.τ).loc Cert.DiffRowsIdeal.main_arg1)
      ∧ r.2.mem ((c.tc : Thread Cert.DiffRowsIdeal.nD Cert.DiffRowsIdeal.τ).loc Cert.DiffRowsIdeal.main_arg2) = m ((c.tc : Thread Cert.DiffRowsIdeal.nD Cert.DiffRowsIdeal.τ).loc Cert.DiffRowsIdeal.main_arg2)
      ∧ r.2.mem ((c.tc : Thread Cert.DiffRowsIdeal.nD Cert.DiffRowsIdeal.τ).loc Cert.DiffRowsIdeal.main_arg3) = m ((c.tc : Thread Cert.DiffRowsIdeal.nD Cert.DiffRowsIdeal.τ).loc Cert.DiffRowsIdeal.main_arg3)
      ∧ r.2.mem ((c.tc : Thread Cert.DiffRowsIdeal.nD Cert.DiffRowsIdeal.τ).loc Cert.DiffRowsIdeal.main_arg4) = m ((c.tc : Thread Cert.DiffRowsIdeal.nD Cert.DiffRowsIdeal.τ).loc Cert.DiffRowsIdeal.main_arg4))
      ∧ r.2.sem = fun _ => 0)

def quiescent_DiffRowsRefIdeal [hDiffRowsRefIdeal : Cert.DiffRowsRefIdeal.Facts] : Prop :=
  ∀ (m : (ℓ : Loc Cert.DiffRowsRefIdeal.nD Cert.DiffRowsRefIdeal.τ Cert.DiffRowsRefIdeal.sig) → Buf (Elt Ideal) ℓ) (g : Dev Cert.DiffRowsRefIdeal.nD → PrngReg), Pre_DiffRowsRefIdeal m →
    θ_run (Cert.DiffRowsRefIdeal.defs (F := Ideal)) (onTc (τ := Cert.DiffRowsRefIdeal.τ) (Cert.DiffRowsRefIdeal.main (F := Ideal))) ⟨m, fun _ => 0, g⟩ (fun r => (∀ c : Dev Cert.DiffRowsRefIdeal.nD,
      r.2.mem ((c.tc : Thread Cert.DiffRowsRefIdeal.nD Cert.DiffRowsRefIdeal.τ).loc Cert.DiffRowsRefIdeal.main_arg0) = m ((c.tc : Thread Cert.DiffRowsRefIdeal.nD Cert.DiffRowsRefIdeal.τ).loc Cert.DiffRowsRefIdeal.main_arg0)
      ∧ r.2.mem ((c.tc : Thread Cert.DiffRowsRefIdeal.nD Cert.DiffRowsRefIdeal.τ).loc Cert.DiffRowsRefIdeal.main_arg1) = m ((c.tc : Thread Cert.DiffRowsRefIdeal.nD Cert.DiffRowsRefIdeal.τ).loc Cert.DiffRowsRefIdeal.main_arg1)
      ∧ r.2.mem ((c.tc : Thread Cert.DiffRowsRefIdeal.nD Cert.DiffRowsRefIdeal.τ).loc Cert.DiffRowsRefIdeal.main_arg2) = m ((c.tc : Thread Cert.DiffRowsRefIdeal.nD Cert.DiffRowsRefIdeal.τ).loc Cert.DiffRowsRefIdeal.main_arg2)
      ∧ r.2.mem ((c.tc : Thread Cert.DiffRowsRefIdeal.nD Cert.DiffRowsRefIdeal.τ).loc Cert.DiffRowsRefIdeal.main_arg3) = m ((c.tc : Thread Cert.DiffRowsRefIdeal.nD Cert.DiffRowsRefIdeal.τ).loc Cert.DiffRowsRefIdeal.main_arg3)
      ∧ r.2.mem ((c.tc : Thread Cert.DiffRowsRefIdeal.nD Cert.DiffRowsRefIdeal.τ).loc Cert.DiffRowsRefIdeal.main_arg4) = m ((c.tc : Thread Cert.DiffRowsRefIdeal.nD Cert.DiffRowsRefIdeal.τ).loc Cert.DiffRowsRefIdeal.main_arg4))
      ∧ r.2.sem = fun _ => 0)

def quiescent_DiffProj [hDiffProj : Cert.DiffProj.Facts] : Prop :=
  ∀ (m : (ℓ : Loc Cert.DiffProj.nD Cert.DiffProj.τ Cert.DiffProj.sig) → Buf (Elt Bits) ℓ) (g : Dev Cert.DiffProj.nD → PrngReg), Pre_DiffProj m →
    θ_run (Cert.DiffProj.defs (F := Bits)) (onTc (τ := Cert.DiffProj.τ) (Cert.DiffProj.main (F := Bits))) ⟨m, fun _ => 0, g⟩ (fun r => (∀ c : Dev Cert.DiffProj.nD,
      r.2.mem ((c.tc : Thread Cert.DiffProj.nD Cert.DiffProj.τ).loc Cert.DiffProj.main_arg0) = m ((c.tc : Thread Cert.DiffProj.nD Cert.DiffProj.τ).loc Cert.DiffProj.main_arg0)
      ∧ r.2.mem ((c.tc : Thread Cert.DiffProj.nD Cert.DiffProj.τ).loc Cert.DiffProj.main_arg1) = m ((c.tc : Thread Cert.DiffProj.nD Cert.DiffProj.τ).loc Cert.DiffProj.main_arg1)
      ∧ r.2.mem ((c.tc : Thread Cert.DiffProj.nD Cert.DiffProj.τ).loc Cert.DiffProj.main_arg2) = m ((c.tc : Thread Cert.DiffProj.nD Cert.DiffProj.τ).loc Cert.DiffProj.main_arg2)
      ∧ r.2.mem ((c.tc : Thread Cert.DiffProj.nD Cert.DiffProj.τ).loc Cert.DiffProj.main_arg3) = m ((c.tc : Thread Cert.DiffProj.nD Cert.DiffProj.τ).loc Cert.DiffProj.main_arg3)
      ∧ r.2.mem ((c.tc : Thread Cert.DiffProj.nD Cert.DiffProj.τ).loc Cert.DiffProj.main_arg4) = m ((c.tc : Thread Cert.DiffProj.nD Cert.DiffProj.τ).loc Cert.DiffProj.main_arg4))
      ∧ r.2.sem = fun _ => 0)

def quiescent_DiffProjIdeal [hDiffProjIdeal : Cert.DiffProjIdeal.Facts] : Prop :=
  ∀ (m : (ℓ : Loc Cert.DiffProjIdeal.nD Cert.DiffProjIdeal.τ Cert.DiffProjIdeal.sig) → Buf (Elt Ideal) ℓ) (g : Dev Cert.DiffProjIdeal.nD → PrngReg), Pre_DiffProjIdeal m →
    θ_run (Cert.DiffProjIdeal.defs (F := Ideal)) (onTc (τ := Cert.DiffProjIdeal.τ) (Cert.DiffProjIdeal.main (F := Ideal))) ⟨m, fun _ => 0, g⟩ (fun r => (∀ c : Dev Cert.DiffProjIdeal.nD,
      r.2.mem ((c.tc : Thread Cert.DiffProjIdeal.nD Cert.DiffProjIdeal.τ).loc Cert.DiffProjIdeal.main_arg0) = m ((c.tc : Thread Cert.DiffProjIdeal.nD Cert.DiffProjIdeal.τ).loc Cert.DiffProjIdeal.main_arg0)
      ∧ r.2.mem ((c.tc : Thread Cert.DiffProjIdeal.nD Cert.DiffProjIdeal.τ).loc Cert.DiffProjIdeal.main_arg1) = m ((c.tc : Thread Cert.DiffProjIdeal.nD Cert.DiffProjIdeal.τ).loc Cert.DiffProjIdeal.main_arg1)
      ∧ r.2.mem ((c.tc : Thread Cert.DiffProjIdeal.nD Cert.DiffProjIdeal.τ).loc Cert.DiffProjIdeal.main_arg2) = m ((c.tc : Thread Cert.DiffProjIdeal.nD Cert.DiffProjIdeal.τ).loc Cert.DiffProjIdeal.main_arg2)
      ∧ r.2.mem ((c.tc : Thread Cert.DiffProjIdeal.nD Cert.DiffProjIdeal.τ).loc Cert.DiffProjIdeal.main_arg3) = m ((c.tc : Thread Cert.DiffProjIdeal.nD Cert.DiffProjIdeal.τ).loc Cert.DiffProjIdeal.main_arg3)
      ∧ r.2.mem ((c.tc : Thread Cert.DiffProjIdeal.nD Cert.DiffProjIdeal.τ).loc Cert.DiffProjIdeal.main_arg4) = m ((c.tc : Thread Cert.DiffProjIdeal.nD Cert.DiffProjIdeal.τ).loc Cert.DiffProjIdeal.main_arg4))
      ∧ r.2.sem = fun _ => 0)

def quiescent_DiffProjRefIdeal [hDiffProjRefIdeal : Cert.DiffProjRefIdeal.Facts] : Prop :=
  ∀ (m : (ℓ : Loc Cert.DiffProjRefIdeal.nD Cert.DiffProjRefIdeal.τ Cert.DiffProjRefIdeal.sig) → Buf (Elt Ideal) ℓ) (g : Dev Cert.DiffProjRefIdeal.nD → PrngReg), Pre_DiffProjRefIdeal m →
    θ_run (Cert.DiffProjRefIdeal.defs (F := Ideal)) (onTc (τ := Cert.DiffProjRefIdeal.τ) (Cert.DiffProjRefIdeal.main (F := Ideal))) ⟨m, fun _ => 0, g⟩ (fun r => (∀ c : Dev Cert.DiffProjRefIdeal.nD,
      r.2.mem ((c.tc : Thread Cert.DiffProjRefIdeal.nD Cert.DiffProjRefIdeal.τ).loc Cert.DiffProjRefIdeal.main_arg0) = m ((c.tc : Thread Cert.DiffProjRefIdeal.nD Cert.DiffProjRefIdeal.τ).loc Cert.DiffProjRefIdeal.main_arg0)
      ∧ r.2.mem ((c.tc : Thread Cert.DiffProjRefIdeal.nD Cert.DiffProjRefIdeal.τ).loc Cert.DiffProjRefIdeal.main_arg1) = m ((c.tc : Thread Cert.DiffProjRefIdeal.nD Cert.DiffProjRefIdeal.τ).loc Cert.DiffProjRefIdeal.main_arg1)
      ∧ r.2.mem ((c.tc : Thread Cert.DiffProjRefIdeal.nD Cert.DiffProjRefIdeal.τ).loc Cert.DiffProjRefIdeal.main_arg2) = m ((c.tc : Thread Cert.DiffProjRefIdeal.nD Cert.DiffProjRefIdeal.τ).loc Cert.DiffProjRefIdeal.main_arg2)
      ∧ r.2.mem ((c.tc : Thread Cert.DiffProjRefIdeal.nD Cert.DiffProjRefIdeal.τ).loc Cert.DiffProjRefIdeal.main_arg3) = m ((c.tc : Thread Cert.DiffProjRefIdeal.nD Cert.DiffProjRefIdeal.τ).loc Cert.DiffProjRefIdeal.main_arg3)
      ∧ r.2.mem ((c.tc : Thread Cert.DiffProjRefIdeal.nD Cert.DiffProjRefIdeal.τ).loc Cert.DiffProjRefIdeal.main_arg4) = m ((c.tc : Thread Cert.DiffProjRefIdeal.nD Cert.DiffProjRefIdeal.τ).loc Cert.DiffProjRefIdeal.main_arg4))
      ∧ r.2.sem = fun _ => 0)

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v4)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v4) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v17) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_MlpLast_MlpLastIdeal : Prop :=
  True

def algebraic_MlpLastIdeal_MlpLastRefIdeal [hMlpLastIdeal : Cert.MlpLastIdeal.Facts] [hMlpLastRefIdeal : Cert.MlpLastRefIdeal.Facts] : Prop :=
  ∀ (m : (ℓ : Loc Cert.MlpLastIdeal.nD Cert.MlpLastIdeal.τ Cert.MlpLastIdeal.sig) → Buf (Elt Ideal) ℓ) (g : Dev Cert.MlpLastIdeal.nD → PrngReg)
    (m' : (ℓ : Loc Cert.MlpLastRefIdeal.nD Cert.MlpLastRefIdeal.τ Cert.MlpLastRefIdeal.sig) → Buf (Elt Ideal) ℓ) (g' : Dev Cert.MlpLastRefIdeal.nD → PrngReg), Pre_MlpLastIdeal m →
    (∀ c : Dev Cert.MlpLastIdeal.nD,
      m' ((c.tc : Thread Cert.MlpLastRefIdeal.nD Cert.MlpLastRefIdeal.τ).loc Cert.MlpLastRefIdeal.main_arg0) = m ((c.tc : Thread Cert.MlpLastIdeal.nD Cert.MlpLastIdeal.τ).loc Cert.MlpLastIdeal.main_arg0)
      ∧ m' ((c.tc : Thread Cert.MlpLastRefIdeal.nD Cert.MlpLastRefIdeal.τ).loc Cert.MlpLastRefIdeal.main_arg1) = m ((c.tc : Thread Cert.MlpLastIdeal.nD Cert.MlpLastIdeal.τ).loc Cert.MlpLastIdeal.main_arg1)
      ∧ m' ((c.tc : Thread Cert.MlpLastRefIdeal.nD Cert.MlpLastRefIdeal.τ).loc Cert.MlpLastRefIdeal.main_arg2) = m ((c.tc : Thread Cert.MlpLastIdeal.nD Cert.MlpLastIdeal.τ).loc Cert.MlpLastIdeal.main_arg2)
      ∧ m' ((c.tc : Thread Cert.MlpLastRefIdeal.nD Cert.MlpLastRefIdeal.τ).loc Cert.MlpLastRefIdeal.main_arg3) = m ((c.tc : Thread Cert.MlpLastIdeal.nD Cert.MlpLastIdeal.τ).loc Cert.MlpLastIdeal.main_arg3)
      ∧ m' ((c.tc : Thread Cert.MlpLastRefIdeal.nD Cert.MlpLastRefIdeal.τ).loc Cert.MlpLastRefIdeal.main_arg4) = m ((c.tc : Thread Cert.MlpLastIdeal.nD Cert.MlpLastIdeal.τ).loc Cert.MlpLastIdeal.main_arg4)) →
    ∃ (v0 : (c : Dev Cert.MlpLastIdeal.nD) → Buf (Elt Ideal) ((c.tc : Thread Cert.MlpLastIdeal.nD Cert.MlpLastIdeal.τ).loc Cert.MlpLastIdeal.main_v4)),
      θ_run (Cert.MlpLastIdeal.defs (F := Ideal)) (onTc (τ := Cert.MlpLastIdeal.τ) (Cert.MlpLastIdeal.main (F := Ideal))) ⟨m, fun _ => 0, g⟩ (fun r => ∀ c : Dev Cert.MlpLastIdeal.nD,
          r.2.mem ((c.tc : Thread Cert.MlpLastIdeal.nD Cert.MlpLastIdeal.τ).loc Cert.MlpLastIdeal.main_v4) = v0 c
          ∧ r.2.mem ((c.tc : Thread Cert.MlpLastIdeal.nD Cert.MlpLastIdeal.τ).loc Cert.MlpLastIdeal.main_arg0) = m ((c.tc : Thread Cert.MlpLastIdeal.nD Cert.MlpLastIdeal.τ).loc Cert.MlpLastIdeal.main_arg0)
          ∧ r.2.mem ((c.tc : Thread Cert.MlpLastIdeal.nD Cert.MlpLastIdeal.τ).loc Cert.MlpLastIdeal.main_arg1) = m ((c.tc : Thread Cert.MlpLastIdeal.nD Cert.MlpLastIdeal.τ).loc Cert.MlpLastIdeal.main_arg1)
          ∧ r.2.mem ((c.tc : Thread Cert.MlpLastIdeal.nD Cert.MlpLastIdeal.τ).loc Cert.MlpLastIdeal.main_arg2) = m ((c.tc : Thread Cert.MlpLastIdeal.nD Cert.MlpLastIdeal.τ).loc Cert.MlpLastIdeal.main_arg2)
          ∧ r.2.mem ((c.tc : Thread Cert.MlpLastIdeal.nD Cert.MlpLastIdeal.τ).loc Cert.MlpLastIdeal.main_arg3) = m ((c.tc : Thread Cert.MlpLastIdeal.nD Cert.MlpLastIdeal.τ).loc Cert.MlpLastIdeal.main_arg3)
          ∧ r.2.mem ((c.tc : Thread Cert.MlpLastIdeal.nD Cert.MlpLastIdeal.τ).loc Cert.MlpLastIdeal.main_arg4) = m ((c.tc : Thread Cert.MlpLastIdeal.nD Cert.MlpLastIdeal.τ).loc Cert.MlpLastIdeal.main_arg4))
      ∧ θ_run (Cert.MlpLastRefIdeal.defs (F := Ideal)) (onTc (τ := Cert.MlpLastRefIdeal.τ) (Cert.MlpLastRefIdeal.main (F := Ideal))) ⟨m', fun _ => 0, g'⟩ (fun r => ∀ c : Dev Cert.MlpLastRefIdeal.nD,
          r.2.mem ((c.tc : Thread Cert.MlpLastRefIdeal.nD Cert.MlpLastRefIdeal.τ).loc Cert.MlpLastRefIdeal.main_v30) = v0 c
          ∧ r.2.mem ((c.tc : Thread Cert.MlpLastRefIdeal.nD Cert.MlpLastRefIdeal.τ).loc Cert.MlpLastRefIdeal.main_arg0) = m' ((c.tc : Thread Cert.MlpLastRefIdeal.nD Cert.MlpLastRefIdeal.τ).loc Cert.MlpLastRefIdeal.main_arg0)
          ∧ r.2.mem ((c.tc : Thread Cert.MlpLastRefIdeal.nD Cert.MlpLastRefIdeal.τ).loc Cert.MlpLastRefIdeal.main_arg1) = m' ((c.tc : Thread Cert.MlpLastRefIdeal.nD Cert.MlpLastRefIdeal.τ).loc Cert.MlpLastRefIdeal.main_arg1)
          ∧ r.2.mem ((c.tc : Thread Cert.MlpLastRefIdeal.nD Cert.MlpLastRefIdeal.τ).loc Cert.MlpLastRefIdeal.main_arg2) = m' ((c.tc : Thread Cert.MlpLastRefIdeal.nD Cert.MlpLastRefIdeal.τ).loc Cert.MlpLastRefIdeal.main_arg2)
          ∧ r.2.mem ((c.tc : Thread Cert.MlpLastRefIdeal.nD Cert.MlpLastRefIdeal.τ).loc Cert.MlpLastRefIdeal.main_arg3) = m' ((c.tc : Thread Cert.MlpLastRefIdeal.nD Cert.MlpLastRefIdeal.τ).loc Cert.MlpLastRefIdeal.main_arg3)
          ∧ r.2.mem ((c.tc : Thread Cert.MlpLastRefIdeal.nD Cert.MlpLastRefIdeal.τ).loc Cert.MlpLastRefIdeal.main_arg4) = m' ((c.tc : Thread Cert.MlpLastRefIdeal.nD Cert.MlpLastRefIdeal.τ).loc Cert.MlpLastRefIdeal.main_arg4))

def preserves_MlpSample_MlpSampleIdeal : Prop :=
  True

def algebraic_MlpSampleIdeal_MlpSampleRefIdeal [hMlpSampleIdeal : Cert.MlpSampleIdeal.Facts] [hMlpSampleRefIdeal : Cert.MlpSampleRefIdeal.Facts] : Prop :=
  ∀ (m : (ℓ : Loc Cert.MlpSampleIdeal.nD Cert.MlpSampleIdeal.τ Cert.MlpSampleIdeal.sig) → Buf (Elt Ideal) ℓ) (g : Dev Cert.MlpSampleIdeal.nD → PrngReg)
    (m' : (ℓ : Loc Cert.MlpSampleRefIdeal.nD Cert.MlpSampleRefIdeal.τ Cert.MlpSampleRefIdeal.sig) → Buf (Elt Ideal) ℓ) (g' : Dev Cert.MlpSampleRefIdeal.nD → PrngReg), Pre_MlpSampleIdeal m →
    (∀ c : Dev Cert.MlpSampleIdeal.nD,
      m' ((c.tc : Thread Cert.MlpSampleRefIdeal.nD Cert.MlpSampleRefIdeal.τ).loc Cert.MlpSampleRefIdeal.main_arg0) = m ((c.tc : Thread Cert.MlpSampleIdeal.nD Cert.MlpSampleIdeal.τ).loc Cert.MlpSampleIdeal.main_arg0)
      ∧ m' ((c.tc : Thread Cert.MlpSampleRefIdeal.nD Cert.MlpSampleRefIdeal.τ).loc Cert.MlpSampleRefIdeal.main_arg1) = m ((c.tc : Thread Cert.MlpSampleIdeal.nD Cert.MlpSampleIdeal.τ).loc Cert.MlpSampleIdeal.main_arg1)
      ∧ m' ((c.tc : Thread Cert.MlpSampleRefIdeal.nD Cert.MlpSampleRefIdeal.τ).loc Cert.MlpSampleRefIdeal.main_arg2) = m ((c.tc : Thread Cert.MlpSampleIdeal.nD Cert.MlpSampleIdeal.τ).loc Cert.MlpSampleIdeal.main_arg2)
      ∧ m' ((c.tc : Thread Cert.MlpSampleRefIdeal.nD Cert.MlpSampleRefIdeal.τ).loc Cert.MlpSampleRefIdeal.main_arg3) = m ((c.tc : Thread Cert.MlpSampleIdeal.nD Cert.MlpSampleIdeal.τ).loc Cert.MlpSampleIdeal.main_arg3)
      ∧ m' ((c.tc : Thread Cert.MlpSampleRefIdeal.nD Cert.MlpSampleRefIdeal.τ).loc Cert.MlpSampleRefIdeal.main_arg4) = m ((c.tc : Thread Cert.MlpSampleIdeal.nD Cert.MlpSampleIdeal.τ).loc Cert.MlpSampleIdeal.main_arg4)) →
    ∃ (v0 : (c : Dev Cert.MlpSampleIdeal.nD) → Buf (Elt Ideal) ((c.tc : Thread Cert.MlpSampleIdeal.nD Cert.MlpSampleIdeal.τ).loc Cert.MlpSampleIdeal.main_v4)),
      θ_run (Cert.MlpSampleIdeal.defs (F := Ideal)) (onTc (τ := Cert.MlpSampleIdeal.τ) (Cert.MlpSampleIdeal.main (F := Ideal))) ⟨m, fun _ => 0, g⟩ (fun r => ∀ c : Dev Cert.MlpSampleIdeal.nD,
          r.2.mem ((c.tc : Thread Cert.MlpSampleIdeal.nD Cert.MlpSampleIdeal.τ).loc Cert.MlpSampleIdeal.main_v4) = v0 c
          ∧ r.2.mem ((c.tc : Thread Cert.MlpSampleIdeal.nD Cert.MlpSampleIdeal.τ).loc Cert.MlpSampleIdeal.main_arg0) = m ((c.tc : Thread Cert.MlpSampleIdeal.nD Cert.MlpSampleIdeal.τ).loc Cert.MlpSampleIdeal.main_arg0)
          ∧ r.2.mem ((c.tc : Thread Cert.MlpSampleIdeal.nD Cert.MlpSampleIdeal.τ).loc Cert.MlpSampleIdeal.main_arg1) = m ((c.tc : Thread Cert.MlpSampleIdeal.nD Cert.MlpSampleIdeal.τ).loc Cert.MlpSampleIdeal.main_arg1)
          ∧ r.2.mem ((c.tc : Thread Cert.MlpSampleIdeal.nD Cert.MlpSampleIdeal.τ).loc Cert.MlpSampleIdeal.main_arg2) = m ((c.tc : Thread Cert.MlpSampleIdeal.nD Cert.MlpSampleIdeal.τ).loc Cert.MlpSampleIdeal.main_arg2)
          ∧ r.2.mem ((c.tc : Thread Cert.MlpSampleIdeal.nD Cert.MlpSampleIdeal.τ).loc Cert.MlpSampleIdeal.main_arg3) = m ((c.tc : Thread Cert.MlpSampleIdeal.nD Cert.MlpSampleIdeal.τ).loc Cert.MlpSampleIdeal.main_arg3)
          ∧ r.2.mem ((c.tc : Thread Cert.MlpSampleIdeal.nD Cert.MlpSampleIdeal.τ).loc Cert.MlpSampleIdeal.main_arg4) = m ((c.tc : Thread Cert.MlpSampleIdeal.nD Cert.MlpSampleIdeal.τ).loc Cert.MlpSampleIdeal.main_arg4))
      ∧ θ_run (Cert.MlpSampleRefIdeal.defs (F := Ideal)) (onTc (τ := Cert.MlpSampleRefIdeal.τ) (Cert.MlpSampleRefIdeal.main (F := Ideal))) ⟨m', fun _ => 0, g'⟩ (fun r => ∀ c : Dev Cert.MlpSampleRefIdeal.nD,
          r.2.mem ((c.tc : Thread Cert.MlpSampleRefIdeal.nD Cert.MlpSampleRefIdeal.τ).loc Cert.MlpSampleRefIdeal.main_v30) = v0 c
          ∧ r.2.mem ((c.tc : Thread Cert.MlpSampleRefIdeal.nD Cert.MlpSampleRefIdeal.τ).loc Cert.MlpSampleRefIdeal.main_arg0) = m' ((c.tc : Thread Cert.MlpSampleRefIdeal.nD Cert.MlpSampleRefIdeal.τ).loc Cert.MlpSampleRefIdeal.main_arg0)
          ∧ r.2.mem ((c.tc : Thread Cert.MlpSampleRefIdeal.nD Cert.MlpSampleRefIdeal.τ).loc Cert.MlpSampleRefIdeal.main_arg1) = m' ((c.tc : Thread Cert.MlpSampleRefIdeal.nD Cert.MlpSampleRefIdeal.τ).loc Cert.MlpSampleRefIdeal.main_arg1)
          ∧ r.2.mem ((c.tc : Thread Cert.MlpSampleRefIdeal.nD Cert.MlpSampleRefIdeal.τ).loc Cert.MlpSampleRefIdeal.main_arg2) = m' ((c.tc : Thread Cert.MlpSampleRefIdeal.nD Cert.MlpSampleRefIdeal.τ).loc Cert.MlpSampleRefIdeal.main_arg2)
          ∧ r.2.mem ((c.tc : Thread Cert.MlpSampleRefIdeal.nD Cert.MlpSampleRefIdeal.τ).loc Cert.MlpSampleRefIdeal.main_arg3) = m' ((c.tc : Thread Cert.MlpSampleRefIdeal.nD Cert.MlpSampleRefIdeal.τ).loc Cert.MlpSampleRefIdeal.main_arg3)
          ∧ r.2.mem ((c.tc : Thread Cert.MlpSampleRefIdeal.nD Cert.MlpSampleRefIdeal.τ).loc Cert.MlpSampleRefIdeal.main_arg4) = m' ((c.tc : Thread Cert.MlpSampleRefIdeal.nD Cert.MlpSampleRefIdeal.τ).loc Cert.MlpSampleRefIdeal.main_arg4))

def preserves_RgSample_RgSampleIdeal : Prop :=
  IdealRules.named_const.Statement Cert.RgSampleIdeal.κ "gelu_exp_cube" .f32 0xBDD2D3E8#32 (((12003091 / 268435456) * ((-6693141 / 4194304) * (Real.log 2)⁻¹) : ℝ) : EReal)
  ∧ IdealRules.named_const.Statement Cert.RgSampleIdeal.κ "gelu_exp" .f32 0xC0135761#32 (((-6693141 / 4194304) * (Real.log 2)⁻¹ : ℝ) : EReal)

def algebraic_RgSampleIdeal_RgSampleRefIdeal [hRgSampleIdeal : Cert.RgSampleIdeal.Facts] [hRgSampleRefIdeal : Cert.RgSampleRefIdeal.Facts] : Prop :=
  ∀ (m : (ℓ : Loc Cert.RgSampleIdeal.nD Cert.RgSampleIdeal.τ Cert.RgSampleIdeal.sig) → Buf (Elt Ideal) ℓ) (g : Dev Cert.RgSampleIdeal.nD → PrngReg)
    (m' : (ℓ : Loc Cert.RgSampleRefIdeal.nD Cert.RgSampleRefIdeal.τ Cert.RgSampleRefIdeal.sig) → Buf (Elt Ideal) ℓ) (g' : Dev Cert.RgSampleRefIdeal.nD → PrngReg), Pre_RgSampleIdeal m →
    (∀ c : Dev Cert.RgSampleIdeal.nD,
      m' ((c.tc : Thread Cert.RgSampleRefIdeal.nD Cert.RgSampleRefIdeal.τ).loc Cert.RgSampleRefIdeal.main_arg0) = m ((c.tc : Thread Cert.RgSampleIdeal.nD Cert.RgSampleIdeal.τ).loc Cert.RgSampleIdeal.main_arg0)
      ∧ m' ((c.tc : Thread Cert.RgSampleRefIdeal.nD Cert.RgSampleRefIdeal.τ).loc Cert.RgSampleRefIdeal.main_arg1) = m ((c.tc : Thread Cert.RgSampleIdeal.nD Cert.RgSampleIdeal.τ).loc Cert.RgSampleIdeal.main_arg1)
      ∧ m' ((c.tc : Thread Cert.RgSampleRefIdeal.nD Cert.RgSampleRefIdeal.τ).loc Cert.RgSampleRefIdeal.main_arg2) = m ((c.tc : Thread Cert.RgSampleIdeal.nD Cert.RgSampleIdeal.τ).loc Cert.RgSampleIdeal.main_arg2)
      ∧ m' ((c.tc : Thread Cert.RgSampleRefIdeal.nD Cert.RgSampleRefIdeal.τ).loc Cert.RgSampleRefIdeal.main_arg3) = m ((c.tc : Thread Cert.RgSampleIdeal.nD Cert.RgSampleIdeal.τ).loc Cert.RgSampleIdeal.main_arg3)
      ∧ m' ((c.tc : Thread Cert.RgSampleRefIdeal.nD Cert.RgSampleRefIdeal.τ).loc Cert.RgSampleRefIdeal.main_arg4) = m ((c.tc : Thread Cert.RgSampleIdeal.nD Cert.RgSampleIdeal.τ).loc Cert.RgSampleIdeal.main_arg4)
      ∧ m' ((c.tc : Thread Cert.RgSampleRefIdeal.nD Cert.RgSampleRefIdeal.τ).loc Cert.RgSampleRefIdeal.main_arg5) = m ((c.tc : Thread Cert.RgSampleIdeal.nD Cert.RgSampleIdeal.τ).loc Cert.RgSampleIdeal.main_arg5)
      ∧ m' ((c.tc : Thread Cert.RgSampleRefIdeal.nD Cert.RgSampleRefIdeal.τ).loc Cert.RgSampleRefIdeal.main_arg6) = m ((c.tc : Thread Cert.RgSampleIdeal.nD Cert.RgSampleIdeal.τ).loc Cert.RgSampleIdeal.main_arg6)
      ∧ m' ((c.tc : Thread Cert.RgSampleRefIdeal.nD Cert.RgSampleRefIdeal.τ).loc Cert.RgSampleRefIdeal.main_arg7) = m ((c.tc : Thread Cert.RgSampleIdeal.nD Cert.RgSampleIdeal.τ).loc Cert.RgSampleIdeal.main_arg7)
      ∧ m' ((c.tc : Thread Cert.RgSampleRefIdeal.nD Cert.RgSampleRefIdeal.τ).loc Cert.RgSampleRefIdeal.main_arg8) = m ((c.tc : Thread Cert.RgSampleIdeal.nD Cert.RgSampleIdeal.τ).loc Cert.RgSampleIdeal.main_arg8)
      ∧ m' ((c.tc : Thread Cert.RgSampleRefIdeal.nD Cert.RgSampleRefIdeal.τ).loc Cert.RgSampleRefIdeal.main_arg9) = m ((c.tc : Thread Cert.RgSampleIdeal.nD Cert.RgSampleIdeal.τ).loc Cert.RgSampleIdeal.main_arg9)
      ∧ m' ((c.tc : Thread Cert.RgSampleRefIdeal.nD Cert.RgSampleRefIdeal.τ).loc Cert.RgSampleRefIdeal.main_arg10) = m ((c.tc : Thread Cert.RgSampleIdeal.nD Cert.RgSampleIdeal.τ).loc Cert.RgSampleIdeal.main_arg10)
      ∧ m' ((c.tc : Thread Cert.RgSampleRefIdeal.nD Cert.RgSampleRefIdeal.τ).loc Cert.RgSampleRefIdeal.main_arg11) = m ((c.tc : Thread Cert.RgSampleIdeal.nD Cert.RgSampleIdeal.τ).loc Cert.RgSampleIdeal.main_arg11)
      ∧ m' ((c.tc : Thread Cert.RgSampleRefIdeal.nD Cert.RgSampleRefIdeal.τ).loc Cert.RgSampleRefIdeal.main_arg12) = m ((c.tc : Thread Cert.RgSampleIdeal.nD Cert.RgSampleIdeal.τ).loc Cert.RgSampleIdeal.main_arg12)
      ∧ m' ((c.tc : Thread Cert.RgSampleRefIdeal.nD Cert.RgSampleRefIdeal.τ).loc Cert.RgSampleRefIdeal.main_arg13) = m ((c.tc : Thread Cert.RgSampleIdeal.nD Cert.RgSampleIdeal.τ).loc Cert.RgSampleIdeal.main_arg13)) →
    ∃ (v0 : (c : Dev Cert.RgSampleIdeal.nD) → Buf (Elt Ideal) ((c.tc : Thread Cert.RgSampleIdeal.nD Cert.RgSampleIdeal.τ).loc Cert.RgSampleIdeal.main_v14_0)) (v1 : (c : Dev Cert.RgSampleIdeal.nD) → Buf (Elt Ideal) ((c.tc : Thread Cert.RgSampleIdeal.nD Cert.RgSampleIdeal.τ).loc Cert.RgSampleIdeal.main_v15)) (v2 : (c : Dev Cert.RgSampleIdeal.nD) → Buf (Elt Ideal) ((c.tc : Thread Cert.RgSampleIdeal.nD Cert.RgSampleIdeal.τ).loc Cert.RgSampleIdeal.main_v17)),
      θ_run (Cert.RgSampleIdeal.defs (F := Ideal)) (onTc (τ := Cert.RgSampleIdeal.τ) (Cert.RgSampleIdeal.main (F := Ideal))) ⟨m, fun _ => 0, g⟩ (fun r => ∀ c : Dev Cert.RgSampleIdeal.nD,
          r.2.mem ((c.tc : Thread Cert.RgSampleIdeal.nD Cert.RgSampleIdeal.τ).loc Cert.RgSampleIdeal.main_v14_0) = v0 c
          ∧ r.2.mem ((c.tc : Thread Cert.RgSampleIdeal.nD Cert.RgSampleIdeal.τ).loc Cert.RgSampleIdeal.main_v15) = v1 c
          ∧ r.2.mem ((c.tc : Thread Cert.RgSampleIdeal.nD Cert.RgSampleIdeal.τ).loc Cert.RgSampleIdeal.main_v17) = v2 c
          ∧ r.2.mem ((c.tc : Thread Cert.RgSampleIdeal.nD Cert.RgSampleIdeal.τ).loc Cert.RgSampleIdeal.main_arg0) = m ((c.tc : Thread Cert.RgSampleIdeal.nD Cert.RgSampleIdeal.τ).loc Cert.RgSampleIdeal.main_arg0)
          ∧ r.2.mem ((c.tc : Thread Cert.RgSampleIdeal.nD Cert.RgSampleIdeal.τ).loc Cert.RgSampleIdeal.main_arg1) = m ((c.tc : Thread Cert.RgSampleIdeal.nD Cert.RgSampleIdeal.τ).loc Cert.RgSampleIdeal.main_arg1)
          ∧ r.2.mem ((c.tc : Thread Cert.RgSampleIdeal.nD Cert.RgSampleIdeal.τ).loc Cert.RgSampleIdeal.main_arg2) = m ((c.tc : Thread Cert.RgSampleIdeal.nD Cert.RgSampleIdeal.τ).loc Cert.RgSampleIdeal.main_arg2)
          ∧ r.2.mem ((c.tc : Thread Cert.RgSampleIdeal.nD Cert.RgSampleIdeal.τ).loc Cert.RgSampleIdeal.main_arg3) = m ((c.tc : Thread Cert.RgSampleIdeal.nD Cert.RgSampleIdeal.τ).loc Cert.RgSampleIdeal.main_arg3)
          ∧ r.2.mem ((c.tc : Thread Cert.RgSampleIdeal.nD Cert.RgSampleIdeal.τ).loc Cert.RgSampleIdeal.main_arg4) = m ((c.tc : Thread Cert.RgSampleIdeal.nD Cert.RgSampleIdeal.τ).loc Cert.RgSampleIdeal.main_arg4)
          ∧ r.2.mem ((c.tc : Thread Cert.RgSampleIdeal.nD Cert.RgSampleIdeal.τ).loc Cert.RgSampleIdeal.main_arg5) = m ((c.tc : Thread Cert.RgSampleIdeal.nD Cert.RgSampleIdeal.τ).loc Cert.RgSampleIdeal.main_arg5)
          ∧ r.2.mem ((c.tc : Thread Cert.RgSampleIdeal.nD Cert.RgSampleIdeal.τ).loc Cert.RgSampleIdeal.main_arg6) = m ((c.tc : Thread Cert.RgSampleIdeal.nD Cert.RgSampleIdeal.τ).loc Cert.RgSampleIdeal.main_arg6)
          ∧ r.2.mem ((c.tc : Thread Cert.RgSampleIdeal.nD Cert.RgSampleIdeal.τ).loc Cert.RgSampleIdeal.main_arg7) = m ((c.tc : Thread Cert.RgSampleIdeal.nD Cert.RgSampleIdeal.τ).loc Cert.RgSampleIdeal.main_arg7)
          ∧ r.2.mem ((c.tc : Thread Cert.RgSampleIdeal.nD Cert.RgSampleIdeal.τ).loc Cert.RgSampleIdeal.main_arg8) = m ((c.tc : Thread Cert.RgSampleIdeal.nD Cert.RgSampleIdeal.τ).loc Cert.RgSampleIdeal.main_arg8)
          ∧ r.2.mem ((c.tc : Thread Cert.RgSampleIdeal.nD Cert.RgSampleIdeal.τ).loc Cert.RgSampleIdeal.main_arg9) = m ((c.tc : Thread Cert.RgSampleIdeal.nD Cert.RgSampleIdeal.τ).loc Cert.RgSampleIdeal.main_arg9)
          ∧ r.2.mem ((c.tc : Thread Cert.RgSampleIdeal.nD Cert.RgSampleIdeal.τ).loc Cert.RgSampleIdeal.main_arg10) = m ((c.tc : Thread Cert.RgSampleIdeal.nD Cert.RgSampleIdeal.τ).loc Cert.RgSampleIdeal.main_arg10)
          ∧ r.2.mem ((c.tc : Thread Cert.RgSampleIdeal.nD Cert.RgSampleIdeal.τ).loc Cert.RgSampleIdeal.main_arg11) = m ((c.tc : Thread Cert.RgSampleIdeal.nD Cert.RgSampleIdeal.τ).loc Cert.RgSampleIdeal.main_arg11)
          ∧ r.2.mem ((c.tc : Thread Cert.RgSampleIdeal.nD Cert.RgSampleIdeal.τ).loc Cert.RgSampleIdeal.main_arg12) = m ((c.tc : Thread Cert.RgSampleIdeal.nD Cert.RgSampleIdeal.τ).loc Cert.RgSampleIdeal.main_arg12)
          ∧ r.2.mem ((c.tc : Thread Cert.RgSampleIdeal.nD Cert.RgSampleIdeal.τ).loc Cert.RgSampleIdeal.main_arg13) = m ((c.tc : Thread Cert.RgSampleIdeal.nD Cert.RgSampleIdeal.τ).loc Cert.RgSampleIdeal.main_arg13))
      ∧ θ_run (Cert.RgSampleRefIdeal.defs (F := Ideal)) (onTc (τ := Cert.RgSampleRefIdeal.τ) (Cert.RgSampleRefIdeal.main (F := Ideal))) ⟨m', fun _ => 0, g'⟩ (fun r => ∀ c : Dev Cert.RgSampleRefIdeal.nD,
          r.2.mem ((c.tc : Thread Cert.RgSampleRefIdeal.nD Cert.RgSampleRefIdeal.τ).loc Cert.RgSampleRefIdeal.main_v209) = v0 c
          ∧ r.2.mem ((c.tc : Thread Cert.RgSampleRefIdeal.nD Cert.RgSampleRefIdeal.τ).loc Cert.RgSampleRefIdeal.main_v210) = v1 c
          ∧ r.2.mem ((c.tc : Thread Cert.RgSampleRefIdeal.nD Cert.RgSampleRefIdeal.τ).loc Cert.RgSampleRefIdeal.main_v212) = v2 c
          ∧ r.2.mem ((c.tc : Thread Cert.RgSampleRefIdeal.nD Cert.RgSampleRefIdeal.τ).loc Cert.RgSampleRefIdeal.main_arg0) = m' ((c.tc : Thread Cert.RgSampleRefIdeal.nD Cert.RgSampleRefIdeal.τ).loc Cert.RgSampleRefIdeal.main_arg0)
          ∧ r.2.mem ((c.tc : Thread Cert.RgSampleRefIdeal.nD Cert.RgSampleRefIdeal.τ).loc Cert.RgSampleRefIdeal.main_arg1) = m' ((c.tc : Thread Cert.RgSampleRefIdeal.nD Cert.RgSampleRefIdeal.τ).loc Cert.RgSampleRefIdeal.main_arg1)
          ∧ r.2.mem ((c.tc : Thread Cert.RgSampleRefIdeal.nD Cert.RgSampleRefIdeal.τ).loc Cert.RgSampleRefIdeal.main_arg2) = m' ((c.tc : Thread Cert.RgSampleRefIdeal.nD Cert.RgSampleRefIdeal.τ).loc Cert.RgSampleRefIdeal.main_arg2)
          ∧ r.2.mem ((c.tc : Thread Cert.RgSampleRefIdeal.nD Cert.RgSampleRefIdeal.τ).loc Cert.RgSampleRefIdeal.main_arg3) = m' ((c.tc : Thread Cert.RgSampleRefIdeal.nD Cert.RgSampleRefIdeal.τ).loc Cert.RgSampleRefIdeal.main_arg3)
          ∧ r.2.mem ((c.tc : Thread Cert.RgSampleRefIdeal.nD Cert.RgSampleRefIdeal.τ).loc Cert.RgSampleRefIdeal.main_arg4) = m' ((c.tc : Thread Cert.RgSampleRefIdeal.nD Cert.RgSampleRefIdeal.τ).loc Cert.RgSampleRefIdeal.main_arg4)
          ∧ r.2.mem ((c.tc : Thread Cert.RgSampleRefIdeal.nD Cert.RgSampleRefIdeal.τ).loc Cert.RgSampleRefIdeal.main_arg5) = m' ((c.tc : Thread Cert.RgSampleRefIdeal.nD Cert.RgSampleRefIdeal.τ).loc Cert.RgSampleRefIdeal.main_arg5)
          ∧ r.2.mem ((c.tc : Thread Cert.RgSampleRefIdeal.nD Cert.RgSampleRefIdeal.τ).loc Cert.RgSampleRefIdeal.main_arg6) = m' ((c.tc : Thread Cert.RgSampleRefIdeal.nD Cert.RgSampleRefIdeal.τ).loc Cert.RgSampleRefIdeal.main_arg6)
          ∧ r.2.mem ((c.tc : Thread Cert.RgSampleRefIdeal.nD Cert.RgSampleRefIdeal.τ).loc Cert.RgSampleRefIdeal.main_arg7) = m' ((c.tc : Thread Cert.RgSampleRefIdeal.nD Cert.RgSampleRefIdeal.τ).loc Cert.RgSampleRefIdeal.main_arg7)
          ∧ r.2.mem ((c.tc : Thread Cert.RgSampleRefIdeal.nD Cert.RgSampleRefIdeal.τ).loc Cert.RgSampleRefIdeal.main_arg8) = m' ((c.tc : Thread Cert.RgSampleRefIdeal.nD Cert.RgSampleRefIdeal.τ).loc Cert.RgSampleRefIdeal.main_arg8)
          ∧ r.2.mem ((c.tc : Thread Cert.RgSampleRefIdeal.nD Cert.RgSampleRefIdeal.τ).loc Cert.RgSampleRefIdeal.main_arg9) = m' ((c.tc : Thread Cert.RgSampleRefIdeal.nD Cert.RgSampleRefIdeal.τ).loc Cert.RgSampleRefIdeal.main_arg9)
          ∧ r.2.mem ((c.tc : Thread Cert.RgSampleRefIdeal.nD Cert.RgSampleRefIdeal.τ).loc Cert.RgSampleRefIdeal.main_arg10) = m' ((c.tc : Thread Cert.RgSampleRefIdeal.nD Cert.RgSampleRefIdeal.τ).loc Cert.RgSampleRefIdeal.main_arg10)
          ∧ r.2.mem ((c.tc : Thread Cert.RgSampleRefIdeal.nD Cert.RgSampleRefIdeal.τ).loc Cert.RgSampleRefIdeal.main_arg11) = m' ((c.tc : Thread Cert.RgSampleRefIdeal.nD Cert.RgSampleRefIdeal.τ).loc Cert.RgSampleRefIdeal.main_arg11)
          ∧ r.2.mem ((c.tc : Thread Cert.RgSampleRefIdeal.nD Cert.RgSampleRefIdeal.τ).loc Cert.RgSampleRefIdeal.main_arg12) = m' ((c.tc : Thread Cert.RgSampleRefIdeal.nD Cert.RgSampleRefIdeal.τ).loc Cert.RgSampleRefIdeal.main_arg12)
          ∧ r.2.mem ((c.tc : Thread Cert.RgSampleRefIdeal.nD Cert.RgSampleRefIdeal.τ).loc Cert.RgSampleRefIdeal.main_arg13) = m' ((c.tc : Thread Cert.RgSampleRefIdeal.nD Cert.RgSampleRefIdeal.τ).loc Cert.RgSampleRefIdeal.main_arg13))

def preserves_BandProj_BandProjIdeal : Prop :=
  True

def algebraic_BandProjIdeal_BandProjRefIdeal [hBandProjIdeal : Cert.BandProjIdeal.Facts] [hBandProjRefIdeal : Cert.BandProjRefIdeal.Facts] : Prop :=
  ∀ (m : (ℓ : Loc Cert.BandProjIdeal.nD Cert.BandProjIdeal.τ Cert.BandProjIdeal.sig) → Buf (Elt Ideal) ℓ) (g : Dev Cert.BandProjIdeal.nD → PrngReg)
    (m' : (ℓ : Loc Cert.BandProjRefIdeal.nD Cert.BandProjRefIdeal.τ Cert.BandProjRefIdeal.sig) → Buf (Elt Ideal) ℓ) (g' : Dev Cert.BandProjRefIdeal.nD → PrngReg), Pre_BandProjIdeal m →
    (∀ c : Dev Cert.BandProjIdeal.nD,
      m' ((c.tc : Thread Cert.BandProjRefIdeal.nD Cert.BandProjRefIdeal.τ).loc Cert.BandProjRefIdeal.main_arg0) = m ((c.tc : Thread Cert.BandProjIdeal.nD Cert.BandProjIdeal.τ).loc Cert.BandProjIdeal.main_arg0)
      ∧ m' ((c.tc : Thread Cert.BandProjRefIdeal.nD Cert.BandProjRefIdeal.τ).loc Cert.BandProjRefIdeal.main_arg1) = m ((c.tc : Thread Cert.BandProjIdeal.nD Cert.BandProjIdeal.τ).loc Cert.BandProjIdeal.main_arg1)
      ∧ m' ((c.tc : Thread Cert.BandProjRefIdeal.nD Cert.BandProjRefIdeal.τ).loc Cert.BandProjRefIdeal.main_arg2) = m ((c.tc : Thread Cert.BandProjIdeal.nD Cert.BandProjIdeal.τ).loc Cert.BandProjIdeal.main_arg2)
      ∧ m' ((c.tc : Thread Cert.BandProjRefIdeal.nD Cert.BandProjRefIdeal.τ).loc Cert.BandProjRefIdeal.main_arg3) = m ((c.tc : Thread Cert.BandProjIdeal.nD Cert.BandProjIdeal.τ).loc Cert.BandProjIdeal.main_arg3)
      ∧ m' ((c.tc : Thread Cert.BandProjRefIdeal.nD Cert.BandProjRefIdeal.τ).loc Cert.BandProjRefIdeal.main_arg4) = m ((c.tc : Thread Cert.BandProjIdeal.nD Cert.BandProjIdeal.τ).loc Cert.BandProjIdeal.main_arg4)) →
    ∃ (v0 : (c : Dev Cert.BandProjIdeal.nD) → Buf (Elt Ideal) ((c.tc : Thread Cert.BandProjIdeal.nD Cert.BandProjIdeal.τ).loc Cert.BandProjIdeal.main_v16_0)) (v1 : (c : Dev Cert.BandProjIdeal.nD) → Buf (Elt Ideal) ((c.tc : Thread Cert.BandProjIdeal.nD Cert.BandProjIdeal.τ).loc Cert.BandProjIdeal.main_v16_1)) (v2 : (c : Dev Cert.BandProjIdeal.nD) → Buf (Elt Ideal) ((c.tc : Thread Cert.BandProjIdeal.nD Cert.BandProjIdeal.τ).loc Cert.BandProjIdeal.main_v16_2)) (v3 : (c : Dev Cert.BandProjIdeal.nD) → Buf (Elt Ideal) ((c.tc : Thread Cert.BandProjIdeal.nD Cert.BandProjIdeal.τ).loc Cert.BandProjIdeal.main_v18)) (v4 : (c : Dev Cert.BandProjIdeal.nD) → Buf (Elt Ideal) ((c.tc : Thread Cert.BandProjIdeal.nD Cert.BandProjIdeal.τ).loc Cert.BandProjIdeal.main_v20)),
      θ_run (Cert.BandProjIdeal.defs (F := Ideal)) (onTc (τ := Cert.BandProjIdeal.τ) (Cert.BandProjIdeal.main (F := Ideal))) ⟨m, fun _ => 0, g⟩ (fun r => ∀ c : Dev Cert.BandProjIdeal.nD,
          r.2.mem ((c.tc : Thread Cert.BandProjIdeal.nD Cert.BandProjIdeal.τ).loc Cert.BandProjIdeal.main_v16_0) = v0 c
          ∧ r.2.mem ((c.tc : Thread Cert.BandProjIdeal.nD Cert.BandProjIdeal.τ).loc Cert.BandProjIdeal.main_v16_1) = v1 c
          ∧ r.2.mem ((c.tc : Thread Cert.BandProjIdeal.nD Cert.BandProjIdeal.τ).loc Cert.BandProjIdeal.main_v16_2) = v2 c
          ∧ r.2.mem ((c.tc : Thread Cert.BandProjIdeal.nD Cert.BandProjIdeal.τ).loc Cert.BandProjIdeal.main_v18) = v3 c
          ∧ r.2.mem ((c.tc : Thread Cert.BandProjIdeal.nD Cert.BandProjIdeal.τ).loc Cert.BandProjIdeal.main_v20) = v4 c
          ∧ r.2.mem ((c.tc : Thread Cert.BandProjIdeal.nD Cert.BandProjIdeal.τ).loc Cert.BandProjIdeal.main_arg0) = m ((c.tc : Thread Cert.BandProjIdeal.nD Cert.BandProjIdeal.τ).loc Cert.BandProjIdeal.main_arg0)
          ∧ r.2.mem ((c.tc : Thread Cert.BandProjIdeal.nD Cert.BandProjIdeal.τ).loc Cert.BandProjIdeal.main_arg1) = m ((c.tc : Thread Cert.BandProjIdeal.nD Cert.BandProjIdeal.τ).loc Cert.BandProjIdeal.main_arg1)
          ∧ r.2.mem ((c.tc : Thread Cert.BandProjIdeal.nD Cert.BandProjIdeal.τ).loc Cert.BandProjIdeal.main_arg2) = m ((c.tc : Thread Cert.BandProjIdeal.nD Cert.BandProjIdeal.τ).loc Cert.BandProjIdeal.main_arg2)
          ∧ r.2.mem ((c.tc : Thread Cert.BandProjIdeal.nD Cert.BandProjIdeal.τ).loc Cert.BandProjIdeal.main_arg3) = m ((c.tc : Thread Cert.BandProjIdeal.nD Cert.BandProjIdeal.τ).loc Cert.BandProjIdeal.main_arg3)
          ∧ r.2.mem ((c.tc : Thread Cert.BandProjIdeal.nD Cert.BandProjIdeal.τ).loc Cert.BandProjIdeal.main_arg4) = m ((c.tc : Thread Cert.BandProjIdeal.nD Cert.BandProjIdeal.τ).loc Cert.BandProjIdeal.main_arg4))
      ∧ θ_run (Cert.BandProjRefIdeal.defs (F := Ideal)) (onTc (τ := Cert.BandProjRefIdeal.τ) (Cert.BandProjRefIdeal.main (F := Ideal))) ⟨m', fun _ => 0, g'⟩ (fun r => ∀ c : Dev Cert.BandProjRefIdeal.nD,
          r.2.mem ((c.tc : Thread Cert.BandProjRefIdeal.nD Cert.BandProjRefIdeal.τ).loc Cert.BandProjRefIdeal.main_v55) = v0 c
          ∧ r.2.mem ((c.tc : Thread Cert.BandProjRefIdeal.nD Cert.BandProjRefIdeal.τ).loc Cert.BandProjRefIdeal.main_v57) = v1 c
          ∧ r.2.mem ((c.tc : Thread Cert.BandProjRefIdeal.nD Cert.BandProjRefIdeal.τ).loc Cert.BandProjRefIdeal.main_v58) = v2 c
          ∧ r.2.mem ((c.tc : Thread Cert.BandProjRefIdeal.nD Cert.BandProjRefIdeal.τ).loc Cert.BandProjRefIdeal.main_v60) = v3 c
          ∧ r.2.mem ((c.tc : Thread Cert.BandProjRefIdeal.nD Cert.BandProjRefIdeal.τ).loc Cert.BandProjRefIdeal.main_v62) = v4 c
          ∧ r.2.mem ((c.tc : Thread Cert.BandProjRefIdeal.nD Cert.BandProjRefIdeal.τ).loc Cert.BandProjRefIdeal.main_arg0) = m' ((c.tc : Thread Cert.BandProjRefIdeal.nD Cert.BandProjRefIdeal.τ).loc Cert.BandProjRefIdeal.main_arg0)
          ∧ r.2.mem ((c.tc : Thread Cert.BandProjRefIdeal.nD Cert.BandProjRefIdeal.τ).loc Cert.BandProjRefIdeal.main_arg1) = m' ((c.tc : Thread Cert.BandProjRefIdeal.nD Cert.BandProjRefIdeal.τ).loc Cert.BandProjRefIdeal.main_arg1)
          ∧ r.2.mem ((c.tc : Thread Cert.BandProjRefIdeal.nD Cert.BandProjRefIdeal.τ).loc Cert.BandProjRefIdeal.main_arg2) = m' ((c.tc : Thread Cert.BandProjRefIdeal.nD Cert.BandProjRefIdeal.τ).loc Cert.BandProjRefIdeal.main_arg2)
          ∧ r.2.mem ((c.tc : Thread Cert.BandProjRefIdeal.nD Cert.BandProjRefIdeal.τ).loc Cert.BandProjRefIdeal.main_arg3) = m' ((c.tc : Thread Cert.BandProjRefIdeal.nD Cert.BandProjRefIdeal.τ).loc Cert.BandProjRefIdeal.main_arg3)
          ∧ r.2.mem ((c.tc : Thread Cert.BandProjRefIdeal.nD Cert.BandProjRefIdeal.τ).loc Cert.BandProjRefIdeal.main_arg4) = m' ((c.tc : Thread Cert.BandProjRefIdeal.nD Cert.BandProjRefIdeal.τ).loc Cert.BandProjRefIdeal.main_arg4))

def preserves_BandRows_BandRowsIdeal : Prop :=
  True

def algebraic_BandRowsIdeal_BandRowsRefIdeal [hBandRowsIdeal : Cert.BandRowsIdeal.Facts] [hBandRowsRefIdeal : Cert.BandRowsRefIdeal.Facts] : Prop :=
  ∀ (m : (ℓ : Loc Cert.BandRowsIdeal.nD Cert.BandRowsIdeal.τ Cert.BandRowsIdeal.sig) → Buf (Elt Ideal) ℓ) (g : Dev Cert.BandRowsIdeal.nD → PrngReg)
    (m' : (ℓ : Loc Cert.BandRowsRefIdeal.nD Cert.BandRowsRefIdeal.τ Cert.BandRowsRefIdeal.sig) → Buf (Elt Ideal) ℓ) (g' : Dev Cert.BandRowsRefIdeal.nD → PrngReg), Pre_BandRowsIdeal m →
    (∀ c : Dev Cert.BandRowsIdeal.nD,
      m' ((c.tc : Thread Cert.BandRowsRefIdeal.nD Cert.BandRowsRefIdeal.τ).loc Cert.BandRowsRefIdeal.main_arg0) = m ((c.tc : Thread Cert.BandRowsIdeal.nD Cert.BandRowsIdeal.τ).loc Cert.BandRowsIdeal.main_arg0)
      ∧ m' ((c.tc : Thread Cert.BandRowsRefIdeal.nD Cert.BandRowsRefIdeal.τ).loc Cert.BandRowsRefIdeal.main_arg1) = m ((c.tc : Thread Cert.BandRowsIdeal.nD Cert.BandRowsIdeal.τ).loc Cert.BandRowsIdeal.main_arg1)
      ∧ m' ((c.tc : Thread Cert.BandRowsRefIdeal.nD Cert.BandRowsRefIdeal.τ).loc Cert.BandRowsRefIdeal.main_arg2) = m ((c.tc : Thread Cert.BandRowsIdeal.nD Cert.BandRowsIdeal.τ).loc Cert.BandRowsIdeal.main_arg2)
      ∧ m' ((c.tc : Thread Cert.BandRowsRefIdeal.nD Cert.BandRowsRefIdeal.τ).loc Cert.BandRowsRefIdeal.main_arg3) = m ((c.tc : Thread Cert.BandRowsIdeal.nD Cert.BandRowsIdeal.τ).loc Cert.BandRowsIdeal.main_arg3)
      ∧ m' ((c.tc : Thread Cert.BandRowsRefIdeal.nD Cert.BandRowsRefIdeal.τ).loc Cert.BandRowsRefIdeal.main_arg4) = m ((c.tc : Thread Cert.BandRowsIdeal.nD Cert.BandRowsIdeal.τ).loc Cert.BandRowsIdeal.main_arg4)) →
    ∃ (v0 : (c : Dev Cert.BandRowsIdeal.nD) → Buf (Elt Ideal) ((c.tc : Thread Cert.BandRowsIdeal.nD Cert.BandRowsIdeal.τ).loc Cert.BandRowsIdeal.main_v19_0)) (v1 : (c : Dev Cert.BandRowsIdeal.nD) → Buf (Elt Ideal) ((c.tc : Thread Cert.BandRowsIdeal.nD Cert.BandRowsIdeal.τ).loc Cert.BandRowsIdeal.main_v19_1)) (v2 : (c : Dev Cert.BandRowsIdeal.nD) → Buf (Elt Ideal) ((c.tc : Thread Cert.BandRowsIdeal.nD Cert.BandRowsIdeal.τ).loc Cert.BandRowsIdeal.main_v19_2)) (v3 : (c : Dev Cert.BandRowsIdeal.nD) → Buf (Elt Ideal) ((c.tc : Thread Cert.BandRowsIdeal.nD Cert.BandRowsIdeal.τ).loc Cert.BandRowsIdeal.main_v20)) (v4 : (c : Dev Cert.BandRowsIdeal.nD) → Buf (Elt Ideal) ((c.tc : Thread Cert.BandRowsIdeal.nD Cert.BandRowsIdeal.τ).loc Cert.BandRowsIdeal.main_v21)),
      θ_run (Cert.BandRowsIdeal.defs (F := Ideal)) (onTc (τ := Cert.BandRowsIdeal.τ) (Cert.BandRowsIdeal.main (F := Ideal))) ⟨m, fun _ => 0, g⟩ (fun r => ∀ c : Dev Cert.BandRowsIdeal.nD,
          r.2.mem ((c.tc : Thread Cert.BandRowsIdeal.nD Cert.BandRowsIdeal.τ).loc Cert.BandRowsIdeal.main_v19_0) = v0 c
          ∧ r.2.mem ((c.tc : Thread Cert.BandRowsIdeal.nD Cert.BandRowsIdeal.τ).loc Cert.BandRowsIdeal.main_v19_1) = v1 c
          ∧ r.2.mem ((c.tc : Thread Cert.BandRowsIdeal.nD Cert.BandRowsIdeal.τ).loc Cert.BandRowsIdeal.main_v19_2) = v2 c
          ∧ r.2.mem ((c.tc : Thread Cert.BandRowsIdeal.nD Cert.BandRowsIdeal.τ).loc Cert.BandRowsIdeal.main_v20) = v3 c
          ∧ r.2.mem ((c.tc : Thread Cert.BandRowsIdeal.nD Cert.BandRowsIdeal.τ).loc Cert.BandRowsIdeal.main_v21) = v4 c
          ∧ r.2.mem ((c.tc : Thread Cert.BandRowsIdeal.nD Cert.BandRowsIdeal.τ).loc Cert.BandRowsIdeal.main_arg0) = m ((c.tc : Thread Cert.BandRowsIdeal.nD Cert.BandRowsIdeal.τ).loc Cert.BandRowsIdeal.main_arg0)
          ∧ r.2.mem ((c.tc : Thread Cert.BandRowsIdeal.nD Cert.BandRowsIdeal.τ).loc Cert.BandRowsIdeal.main_arg1) = m ((c.tc : Thread Cert.BandRowsIdeal.nD Cert.BandRowsIdeal.τ).loc Cert.BandRowsIdeal.main_arg1)
          ∧ r.2.mem ((c.tc : Thread Cert.BandRowsIdeal.nD Cert.BandRowsIdeal.τ).loc Cert.BandRowsIdeal.main_arg2) = m ((c.tc : Thread Cert.BandRowsIdeal.nD Cert.BandRowsIdeal.τ).loc Cert.BandRowsIdeal.main_arg2)
          ∧ r.2.mem ((c.tc : Thread Cert.BandRowsIdeal.nD Cert.BandRowsIdeal.τ).loc Cert.BandRowsIdeal.main_arg3) = m ((c.tc : Thread Cert.BandRowsIdeal.nD Cert.BandRowsIdeal.τ).loc Cert.BandRowsIdeal.main_arg3)
          ∧ r.2.mem ((c.tc : Thread Cert.BandRowsIdeal.nD Cert.BandRowsIdeal.τ).loc Cert.BandRowsIdeal.main_arg4) = m ((c.tc : Thread Cert.BandRowsIdeal.nD Cert.BandRowsIdeal.τ).loc Cert.BandRowsIdeal.main_arg4))
      ∧ θ_run (Cert.BandRowsRefIdeal.defs (F := Ideal)) (onTc (τ := Cert.BandRowsRefIdeal.τ) (Cert.BandRowsRefIdeal.main (F := Ideal))) ⟨m', fun _ => 0, g'⟩ (fun r => ∀ c : Dev Cert.BandRowsRefIdeal.nD,
          r.2.mem ((c.tc : Thread Cert.BandRowsRefIdeal.nD Cert.BandRowsRefIdeal.τ).loc Cert.BandRowsRefIdeal.main_v49) = v0 c
          ∧ r.2.mem ((c.tc : Thread Cert.BandRowsRefIdeal.nD Cert.BandRowsRefIdeal.τ).loc Cert.BandRowsRefIdeal.main_v51) = v1 c
          ∧ r.2.mem ((c.tc : Thread Cert.BandRowsRefIdeal.nD Cert.BandRowsRefIdeal.τ).loc Cert.BandRowsRefIdeal.main_v53) = v2 c
          ∧ r.2.mem ((c.tc : Thread Cert.BandRowsRefIdeal.nD Cert.BandRowsRefIdeal.τ).loc Cert.BandRowsRefIdeal.main_v44) = v3 c
          ∧ r.2.mem ((c.tc : Thread Cert.BandRowsRefIdeal.nD Cert.BandRowsRefIdeal.τ).loc Cert.BandRowsRefIdeal.main_v45) = v4 c
          ∧ r.2.mem ((c.tc : Thread Cert.BandRowsRefIdeal.nD Cert.BandRowsRefIdeal.τ).loc Cert.BandRowsRefIdeal.main_arg0) = m' ((c.tc : Thread Cert.BandRowsRefIdeal.nD Cert.BandRowsRefIdeal.τ).loc Cert.BandRowsRefIdeal.main_arg0)
          ∧ r.2.mem ((c.tc : Thread Cert.BandRowsRefIdeal.nD Cert.BandRowsRefIdeal.τ).loc Cert.BandRowsRefIdeal.main_arg1) = m' ((c.tc : Thread Cert.BandRowsRefIdeal.nD Cert.BandRowsRefIdeal.τ).loc Cert.BandRowsRefIdeal.main_arg1)
          ∧ r.2.mem ((c.tc : Thread Cert.BandRowsRefIdeal.nD Cert.BandRowsRefIdeal.τ).loc Cert.BandRowsRefIdeal.main_arg2) = m' ((c.tc : Thread Cert.BandRowsRefIdeal.nD Cert.BandRowsRefIdeal.τ).loc Cert.BandRowsRefIdeal.main_arg2)
          ∧ r.2.mem ((c.tc : Thread Cert.BandRowsRefIdeal.nD Cert.BandRowsRefIdeal.τ).loc Cert.BandRowsRefIdeal.main_arg3) = m' ((c.tc : Thread Cert.BandRowsRefIdeal.nD Cert.BandRowsRefIdeal.τ).loc Cert.BandRowsRefIdeal.main_arg3)
          ∧ r.2.mem ((c.tc : Thread Cert.BandRowsRefIdeal.nD Cert.BandRowsRefIdeal.τ).loc Cert.BandRowsRefIdeal.main_arg4) = m' ((c.tc : Thread Cert.BandRowsRefIdeal.nD Cert.BandRowsRefIdeal.τ).loc Cert.BandRowsRefIdeal.main_arg4))

def preserves_DiffRows_DiffRowsIdeal : Prop :=
  True

def algebraic_DiffRowsIdeal_DiffRowsRefIdeal [hDiffRowsIdeal : Cert.DiffRowsIdeal.Facts] [hDiffRowsRefIdeal : Cert.DiffRowsRefIdeal.Facts] : Prop :=
  ∀ (m : (ℓ : Loc Cert.DiffRowsIdeal.nD Cert.DiffRowsIdeal.τ Cert.DiffRowsIdeal.sig) → Buf (Elt Ideal) ℓ) (g : Dev Cert.DiffRowsIdeal.nD → PrngReg)
    (m' : (ℓ : Loc Cert.DiffRowsRefIdeal.nD Cert.DiffRowsRefIdeal.τ Cert.DiffRowsRefIdeal.sig) → Buf (Elt Ideal) ℓ) (g' : Dev Cert.DiffRowsRefIdeal.nD → PrngReg), Pre_DiffRowsIdeal m →
    (∀ c : Dev Cert.DiffRowsIdeal.nD,
      m' ((c.tc : Thread Cert.DiffRowsRefIdeal.nD Cert.DiffRowsRefIdeal.τ).loc Cert.DiffRowsRefIdeal.main_arg0) = m ((c.tc : Thread Cert.DiffRowsIdeal.nD Cert.DiffRowsIdeal.τ).loc Cert.DiffRowsIdeal.main_arg0)
      ∧ m' ((c.tc : Thread Cert.DiffRowsRefIdeal.nD Cert.DiffRowsRefIdeal.τ).loc Cert.DiffRowsRefIdeal.main_arg1) = m ((c.tc : Thread Cert.DiffRowsIdeal.nD Cert.DiffRowsIdeal.τ).loc Cert.DiffRowsIdeal.main_arg1)
      ∧ m' ((c.tc : Thread Cert.DiffRowsRefIdeal.nD Cert.DiffRowsRefIdeal.τ).loc Cert.DiffRowsRefIdeal.main_arg2) = m ((c.tc : Thread Cert.DiffRowsIdeal.nD Cert.DiffRowsIdeal.τ).loc Cert.DiffRowsIdeal.main_arg2)
      ∧ m' ((c.tc : Thread Cert.DiffRowsRefIdeal.nD Cert.DiffRowsRefIdeal.τ).loc Cert.DiffRowsRefIdeal.main_arg3) = m ((c.tc : Thread Cert.DiffRowsIdeal.nD Cert.DiffRowsIdeal.τ).loc Cert.DiffRowsIdeal.main_arg3)
      ∧ m' ((c.tc : Thread Cert.DiffRowsRefIdeal.nD Cert.DiffRowsRefIdeal.τ).loc Cert.DiffRowsRefIdeal.main_arg4) = m ((c.tc : Thread Cert.DiffRowsIdeal.nD Cert.DiffRowsIdeal.τ).loc Cert.DiffRowsIdeal.main_arg4)) →
    ∃ (v0 : (c : Dev Cert.DiffRowsIdeal.nD) → Buf (Elt Ideal) ((c.tc : Thread Cert.DiffRowsIdeal.nD Cert.DiffRowsIdeal.τ).loc Cert.DiffRowsIdeal.main_v51_0)) (v1 : (c : Dev Cert.DiffRowsIdeal.nD) → Buf (Elt Ideal) ((c.tc : Thread Cert.DiffRowsIdeal.nD Cert.DiffRowsIdeal.τ).loc Cert.DiffRowsIdeal.main_v51_1)) (v2 : (c : Dev Cert.DiffRowsIdeal.nD) → Buf (Elt Ideal) ((c.tc : Thread Cert.DiffRowsIdeal.nD Cert.DiffRowsIdeal.τ).loc Cert.DiffRowsIdeal.main_v51_2)) (v3 : (c : Dev Cert.DiffRowsIdeal.nD) → Buf (Elt Ideal) ((c.tc : Thread Cert.DiffRowsIdeal.nD Cert.DiffRowsIdeal.τ).loc Cert.DiffRowsIdeal.main_v52)) (v4 : (c : Dev Cert.DiffRowsIdeal.nD) → Buf (Elt Ideal) ((c.tc : Thread Cert.DiffRowsIdeal.nD Cert.DiffRowsIdeal.τ).loc Cert.DiffRowsIdeal.main_v53)),
      θ_run (Cert.DiffRowsIdeal.defs (F := Ideal)) (onTc (τ := Cert.DiffRowsIdeal.τ) (Cert.DiffRowsIdeal.main (F := Ideal))) ⟨m, fun _ => 0, g⟩ (fun r => ∀ c : Dev Cert.DiffRowsIdeal.nD,
          r.2.mem ((c.tc : Thread Cert.DiffRowsIdeal.nD Cert.DiffRowsIdeal.τ).loc Cert.DiffRowsIdeal.main_v51_0) = v0 c
          ∧ r.2.mem ((c.tc : Thread Cert.DiffRowsIdeal.nD Cert.DiffRowsIdeal.τ).loc Cert.DiffRowsIdeal.main_v51_1) = v1 c
          ∧ r.2.mem ((c.tc : Thread Cert.DiffRowsIdeal.nD Cert.DiffRowsIdeal.τ).loc Cert.DiffRowsIdeal.main_v51_2) = v2 c
          ∧ r.2.mem ((c.tc : Thread Cert.DiffRowsIdeal.nD Cert.DiffRowsIdeal.τ).loc Cert.DiffRowsIdeal.main_v52) = v3 c
          ∧ r.2.mem ((c.tc : Thread Cert.DiffRowsIdeal.nD Cert.DiffRowsIdeal.τ).loc Cert.DiffRowsIdeal.main_v53) = v4 c
          ∧ r.2.mem ((c.tc : Thread Cert.DiffRowsIdeal.nD Cert.DiffRowsIdeal.τ).loc Cert.DiffRowsIdeal.main_arg0) = m ((c.tc : Thread Cert.DiffRowsIdeal.nD Cert.DiffRowsIdeal.τ).loc Cert.DiffRowsIdeal.main_arg0)
          ∧ r.2.mem ((c.tc : Thread Cert.DiffRowsIdeal.nD Cert.DiffRowsIdeal.τ).loc Cert.DiffRowsIdeal.main_arg1) = m ((c.tc : Thread Cert.DiffRowsIdeal.nD Cert.DiffRowsIdeal.τ).loc Cert.DiffRowsIdeal.main_arg1)
          ∧ r.2.mem ((c.tc : Thread Cert.DiffRowsIdeal.nD Cert.DiffRowsIdeal.τ).loc Cert.DiffRowsIdeal.main_arg2) = m ((c.tc : Thread Cert.DiffRowsIdeal.nD Cert.DiffRowsIdeal.τ).loc Cert.DiffRowsIdeal.main_arg2)
          ∧ r.2.mem ((c.tc : Thread Cert.DiffRowsIdeal.nD Cert.DiffRowsIdeal.τ).loc Cert.DiffRowsIdeal.main_arg3) = m ((c.tc : Thread Cert.DiffRowsIdeal.nD Cert.DiffRowsIdeal.τ).loc Cert.DiffRowsIdeal.main_arg3)
          ∧ r.2.mem ((c.tc : Thread Cert.DiffRowsIdeal.nD Cert.DiffRowsIdeal.τ).loc Cert.DiffRowsIdeal.main_arg4) = m ((c.tc : Thread Cert.DiffRowsIdeal.nD Cert.DiffRowsIdeal.τ).loc Cert.DiffRowsIdeal.main_arg4))
      ∧ θ_run (Cert.DiffRowsRefIdeal.defs (F := Ideal)) (onTc (τ := Cert.DiffRowsRefIdeal.τ) (Cert.DiffRowsRefIdeal.main (F := Ideal))) ⟨m', fun _ => 0, g'⟩ (fun r => ∀ c : Dev Cert.DiffRowsRefIdeal.nD,
          r.2.mem ((c.tc : Thread Cert.DiffRowsRefIdeal.nD Cert.DiffRowsRefIdeal.τ).loc Cert.DiffRowsRefIdeal.main_v110) = v0 c
          ∧ r.2.mem ((c.tc : Thread Cert.DiffRowsRefIdeal.nD Cert.DiffRowsRefIdeal.τ).loc Cert.DiffRowsRefIdeal.main_v112) = v1 c
          ∧ r.2.mem ((c.tc : Thread Cert.DiffRowsRefIdeal.nD Cert.DiffRowsRefIdeal.τ).loc Cert.DiffRowsRefIdeal.main_v114) = v2 c
          ∧ r.2.mem ((c.tc : Thread Cert.DiffRowsRefIdeal.nD Cert.DiffRowsRefIdeal.τ).loc Cert.DiffRowsRefIdeal.main_v105) = v3 c
          ∧ r.2.mem ((c.tc : Thread Cert.DiffRowsRefIdeal.nD Cert.DiffRowsRefIdeal.τ).loc Cert.DiffRowsRefIdeal.main_v106) = v4 c
          ∧ r.2.mem ((c.tc : Thread Cert.DiffRowsRefIdeal.nD Cert.DiffRowsRefIdeal.τ).loc Cert.DiffRowsRefIdeal.main_arg0) = m' ((c.tc : Thread Cert.DiffRowsRefIdeal.nD Cert.DiffRowsRefIdeal.τ).loc Cert.DiffRowsRefIdeal.main_arg0)
          ∧ r.2.mem ((c.tc : Thread Cert.DiffRowsRefIdeal.nD Cert.DiffRowsRefIdeal.τ).loc Cert.DiffRowsRefIdeal.main_arg1) = m' ((c.tc : Thread Cert.DiffRowsRefIdeal.nD Cert.DiffRowsRefIdeal.τ).loc Cert.DiffRowsRefIdeal.main_arg1)
          ∧ r.2.mem ((c.tc : Thread Cert.DiffRowsRefIdeal.nD Cert.DiffRowsRefIdeal.τ).loc Cert.DiffRowsRefIdeal.main_arg2) = m' ((c.tc : Thread Cert.DiffRowsRefIdeal.nD Cert.DiffRowsRefIdeal.τ).loc Cert.DiffRowsRefIdeal.main_arg2)
          ∧ r.2.mem ((c.tc : Thread Cert.DiffRowsRefIdeal.nD Cert.DiffRowsRefIdeal.τ).loc Cert.DiffRowsRefIdeal.main_arg3) = m' ((c.tc : Thread Cert.DiffRowsRefIdeal.nD Cert.DiffRowsRefIdeal.τ).loc Cert.DiffRowsRefIdeal.main_arg3)
          ∧ r.2.mem ((c.tc : Thread Cert.DiffRowsRefIdeal.nD Cert.DiffRowsRefIdeal.τ).loc Cert.DiffRowsRefIdeal.main_arg4) = m' ((c.tc : Thread Cert.DiffRowsRefIdeal.nD Cert.DiffRowsRefIdeal.τ).loc Cert.DiffRowsRefIdeal.main_arg4))

def preserves_DiffProj_DiffProjIdeal : Prop :=
  True

def algebraic_DiffProjIdeal_DiffProjRefIdeal [hDiffProjIdeal : Cert.DiffProjIdeal.Facts] [hDiffProjRefIdeal : Cert.DiffProjRefIdeal.Facts] : Prop :=
  ∀ (m : (ℓ : Loc Cert.DiffProjIdeal.nD Cert.DiffProjIdeal.τ Cert.DiffProjIdeal.sig) → Buf (Elt Ideal) ℓ) (g : Dev Cert.DiffProjIdeal.nD → PrngReg)
    (m' : (ℓ : Loc Cert.DiffProjRefIdeal.nD Cert.DiffProjRefIdeal.τ Cert.DiffProjRefIdeal.sig) → Buf (Elt Ideal) ℓ) (g' : Dev Cert.DiffProjRefIdeal.nD → PrngReg), Pre_DiffProjIdeal m →
    (∀ c : Dev Cert.DiffProjIdeal.nD,
      m' ((c.tc : Thread Cert.DiffProjRefIdeal.nD Cert.DiffProjRefIdeal.τ).loc Cert.DiffProjRefIdeal.main_arg0) = m ((c.tc : Thread Cert.DiffProjIdeal.nD Cert.DiffProjIdeal.τ).loc Cert.DiffProjIdeal.main_arg0)
      ∧ m' ((c.tc : Thread Cert.DiffProjRefIdeal.nD Cert.DiffProjRefIdeal.τ).loc Cert.DiffProjRefIdeal.main_arg1) = m ((c.tc : Thread Cert.DiffProjIdeal.nD Cert.DiffProjIdeal.τ).loc Cert.DiffProjIdeal.main_arg1)
      ∧ m' ((c.tc : Thread Cert.DiffProjRefIdeal.nD Cert.DiffProjRefIdeal.τ).loc Cert.DiffProjRefIdeal.main_arg2) = m ((c.tc : Thread Cert.DiffProjIdeal.nD Cert.DiffProjIdeal.τ).loc Cert.DiffProjIdeal.main_arg2)
      ∧ m' ((c.tc : Thread Cert.DiffProjRefIdeal.nD Cert.DiffProjRefIdeal.τ).loc Cert.DiffProjRefIdeal.main_arg3) = m ((c.tc : Thread Cert.DiffProjIdeal.nD Cert.DiffProjIdeal.τ).loc Cert.DiffProjIdeal.main_arg3)
      ∧ m' ((c.tc : Thread Cert.DiffProjRefIdeal.nD Cert.DiffProjRefIdeal.τ).loc Cert.DiffProjRefIdeal.main_arg4) = m ((c.tc : Thread Cert.DiffProjIdeal.nD Cert.DiffProjIdeal.τ).loc Cert.DiffProjIdeal.main_arg4)) →
    ∃ (v0 : (c : Dev Cert.DiffProjIdeal.nD) → Buf (Elt Ideal) ((c.tc : Thread Cert.DiffProjIdeal.nD Cert.DiffProjIdeal.τ).loc Cert.DiffProjIdeal.main_v32_0)) (v1 : (c : Dev Cert.DiffProjIdeal.nD) → Buf (Elt Ideal) ((c.tc : Thread Cert.DiffProjIdeal.nD Cert.DiffProjIdeal.τ).loc Cert.DiffProjIdeal.main_v32_1)) (v2 : (c : Dev Cert.DiffProjIdeal.nD) → Buf (Elt Ideal) ((c.tc : Thread Cert.DiffProjIdeal.nD Cert.DiffProjIdeal.τ).loc Cert.DiffProjIdeal.main_v32_2)) (v3 : (c : Dev Cert.DiffProjIdeal.nD) → Buf (Elt Ideal) ((c.tc : Thread Cert.DiffProjIdeal.nD Cert.DiffProjIdeal.τ).loc Cert.DiffProjIdeal.main_v34)) (v4 : (c : Dev Cert.DiffProjIdeal.nD) → Buf (Elt Ideal) ((c.tc : Thread Cert.DiffProjIdeal.nD Cert.DiffProjIdeal.τ).loc Cert.DiffProjIdeal.main_v35)),
      θ_run (Cert.DiffProjIdeal.defs (F := Ideal)) (onTc (τ := Cert.DiffProjIdeal.τ) (Cert.DiffProjIdeal.main (F := Ideal))) ⟨m, fun _ => 0, g⟩ (fun r => ∀ c : Dev Cert.DiffProjIdeal.nD,
          r.2.mem ((c.tc : Thread Cert.DiffProjIdeal.nD Cert.DiffProjIdeal.τ).loc Cert.DiffProjIdeal.main_v32_0) = v0 c
          ∧ r.2.mem ((c.tc : Thread Cert.DiffProjIdeal.nD Cert.DiffProjIdeal.τ).loc Cert.DiffProjIdeal.main_v32_1) = v1 c
          ∧ r.2.mem ((c.tc : Thread Cert.DiffProjIdeal.nD Cert.DiffProjIdeal.τ).loc Cert.DiffProjIdeal.main_v32_2) = v2 c
          ∧ r.2.mem ((c.tc : Thread Cert.DiffProjIdeal.nD Cert.DiffProjIdeal.τ).loc Cert.DiffProjIdeal.main_v34) = v3 c
          ∧ r.2.mem ((c.tc : Thread Cert.DiffProjIdeal.nD Cert.DiffProjIdeal.τ).loc Cert.DiffProjIdeal.main_v35) = v4 c
          ∧ r.2.mem ((c.tc : Thread Cert.DiffProjIdeal.nD Cert.DiffProjIdeal.τ).loc Cert.DiffProjIdeal.main_arg0) = m ((c.tc : Thread Cert.DiffProjIdeal.nD Cert.DiffProjIdeal.τ).loc Cert.DiffProjIdeal.main_arg0)
          ∧ r.2.mem ((c.tc : Thread Cert.DiffProjIdeal.nD Cert.DiffProjIdeal.τ).loc Cert.DiffProjIdeal.main_arg1) = m ((c.tc : Thread Cert.DiffProjIdeal.nD Cert.DiffProjIdeal.τ).loc Cert.DiffProjIdeal.main_arg1)
          ∧ r.2.mem ((c.tc : Thread Cert.DiffProjIdeal.nD Cert.DiffProjIdeal.τ).loc Cert.DiffProjIdeal.main_arg2) = m ((c.tc : Thread Cert.DiffProjIdeal.nD Cert.DiffProjIdeal.τ).loc Cert.DiffProjIdeal.main_arg2)
          ∧ r.2.mem ((c.tc : Thread Cert.DiffProjIdeal.nD Cert.DiffProjIdeal.τ).loc Cert.DiffProjIdeal.main_arg3) = m ((c.tc : Thread Cert.DiffProjIdeal.nD Cert.DiffProjIdeal.τ).loc Cert.DiffProjIdeal.main_arg3)
          ∧ r.2.mem ((c.tc : Thread Cert.DiffProjIdeal.nD Cert.DiffProjIdeal.τ).loc Cert.DiffProjIdeal.main_arg4) = m ((c.tc : Thread Cert.DiffProjIdeal.nD Cert.DiffProjIdeal.τ).loc Cert.DiffProjIdeal.main_arg4))
      ∧ θ_run (Cert.DiffProjRefIdeal.defs (F := Ideal)) (onTc (τ := Cert.DiffProjRefIdeal.τ) (Cert.DiffProjRefIdeal.main (F := Ideal))) ⟨m', fun _ => 0, g'⟩ (fun r => ∀ c : Dev Cert.DiffProjRefIdeal.nD,
          r.2.mem ((c.tc : Thread Cert.DiffProjRefIdeal.nD Cert.DiffProjRefIdeal.τ).loc Cert.DiffProjRefIdeal.main_v114) = v0 c
          ∧ r.2.mem ((c.tc : Thread Cert.DiffProjRefIdeal.nD Cert.DiffProjRefIdeal.τ).loc Cert.DiffProjRefIdeal.main_v116) = v1 c
          ∧ r.2.mem ((c.tc : Thread Cert.DiffProjRefIdeal.nD Cert.DiffProjRefIdeal.τ).loc Cert.DiffProjRefIdeal.main_v117) = v2 c
          ∧ r.2.mem ((c.tc : Thread Cert.DiffProjRefIdeal.nD Cert.DiffProjRefIdeal.τ).loc Cert.DiffProjRefIdeal.main_v118) = v3 c
          ∧ r.2.mem ((c.tc : Thread Cert.DiffProjRefIdeal.nD Cert.DiffProjRefIdeal.τ).loc Cert.DiffProjRefIdeal.main_v119) = v4 c
          ∧ r.2.mem ((c.tc : Thread Cert.DiffProjRefIdeal.nD Cert.DiffProjRefIdeal.τ).loc Cert.DiffProjRefIdeal.main_arg0) = m' ((c.tc : Thread Cert.DiffProjRefIdeal.nD Cert.DiffProjRefIdeal.τ).loc Cert.DiffProjRefIdeal.main_arg0)
          ∧ r.2.mem ((c.tc : Thread Cert.DiffProjRefIdeal.nD Cert.DiffProjRefIdeal.τ).loc Cert.DiffProjRefIdeal.main_arg1) = m' ((c.tc : Thread Cert.DiffProjRefIdeal.nD Cert.DiffProjRefIdeal.τ).loc Cert.DiffProjRefIdeal.main_arg1)
          ∧ r.2.mem ((c.tc : Thread Cert.DiffProjRefIdeal.nD Cert.DiffProjRefIdeal.τ).loc Cert.DiffProjRefIdeal.main_arg2) = m' ((c.tc : Thread Cert.DiffProjRefIdeal.nD Cert.DiffProjRefIdeal.τ).loc Cert.DiffProjRefIdeal.main_arg2)
          ∧ r.2.mem ((c.tc : Thread Cert.DiffProjRefIdeal.nD Cert.DiffProjRefIdeal.τ).loc Cert.DiffProjRefIdeal.main_arg3) = m' ((c.tc : Thread Cert.DiffProjRefIdeal.nD Cert.DiffProjRefIdeal.τ).loc Cert.DiffProjRefIdeal.main_arg3)
          ∧ r.2.mem ((c.tc : Thread Cert.DiffProjRefIdeal.nD Cert.DiffProjRefIdeal.τ).loc Cert.DiffProjRefIdeal.main_arg4) = m' ((c.tc : Thread Cert.DiffProjRefIdeal.nD Cert.DiffProjRefIdeal.τ).loc Cert.DiffProjRefIdeal.main_arg4))

def Claim : Prop :=
  ∃ (hMlp : Cert.Mlp.Facts) (hMlpIdeal : Cert.MlpIdeal.Facts) (hMlpRefIdeal : Cert.MlpRefIdeal.Facts) (hMlpLast : Cert.MlpLast.Facts) (hMlpLastIdeal : Cert.MlpLastIdeal.Facts) (hMlpLastRefIdeal : Cert.MlpLastRefIdeal.Facts) (hMlpSample : Cert.MlpSample.Facts) (hMlpSampleIdeal : Cert.MlpSampleIdeal.Facts) (hMlpSampleRefIdeal : Cert.MlpSampleRefIdeal.Facts) (hRgSample : Cert.RgSample.Facts) (hRgSampleIdeal : Cert.RgSampleIdeal.Facts) (hRgSampleRefIdeal : Cert.RgSampleRefIdeal.Facts) (hBandProj : Cert.BandProj.Facts) (hBandProjIdeal : Cert.BandProjIdeal.Facts) (hBandProjRefIdeal : Cert.BandProjRefIdeal.Facts) (hBandRows : Cert.BandRows.Facts) (hBandRowsIdeal : Cert.BandRowsIdeal.Facts) (hBandRowsRefIdeal : Cert.BandRowsRefIdeal.Facts) (hDiffRows : Cert.DiffRows.Facts) (hDiffRowsIdeal : Cert.DiffRowsIdeal.Facts) (hDiffRowsRefIdeal : Cert.DiffRowsRefIdeal.Facts) (hDiffProj : Cert.DiffProj.Facts) (hDiffProjIdeal : Cert.DiffProjIdeal.Facts) (hDiffProjRefIdeal : Cert.DiffProjRefIdeal.Facts),
    quiescent_Mlp (hMlp := hMlp)
    ∧ quiescent_MlpIdeal (hMlpIdeal := hMlpIdeal)
    ∧ quiescent_MlpRefIdeal (hMlpRefIdeal := hMlpRefIdeal)
    ∧ quiescent_MlpLast (hMlpLast := hMlpLast)
    ∧ quiescent_MlpLastIdeal (hMlpLastIdeal := hMlpLastIdeal)
    ∧ quiescent_MlpLastRefIdeal (hMlpLastRefIdeal := hMlpLastRefIdeal)
    ∧ quiescent_MlpSample (hMlpSample := hMlpSample)
    ∧ quiescent_MlpSampleIdeal (hMlpSampleIdeal := hMlpSampleIdeal)
    ∧ quiescent_MlpSampleRefIdeal (hMlpSampleRefIdeal := hMlpSampleRefIdeal)
    ∧ quiescent_RgSample (hRgSample := hRgSample)
    ∧ quiescent_RgSampleIdeal (hRgSampleIdeal := hRgSampleIdeal)
    ∧ quiescent_RgSampleRefIdeal (hRgSampleRefIdeal := hRgSampleRefIdeal)
    ∧ quiescent_BandProj (hBandProj := hBandProj)
    ∧ quiescent_BandProjIdeal (hBandProjIdeal := hBandProjIdeal)
    ∧ quiescent_BandProjRefIdeal (hBandProjRefIdeal := hBandProjRefIdeal)
    ∧ quiescent_BandRows (hBandRows := hBandRows)
    ∧ quiescent_BandRowsIdeal (hBandRowsIdeal := hBandRowsIdeal)
    ∧ quiescent_BandRowsRefIdeal (hBandRowsRefIdeal := hBandRowsRefIdeal)
    ∧ quiescent_DiffRows (hDiffRows := hDiffRows)
    ∧ quiescent_DiffRowsIdeal (hDiffRowsIdeal := hDiffRowsIdeal)
    ∧ quiescent_DiffRowsRefIdeal (hDiffRowsRefIdeal := hDiffRowsRefIdeal)
    ∧ quiescent_DiffProj (hDiffProj := hDiffProj)
    ∧ quiescent_DiffProjIdeal (hDiffProjIdeal := hDiffProjIdeal)
    ∧ quiescent_DiffProjRefIdeal (hDiffProjRefIdeal := hDiffProjRefIdeal)
    ∧ preserves_Mlp_MlpIdeal
    ∧ algebraic_MlpIdeal_MlpRefIdeal (hMlpIdeal := hMlpIdeal) (hMlpRefIdeal := hMlpRefIdeal)
    ∧ preserves_MlpLast_MlpLastIdeal
    ∧ algebraic_MlpLastIdeal_MlpLastRefIdeal (hMlpLastIdeal := hMlpLastIdeal) (hMlpLastRefIdeal := hMlpLastRefIdeal)
    ∧ preserves_MlpSample_MlpSampleIdeal
    ∧ algebraic_MlpSampleIdeal_MlpSampleRefIdeal (hMlpSampleIdeal := hMlpSampleIdeal) (hMlpSampleRefIdeal := hMlpSampleRefIdeal)
    ∧ preserves_RgSample_RgSampleIdeal
    ∧ algebraic_RgSampleIdeal_RgSampleRefIdeal (hRgSampleIdeal := hRgSampleIdeal) (hRgSampleRefIdeal := hRgSampleRefIdeal)
    ∧ preserves_BandProj_BandProjIdeal
    ∧ algebraic_BandProjIdeal_BandProjRefIdeal (hBandProjIdeal := hBandProjIdeal) (hBandProjRefIdeal := hBandProjRefIdeal)
    ∧ preserves_BandRows_BandRowsIdeal
    ∧ algebraic_BandRowsIdeal_BandRowsRefIdeal (hBandRowsIdeal := hBandRowsIdeal) (hBandRowsRefIdeal := hBandRowsRefIdeal)
    ∧ preserves_DiffRows_DiffRowsIdeal
    ∧ algebraic_DiffRowsIdeal_DiffRowsRefIdeal (hDiffRowsIdeal := hDiffRowsIdeal) (hDiffRowsRefIdeal := hDiffRowsRefIdeal)
    ∧ preserves_DiffProj_DiffProjIdeal
    ∧ algebraic_DiffProjIdeal_DiffProjRefIdeal (hDiffProjIdeal := hDiffProjIdeal) (hDiffProjRefIdeal := hDiffProjRefIdeal)
-- ==== Mlp.lean ====
abbrev S32768x1024 : Shape := ⟨2, ![32768, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1024x1024 : Shape := ⟨2, ![1024, 1024]⟩
abbrev S1024x1 : Shape := ⟨2, ![1024, 1]⟩
abbrev S1024x512 : Shape := ⟨2, ![1024, 512]⟩
abbrev S512x1024 : Shape := ⟨2, ![512, 1024]⟩

abbrev nBuf : Space → Nat
  | .hbm => 10
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S1x1024, .f32⟩
  | .hbm, ⟨6, _⟩ => ⟨S1024x4096, .bf16⟩
  | .hbm, ⟨7, _⟩ => ⟨S4096x1024, .bf16⟩
  | .hbm, ⟨8, _⟩ => ⟨S1x1024, .f32⟩
  | .hbm, ⟨9, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MlpRefIdeal.lean ====
abbrev S32768x1024 : Shape := ⟨2, ![32768, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4096 : Shape := ⟨2, ![32768, 4096]⟩

abbrev nBuf : Space → Nat
  | .hbm => 28
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S32768x4096, .f32⟩
  | .hbm, ⟨22, _⟩ => ⟨S_, .f32⟩
  | .hbm, ⟨23, _⟩ => ⟨S32768x4096, .f32⟩
  | .hbm, ⟨24, _⟩ => ⟨S32768x4096, .f32⟩
  | .hbm, ⟨25, _⟩ => ⟨S32768x4096, .f32⟩
  | .hbm, ⟨26, _⟩ => ⟨S32768x1024, .f32⟩
  | .hbm, ⟨27, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== MlpLast.lean ====
abbrev S32768x1024 : Shape := ⟨2, ![32768, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1024x1024 : Shape := ⟨2, ![1024, 1024]⟩
abbrev S1024x1 : Shape := ⟨2, ![1024, 1]⟩
abbrev S1024x512 : Shape := ⟨2, ![1024, 512]⟩
abbrev S512x1024 : Shape := ⟨2, ![512, 1024]⟩

abbrev nBuf : Space → Nat
  | .hbm => 10
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S1x1024, .f32⟩
  | .hbm, ⟨6, _⟩ => ⟨S1024x4096, .bf16⟩
  | .hbm, ⟨7, _⟩ => ⟨S4096x1024, .bf16⟩
  | .hbm, ⟨8, _⟩ => ⟨S1x1024, .f32⟩
  | .hbm, ⟨9, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MlpLastIdeal.lean ====
abbrev S32768x1024 : Shape := ⟨2, ![32768, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1024x1024 : Shape := ⟨2, ![1024, 1024]⟩
abbrev S1024x1 : Shape := ⟨2, ![1024, 1]⟩
abbrev S1024x512 : Shape := ⟨2, ![1024, 512]⟩
abbrev S512x1024 : Shape := ⟨2, ![512, 1024]⟩

abbrev nBuf : Space → Nat
  | .hbm => 10
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S1x1024, .f32⟩
  | .hbm, ⟨6, _⟩ => ⟨S1024x4096, .bf16⟩
  | .hbm, ⟨7, _⟩ => ⟨S4096x1024, .bf16⟩
  | .hbm, ⟨8, _⟩ => ⟨S1x1024, .f32⟩
  | .hbm, ⟨9, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MlpLastRefIdeal.lean ====
abbrev S32768x1024 : Shape := ⟨2, ![32768, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4096 : Shape := ⟨2, ![32768, 4096]⟩

abbrev nBuf : Space → Nat
  | .hbm => 44
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S32768x4096, .f32⟩
  | .hbm, ⟨22, _⟩ => ⟨S_, .f32⟩
  | .hbm, ⟨23, _⟩ => ⟨S32768x4096, .f32⟩
  | .hbm, ⟨24, _⟩ => ⟨S32768x4096, .f32⟩
  | .hbm, ⟨25, _⟩ => ⟨S32768x4096, .f32⟩
  | .hbm, ⟨26, _⟩ => ⟨S32768x1024, .f32⟩
  | .hbm, ⟨27, _⟩ => ⟨S32768x1024, .f32⟩
  | .hbm, ⟨28, _⟩ => ⟨S32768x1024, .f32⟩
  | .hbm, ⟨29, _⟩ => ⟨S_, .f32⟩
  | .hbm, ⟨30, _⟩ => ⟨S32768, .f32⟩
  | .hbm, ⟨31, _⟩ => ⟨S32768x1, .f32⟩
  | .hbm, ⟨32, _⟩ => ⟨S_, .f32⟩
  | .hbm, ⟨33, _⟩ => ⟨S32768x1, .f32⟩
  | .hbm, ⟨34, _⟩ => ⟨S32768x1, .f32⟩
  | .hbm, ⟨35, _⟩ => ⟨S_, .f32⟩
  | .hbm, ⟨36, _⟩ => ⟨S32768x1, .f32⟩
  | .hbm, ⟨37, _⟩ => ⟨S32768x1, .f32⟩
  | .hbm, ⟨38, _⟩ => ⟨S32768x1, .f32⟩
  | .hbm, ⟨39, _⟩ => ⟨S32768x1024, .f32⟩
  | .hbm, ⟨40, _⟩ => ⟨S32768x1024, .f32⟩
  | .hbm, ⟨41, _⟩ => ⟨S1x1024, .f32⟩
  | .hbm, ⟨42, _⟩ => ⟨S32768x1024, .f32⟩
  | .hbm, ⟨43, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== MlpSample.lean ====
abbrev S256x1024 : Shape := ⟨2, ![256, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S512x1024 : Shape := ⟨2, ![512, 1024]⟩

abbrev nBuf : Space → Nat
  | .hbm => 10
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S1x1024, .f32⟩
  | .hbm, ⟨6, _⟩ => ⟨S1024x4096, .bf16⟩
  | .hbm, ⟨7, _⟩ => ⟨S4096x1024, .bf16⟩
  | .hbm, ⟨8, _⟩ => ⟨S1x1024, .f32⟩
  | .hbm, ⟨9, _⟩ => ⟨S256x1024, .f32⟩
  | .local _ .vmem, ⟨0, _⟩ => ⟨S256x1024, .f32⟩
  | .local _ .vmem, ⟨1, _⟩ => ⟨S1x1024, .f32⟩
  | .local _ .vmem, ⟨2, _⟩ => ⟨S1024x4096, .bf16⟩
  | .local _ .vmem, ⟨3, _⟩ => ⟨S4096x1024, .bf16⟩
  | .local _ .vmem, ⟨4, _⟩ => ⟨S1x1024, .f32⟩
  | .local _ .vmem, ⟨5, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== MlpSampleRefIdeal.lean ====
abbrev S256x1024 : Shape := ⟨2, ![256, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S256x4096 : Shape := ⟨2, ![256, 4096]⟩

abbrev nBuf : Space → Nat
  | .hbm => 44
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S256x1024, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S256x1024, .f32⟩
  | .hbm, ⟨17, _⟩ => ⟨S256x1024, .f32⟩
  | .hbm, ⟨18, _⟩ => ⟨S1x1024, .f32⟩
  | .hbm, ⟨19, _⟩ => ⟨S256x1024, .f32⟩
  | .hbm, ⟨20, _⟩ => ⟨S256x1024, .f32⟩
  | .hbm, ⟨21, _⟩ => ⟨S256x4096, .f32⟩
  | .hbm, ⟨22, _⟩ => ⟨S_, .f32⟩
  | .hbm, ⟨23, _⟩ => ⟨S256x4096, .f32⟩
  | .hbm, ⟨24, _⟩ => ⟨S256x4096, .f32⟩
  | .hbm, ⟨25, _⟩ => ⟨S256x4096, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256, .f32⟩
  | .hbm, ⟨31, _⟩ => ⟨S256x1, .f32⟩
  | .hbm, ⟨32, _⟩ => ⟨S_, .f32⟩
  | .hbm, ⟨33, _⟩ => ⟨S256x1, .f32⟩
  | .hbm, ⟨34, _⟩ => ⟨S256x1, .f32⟩
  | .hbm, ⟨35, _⟩ => ⟨S_, .f32⟩
  | .hbm, ⟨36, _⟩ => ⟨S256x1, .f32⟩
  | .hbm, ⟨37, _⟩ => ⟨S256x1, .f32⟩
  | .hbm, ⟨38, _⟩ => ⟨S256x1, .f32⟩
  | .hbm, ⟨39, _⟩ => ⟨S256x1024, .f32⟩
  | .hbm, ⟨40, _⟩ => ⟨S256x1024, .f32⟩
  | .hbm, ⟨41, _⟩ => ⟨S1x1024, .f32⟩
  | .hbm, ⟨42, _⟩ => ⟨S256x1024, .f32⟩
  | .hbm, ⟨43, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== RgSample.lean ====
abbrev S16x16x1024 : Shape := ⟨3, ![16, 16, 1024]⟩
abbrev S1024 : Shape := ⟨1, ![1024]⟩
abbrev S16x3x1024 : Shape := ⟨3, ![16, 3, 1024]⟩
abbrev S16x1024 : Shape := ⟨2, ![16, 1024]⟩
abbrev S1024x2048 : Shape := ⟨2, ![1024, 2048]⟩
abbrev S2048 : Shape := ⟨1, ![2048]⟩
abbrev S4x1024 : Shape := ⟨2, ![4, 1024]⟩
abbrev S4x256x256 : Shape := ⟨3, ![4, 256, 256]⟩
abbrev S1024x1024 : Shape := ⟨2, ![1024, 1024]⟩
abbrev S1x2048 : Shape := ⟨2, ![1, 2048]⟩
abbrev S1x1024 : Shape := ⟨2, ![1, 1024]⟩
abbrev S_ : Shape := ⟨0, ![]⟩
abbrev S16x8x1024 : Shape := ⟨3, ![16, 8, 1024]⟩
abbrev S16x1x1024 : Shape := ⟨3, ![16, 1, 1024]⟩
abbrev S256x1024 : Shape := ⟨2, ![256, 1024]⟩
abbrev S1x8x1024 : Shape := ⟨3, ![1, 8, 1024]⟩
abbrev S8x1024 : Shape := ⟨2, ![8, 1024]⟩
abbrev S16 : Shape := ⟨1, ![16]⟩
abbrev S16x1 : Shape := ⟨2, ![16, 1]⟩
abbrev S16x2048 : Shape := ⟨2, ![16, 2048]⟩
abbrev S16x256 : Shape := ⟨2, ![16, 256]⟩
abbrev S1x256x256 : Shape := ⟨3, ![1, 256, 256]⟩
abbrev S256x256 : Shape := ⟨2, ![256, 256]⟩
abbrev S2x8x1024 : Shape := ⟨3, ![2, 8, 1024]⟩

abbrev nBuf : Space → Nat
  | .hbm => 36
  | .vmem => 26
  | .smem => 0
  | _ => 0

abbrev bufTy : (tb : Table) → Fin (tcTables nBuf tb) → BufTy
  | .hbm, ⟨0, _⟩ => ⟨S16x16x1024, .f32⟩
  | .hbm, ⟨1, _⟩ => ⟨S1024, .f32⟩
  | .hbm, ⟨2, _⟩ => ⟨S16x3x1024, .f32⟩
  | .hbm, ⟨3, _⟩ => ⟨S16x1024, .f32⟩
  | .hbm, ⟨4, _⟩ => ⟨S1024x2048, .f32⟩
  | .hbm, ⟨5, _⟩ => ⟨S2048, .f32⟩
  | .hbm, ⟨6, _⟩ => ⟨S4x1024, .f32⟩
  | .hbm, ⟨7, _⟩ => ⟨S1024, .f32⟩
  | .hbm, ⟨8, _⟩ => ⟨S4x256x256, .f32⟩
  | .hbm, ⟨9, _⟩ => ⟨S1024, .f32⟩
  | .hbm, ⟨10, _⟩ => ⟨S4x256x256, .f32⟩
  | .hbm, ⟨11, _⟩ => ⟨S1024, .f32⟩
  | .hbm, ⟨12, _⟩ => ⟨S1024, .f32⟩
  | .hbm, ⟨13, _⟩ => ⟨S1024x1024, .f32⟩
  | .hbm, ⟨14, _⟩ => ⟨S1024x2048, .bf16⟩
  | .hbm, ⟨15, _⟩ => ⟨S1x2048, .f32⟩
  | .hbm, ⟨16, _⟩ => ⟨S1x1024, .f32⟩
  | .hbm, ⟨17, _⟩ => ⟨S4x256x256, .bf16⟩
  | .hbm, ⟨18, _⟩ => ⟨S1x1024, .f32⟩
  | .hbm, ⟨19, _⟩ => ⟨S4x256x256, .bf16⟩
  | .hbm, ⟨20, _⟩ => ⟨S1x1024, .f32⟩
  | .hbm, ⟨21, _⟩ => ⟨S1x1024, .f32⟩
  | .hbm, ⟨22, _⟩ => ⟨S1024x1024, .bf16⟩
  | .hbm, ⟨23, _⟩ => ⟨S_, .i32⟩
  | .hbm, ⟨24, _⟩ => ⟨S_, .f32⟩
  | .hbm, ⟨25, _⟩ => ⟨S16x8x1024, .f32⟩
  | .hbm, ⟨26, _⟩ => ⟨S16x1x1024, .f32⟩
  | .hbm, ⟨27, _⟩ => ⟨S16x8x1024, .f32⟩
  | .hbm, ⟨28, _⟩ => ⟨S256x1024, .f32⟩
  | .hbm, ⟨29, _⟩ => ⟨S1x1024, .f32⟩
  | .hbm, ⟨30, _⟩ => ⟨S256x1024, .f32⟩
  | .hbm, ⟨31, _⟩ => ⟨S16x8x1024, .f32⟩
  | .hbm, ⟨32, _⟩ => ⟨S16x8x1024, .f32⟩
  | .hbm, ⟨33, _⟩ => ⟨S16x3x1024, .f32⟩
  | .hbm, ⟨34, _⟩ => ⟨S16x1x1024, .f32⟩
  | .hbm, ⟨35, _⟩ => ⟨S16x1024, .f32⟩
  | .local _ .vmem, ⟨0, _⟩ => ⟨S16x1024, .f32⟩
  | .local _ .vmem, ⟨1, _⟩ => ⟨S16x1024, .f32⟩
  | .local _ .vmem, ⟨2, _⟩ => ⟨S1x1024, .f32⟩
  | .local _ .vmem, ⟨3, _⟩ => ⟨S1024x2048, .bf16⟩
  | .local _ .vmem, ⟨4, _⟩ => ⟨S1x2048, .f32⟩
  | .local _ .vmem, ⟨5, _⟩ => ⟨S4x1024, .f32⟩
  | .local _ .vmem, ⟨6, _⟩ => ⟨S1x1024, .f32⟩
  | .local _ .vmem, ⟨7, _⟩ => ⟨S4x256x256, .bf16⟩
  | .local _ .vmem, ⟨8, _⟩ => ⟨S1x1024, .f32⟩
  | .local _ .vmem, ⟨9, _⟩ => ⟨S4x256x256, .bf16⟩
  | .local _ .vmem, ⟨10, _⟩ => ⟨S1x1024, .f32⟩
  | .local _ .vmem, ⟨11, _⟩ => ⟨S1x1024, .f32⟩
  | .local _ .vmem, ⟨12, _⟩ => ⟨S1024x1024, .bf16⟩
  | .local _ .vmem, ⟨13, _⟩ => ⟨S1x8x1024, .f32⟩
  | .local _ .vmem, ⟨14, _⟩ => ⟨S1x8x1024, .f32⟩
  | .local _ .vmem, ⟨15, _⟩ => ⟨S1x8x1024, .f32⟩
  | .local _ .vmem, ⟨16, _⟩ => ⟨S1x8x1024, .f32⟩
  | .local _ .vmem, ⟨17, _⟩ => ⟨S16x1024, .f32⟩
  | .local _ .vmem, ⟨18, _⟩ => ⟨S16x1024, .f32⟩
  | .local _ .vmem, ⟨19, _⟩ => ⟨S1x8x1024, .f32⟩
  | .local _ .vmem, ⟨20, _⟩ => ⟨S1x8x1024, .f32⟩
  | .local _ .vmem, ⟨21, _⟩ => ⟨S1x8x1024, .f32⟩
  | .local _ .vmem, ⟨22, _⟩ => ⟨S1x8x1024, .f32⟩
  | .local _ .vmem, ⟨23, _⟩ => ⟨S8x1024, .f32⟩
  | .local _ .vmem, ⟨24, _⟩ => ⟨S8x1024, .f32⟩
  | .local _ .vmem, ⟨25, _⟩ => ⟨S16x1024, .f32⟩
  | _, _ => ⟨S16x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c : Ref sig .tc := ⟨.hbm, 23, rfl⟩
abbrev main_call0_v0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14_0 : Ref sig .tc := ⟨.hbm, 30, rfl⟩
abbrev main_v14_1 : Ref sig .tc := ⟨.hbm, 31, rfl⟩
abbrev main_v14_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x8x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x8x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S16x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x8x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x8x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== RgSampleIdeal.lean ====
variable {F : FTy → Type} [FloatOps F] [Named F]
def κ : String → Option EReal := fun
  | "gelu_exp" => some (((-6693141 / 4194304) * (Real.log 2)⁻¹ : ℝ) : EReal)
  | "gelu_exp_cube" => some (((12003091 / 268435456) * ((-6693141 / 4194304) * (Real.log 2)⁻¹) : ℝ) : EReal)
  | _ => none
-- ==== RgSampleRefIdeal.lean ====
abbrev S16x16x1024 : Shape := ⟨3, ![16, 16, 1024]⟩
abbrev S1024 : Shape := ⟨1, ![1024]⟩
abbrev S16x3x1024 : Shape := ⟨3, ![16, 3, 1024]⟩
abbrev S16x1024 : Shape := ⟨2, ![16, 1024]⟩
abbrev S1024x2048 : Shape := ⟨2, ![1024, 2048]⟩
abbrev S2048 : Shape := ⟨1, ![2048]⟩
abbrev S4x1024 : Shape := ⟨2, ![4, 1024]⟩
abbrev S4x256x256 : Shape := ⟨3, ![4, 256, 256]⟩
abbrev S1024x1024 : Shape := ⟨2, ![1024, 1024]⟩
abbrev S_ : Shape := ⟨0, ![]⟩
abbrev S16x16 : Shape := ⟨2, ![16, 16]⟩
abbrev S16x16x1 : Shape := ⟨3, ![16, 16, 1]⟩
abbrev S1x1x1024 : Shape := ⟨3, ![1, 1, 1024]⟩
abbrev S16x16x2048 : Shape := ⟨3, ![16, 16, 2048]⟩
abbrev S1x1x2048 : Shape := ⟨3, ![1, 1, 2048]⟩
abbrev S16x19x1024 : Shape := ⟨3, ![16, 19, 1024]⟩
abbrev S1x1024 : Shape := ⟨2, ![1, 1024]⟩
abbrev S16x16x4x256 : Shape := ⟨4, ![16, 16, 4, 256]⟩
abbrev S4x256x16x16 : Shape := ⟨4, ![4, 256, 16, 16]⟩
abbrev S16x1x1024 : Shape := ⟨3, ![16, 1, 1024]⟩
abbrev S16x15x1024 : Shape := ⟨3, ![16, 15, 1024]⟩
abbrev S16x8x1024 : Shape := ⟨3, ![16, 8, 1024]⟩
abbrev S16x4x1024 : Shape := ⟨3, ![16, 4, 1024]⟩
abbrev S16x2x1024 : Shape := ⟨3, ![16, 2, 1024]⟩
abbrev S16x0x1024 : Shape := ⟨3, ![16, 0, 1024]⟩
abbrev S16x7x1024 : Shape := ⟨3, ![16, 7, 1024]⟩
abbrev S256x1024 : Shape := ⟨2, ![256, 1024]⟩

abbrev nBuf : Space → Nat
  | .hbm => 269
  | .vmem => 0
  | .smem => 0
  | _ => 0

abbrev hbmTy0_0 (i : Nat) : BufTy := match i % 128 with
  | 0 => ⟨S16x16x1024, .f32⟩
  | 1 => ⟨S1024, .f32⟩
  | 2 => ⟨S16x3x1024, .f32⟩
  | 3 => ⟨S16x1024, .f32⟩
  | 4 => ⟨S1024x2048, .f32⟩
  | 5 => ⟨S2048, .f32⟩
  | 6 => ⟨S4x1024, .f32⟩
  | 7 => ⟨S1024, .f32⟩
  | 8 => ⟨S4x256x256, .f32⟩
  | 9 => ⟨S1024, .f32⟩
  | 10 => ⟨S4x256x256, .f32⟩
  | 11 => ⟨S1024, .f32⟩
  | 12 => ⟨S1024, .f32⟩
  | 13 => ⟨S1024x1024, .f32⟩
  | 14 => ⟨S16x16x1024, .f32⟩
  | 15 => ⟨S_, .f32⟩
  | 16 => ⟨S16x16, .f32⟩
  | 17 => ⟨S16x16x1, .f32⟩
  | 18 => ⟨S_, .f32⟩
  | 19 => ⟨S16x16x1, .f32⟩
  | 20 => ⟨S16x16x1, .f32⟩
  | 21 => ⟨S_, .f32⟩
  | 22 => ⟨S16x16x1, .f32⟩
  | 23 => ⟨S16x16x1, .f32⟩
  | 24 => ⟨S16x16x1, .f32⟩
  | 25 => ⟨S16x16x1024, .f32⟩
  | 26 => ⟨S16x16x1024, .f32⟩
  | 27 => ⟨S1x1x1024, .f32⟩
  | 28 => ⟨S16x16x1024, .f32⟩
  | 29 => ⟨S16x16x1024, .f32⟩
  | 30 => ⟨S16x16x2048, .f32⟩
  | 31 => ⟨S1x1x2048, .f32⟩
  | 32 => ⟨S16x16x2048, .f32⟩
  | 33 => ⟨S16x16x2048, .f32⟩
  | 34 => ⟨S16x16x1024, .f32⟩
  | 35 => ⟨S16x16x1024, .f32⟩
  | 36 => ⟨S16x16x1024, .f32⟩
  | 37 => ⟨S16x16x1024, .f32⟩
  | 38 => ⟨S_, .f32⟩
  | 39 => ⟨S16x16x1024, .f32⟩
  | 40 => ⟨S16x16x1024, .f32⟩
  | 41 => ⟨S16x16x1024, .f32⟩
  | 42 => ⟨S_, .f32⟩
  | 43 => ⟨S16x16x1024, .f32⟩
  | 44 => ⟨S16x16x1024, .f32⟩
  | 45 => ⟨S16x16x1024, .f32⟩
  | 46 => ⟨S_, .f32⟩
  | 47 => ⟨S16x16x1024, .f32⟩
  | 48 => ⟨S16x16x1024, .f32⟩
  | 49 => ⟨S_, .f32⟩
  | 50 => ⟨S16x16x1024, .f32⟩
  | 51 => ⟨S16x16x1024, .f32⟩
  | 52 => ⟨S16x16x1024, .f32⟩
  | 53 => ⟨S16x19x1024, .f32⟩
  | 54 => ⟨S16x16x1024, .f32⟩
  | 55 => ⟨S1x1024, .f32⟩
  | 56 => ⟨S1024, .f32⟩
  | 57 => ⟨S1x1x1024, .f32⟩
  | 58 => ⟨S16x16x1024, .f32⟩
  | 59 => ⟨S16x16x1024, .f32⟩
  | 60 => ⟨S1x1x1024, .f32⟩
  | 61 => ⟨S16x16x1024, .f32⟩
  | 62 => ⟨S16x16x1024, .f32⟩
  | 63 => ⟨S16x16x1024, .f32⟩
  | 64 => ⟨S1x1024, .f32⟩
  | 65 => ⟨S1024, .f32⟩
  | 66 => ⟨S1x1x1024, .f32⟩
  | 67 => ⟨S16x16x1024, .f32⟩
  | 68 => ⟨S16x16x1024, .f32⟩
  | 69 => ⟨S16x16x1024, .f32⟩
  | 70 => ⟨S16x16x1024, .f32⟩
  | 71 => ⟨S1x1024, .f32⟩
  | 72 => ⟨S1024, .f32⟩
  | 73 => ⟨S1x1x1024, .f32⟩
  | 74 => ⟨S16x16x1024, .f32⟩
  | 75 => ⟨S16x16x1024, .f32⟩
  | 76 => ⟨S16x16x1024, .f32⟩
  | 77 => ⟨S16x16x1024, .f32⟩
  | 78 => ⟨S1x1024, .f32⟩
  | 79 => ⟨S1024, .f32⟩
  | 80 => ⟨S1x1x1024, .f32⟩
  | 81 => ⟨S16x16x1024, .f32⟩
  | 82 => ⟨S16x16x1024, .f32⟩
  | 83 => ⟨S16x16x1024, .f32⟩
  | 84 => ⟨S16x16x4x256, .f32⟩
  | 85 => ⟨S4x256x16x16, .f32⟩
  | 86 => ⟨S16x16x4x256, .f32⟩
  | 87 => ⟨S16x16x1024, .f32⟩
  | 88 => ⟨S1x1x1024, .f32⟩
  | 89 => ⟨S16x16x1024, .f32⟩
  | 90 => ⟨S16x16x1024, .f32⟩
  | 91 => ⟨S16x16x1024, .f32⟩
  | 92 => ⟨S16x16x1024, .f32⟩
  | 93 => ⟨S_, .f32⟩
  | 94 => ⟨S16x16x1024, .f32⟩
  | 95 => ⟨S16x16x1024, .f32⟩
  | 96 => ⟨S_, .f32⟩
  | 97 => ⟨S16x16x1024, .f32⟩
  | 98 => ⟨S16x16x1024, .f32⟩
  | 99 => ⟨S4x256x16x16, .f32⟩
  | 100 => ⟨S16x16x4x256, .f32⟩
  | 101 => ⟨S16x16x1024, .f32⟩
  | 102 => ⟨S1x1x1024, .f32⟩
  | 103 => ⟨S16x16x1024, .f32⟩
  | 104 => ⟨S16x16x1024, .f32⟩
  | 105 => ⟨S16x16x1024, .f32⟩
  | 106 => ⟨S16x16x1024, .f32⟩
  | 107 => ⟨S_, .f32⟩
  | 108 => ⟨S16x16x1024, .f32⟩
  | 109 => ⟨S16x16x1024, .f32⟩
  | 110 => ⟨S_, .f32⟩
  | 111 => ⟨S16x16x1024, .f32⟩
  | 112 => ⟨S16x16x1024, .f32⟩
  | 113 => ⟨S_, .f32⟩
  | 114 => ⟨S16x16x1024, .f32⟩
  | 115 => ⟨S16x16x1024, .f32⟩
  | 116 => ⟨S1024, .f32⟩
  | 117 => ⟨S_, .f32⟩
  | 118 => ⟨S1024, .f32⟩
  | 119 => ⟨S1024, .f32⟩
  | 120 => ⟨S1024, .f32⟩
  | 121 => ⟨S1024, .f32⟩
  | 122 => ⟨S1024, .i1⟩
  | 123 => ⟨S1024, .f32⟩
  | 124 => ⟨S1024, .f32⟩
  | 125 => ⟨S1024, .f32⟩
  | 126 => ⟨S1024, .f32⟩
  | 127 => ⟨S1024, .f32⟩
  | _ => ⟨S16x16x1024, .f32⟩

abbrev hbmTy0_1 (i : Nat) : BufTy := match i % 128 with
  | 0 => ⟨S1024, .f32⟩
  | 1 => ⟨S1024, .f32⟩
  | 2 => ⟨S1024, .f32⟩
  | 3 => ⟨S1x1x1024, .f32⟩
  | 4 => ⟨S16x16x1024, .f32⟩
  | 5 => ⟨S16x16x1024, .f32⟩
  | 6 => ⟨S16x16x1024, .f32⟩
  | 7 => ⟨S_, .f32⟩
  | 8 => ⟨S16x16x1024, .f32⟩
  | 9 => ⟨S16x16x1024, .f32⟩
  | 10 => ⟨S16x16x1024, .f32⟩
  | 11 => ⟨S16x16x1024, .f32⟩
  | 12 => ⟨S16x16x1024, .f32⟩
  | 13 => ⟨S16x16x1024, .f32⟩
  | 14 => ⟨S16x16x1024, .f32⟩
  | 15 => ⟨S16x1x1024, .f32⟩
  | 16 => ⟨S16x1x1024, .f32⟩
  | 17 => ⟨S16x1x1024, .f32⟩
  | 18 => ⟨S16x1x1024, .f32⟩
  | 19 => ⟨S16x1x1024, .f32⟩
  | 20 => ⟨S16x15x1024, .f32⟩
  | 21 => ⟨S16x16x1024, .f32⟩
  | 22 => ⟨S16x8x1024, .f32⟩
  | 23 => ⟨S16x8x1024, .f32⟩
  | 24 => ⟨S16x8x1024, .f32⟩
  | 25 => ⟨S16x8x1024, .f32⟩
  | 26 => ⟨S16x8x1024, .f32⟩
  | 27 => ⟨S16x8x1024, .f32⟩
  | 28 => ⟨S16x8x1024, .f32⟩
  | 29 => ⟨S16x4x1024, .f32⟩
  | 30 => ⟨S16x4x1024, .f32⟩
  | 31 => ⟨S16x4x1024, .f32⟩
  | 32 => ⟨S16x4x1024, .f32⟩
  | 33 => ⟨S16x4x1024, .f32⟩
  | 34 => ⟨S16x4x1024, .f32⟩
  | 35 => ⟨S16x4x1024, .f32⟩
  | 36 => ⟨S16x2x1024, .f32⟩
  | 37 => ⟨S16x2x1024, .f32⟩
  | 38 => ⟨S16x2x1024, .f32⟩
  | 39 => ⟨S16x2x1024, .f32⟩
  | 40 => ⟨S16x2x1024, .f32⟩
  | 41 => ⟨S16x2x1024, .f32⟩
  | 42 => ⟨S16x2x1024, .f32⟩
  | 43 => ⟨S16x1x1024, .f32⟩
  | 44 => ⟨S16x1x1024, .f32⟩
  | 45 => ⟨S16x1x1024, .f32⟩
  | 46 => ⟨S16x1x1024, .f32⟩
  | 47 => ⟨S16x1x1024, .f32⟩
  | 48 => ⟨S16x1x1024, .f32⟩
  | 49 => ⟨S16x1x1024, .f32⟩
  | 50 => ⟨S16x0x1024, .f32⟩
  | 51 => ⟨S16x0x1024, .f32⟩
  | 52 => ⟨S16x0x1024, .f32⟩
  | 53 => ⟨S16x0x1024, .f32⟩
  | 54 => ⟨S16x0x1024, .f32⟩
  | 55 => ⟨S16x0x1024, .f32⟩
  | 56 => ⟨S16x0x1024, .f32⟩
  | 57 => ⟨S16x1x1024, .f32⟩
  | 58 => ⟨S16x1x1024, .f32⟩
  | 59 => ⟨S16x1x1024, .f32⟩
  | 60 => ⟨S16x1x1024, .f32⟩
  | 61 => ⟨S_, .f32⟩
  | 62 => ⟨S16x2x1024, .f32⟩
  | 63 => ⟨S_, .f32⟩
  | 64 => ⟨S16x2x1024, .f32⟩
  | 65 => ⟨S16x2x1024, .f32⟩
  | 66 => ⟨S_, .f32⟩
  | 67 => ⟨S16x2x1024, .f32⟩
  | 68 => ⟨S_, .f32⟩
  | 69 => ⟨S16x2x1024, .f32⟩
  | 70 => ⟨S16x2x1024, .f32⟩
  | 71 => ⟨S16x1x1024, .f32⟩
  | 72 => ⟨S16x1x1024, .f32⟩
  | 73 => ⟨S16x1x1024, .f32⟩
  | 74 => ⟨S16x1x1024, .f32⟩
  | 75 => ⟨S16x1x1024, .f32⟩
  | 76 => ⟨S16x1x1024, .f32⟩
  | 77 => ⟨S16x1x1024, .f32⟩
  | 78 => ⟨S16x1x1024, .f32⟩
  | 79 => ⟨S16x2x1024, .f32⟩
  | 80 => ⟨S16x1x1024, .f32⟩
  | 81 => ⟨S16x2x1024, .f32⟩
  | 82 => ⟨S_, .f32⟩
  | 83 => ⟨S16x4x1024, .f32⟩
  | 84 => ⟨S_, .f32⟩
  | 85 => ⟨S16x4x1024, .f32⟩
  | 86 => ⟨S16x4x1024, .f32⟩
  | 87 => ⟨S_, .f32⟩
  | 88 => ⟨S16x4x1024, .f32⟩
  | 89 => ⟨S_, .f32⟩
  | 90 => ⟨S16x4x1024, .f32⟩
  | 91 => ⟨S16x4x1024, .f32⟩
  | 92 => ⟨S16x3x1024, .f32⟩
  | 93 => ⟨S16x3x1024, .f32⟩
  | 94 => ⟨S16x3x1024, .f32⟩
  | 95 => ⟨S16x3x1024, .f32⟩
  | 96 => ⟨S16x3x1024, .f32⟩
  | 97 => ⟨S16x3x1024, .f32⟩
  | 98 => ⟨S16x3x1024, .f32⟩
  | 99 => ⟨S16x1x1024, .f32⟩
  | 100 => ⟨S16x4x1024, .f32⟩
  | 101 => ⟨S16x1x1024, .f32⟩
  | 102 => ⟨S16x4x1024, .f32⟩
  | 103 => ⟨S_, .f32⟩
  | 104 => ⟨S16x8x1024, .f32⟩
  | 105 => ⟨S_, .f32⟩
  | 106 => ⟨S16x8x1024, .f32⟩
  | 107 => ⟨S16x8x1024, .f32⟩
  | 108 => ⟨S_, .f32⟩
  | 109 => ⟨S16x8x1024, .f32⟩
  | 110 => ⟨S_, .f32⟩
  | 111 => ⟨S16x8x1024, .f32⟩
  | 112 => ⟨S16x8x1024, .f32⟩
  | 113 => ⟨S16x7x1024, .f32⟩
  | 114 => ⟨S16x7x1024, .f32⟩
  | 115 => ⟨S16x7x1024, .f32⟩
  | 116 => ⟨S16x7x1024, .f32⟩
  | 117 => ⟨S16x7x1024, .f32⟩
  | 118 => ⟨S16x7x1024, .f32⟩
  | 119 => ⟨S16x7x1024, .f32⟩
  | 120 => ⟨S16x1x1024, .f32⟩
  | 121 => ⟨S16x8x1024, .f32⟩
  | 122 => ⟨S16x1x1024, .f32⟩
  | 123 => ⟨S16x8x1024, .f32⟩
  | 124 => ⟨S_, .f32⟩
  | 125 => ⟨S16x16x1024, .f32⟩
  | 126 => ⟨S_, .f32⟩
  | 127 => ⟨S16x16x1024, .f32⟩
  | _ => ⟨S16x16x1024, .f32⟩

abbrev hbmTy0_2 (i : Nat) : BufTy := match i % 128 with
  | 0 => ⟨S16x16x1024, .f32⟩
  | 1 => ⟨S_, .f32⟩
  | 2 => ⟨S16x16x1024, .f32⟩
  | 3 => ⟨S_, .f32⟩
  | 4 => ⟨S16x16x1024, .f32⟩
  | 5 => ⟨S16x16x1024, .f32⟩
  | 6 => ⟨S16x16x1024, .f32⟩
  | 7 => ⟨S16x16x1024, .f32⟩
  | 8 => ⟨S16x16x1024, .f32⟩
  | 9 => ⟨S256x1024, .f32⟩
  | 10 => ⟨S16x3x1024, .f32⟩
  | 11 => ⟨S16x1x1024, .f32⟩
  | 12 => ⟨S16x1024, .f32⟩
  | _ => ⟨S16x16x1024, .f32⟩

abbrev hbmTy (i : Nat) : BufTy := match i / 128 with
  | 0 => hbmTy0_0 i
  | 1 => hbmTy0_1 i
  | 2 => hbmTy0_2 i
  | _ => ⟨S16x16x1024, .f32⟩

abbrev bufTy : (tb : Table) → Fin (tcTables nBuf tb) → BufTy
  | .hbm, ⟨i, _⟩ => hbmTy i
  | _, _ => ⟨S16x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_4 : Ref sig .tc := ⟨.hbm, 46, rfl⟩
abbrev main_v27 : Ref sig .tc := ⟨.hbm, 47, rfl⟩
abbrev main_v28 : Ref sig .tc := ⟨.hbm, 48, rfl⟩
abbrev main_cst_5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_6 : Ref sig .tc := ⟨.hbm, 93, rfl⟩
abbrev main_v72 : Ref sig .tc := ⟨.hbm, 94, rfl⟩
abbrev main_v73 : Ref sig .tc := ⟨.hbm, 95, rfl⟩
abbrev main_cst_7 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_cst_8 : Ref sig .tc := ⟨.hbm, 107, rfl⟩
abbrev main_v84 : Ref sig .tc := ⟨.hbm, 108, rfl⟩
abbrev main_v85 : Ref sig .tc := ⟨.hbm, 109, rfl⟩
abbrev main_cst_9 : Ref sig .tc := ⟨.hbm, 110, rfl⟩
abbrev main_v86 : Ref sig .tc := ⟨.hbm, 111, rfl⟩
abbrev main_v87 : Ref sig .tc := ⟨.hbm, 112, rfl⟩
abbrev main_cst_10 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_call0_cst : Ref sig .tc := ⟨.hbm, 117, rfl⟩
abbrev main_call0_v0 : Ref sig .tc := ⟨.hbm, 118, rfl⟩
abbrev main_call0_v1 : Ref sig .tc := ⟨.hbm, 119, rfl⟩
abbrev main_call0_v2 : Ref sig .tc := ⟨.hbm, 120, rfl⟩
abbrev main_call0_v3 : Ref sig .tc := ⟨.hbm, 121, rfl⟩
abbrev main_call0_v4 : Ref sig .tc := ⟨.hbm, 122, rfl⟩
abbrev main_call0_v5 : Ref sig .tc := ⟨.hbm, 123, rfl⟩
abbrev main_call0_v6 : Ref sig .tc := ⟨.hbm, 124, rfl⟩
abbrev main_call0_v7 : Ref sig .tc := ⟨.hbm, 125, rfl⟩
abbrev main_call0_v8 : Ref sig .tc := ⟨.hbm, 126, rfl⟩
abbrev main_call0_v9 : Ref sig .tc := ⟨.hbm, 127, rfl⟩
abbrev main_call0_v10 : Ref sig .tc := ⟨.hbm, 128, rfl⟩
abbrev main_call0_v11 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_cst_11 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_cst_12 : Ref sig .tc := ⟨.hbm, 189, rfl⟩
abbrev main_v149 : Ref sig .tc := ⟨.hbm, 190, rfl⟩
abbrev main_cst_13 : Ref sig .tc := ⟨.hbm, 191, rfl⟩
abbrev main_v150 : Ref sig .tc := ⟨.hbm, 192, rfl⟩
abbrev main_v151 : Ref sig .tc := ⟨.hbm, 193, rfl⟩
abbrev main_cst_14 : Ref sig .tc := ⟨.hbm, 194, rfl⟩
abbrev main_v152 : Ref sig .tc := ⟨.hbm, 195, rfl⟩
abbrev main_cst_15 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_cst_16 : Ref sig .tc := ⟨.hbm, 210, rfl⟩
abbrev main_v166 : Ref sig .tc := ⟨.hbm, 211, rfl⟩
abbrev main_cst_17 : Ref sig .tc := ⟨.hbm, 212, rfl⟩
abbrev main_v167 : Ref sig .tc := ⟨.hbm, 213, rfl⟩
abbrev main_v168 : Ref sig .tc := ⟨.hbm, 214, rfl⟩
abbrev main_cst_18 : Ref sig .tc := ⟨.hbm, 215, rfl⟩
abbrev main_v169 : Ref sig .tc := ⟨.hbm, 216, rfl⟩
abbrev main_cst_19 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_cst_20 : Ref sig .tc := ⟨.hbm, 231, rfl⟩
abbrev main_v183 : Ref sig .tc := ⟨.hbm, 232, rfl⟩
abbrev main_cst_21 : Ref sig .tc := ⟨.hbm, 233, rfl⟩
abbrev main_v184 : Ref sig .tc := ⟨.hbm, 234, rfl⟩
abbrev main_v185 : Ref sig .tc := ⟨.hbm, 235, rfl⟩
abbrev main_cst_22 : Ref sig .tc := ⟨.hbm, 236, rfl⟩
abbrev main_v186 : Ref sig .tc := ⟨.hbm, 237, rfl⟩
abbrev main_cst_23 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_v197 : Ref sig .tc := ⟨.hbm, 249, rfl⟩
abbrev main_v198 : Ref sig .tc := ⟨.hbm, 250, rfl⟩
abbrev main_v199 : Ref sig .tc := ⟨.hbm, 251, rfl⟩
abbrev main_cst_24 : Ref sig .tc := ⟨.hbm, 252, rfl⟩
abbrev main_v200 : Ref sig .tc := ⟨.hbm, 253, rfl⟩
abbrev main_cst_25 : Ref sig .tc := ⟨.hbm, 254, rfl⟩
abbrev main_v201 : Ref sig .tc := ⟨.hbm, 255, rfl⟩
abbrev main_v202 : Ref sig .tc := ⟨.hbm, 256, rfl⟩
abbrev main_cst_26 : Ref sig .tc := ⟨.hbm, 257, rfl⟩
abbrev main_v203 : Ref sig .tc := ⟨.hbm, 258, rfl⟩
abbrev main_cst_27 : Ref sig .tc := ⟨.hbm, 259, rfl⟩
abbrev main_v204 : Ref sig .tc := ⟨.hbm, 260, rfl⟩
abbrev main_v205 : Ref sig .tc := ⟨.hbm, 261, rfl⟩
abbrev main_v206 : Ref sig .tc := ⟨.hbm, 262, rfl⟩
abbrev main_v207 : Ref sig .tc := ⟨.hbm, 263, rfl⟩
abbrev main_v208 : Ref sig .tc := ⟨.hbm, 264, rfl⟩
abbrev main_v209 : Ref sig .tc := ⟨.hbm, 265, rfl⟩
abbrev main_v210 : Ref sig .tc := ⟨.hbm, 266, rfl⟩
abbrev main_v211 : Ref sig .tc := ⟨.hbm, 267, rfl⟩
abbrev main_v212 : Ref sig .tc := ⟨.hbm, 268, rfl⟩

abbrev nD : Nat := 1
abbrev τ : Topo := Topo.v7x

variable {F : FTy → Type} [FloatOps F]
-- ==== BandProj.lean ====
abbrev S16x2048x1024 : Shape := ⟨3, ![16, 2048, 1024]⟩
abbrev S1024 : Shape := ⟨1, ![1024]⟩
abbrev S1024x3072 : Shape := ⟨2, ![1024, 3072]⟩
abbrev S64 : Shape := ⟨1, ![64]⟩
abbrev S32768x1024 : Shape := ⟨2, ![32768, 1024]⟩
abbrev S1x1024 : Shape := ⟨2, ![1, 1024]⟩
abbrev S3072x1024 : Shape := ⟨2, ![3072, 1024]⟩
abbrev S1x64 : Shape := ⟨2, ![1, 64]⟩
abbrev S16x64 : Shape := ⟨2, ![16, 64]⟩
abbrev S1024x1 : Shape := ⟨2, ![1024, 1]⟩
abbrev S1024x512 : Shape := ⟨2, ![1024, 512]⟩
abbrev S16x1024x2048 : Shape := ⟨3, ![16, 1024, 2048]⟩
abbrev S128x1152x256 : Shape := ⟨3, ![128, 1152, 256]⟩
abbrev S1x16x1024x512 : Shape := ⟨4, ![1, 16, 1024, 512]⟩
abbrev S512x1024 : Shape := ⟨2, ![512, 1024]⟩
abbrev S1x1024x512 : Shape := ⟨3, ![1, 1024, 512]⟩
abbrev S2x1152x256 : Shape := ⟨3, ![2, 1152, 256]⟩
abbrev S1x1x1024x512 : Shape := ⟨4, ![1, 1, 1024, 512]⟩
abbrev S512 : Shape := ⟨1, ![512]⟩
abbrev S512x1 : Shape := ⟨2, ![512, 1]⟩
abbrev S256x1024 : Shape := ⟨2, ![256, 1024]⟩
abbrev S256x512 : Shape := ⟨2, ![256, 512]⟩
abbrev S64x512 : Shape := ⟨2, ![64, 512]⟩
abbrev S1x512 : Shape := ⟨2, ![1, 512]⟩
abbrev S1x64x512 : Shape := ⟨3, ![1, 64, 512]⟩
abbrev S16x256 : Shape := ⟨2, ![16, 256]⟩
abbrev S128x256 : Shape := ⟨2, ![128, 256]⟩
abbrev S1x128x256 : Shape := ⟨3, ![1, 128, 256]⟩
abbrev S1x16x256 : Shape := ⟨3, ![1, 16, 256]⟩
abbrev S1x16x16x64x512 : Shape := ⟨5, ![1, 16, 16, 64, 512]⟩
abbrev S1x16x512x16x64 : Shape := ⟨5, ![1, 16, 512, 16, 64]⟩

abbrev nBuf : Space → Nat
  | .hbm => 30
  | .vmem => 18
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x3072, .f32⟩
  | .hbm, ⟨3, _⟩ => ⟨S64, .f32⟩
  | .hbm, ⟨4, _⟩ => ⟨S64, .f32⟩
  | .hbm, ⟨5, _⟩ => ⟨S32768x1024, .f32⟩
  | .hbm, ⟨6, _⟩ => ⟨S1x1024, .f32⟩
  | .hbm, ⟨7, _⟩ => ⟨S1024x3072, .bf16⟩
  | .hbm, ⟨8, _⟩ => ⟨S3072x1024, .bf16⟩
  | .hbm, ⟨9, _⟩ => ⟨S1x64, .f32⟩
  | .hbm, ⟨10, _⟩ => ⟨S16x64, .f32⟩
  | .hbm, ⟨11, _⟩ => ⟨S1024, .f32⟩
  | .hbm, ⟨12, _⟩ => ⟨S1x1024, .f32⟩
  | .hbm, ⟨13, _⟩ => ⟨S1024x1, .f32⟩
  | .hbm, ⟨14, _⟩ => ⟨S1024x512, .f32⟩
  | .hbm, ⟨15, _⟩ => ⟨S1x64, .f32⟩
  | .hbm, ⟨16, _⟩ => ⟨S16x64, .f32⟩
  | .hbm, ⟨17, _⟩ => ⟨S1024, .f32⟩
  | .hbm, ⟨18, _⟩ => ⟨S1x1024, .f32⟩
  | .hbm, ⟨19, _⟩ => ⟨S1024x1, .f32⟩
  | .hbm, ⟨20, _⟩ => ⟨S1024x512, .f32⟩
  | .hbm, ⟨21, _⟩ => ⟨S16x1024x2048, .bf16⟩
  | .hbm, ⟨22, _⟩ => ⟨S32768x1024, .bf16⟩
  | .hbm, ⟨23, _⟩ => ⟨S128x1152x256, .bf16⟩
  | .hbm, ⟨24, _⟩ => ⟨S1x16x1024x512, .f32⟩
  | .hbm, ⟨25, _⟩ => ⟨S1x16x1024x512, .f32⟩
  | .hbm, ⟨26, _⟩ => ⟨S1x16x16x64x512, .f32⟩
  | .hbm, ⟨27, _⟩ => ⟨S1x16x512x16x64, .f32⟩
  | .hbm, ⟨28, _⟩ => ⟨S1x16x16x64x512, .f32⟩
  | .hbm, ⟨29, _⟩ => ⟨S1x16x512x16x64, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S3072x1024, .bf16⟩
  | .local _ .vmem, ⟨4, _⟩ => ⟨S1024x512, .f32⟩
  | .local _ .vmem, ⟨5, _⟩ => ⟨S1024x512, .f32⟩
  | .local _ .vmem, ⟨6, _⟩ => ⟨S1x1024x512, .bf16⟩
  | .local _ .vmem, ⟨7, _⟩ => ⟨S1x1024x512, .bf16⟩
  | .local _ .vmem, ⟨8, _⟩ => ⟨S512x1024, .bf16⟩
  | .local _ .vmem, ⟨9, _⟩ => ⟨S512x1024, .bf16⟩
  | .local _ .vmem, ⟨10, _⟩ => ⟨S2x1152x256, .bf16⟩
  | .local _ .vmem, ⟨11, _⟩ => ⟨S2x1152x256, .bf16⟩
  | .local _ .vmem, ⟨12, _⟩ => ⟨S1x1x1024x512, .f32⟩
  | .local _ .vmem, ⟨13, _⟩ => ⟨S1x1x1024x512, .f32⟩
  | .local _ .vmem, ⟨14, _⟩ => ⟨S1x1x1024x512, .f32⟩
  | .local _ .vmem, ⟨15, _⟩ => ⟨S1x1x1024x512, .f32⟩
  | .local _ .vmem, ⟨16, _⟩ => ⟨S1024x512, .f32⟩
  | .local _ .vmem, ⟨17, _⟩ => ⟨S1024x512, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16_0 : Ref sig .tc := ⟨.hbm, 21, rfl⟩
abbrev main_v16_1 : Ref sig .tc := ⟨.hbm, 22, rfl⟩
abbrev main_v16_2 : Ref sig .tc := ⟨.hbm, 23, rfl⟩
abbrev main_v16_3 : Ref sig .tc := ⟨.hbm, 24, rfl⟩
abbrev main_v16_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c4_i32 : BitVec 32 := 4#32
  let c0_i32 : BitVec 32 := 0#32
  let v791 : BitVec 1 := Scalar.cmpi .eq c4_i32 c0_i32
  let c1_i32 : BitVec 32 := 1#32
  let v792 : BitVec 32 := Scalar.select v791 c1_i32 c4_i32
  let v793 : BitVec 32 := Scalar.remsi arg0 v792
  let c0_i32_373 : BitVec 32 := 0#32
  let v795 : BitVec 1 := Scalar.cmpi .slt v793 c0_i32_373
  let c0_i32_374 : BitVec 32 := 0#32
  let v796 : BitVec 1 := Scalar.cmpi .slt v792 c0_i32_374
  let v797 : BitVec 1 := Scalar.xori v795 v796
  let c0_i32_372 : BitVec 32 := 0#32
  let v794 : BitVec 1 := Scalar.cmpi .ne v793 c0_i32_372
  let v798 : BitVec 1 := Scalar.andi v797 v794
  let v799 : BitVec 32 := Scalar.addi v793 v792
  let v800 : BitVec 32 := Scalar.select v798 v799 v793
  let c3_i32 : BitVec 32 := 3#32
  let v801 : BitVec 1 := Scalar.cmpi .sge v800 c3_i32
  let v802 : BitVec 32 := Scalar.extui v801
  let c0_i32_375 : BitVec 32 := 0#32
  let v803 : BitVec 1 := Scalar.cmpi .ne v802 c0_i32_375
  v803

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c3_i32 : BitVec 32 := 3#32
  let v27 : BitVec 32 := Scalar.subi v26 c3_i32
  let c0_i32_10 : BitVec 32 := 0#32
  let v28 : BitVec 32 := Scalar.maxsi v27 c0_i32_10
  let c0_i32_11 : BitVec 32 := 0#32
  let c0_i32_12 : BitVec 32 := 0#32
  let c0_i32_13 : BitVec 32 := 0#32
  ![c0_i32_11.toNat, v16.toNat, c0_i32_12.toNat, v28.toNat]

def cc0_transform_9 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c3_i32 : BitVec 32 := 3#32
  let v27 : BitVec 32 := Scalar.subi v26 c3_i32
  let c0_i32_10 : BitVec 32 := 0#32
  let v28 : BitVec 32 := Scalar.maxsi v27 c0_i32_10
  let c0_i32_11 : BitVec 32 := 0#32
  let c0_i32_12 : BitVec 32 := 0#32
  let c0_i32_13 : BitVec 32 := 0#32
  ![c0_i32_11.toNat, v16.toNat, c0_i32_12.toNat, v28.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x1152x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== BandProjRefIdeal.lean ====
abbrev S16x2048x1024 : Shape := ⟨3, ![16, 2048, 1024]⟩
abbrev S1024 : Shape := ⟨1, ![1024]⟩
abbrev S1024x3072 : Shape := ⟨2, ![1024, 3072]⟩
abbrev S64 : Shape := ⟨1, ![64]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x3072 : Shape := ⟨3, ![16, 2048, 3072]⟩
abbrev S16x2048x16x64 : Shape := ⟨4, ![16, 2048, 16, 64]⟩
abbrev S16x2048x16 : Shape := ⟨3, ![16, 2048, 16]⟩
abbrev S16x2048x16x1 : Shape := ⟨4, ![16, 2048, 16, 1]⟩
abbrev S1x1x1x64 : Shape := ⟨4, ![1, 1, 1, 64]⟩
abbrev S16x1024x2048 : Shape := ⟨3, ![16, 1024, 2048]⟩
abbrev S128x256x8x128 : Shape := ⟨4, ![128, 256, 8, 128]⟩
abbrev S128x8x128x256 : Shape := ⟨4, ![128, 8, 128, 256]⟩
abbrev S128x8x16x256 : Shape := ⟨4, ![128, 8, 16, 256]⟩
abbrev S128x8x144x256 : Shape := ⟨4, ![128, 8, 144, 256]⟩
abbrev S128x1152x256 : Shape := ⟨3, ![128, 1152, 256]⟩
abbrev S32768x1024 : Shape := ⟨2, ![32768, 1024]⟩
abbrev S16x512x16x64 : Shape := ⟨4, ![16, 512, 16, 64]⟩
abbrev S1x16x512x16x64 : Shape := ⟨5, ![1, 16, 512, 16, 64]⟩

abbrev nBuf : Space → Nat
  | .hbm => 79
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x3072, .f32⟩
  | .hbm, ⟨3, _⟩ => ⟨S64, .f32⟩
  | .hbm, ⟨4, _⟩ => ⟨S64, .f32⟩
  | .hbm, ⟨5, _⟩ => ⟨S16x2048x1024, .f32⟩
  | .hbm, ⟨6, _⟩ => ⟨S_, .f32⟩
  | .hbm, ⟨7, _⟩ => ⟨S16x2048, .f32⟩
  | .hbm, ⟨8, _⟩ => ⟨S16x2048x1, .f32⟩
  | .hbm, ⟨9, _⟩ => ⟨S_, .f32⟩
  | .hbm, ⟨10, _⟩ => ⟨S16x2048x1, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S16x2048x1, .f32⟩
  | .hbm, ⟨16, _⟩ => ⟨S16x2048x1024, .f32⟩
  | .hbm, ⟨17, _⟩ => ⟨S16x2048x1024, .f32⟩
  | .hbm, ⟨18, _⟩ => ⟨S1x1x1024, .f32⟩
  | .hbm, ⟨19, _⟩ => ⟨S16x2048x1024, .f32⟩
  | .hbm, ⟨20, _⟩ => ⟨S16x2048x1024, .f32⟩
  | .hbm, ⟨21, _⟩ => ⟨S16x2048x3072, .f32⟩
  | .hbm, ⟨22, _⟩ => ⟨S16x2048x1024, .f32⟩
  | .hbm, ⟨23, _⟩ => ⟨S16x2048x1024, .f32⟩
  | .hbm, ⟨24, _⟩ => ⟨S16x2048x1024, .f32⟩
  | .hbm, ⟨25, _⟩ => ⟨S16x2048x16x64, .f32⟩
  | .hbm, ⟨26, _⟩ => ⟨S16x2048x16x64, .f32⟩
  | .hbm, ⟨27, _⟩ => ⟨S_, .f32⟩
  | .hbm, ⟨28, _⟩ => ⟨S16x2048x16, .f32⟩
  | .hbm, ⟨29, _⟩ => ⟨S16x2048x16x1, .f32⟩
  | .hbm, ⟨30, _⟩ => ⟨S_, .f32⟩
  | .hbm, ⟨31, _⟩ => ⟨S16x2048x16x1, .f32⟩
  | .hbm, ⟨32, _⟩ => ⟨S16x2048x16x1, .f32⟩
  | .hbm, ⟨33, _⟩ => ⟨S_, .f32⟩
  | .hbm, ⟨34, _⟩ => ⟨S16x2048x16x1, .f32⟩
  | .hbm, ⟨35, _⟩ => ⟨S16x2048x16x1, .f32⟩
  | .hbm, ⟨36, _⟩ => ⟨S16x2048x16x1, .f32⟩
  | .hbm, ⟨37, _⟩ => ⟨S16x2048x16x64, .f32⟩
  | .hbm, ⟨38, _⟩ => ⟨S16x2048x16x64, .f32⟩
  | .hbm, ⟨39, _⟩ => ⟨S1x1x1x64, .f32⟩
  | .hbm, ⟨40, _⟩ => ⟨S16x2048x16x64, .f32⟩
  | .hbm, ⟨41, _⟩ => ⟨S16x2048x16x64, .f32⟩
  | .hbm, ⟨42, _⟩ => ⟨S16x2048x16x64, .f32⟩
  | .hbm, ⟨43, _⟩ => ⟨S16x2048x16x64, .f32⟩
  | .hbm, ⟨44, _⟩ => ⟨S_, .f32⟩
  | .hbm, ⟨45, _⟩ => ⟨S16x2048x16, .f32⟩
  | .hbm, ⟨46, _⟩ => ⟨S16x2048x16x1, .f32⟩
  | .hbm, ⟨47, _⟩ => ⟨S_, .f32⟩
  | .hbm, ⟨48, _⟩ => ⟨S16x2048x16x1, .f32⟩
  | .hbm, ⟨49, _⟩ => ⟨S16x2048x16x1, .f32⟩
  | .hbm, ⟨50, _⟩ => ⟨S_, .f32⟩
  | .hbm, ⟨51, _⟩ => ⟨S16x2048x16x1, .f32⟩
  | .hbm, ⟨52, _⟩ => ⟨S16x2048x16x1, .f32⟩
  | .hbm, ⟨53, _⟩ => ⟨S16x2048x16x1, .f32⟩
  | .hbm, ⟨54, _⟩ => ⟨S16x2048x16x64, .f32⟩
  | .hbm, ⟨55, _⟩ => ⟨S16x2048x16x64, .f32⟩
  | .hbm, ⟨56, _⟩ => ⟨S1x1x1x64, .f32⟩
  | .hbm, ⟨57, _⟩ => ⟨S16x2048x16x64, .f32⟩
  | .hbm, ⟨58, _⟩ => ⟨S16x2048x16x64, .f32⟩
  | .hbm, ⟨59, _⟩ => ⟨S16x2048x16x64, .f32⟩
  | .hbm, ⟨60, _⟩ => ⟨S_, .f32⟩
  | .hbm, ⟨61, _⟩ => ⟨S16x2048x16x64, .f32⟩
  | .hbm, ⟨62, _⟩ => ⟨S16x2048x16x64, .f32⟩
  | .hbm, ⟨63, _⟩ => ⟨S16x2048x1024, .f32⟩
  | .hbm, ⟨64, _⟩ => ⟨S16x1024x2048, .f32⟩
  | .hbm, ⟨65, _⟩ => ⟨S128x256x8x128, .f32⟩
  | .hbm, ⟨66, _⟩ => ⟨S128x8x128x256, .f32⟩
  | .hbm, ⟨67, _⟩ => ⟨S_, .f32⟩
  | .hbm, ⟨68, _⟩ => ⟨S128x8x16x256, .f32⟩
  | .hbm, ⟨69, _⟩ => ⟨S128x8x144x256, .f32⟩
  | .hbm, ⟨70, _⟩ => ⟨S128x1152x256, .f32⟩
  | .hbm, ⟨71, _⟩ => ⟨S16x1024x2048, .bf16⟩
  | .hbm, ⟨72, _⟩ => ⟨S32768x1024, .f32⟩
  | .hbm, ⟨73, _⟩ => ⟨S32768x1024, .bf16⟩
  | .hbm, ⟨74, _⟩ => ⟨S128x1152x256, .bf16⟩
  | .hbm, ⟨75, _⟩ => ⟨S16x512x16x64, .f32⟩
  | .hbm, ⟨76, _⟩ => ⟨S1x16x512x16x64, .f32⟩
  | .hbm, ⟨77, _⟩ => ⟨S16x512x16x64, .f32⟩
  | .hbm, ⟨78, _⟩ => ⟨S1x16x512x16x64, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_8 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_9 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩

abbrev nD : Nat := 1
abbrev τ : Topo := Topo.v7x

variable {F : FTy → Type} [FloatOps F]
-- ==== BandRows.lean ====
abbrev S16x16x1024 : Shape := ⟨3, ![16, 16, 1024]⟩
abbrev S1024 : Shape := ⟨1, ![1024]⟩
abbrev S1024x3072 : Shape := ⟨2, ![1024, 3072]⟩
abbrev S64 : Shape := ⟨1, ![64]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S256x1024 : Shape := ⟨2, ![256, 1024]⟩
abbrev S1x1024 : Shape := ⟨2, ![1, 1024]⟩
abbrev S1x64 : Shape := ⟨2, ![1, 64]⟩
abbrev S16x64 : Shape := ⟨2, ![16, 64]⟩
abbrev S256 : Shape := ⟨1, ![256]⟩
abbrev S256x1 : Shape := ⟨2, ![256, 1]⟩
abbrev S256x3072 : Shape := ⟨2, ![256, 3072]⟩
abbrev S256x128 : Shape := ⟨2, ![256, 128]⟩
abbrev S16x16x16x64 : Shape := ⟨4, ![16, 16, 16, 64]⟩

abbrev nBuf : Space → Nat
  | .hbm => 48
  | .vmem => 11
  | .smem => 0
  | _ => 0

abbrev bufTy : (tb : Table) → Fin (tcTables nBuf tb) → BufTy
  | .hbm, ⟨0, _⟩ => ⟨S16x16x1024, .f32⟩
  | .hbm, ⟨1, _⟩ => ⟨S1024, .f32⟩
  | .hbm, ⟨2, _⟩ => ⟨S1024x3072, .f32⟩
  | .hbm, ⟨3, _⟩ => ⟨S64, .f32⟩
  | .hbm, ⟨4, _⟩ => ⟨S64, .f32⟩
  | .hbm, ⟨5, _⟩ => ⟨S128, .i32⟩
  | .hbm, ⟨6, _⟩ => ⟨S_, .i32⟩
  | .hbm, ⟨7, _⟩ => ⟨S_, .i32⟩
  | .hbm, ⟨8, _⟩ => ⟨S128, .i32⟩
  | .hbm, ⟨9, _⟩ => ⟨S128, .i32⟩
  | .hbm, ⟨10, _⟩ => ⟨S128, .i32⟩
  | .hbm, ⟨11, _⟩ => ⟨S_, .i32⟩
  | .hbm, ⟨12, _⟩ => ⟨S128, .i32⟩
  | .hbm, ⟨13, _⟩ => ⟨S128, .i1⟩
  | .hbm, ⟨14, _⟩ => ⟨S128, .i32⟩
  | .hbm, ⟨15, _⟩ => ⟨S128, .i32⟩
  | .hbm, ⟨16, _⟩ => ⟨S_, .i32⟩
  | .hbm, ⟨17, _⟩ => ⟨S128, .i32⟩
  | .hbm, ⟨18, _⟩ => ⟨S128, .i1⟩
  | .hbm, ⟨19, _⟩ => ⟨S128, .i1⟩
  | .hbm, ⟨20, _⟩ => ⟨S_, .i32⟩
  | .hbm, ⟨21, _⟩ => ⟨S128, .i32⟩
  | .hbm, ⟨22, _⟩ => ⟨S128, .i32⟩
  | .hbm, ⟨23, _⟩ => ⟨S128, .i32⟩
  | .hbm, ⟨24, _⟩ => ⟨S128x1, .i32⟩
  | .hbm, ⟨25, _⟩ => ⟨S1x128, .i32⟩
  | .hbm, ⟨26, _⟩ => ⟨S128x128, .i32⟩
  | .hbm, ⟨27, _⟩ => ⟨S128x128, .i32⟩
  | .hbm, ⟨28, _⟩ => ⟨S128x128, .i1⟩
  | .hbm, ⟨29, _⟩ => ⟨S128x128, .bf16⟩
  | .hbm, ⟨30, _⟩ => ⟨S256x1024, .f32⟩
  | .hbm, ⟨31, _⟩ => ⟨S1x1024, .f32⟩
  | .hbm, ⟨32, _⟩ => ⟨S1024x3072, .bf16⟩
  | .hbm, ⟨33, _⟩ => ⟨S1x64, .f32⟩
  | .hbm, ⟨34, _⟩ => ⟨S16x64, .f32⟩
  | .hbm, ⟨35, _⟩ => ⟨S1024, .f32⟩
  | .hbm, ⟨36, _⟩ => ⟨S1x1024, .f32⟩
  | .hbm, ⟨37, _⟩ => ⟨S1x64, .f32⟩
  | .hbm, ⟨38, _⟩ => ⟨S16x64, .f32⟩
  | .hbm, ⟨39, _⟩ => ⟨S1024, .f32⟩
  | .hbm, ⟨40, _⟩ => ⟨S1x1024, .f32⟩
  | .hbm, ⟨41, _⟩ => ⟨S256x1024, .bf16⟩
  | .hbm, ⟨42, _⟩ => ⟨S256x1024, .bf16⟩
  | .hbm, ⟨43, _⟩ => ⟨S256x1024, .bf16⟩
  | .hbm, ⟨44, _⟩ => ⟨S256x1024, .f32⟩
  | .hbm, ⟨45, _⟩ => ⟨S256x1024, .f32⟩
  | .hbm, ⟨46, _⟩ => ⟨S16x16x16x64, .f32⟩
  | .hbm, ⟨47, _⟩ => ⟨S16x16x16x64, .f32⟩
  | .local _ .vmem, ⟨0, _⟩ => ⟨S256x1024, .f32⟩
  | .local _ .vmem, ⟨1, _⟩ => ⟨S1x1024, .f32⟩
  | .local _ .vmem, ⟨2, _⟩ => ⟨S1024x3072, .bf16⟩
  | .local _ .vmem, ⟨3, _⟩ => ⟨S1x1024, .f32⟩
  | .local _ .vmem, ⟨4, _⟩ => ⟨S1x1024, .f32⟩
  | .local _ .vmem, ⟨5, _⟩ => ⟨S128x128, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .f32⟩
  | .local _ .vmem, ⟨10, _⟩ => ⟨S256x1024, .f32⟩
  | _, _ => ⟨S16x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19_0 : Ref sig .tc := ⟨.hbm, 41, rfl⟩
abbrev main_v19_1 : Ref sig .tc := ⟨.hbm, 42, rfl⟩
abbrev main_v19_2 : Ref sig .tc := ⟨.hbm, 43, rfl⟩
abbrev main_v19_3 : Ref sig .tc := ⟨.hbm, 44, rfl⟩
abbrev main_v19_4 : Ref sig .tc := ⟨.hbm, 45, rfl⟩
abbrev main_v20 : Ref sig .tc := ⟨.hbm, 46, rfl⟩
abbrev main_v21 : Ref sig .tc := ⟨.hbm, 47, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S256x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== BandRowsRefIdeal.lean ====
abbrev S16x16x1024 : Shape := ⟨3, ![16, 16, 1024]⟩
abbrev S1024 : Shape := ⟨1, ![1024]⟩
abbrev S1024x3072 : Shape := ⟨2, ![1024, 3072]⟩
abbrev S64 : Shape := ⟨1, ![64]⟩
abbrev S_ : Shape := ⟨0, ![]⟩
abbrev S16x16 : Shape := ⟨2, ![16, 16]⟩
abbrev S16x16x1 : Shape := ⟨3, ![16, 16, 1]⟩
abbrev S1x1x1024 : Shape := ⟨3, ![1, 1, 1024]⟩
abbrev S16x16x3072 : Shape := ⟨3, ![16, 16, 3072]⟩
abbrev S16x16x16x64 : Shape := ⟨4, ![16, 16, 16, 64]⟩
abbrev S16x16x16 : Shape := ⟨3, ![16, 16, 16]⟩
abbrev S16x16x16x1 : Shape := ⟨4, ![16, 16, 16, 1]⟩
abbrev S1x1x1x64 : Shape := ⟨4, ![1, 1, 1, 64]⟩
abbrev S256x1024 : Shape := ⟨2, ![256, 1024]⟩

abbrev nBuf : Space → Nat
  | .hbm => 69
  | .vmem => 0
  | .smem => 0
  | _ => 0

abbrev bufTy : (tb : Table) → Fin (tcTables nBuf tb) → BufTy
  | .hbm, ⟨0, _⟩ => ⟨S16x16x1024, .f32⟩
  | .hbm, ⟨1, _⟩ => ⟨S1024, .f32⟩
  | .hbm, ⟨2, _⟩ => ⟨S1024x3072, .f32⟩
  | .hbm, ⟨3, _⟩ => ⟨S64, .f32⟩
  | .hbm, ⟨4, _⟩ => ⟨S64, .f32⟩
  | .hbm, ⟨5, _⟩ => ⟨S16x16x1024, .f32⟩
  | .hbm, ⟨6, _⟩ => ⟨S_, .f32⟩
  | .hbm, ⟨7, _⟩ => ⟨S16x16, .f32⟩
  | .hbm, ⟨8, _⟩ => ⟨S16x16x1, .f32⟩
  | .hbm, ⟨9, _⟩ => ⟨S_, .f32⟩
  | .hbm, ⟨10, _⟩ => ⟨S16x16x1, .f32⟩
  | .hbm, ⟨11, _⟩ => ⟨S16x16x1, .f32⟩
  | .hbm, ⟨12, _⟩ => ⟨S_, .f32⟩
  | .hbm, ⟨13, _⟩ => ⟨S16x16x1, .f32⟩
  | .hbm, ⟨14, _⟩ => ⟨S16x16x1, .f32⟩
  | .hbm, ⟨15, _⟩ => ⟨S16x16x1, .f32⟩
  | .hbm, ⟨16, _⟩ => ⟨S16x16x1024, .f32⟩
  | .hbm, ⟨17, _⟩ => ⟨S16x16x1024, .f32⟩
  | .hbm, ⟨18, _⟩ => ⟨S1x1x1024, .f32⟩
  | .hbm, ⟨19, _⟩ => ⟨S16x16x1024, .f32⟩
  | .hbm, ⟨20, _⟩ => ⟨S16x16x1024, .f32⟩
  | .hbm, ⟨21, _⟩ => ⟨S16x16x3072, .f32⟩
  | .hbm, ⟨22, _⟩ => ⟨S16x16x1024, .f32⟩
  | .hbm, ⟨23, _⟩ => ⟨S16x16x1024, .f32⟩
  | .hbm, ⟨24, _⟩ => ⟨S16x16x1024, .f32⟩
  | .hbm, ⟨25, _⟩ => ⟨S16x16x16x64, .f32⟩
  | .hbm, ⟨26, _⟩ => ⟨S16x16x16x64, .f32⟩
  | .hbm, ⟨27, _⟩ => ⟨S_, .f32⟩
  | .hbm, ⟨28, _⟩ => ⟨S16x16x16, .f32⟩
  | .hbm, ⟨29, _⟩ => ⟨S16x16x16x1, .f32⟩
  | .hbm, ⟨30, _⟩ => ⟨S_, .f32⟩
  | .hbm, ⟨31, _⟩ => ⟨S16x16x16x1, .f32⟩
  | .hbm, ⟨32, _⟩ => ⟨S16x16x16x1, .f32⟩
  | .hbm, ⟨33, _⟩ => ⟨S_, .f32⟩
  | .hbm, ⟨34, _⟩ => ⟨S16x16x16x1, .f32⟩
  | .hbm, ⟨35, _⟩ => ⟨S16x16x16x1, .f32⟩
  | .hbm, ⟨36, _⟩ => ⟨S16x16x16x1, .f32⟩
  | .hbm, ⟨37, _⟩ => ⟨S16x16x16x64, .f32⟩
  | .hbm, ⟨38, _⟩ => ⟨S16x16x16x64, .f32⟩
  | .hbm, ⟨39, _⟩ => ⟨S1x1x1x64, .f32⟩
  | .hbm, ⟨40, _⟩ => ⟨S16x16x16x64, .f32⟩
  | .hbm, ⟨41, _⟩ => ⟨S16x16x16x64, .f32⟩
  | .hbm, ⟨42, _⟩ => ⟨S16x16x16x64, .f32⟩
  | .hbm, ⟨43, _⟩ => ⟨S16x16x16x64, .f32⟩
  | .hbm, ⟨44, _⟩ => ⟨S_, .f32⟩
  | .hbm, ⟨45, _⟩ => ⟨S16x16x16, .f32⟩
  | .hbm, ⟨46, _⟩ => ⟨S16x16x16x1, .f32⟩
  | .hbm, ⟨47, _⟩ => ⟨S_, .f32⟩
  | .hbm, ⟨48, _⟩ => ⟨S16x16x16x1, .f32⟩
  | .hbm, ⟨49, _⟩ => ⟨S16x16x16x1, .f32⟩
  | .hbm, ⟨50, _⟩ => ⟨S_, .f32⟩
  | .hbm, ⟨51, _⟩ => ⟨S16x16x16x1, .f32⟩
  | .hbm, ⟨52, _⟩ => ⟨S16x16x16x1, .f32⟩
  | .hbm, ⟨53, _⟩ => ⟨S16x16x16x1, .f32⟩
  | .hbm, ⟨54, _⟩ => ⟨S16x16x16x64, .f32⟩
  | .hbm, ⟨55, _⟩ => ⟨S16x16x16x64, .f32⟩
  | .hbm, ⟨56, _⟩ => ⟨S1x1x1x64, .f32⟩
  | .hbm, ⟨57, _⟩ => ⟨S16x16x16x64, .f32⟩
  | .hbm, ⟨58, _⟩ => ⟨S16x16x16x64, .f32⟩
  | .hbm, ⟨59, _⟩ => ⟨S16x16x16x64, .f32⟩
  | .hbm, ⟨60, _⟩ => ⟨S_, .f32⟩
  | .hbm, ⟨61, _⟩ => ⟨S16x16x16x64, .f32⟩
  | .hbm, ⟨62, _⟩ => ⟨S16x16x16x64, .f32⟩
  | .hbm, ⟨63, _⟩ => ⟨S256x1024, .f32⟩
  | .hbm, ⟨64, _⟩ => ⟨S256x1024, .bf16⟩
  | .hbm, ⟨65, _⟩ => ⟨S256x1024, .f32⟩
  | .hbm, ⟨66, _⟩ => ⟨S256x1024, .bf16⟩
  | .hbm, ⟨67, _⟩ => ⟨S256x1024, .f32⟩
  | .hbm, ⟨68, _⟩ => ⟨S256x1024, .bf16⟩
  | _, _ => ⟨S16x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_8 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩

abbrev nD : Nat := 1
abbrev τ : Topo := Topo.v7x

variable {F : FTy → Type} [FloatOps F]
-- ==== DiffRows.lean ====
abbrev S16x16x1024 : Shape := ⟨3, ![16, 16, 1024]⟩
abbrev S1024 : Shape := ⟨1, ![1024]⟩
abbrev S1024x3072 : Shape := ⟨2, ![1024, 3072]⟩
abbrev S64 : Shape := ⟨1, ![64]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S16 : Shape := ⟨1, ![16]⟩
abbrev S32 : Shape := ⟨1, ![32]⟩
abbrev S16x1 : Shape := ⟨2, ![16, 1]⟩
abbrev S1x32 : Shape := ⟨2, ![1, 32]⟩
abbrev S16x32 : Shape := ⟨2, ![16, 32]⟩
abbrev S1x16x1x32 : Shape := ⟨4, ![1, 16, 1, 32]⟩
abbrev S1x16x4x32 : Shape := ⟨4, ![1, 16, 4, 32]⟩
abbrev S16x128 : Shape := ⟨2, ![16, 128]⟩
abbrev S16x64 : Shape := ⟨2, ![16, 64]⟩
abbrev S1x16x1x64 : Shape := ⟨4, ![1, 16, 1, 64]⟩
abbrev S1x16x2x64 : Shape := ⟨4, ![1, 16, 2, 64]⟩
abbrev S1x16x1x128 : Shape := ⟨4, ![1, 16, 1, 128]⟩
abbrev S16x16x1x128 : Shape := ⟨4, ![16, 16, 1, 128]⟩
abbrev S256x128 : Shape := ⟨2, ![256, 128]⟩
abbrev S256x1024 : Shape := ⟨2, ![256, 1024]⟩
abbrev S1x1024 : Shape := ⟨2, ![1, 1024]⟩
abbrev S1x64 : Shape := ⟨2, ![1, 64]⟩
abbrev S256 : Shape := ⟨1, ![256]⟩
abbrev S256x1 : Shape := ⟨2, ![256, 1]⟩
abbrev S256x3072 : Shape := ⟨2, ![256, 3072]⟩
abbrev S16x16x8x2x64 : Shape := ⟨5, ![16, 16, 8, 2, 64]⟩
abbrev S16x16x8x128 : Shape := ⟨4, ![16, 16, 8, 128]⟩

abbrev nBuf : Space → Nat
  | .hbm => 83
  | .vmem => 13
  | .smem => 0
  | _ => 0

abbrev bufTy : (tb : Table) → Fin (tcTables nBuf tb) → BufTy
  | .hbm, ⟨0, _⟩ => ⟨S16x16x1024, .f32⟩
  | .hbm, ⟨1, _⟩ => ⟨S1024, .f32⟩
  | .hbm, ⟨2, _⟩ => ⟨S1024x3072, .f32⟩
  | .hbm, ⟨3, _⟩ => ⟨S64, .f32⟩
  | .hbm, ⟨4, _⟩ => ⟨S64, .f32⟩
  | .hbm, ⟨5, _⟩ => ⟨S128, .i32⟩
  | .hbm, ⟨6, _⟩ => ⟨S_, .i32⟩
  | .hbm, ⟨7, _⟩ => ⟨S_, .i32⟩
  | .hbm, ⟨8, _⟩ => ⟨S128, .i32⟩
  | .hbm, ⟨9, _⟩ => ⟨S128, .i32⟩
  | .hbm, ⟨10, _⟩ => ⟨S128, .i32⟩
  | .hbm, ⟨11, _⟩ => ⟨S_, .i32⟩
  | .hbm, ⟨12, _⟩ => ⟨S128, .i32⟩
  | .hbm, ⟨13, _⟩ => ⟨S128, .i1⟩
  | .hbm, ⟨14, _⟩ => ⟨S128, .i32⟩
  | .hbm, ⟨15, _⟩ => ⟨S128, .i32⟩
  | .hbm, ⟨16, _⟩ => ⟨S_, .i32⟩
  | .hbm, ⟨17, _⟩ => ⟨S128, .i32⟩
  | .hbm, ⟨18, _⟩ => ⟨S128, .i1⟩
  | .hbm, ⟨19, _⟩ => ⟨S128, .i1⟩
  | .hbm, ⟨20, _⟩ => ⟨S_, .i32⟩
  | .hbm, ⟨21, _⟩ => ⟨S128, .i32⟩
  | .hbm, ⟨22, _⟩ => ⟨S128, .i32⟩
  | .hbm, ⟨23, _⟩ => ⟨S128, .i32⟩
  | .hbm, ⟨24, _⟩ => ⟨S128x1, .i32⟩
  | .hbm, ⟨25, _⟩ => ⟨S1x128, .i32⟩
  | .hbm, ⟨26, _⟩ => ⟨S128x128, .i32⟩
  | .hbm, ⟨27, _⟩ => ⟨S128x128, .i32⟩
  | .hbm, ⟨28, _⟩ => ⟨S128x128, .i1⟩
  | .hbm, ⟨29, _⟩ => ⟨S128x128, .bf16⟩
  | .hbm, ⟨30, _⟩ => ⟨S16, .i32⟩
  | .hbm, ⟨31, _⟩ => ⟨S_, .i32⟩
  | .hbm, ⟨32, _⟩ => ⟨S16, .i32⟩
  | .hbm, ⟨33, _⟩ => ⟨S16, .i32⟩
  | .hbm, ⟨34, _⟩ => ⟨S32, .f32⟩
  | .hbm, ⟨35, _⟩ => ⟨S32, .f32⟩
  | .hbm, ⟨36, _⟩ => ⟨S_, .f32⟩
  | .hbm, ⟨37, _⟩ => ⟨S32, .f32⟩
  | .hbm, ⟨38, _⟩ => ⟨S32, .f32⟩
  | .hbm, ⟨39, _⟩ => ⟨S_, .f32⟩
  | .hbm, ⟨40, _⟩ => ⟨S32, .f32⟩
  | .hbm, ⟨41, _⟩ => ⟨S32, .f32⟩
  | .hbm, ⟨42, _⟩ => ⟨S16, .f32⟩
  | .hbm, ⟨43, _⟩ => ⟨S16x1, .f32⟩
  | .hbm, ⟨44, _⟩ => ⟨S1x32, .f32⟩
  | .hbm, ⟨45, _⟩ => ⟨S16x32, .f32⟩
  | .hbm, ⟨46, _⟩ => ⟨S16x32, .f32⟩
  | .hbm, ⟨47, _⟩ => ⟨S16x32, .f32⟩
  | .hbm, ⟨48, _⟩ => ⟨S16x32, .f32⟩
  | .hbm, ⟨49, _⟩ => ⟨S1x16x1x32, .f32⟩
  | .hbm, ⟨50, _⟩ => ⟨S1x16x4x32, .f32⟩
  | .hbm, ⟨51, _⟩ => ⟨S16x128, .f32⟩
  | .hbm, ⟨52, _⟩ => ⟨S16x32, .f32⟩
  | .hbm, ⟨53, _⟩ => ⟨S16x32, .f32⟩
  | .hbm, ⟨54, _⟩ => ⟨S16x32, .f32⟩
  | .hbm, ⟨55, _⟩ => ⟨S16x64, .f32⟩
  | .hbm, ⟨56, _⟩ => ⟨S1x16x1x64, .f32⟩
  | .hbm, ⟨57, _⟩ => ⟨S1x16x2x64, .f32⟩
  | .hbm, ⟨58, _⟩ => ⟨S16x128, .f32⟩
  | .hbm, ⟨59, _⟩ => ⟨S1x16x1x128, .f32⟩
  | .hbm, ⟨60, _⟩ => ⟨S16x16x1x128, .f32⟩
  | .hbm, ⟨61, _⟩ => ⟨S256x128, .f32⟩
  | .hbm, ⟨62, _⟩ => ⟨S1x16x1x128, .f32⟩
  | .hbm, ⟨63, _⟩ => ⟨S16x16x1x128, .f32⟩
  | .hbm, ⟨64, _⟩ => ⟨S256x128, .f32⟩
  | .hbm, ⟨65, _⟩ => ⟨S256x1024, .f32⟩
  | .hbm, ⟨66, _⟩ => ⟨S1x1024, .f32⟩
  | .hbm, ⟨67, _⟩ => ⟨S1024x3072, .bf16⟩
  | .hbm, ⟨68, _⟩ => ⟨S1x64, .f32⟩
  | .hbm, ⟨69, _⟩ => ⟨S16x64, .f32⟩
  | .hbm, ⟨70, _⟩ => ⟨S1024, .f32⟩
  | .hbm, ⟨71, _⟩ => ⟨S1x1024, .f32⟩
  | .hbm, ⟨72, _⟩ => ⟨S1x64, .f32⟩
  | .hbm, ⟨73, _⟩ => ⟨S16x64, .f32⟩
  | .hbm, ⟨74, _⟩ => ⟨S1024, .f32⟩
  | .hbm, ⟨75, _⟩ => ⟨S1x1024, .f32⟩
  | .hbm, ⟨76, _⟩ => ⟨S256x1024, .bf16⟩
  | .hbm, ⟨77, _⟩ => ⟨S256x1024, .bf16⟩
  | .hbm, ⟨78, _⟩ => ⟨S256x1024, .bf16⟩
  | .hbm, ⟨79, _⟩ => ⟨S256x1024, .f32⟩
  | .hbm, ⟨80, _⟩ => ⟨S256x1024, .f32⟩
  | .hbm, ⟨81, _⟩ => ⟨S16x16x8x2x64, .f32⟩
  | .hbm, ⟨82, _⟩ => ⟨S16x16x8x128, .f32⟩
  | .local _ .vmem, ⟨0, _⟩ => ⟨S256x1024, .f32⟩
  | .local _ .vmem, ⟨1, _⟩ => ⟨S1x1024, .f32⟩
  | .local _ .vmem, ⟨2, _⟩ => ⟨S1024x3072, .bf16⟩
  | .local _ .vmem, ⟨3, _⟩ => ⟨S1x1024, .f32⟩
  | .local _ .vmem, ⟨4, _⟩ => ⟨S1x1024, .f32⟩
  | .local _ .vmem, ⟨5, _⟩ => ⟨S128x128, .bf16⟩
  | .local _ .vmem, ⟨6, _⟩ => ⟨S256x128, .f32⟩
  | .local _ .vmem, ⟨7, _⟩ => ⟨S256x128, .f32⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .f32⟩
  | .local _ .vmem, ⟨12, _⟩ => ⟨S256x1024, .f32⟩
  | _, _ => ⟨S16x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_c_0 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_cst : Ref sig .tc := ⟨.hbm, 36, rfl⟩
abbrev main_v13 : Ref sig .tc := ⟨.hbm, 37, rfl⟩
abbrev main_v14 : Ref sig .tc := ⟨.hbm, 38, rfl⟩
abbrev main_cst_1 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51_0 : Ref sig .tc := ⟨.hbm, 76, rfl⟩
abbrev main_v51_1 : Ref sig .tc := ⟨.hbm, 77, rfl⟩
abbrev main_v51_2 : Ref sig .tc := ⟨.hbm, 78, rfl⟩
abbrev main_v51_3 : Ref sig .tc := ⟨.hbm, 79, rfl⟩
abbrev main_v51_4 : Ref sig .tc := ⟨.hbm, 80, rfl⟩
abbrev main_v52 : Ref sig .tc := ⟨.hbm, 81, rfl⟩
abbrev main_v53 : Ref sig .tc := ⟨.hbm, 82, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S256x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S256x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]
-- ==== DiffRowsRefIdeal.lean ====
abbrev S16x16x1024 : Shape := ⟨3, ![16, 16, 1024]⟩
abbrev S1024 : Shape := ⟨1, ![1024]⟩
abbrev S1024x3072 : Shape := ⟨2, ![1024, 3072]⟩
abbrev S64 : Shape := ⟨1, ![64]⟩
abbrev S_ : Shape := ⟨0, ![]⟩
abbrev S16x16 : Shape := ⟨2, ![16, 16]⟩
abbrev S16x16x1 : Shape := ⟨3, ![16, 16, 1]⟩
abbrev S1x1x1024 : Shape := ⟨3, ![1, 1, 1024]⟩
abbrev S16 : Shape := ⟨1, ![16]⟩
abbrev S16x16x3072 : Shape := ⟨3, ![16, 16, 3072]⟩
abbrev S16x16x8x2x64 : Shape := ⟨5, ![16, 16, 8, 2, 64]⟩
abbrev S16x16x8x2 : Shape := ⟨4, ![16, 16, 8, 2]⟩
abbrev S16x16x8x2x1 : Shape := ⟨5, ![16, 16, 8, 2, 1]⟩
abbrev S1x1x1x1x64 : Shape := ⟨5, ![1, 1, 1, 1, 64]⟩
abbrev S32 : Shape := ⟨1, ![32]⟩
abbrev S16x1 : Shape := ⟨2, ![16, 1]⟩
abbrev S1x32 : Shape := ⟨2, ![1, 32]⟩
abbrev S16x32 : Shape := ⟨2, ![16, 32]⟩
abbrev S1x16x1x1x32 : Shape := ⟨5, ![1, 16, 1, 1, 32]⟩
abbrev S16x16x8x2x32 : Shape := ⟨5, ![16, 16, 8, 2, 32]⟩
abbrev S16x16x8x128 : Shape := ⟨4, ![16, 16, 8, 128]⟩
abbrev S256x1024 : Shape := ⟨2, ![256, 1024]⟩

abbrev nBuf : Space → Nat
  | .hbm => 135
  | .vmem => 0
  | .smem => 0
  | _ => 0

abbrev hbmTy0_0 (i : Nat) : BufTy := match i % 128 with
  | 0 => ⟨S16x16x1024, .f32⟩
  | 1 => ⟨S1024, .f32⟩
  | 2 => ⟨S1024x3072, .f32⟩
  | 3 => ⟨S64, .f32⟩
  | 4 => ⟨S64, .f32⟩
  | 5 => ⟨S16x16x1024, .f32⟩
  | 6 => ⟨S_, .f32⟩
  | 7 => ⟨S16x16, .f32⟩
  | 8 => ⟨S16x16x1, .f32⟩
  | 9 => ⟨S_, .f32⟩
  | 10 => ⟨S16x16x1, .f32⟩
  | 11 => ⟨S16x16x1, .f32⟩
  | 12 => ⟨S_, .f32⟩
  | 13 => ⟨S16x16x1, .f32⟩
  | 14 => ⟨S16x16x1, .f32⟩
  | 15 => ⟨S16x16x1, .f32⟩
  | 16 => ⟨S16x16x1024, .f32⟩
  | 17 => ⟨S16x16x1024, .f32⟩
  | 18 => ⟨S1x1x1024, .f32⟩
  | 19 => ⟨S16x16x1024, .f32⟩
  | 20 => ⟨S16x16x1024, .f32⟩
  | 21 => ⟨S16, .i32⟩
  | 22 => ⟨S_, .i32⟩
  | 23 => ⟨S16, .i32⟩
  | 24 => ⟨S16, .i32⟩
  | 25 => ⟨S16x16x3072, .f32⟩
  | 26 => ⟨S16x16x1024, .f32⟩
  | 27 => ⟨S16x16x1024, .f32⟩
  | 28 => ⟨S16x16x1024, .f32⟩
  | 29 => ⟨S16x16x8x2x64, .f32⟩
  | 30 => ⟨S16x16x8x2x64, .f32⟩
  | 31 => ⟨S_, .f32⟩
  | 32 => ⟨S16x16x8x2, .f32⟩
  | 33 => ⟨S16x16x8x2x1, .f32⟩
  | 34 => ⟨S_, .f32⟩
  | 35 => ⟨S16x16x8x2x1, .f32⟩
  | 36 => ⟨S16x16x8x2x1, .f32⟩
  | 37 => ⟨S_, .f32⟩
  | 38 => ⟨S16x16x8x2x1, .f32⟩
  | 39 => ⟨S16x16x8x2x1, .f32⟩
  | 40 => ⟨S16x16x8x2x1, .f32⟩
  | 41 => ⟨S16x16x8x2x64, .f32⟩
  | 42 => ⟨S16x16x8x2x64, .f32⟩
  | 43 => ⟨S1x1x1x1x64, .f32⟩
  | 44 => ⟨S16x16x8x2x64, .f32⟩
  | 45 => ⟨S16x16x8x2x64, .f32⟩
  | 46 => ⟨S32, .f32⟩
  | 47 => ⟨S32, .f32⟩
  | 48 => ⟨S_, .f32⟩
  | 49 => ⟨S32, .f32⟩
  | 50 => ⟨S32, .f32⟩
  | 51 => ⟨S_, .f32⟩
  | 52 => ⟨S32, .f32⟩
  | 53 => ⟨S32, .f32⟩
  | 54 => ⟨S16, .f32⟩
  | 55 => ⟨S16x1, .f32⟩
  | 56 => ⟨S1x32, .f32⟩
  | 57 => ⟨S16x32, .f32⟩
  | 58 => ⟨S16x32, .f32⟩
  | 59 => ⟨S16x32, .f32⟩
  | 60 => ⟨S16x32, .f32⟩
  | 61 => ⟨S1x16x1x1x32, .f32⟩
  | 62 => ⟨S16x32, .f32⟩
  | 63 => ⟨S1x16x1x1x32, .f32⟩
  | 64 => ⟨S16x16x8x2x32, .f32⟩
  | 65 => ⟨S16x16x8x2x32, .f32⟩
  | 66 => ⟨S16x16x8x2x32, .f32⟩
  | 67 => ⟨S16x16x8x2x32, .f32⟩
  | 68 => ⟨S16x16x8x2x32, .f32⟩
  | 69 => ⟨S16x16x8x2x32, .f32⟩
  | 70 => ⟨S16x16x8x2x32, .f32⟩
  | 71 => ⟨S16x16x8x2x32, .f32⟩
  | 72 => ⟨S16x16x8x2x32, .f32⟩
  | 73 => ⟨S16x16x8x2x32, .f32⟩
  | 74 => ⟨S16x16x8x2x32, .f32⟩
  | 75 => ⟨S16x16x8x2x32, .f32⟩
  | 76 => ⟨S16x16x8x2x64, .f32⟩
  | 77 => ⟨S16x16x8x2x64, .f32⟩
  | 78 => ⟨S16x16x8x2x64, .f32⟩
  | 79 => ⟨S_, .f32⟩
  | 80 => ⟨S16x16x8x2, .f32⟩
  | 81 => ⟨S16x16x8x2x1, .f32⟩
  | 82 => ⟨S_, .f32⟩
  | 83 => ⟨S16x16x8x2x1, .f32⟩
  | 84 => ⟨S16x16x8x2x1, .f32⟩
  | 85 => ⟨S_, .f32⟩
  | 86 => ⟨S16x16x8x2x1, .f32⟩
  | 87 => ⟨S16x16x8x2x1, .f32⟩
  | 88 => ⟨S16x16x8x2x1, .f32⟩
  | 89 => ⟨S16x16x8x2x64, .f32⟩
  | 90 => ⟨S16x16x8x2x64, .f32⟩
  | 91 => ⟨S1x1x1x1x64, .f32⟩
  | 92 => ⟨S16x16x8x2x64, .f32⟩
  | 93 => ⟨S16x16x8x2x64, .f32⟩
  | 94 => ⟨S32, .f32⟩
  | 95 => ⟨S32, .f32⟩
  | 96 => ⟨S_, .f32⟩
  | 97 => ⟨S32, .f32⟩
  | 98 => ⟨S32, .f32⟩
  | 99 => ⟨S_, .f32⟩
  | 100 => ⟨S32, .f32⟩
  | 101 => ⟨S32, .f32⟩
  | 102 => ⟨S16, .f32⟩
  | 103 => ⟨S16x1, .f32⟩
  | 104 => ⟨S1x32, .f32⟩
  | 105 => ⟨S16x32, .f32⟩
  | 106 => ⟨S16x32, .f32⟩
  | 107 => ⟨S16x32, .f32⟩
  | 108 => ⟨S16x32, .f32⟩
  | 109 => ⟨S1x16x1x1x32, .f32⟩
  | 110 => ⟨S16x32, .f32⟩
  | 111 => ⟨S1x16x1x1x32, .f32⟩
  | 112 => ⟨S16x16x8x2x32, .f32⟩
  | 113 => ⟨S16x16x8x2x32, .f32⟩
  | 114 => ⟨S16x16x8x2x32, .f32⟩
  | 115 => ⟨S16x16x8x2x32, .f32⟩
  | 116 => ⟨S16x16x8x2x32, .f32⟩
  | 117 => ⟨S16x16x8x2x32, .f32⟩
  | 118 => ⟨S16x16x8x2x32, .f32⟩
  | 119 => ⟨S16x16x8x2x32, .f32⟩
  | 120 => ⟨S16x16x8x2x32, .f32⟩
  | 121 => ⟨S16x16x8x2x32, .f32⟩
  | 122 => ⟨S16x16x8x2x32, .f32⟩
  | 123 => ⟨S16x16x8x2x32, .f32⟩
  | 124 => ⟨S16x16x8x2x64, .f32⟩
  | 125 => ⟨S16x16x8x128, .f32⟩
  | 126 => ⟨S_, .f32⟩
  | 127 => ⟨S16x16x8x2x64, .f32⟩
  | _ => ⟨S16x16x1024, .f32⟩

abbrev hbmTy0_1 (i : Nat) : BufTy := match i % 128 with
  | 0 => ⟨S16x16x8x2x64, .f32⟩
  | 1 => ⟨S256x1024, .f32⟩
  | 2 => ⟨S256x1024, .bf16⟩
  | 3 => ⟨S256x1024, .f32⟩
  | 4 => ⟨S256x1024, .bf16⟩
  | 5 => ⟨S256x1024, .f32⟩
  | 6 => ⟨S256x1024, .bf16⟩
  | _ => ⟨S16x16x1024, .f32⟩

abbrev hbmTy (i : Nat) : BufTy := match i / 128 with
  | 0 => hbmTy0_0 i
  | 1 => hbmTy0_1 i
  | _ => ⟨S16x16x1024, .f32⟩

abbrev bufTy : (tb : Table) → Fin (tcTables nBuf tb) → BufTy
  | .hbm, ⟨i, _⟩ => hbmTy i
  | _, _ => ⟨S16x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst_7 : Ref sig .tc := ⟨.hbm, 79, rfl⟩
abbrev main_v65 : Ref sig .tc := ⟨.hbm, 80, rfl⟩
abbrev main_v66 : Ref sig .tc := ⟨.hbm, 81, rfl⟩
abbrev main_cst_8 : Ref sig .tc := ⟨.hbm, 82, rfl⟩
abbrev main_v67 : Ref sig .tc := ⟨.hbm, 83, rfl⟩
abbrev main_v68 : Ref sig .tc := ⟨.hbm, 84, rfl⟩
abbrev main_cst_9 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_cst_10 : Ref sig .tc := ⟨.hbm, 96, rfl⟩
abbrev main_v79 : Ref sig .tc := ⟨.hbm, 97, rfl⟩
abbrev main_v80 : Ref sig .tc := ⟨.hbm, 98, rfl⟩
abbrev main_cst_11 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_cst_12 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩

abbrev nD : Nat := 1
abbrev τ : Topo := Topo.v7x

variable {F : FTy → Type} [FloatOps F]
-- ==== DiffProj.lean ====
abbrev S16x2048x1024 : Shape := ⟨3, ![16, 2048, 1024]⟩
abbrev S1024 : Shape := ⟨1, ![1024]⟩
abbrev S1024x3072 : Shape := ⟨2, ![1024, 3072]⟩
abbrev S64 : Shape := ⟨1, ![64]⟩
abbrev S32768x1024 : Shape := ⟨2, ![32768, 1024]⟩
abbrev S1x1024 : Shape := ⟨2, ![1, 1024]⟩
abbrev S3072x1024 : Shape := ⟨2, ![3072, 1024]⟩
abbrev S1x64 : Shape := ⟨2, ![1, 64]⟩
abbrev S16x64 : Shape := ⟨2, ![16, 64]⟩
abbrev S1024x1 : Shape := ⟨2, ![1024, 1]⟩
abbrev S1024x512 : Shape := ⟨2, ![1024, 512]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S32x2048 : Shape := ⟨2, ![32, 2048]⟩
abbrev S16x1024x2048 : Shape := ⟨3, ![16, 1024, 2048]⟩
abbrev S128x1152x256 : Shape := ⟨3, ![128, 1152, 256]⟩
abbrev S1x16x1024x2048 : Shape := ⟨4, ![1, 16, 1024, 2048]⟩
abbrev S1x262144x128 : Shape := ⟨3, ![1, 262144, 128]⟩
abbrev S512x1024 : Shape := ⟨2, ![512, 1024]⟩
abbrev S32x512 : Shape := ⟨2, ![32, 512]⟩
abbrev S1x1024x512 : Shape := ⟨3, ![1, 1024, 512]⟩
abbrev S2x1152x256 : Shape := ⟨3, ![2, 1152, 256]⟩
abbrev S1x1x1024x512 : Shape := ⟨4, ![1, 1, 1024, 512]⟩
abbrev S1x4096x128 : Shape := ⟨3, ![1, 4096, 128]⟩
abbrev S512 : Shape := ⟨1, ![512]⟩
abbrev S512x1 : Shape := ⟨2, ![512, 1]⟩
abbrev S256x1024 : Shape := ⟨2, ![256, 1024]⟩
abbrev S256x512 : Shape := ⟨2, ![256, 512]⟩
abbrev S64x512 : Shape := ⟨2, ![64, 512]⟩
abbrev S1x512 : Shape := ⟨2, ![1, 512]⟩
abbrev S1x64x512 : Shape := ⟨3, ![1, 64, 512]⟩
abbrev S16x256 : Shape := ⟨2, ![16, 256]⟩
abbrev S128x256 : Shape := ⟨2, ![128, 256]⟩
abbrev S1x128x256 : Shape := ⟨3, ![1, 128, 256]⟩
abbrev S1x16x256 : Shape := ⟨3, ![1, 16, 256]⟩
abbrev S4096x128 : Shape := ⟨2, ![4096, 128]⟩
abbrev S1x16x8x2x64x2048 : Shape := ⟨6, ![1, 16, 8, 2, 64, 2048]⟩
abbrev S1x16x2048x8x2x64 : Shape := ⟨6, ![1, 16, 2048, 8, 2, 64]⟩
abbrev S1x16x2048x8x128 : Shape := ⟨5, ![1, 16, 2048, 8, 128]⟩

abbrev nBuf : Space → Nat
  | .hbm => 47
  | .vmem => 22
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x3072, .f32⟩
  | .hbm, ⟨3, _⟩ => ⟨S64, .f32⟩
  | .hbm, ⟨4, _⟩ => ⟨S64, .f32⟩
  | .hbm, ⟨5, _⟩ => ⟨S32768x1024, .f32⟩
  | .hbm, ⟨6, _⟩ => ⟨S1x1024, .f32⟩
  | .hbm, ⟨7, _⟩ => ⟨S1024x3072, .bf16⟩
  | .hbm, ⟨8, _⟩ => ⟨S3072x1024, .bf16⟩
  | .hbm, ⟨9, _⟩ => ⟨S1x64, .f32⟩
  | .hbm, ⟨10, _⟩ => ⟨S16x64, .f32⟩
  | .hbm, ⟨11, _⟩ => ⟨S1024, .f32⟩
  | .hbm, ⟨12, _⟩ => ⟨S1x1024, .f32⟩
  | .hbm, ⟨13, _⟩ => ⟨S1024x1, .f32⟩
  | .hbm, ⟨14, _⟩ => ⟨S1024x512, .f32⟩
  | .hbm, ⟨15, _⟩ => ⟨S1x64, .f32⟩
  | .hbm, ⟨16, _⟩ => ⟨S16x64, .f32⟩
  | .hbm, ⟨17, _⟩ => ⟨S1024, .f32⟩
  | .hbm, ⟨18, _⟩ => ⟨S1x1024, .f32⟩
  | .hbm, ⟨19, _⟩ => ⟨S1024x1, .f32⟩
  | .hbm, ⟨20, _⟩ => ⟨S1024x512, .f32⟩
  | .hbm, ⟨21, _⟩ => ⟨S2048, .i32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S2048, .f32⟩
  | .hbm, ⟨31, _⟩ => ⟨S2048x1, .f32⟩
  | .hbm, ⟨32, _⟩ => ⟨S1x32, .f32⟩
  | .hbm, ⟨33, _⟩ => ⟨S2048x32, .f32⟩
  | .hbm, ⟨34, _⟩ => ⟨S2048x32, .f32⟩
  | .hbm, ⟨35, _⟩ => ⟨S2048x32, .f32⟩
  | .hbm, ⟨36, _⟩ => ⟨S32x2048, .f32⟩
  | .hbm, ⟨37, _⟩ => ⟨S32x2048, .f32⟩
  | .hbm, ⟨38, _⟩ => ⟨S32x2048, .f32⟩
  | .hbm, ⟨39, _⟩ => ⟨S16x1024x2048, .bf16⟩
  | .hbm, ⟨40, _⟩ => ⟨S32768x1024, .bf16⟩
  | .hbm, ⟨41, _⟩ => ⟨S128x1152x256, .bf16⟩
  | .hbm, ⟨42, _⟩ => ⟨S1x16x1024x2048, .f32⟩
  | .hbm, ⟨43, _⟩ => ⟨S1x262144x128, .f32⟩
  | .hbm, ⟨44, _⟩ => ⟨S1x16x8x2x64x2048, .f32⟩
  | .hbm, ⟨45, _⟩ => ⟨S1x16x2048x8x2x64, .f32⟩
  | .hbm, ⟨46, _⟩ => ⟨S1x16x2048x8x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S3072x1024, .bf16⟩
  | .local _ .vmem, ⟨4, _⟩ => ⟨S1024x512, .f32⟩
  | .local _ .vmem, ⟨5, _⟩ => ⟨S1024x512, .f32⟩
  | .local _ .vmem, ⟨6, _⟩ => ⟨S32x512, .f32⟩
  | .local _ .vmem, ⟨7, _⟩ => ⟨S32x512, .f32⟩
  | .local _ .vmem, ⟨8, _⟩ => ⟨S32x512, .f32⟩
  | .local _ .vmem, ⟨9, _⟩ => ⟨S32x512, .f32⟩
  | .local _ .vmem, ⟨10, _⟩ => ⟨S1x1024x512, .bf16⟩
  | .local _ .vmem, ⟨11, _⟩ => ⟨S1x1024x512, .bf16⟩
  | .local _ .vmem, ⟨12, _⟩ => ⟨S512x1024, .bf16⟩
  | .local _ .vmem, ⟨13, _⟩ => ⟨S512x1024, .bf16⟩
  | .local _ .vmem, ⟨14, _⟩ => ⟨S2x1152x256, .bf16⟩
  | .local _ .vmem, ⟨15, _⟩ => ⟨S2x1152x256, .bf16⟩
  | .local _ .vmem, ⟨16, _⟩ => ⟨S1x1x1024x512, .f32⟩
  | .local _ .vmem, ⟨17, _⟩ => ⟨S1x1x1024x512, .f32⟩
  | .local _ .vmem, ⟨18, _⟩ => ⟨S1x4096x128, .f32⟩
  | .local _ .vmem, ⟨19, _⟩ => ⟨S1x4096x128, .f32⟩
  | .local _ .vmem, ⟨20, _⟩ => ⟨S1024x512, .f32⟩
  | .local _ .vmem, ⟨21, _⟩ => ⟨S1024x512, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32_0 : Ref sig .tc := ⟨.hbm, 39, rfl⟩
abbrev main_v32_1 : Ref sig .tc := ⟨.hbm, 40, rfl⟩
abbrev main_v32_2 : Ref sig .tc := ⟨.hbm, 41, rfl⟩
abbrev main_v32_3 : Ref sig .tc := ⟨.hbm, 42, rfl⟩
abbrev main_v32_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_7 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let v27 : BitVec 32 := Scalar.subi v26 c0_i32_10
  let c0_i32_11 : BitVec 32 := 0#32
  let v28 : BitVec 32 := Scalar.maxsi v27 c0_i32_11
  let c0_i32_12 : BitVec 32 := 0#32
  let c0_i32_13 : BitVec 32 := 0#32
  let c0_i32_14 : BitVec 32 := 0#32
  ![c0_i32_12.toNat, v16.toNat, c0_i32_13.toNat, v28.toNat]

def cc0_transform_11 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let v17 : BitVec 32 := Scalar.muli v16 c4_i32_4
  let c4_i32_5 : BitVec 32 := 4#32
  let c0_i32_6 : BitVec 32 := 0#32
  let v18 : BitVec 1 := Scalar.cmpi .eq c4_i32_5 c0_i32_6
  let c1_i32_7 : BitVec 32 := 1#32
  let v19 : BitVec 32 := Scalar.select v18 c1_i32_7 c4_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let v28 : BitVec 32 := Scalar.subi v27 c0_i32_11
  let c0_i32_12 : BitVec 32 := 0#32
  let v29 : BitVec 32 := Scalar.maxsi v28 c0_i32_12
  let v30 : BitVec 32 := Scalar.addi v17 v29
  let c0_i32_13 : BitVec 32 := 0#32
  let c0_i32_14 : BitVec 32 := 0#32
  let c0_i32_15 : BitVec 32 := 0#32
  ![c0_i32_13.toNat, v30.toNat, c0_i32_14.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x1152x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x4096x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== DiffProjRefIdeal.lean ====
abbrev S16x2048x1024 : Shape := ⟨3, ![16, 2048, 1024]⟩
abbrev S1024 : Shape := ⟨1, ![1024]⟩
abbrev S1024x3072 : Shape := ⟨2, ![1024, 3072]⟩
abbrev S64 : Shape := ⟨1, ![64]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S2048 : Shape := ⟨1, ![2048]⟩
abbrev S16x2048x3072 : Shape := ⟨3, ![16, 2048, 3072]⟩
abbrev S16x2048x8x2x64 : Shape := ⟨5, ![16, 2048, 8, 2, 64]⟩
abbrev S16x2048x8x2 : Shape := ⟨4, ![16, 2048, 8, 2]⟩
abbrev S16x2048x8x2x1 : Shape := ⟨5, ![16, 2048, 8, 2, 1]⟩
abbrev S1x1x1x1x64 : Shape := ⟨5, ![1, 1, 1, 1, 64]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S1x2048x1x1x32 : Shape := ⟨5, ![1, 2048, 1, 1, 32]⟩
abbrev S16x2048x8x2x32 : Shape := ⟨5, ![16, 2048, 8, 2, 32]⟩
abbrev S16x2048x8x128 : Shape := ⟨4, ![16, 2048, 8, 128]⟩
abbrev S16x1024x2048 : Shape := ⟨3, ![16, 1024, 2048]⟩
abbrev S128x256x8x128 : Shape := ⟨4, ![128, 256, 8, 128]⟩
abbrev S128x8x128x256 : Shape := ⟨4, ![128, 8, 128, 256]⟩
abbrev S128x8x16x256 : Shape := ⟨4, ![128, 8, 16, 256]⟩
abbrev S128x8x144x256 : Shape := ⟨4, ![128, 8, 144, 256]⟩
abbrev S128x1152x256 : Shape := ⟨3, ![128, 1152, 256]⟩
abbrev S32768x1024 : Shape := ⟨2, ![32768, 1024]⟩
abbrev S1x16x2048x8x2x64 : Shape := ⟨6, ![1, 16, 2048, 8, 2, 64]⟩
abbrev S1x16x2048x8x128 : Shape := ⟨5, ![1, 16, 2048, 8, 128]⟩

abbrev nBuf : Space → Nat
  | .hbm => 140
  | .vmem => 0
  | .smem => 0
  | _ => 0

abbrev hbmTy0_0 (i : Nat) : BufTy := match i % 128 with
  | 0 => ⟨S16x2048x1024, .f32⟩
  | 1 => ⟨S1024, .f32⟩
  | 2 => ⟨S1024x3072, .f32⟩
  | 3 => ⟨S64, .f32⟩
  | 4 => ⟨S64, .f32⟩
  | 5 => ⟨S16x2048x1024, .f32⟩
  | 6 => ⟨S_, .f32⟩
  | 7 => ⟨S16x2048, .f32⟩
  | 8 => ⟨S16x2048x1, .f32⟩
  | 9 => ⟨S_, .f32⟩
  | 10 => ⟨S16x2048x1, .f32⟩
  | 11 => ⟨S16x2048x1, .f32⟩
  | 12 => ⟨S_, .f32⟩
  | 13 => ⟨S16x2048x1, .f32⟩
  | 14 => ⟨S16x2048x1, .f32⟩
  | 15 => ⟨S16x2048x1, .f32⟩
  | 16 => ⟨S16x2048x1024, .f32⟩
  | 17 => ⟨S16x2048x1024, .f32⟩
  | 18 => ⟨S1x1x1024, .f32⟩
  | 19 => ⟨S16x2048x1024, .f32⟩
  | 20 => ⟨S16x2048x1024, .f32⟩
  | 21 => ⟨S2048, .i32⟩
  | 22 => ⟨S16x2048x3072, .f32⟩
  | 23 => ⟨S16x2048x1024, .f32⟩
  | 24 => ⟨S16x2048x1024, .f32⟩
  | 25 => ⟨S16x2048x1024, .f32⟩
  | 26 => ⟨S16x2048x8x2x64, .f32⟩
  | 27 => ⟨S16x2048x8x2x64, .f32⟩
  | 28 => ⟨S_, .f32⟩
  | 29 => ⟨S16x2048x8x2, .f32⟩
  | 30 => ⟨S16x2048x8x2x1, .f32⟩
  | 31 => ⟨S_, .f32⟩
  | 32 => ⟨S16x2048x8x2x1, .f32⟩
  | 33 => ⟨S16x2048x8x2x1, .f32⟩
  | 34 => ⟨S_, .f32⟩
  | 35 => ⟨S16x2048x8x2x1, .f32⟩
  | 36 => ⟨S16x2048x8x2x1, .f32⟩
  | 37 => ⟨S16x2048x8x2x1, .f32⟩
  | 38 => ⟨S16x2048x8x2x64, .f32⟩
  | 39 => ⟨S16x2048x8x2x64, .f32⟩
  | 40 => ⟨S1x1x1x1x64, .f32⟩
  | 41 => ⟨S16x2048x8x2x64, .f32⟩
  | 42 => ⟨S16x2048x8x2x64, .f32⟩
  | 43 => ⟨S32, .f32⟩
  | 44 => ⟨S32, .f32⟩
  | 45 => ⟨S_, .f32⟩
  | 46 => ⟨S32, .f32⟩
  | 47 => ⟨S32, .f32⟩
  | 48 => ⟨S_, .f32⟩
  | 49 => ⟨S32, .f32⟩
  | 50 => ⟨S32, .f32⟩
  | 51 => ⟨S2048, .f32⟩
  | 52 => ⟨S2048x1, .f32⟩
  | 53 => ⟨S1x32, .f32⟩
  | 54 => ⟨S2048x32, .f32⟩
  | 55 => ⟨S2048x32, .f32⟩
  | 56 => ⟨S2048x32, .f32⟩
  | 57 => ⟨S2048x32, .f32⟩
  | 58 => ⟨S1x2048x1x1x32, .f32⟩
  | 59 => ⟨S2048x32, .f32⟩
  | 60 => ⟨S1x2048x1x1x32, .f32⟩
  | 61 => ⟨S16x2048x8x2x32, .f32⟩
  | 62 => ⟨S16x2048x8x2x32, .f32⟩
  | 63 => ⟨S16x2048x8x2x32, .f32⟩
  | 64 => ⟨S16x2048x8x2x32, .f32⟩
  | 65 => ⟨S16x2048x8x2x32, .f32⟩
  | 66 => ⟨S16x2048x8x2x32, .f32⟩
  | 67 => ⟨S16x2048x8x2x32, .f32⟩
  | 68 => ⟨S16x2048x8x2x32, .f32⟩
  | 69 => ⟨S16x2048x8x2x32, .f32⟩
  | 70 => ⟨S16x2048x8x2x32, .f32⟩
  | 71 => ⟨S16x2048x8x2x32, .f32⟩
  | 72 => ⟨S16x2048x8x2x32, .f32⟩
  | 73 => ⟨S16x2048x8x2x64, .f32⟩
  | 74 => ⟨S16x2048x8x2x64, .f32⟩
  | 75 => ⟨S16x2048x8x2x64, .f32⟩
  | 76 => ⟨S_, .f32⟩
  | 77 => ⟨S16x2048x8x2, .f32⟩
  | 78 => ⟨S16x2048x8x2x1, .f32⟩
  | 79 => ⟨S_, .f32⟩
  | 80 => ⟨S16x2048x8x2x1, .f32⟩
  | 81 => ⟨S16x2048x8x2x1, .f32⟩
  | 82 => ⟨S_, .f32⟩
  | 83 => ⟨S16x2048x8x2x1, .f32⟩
  | 84 => ⟨S16x2048x8x2x1, .f32⟩
  | 85 => ⟨S16x2048x8x2x1, .f32⟩
  | 86 => ⟨S16x2048x8x2x64, .f32⟩
  | 87 => ⟨S16x2048x8x2x64, .f32⟩
  | 88 => ⟨S1x1x1x1x64, .f32⟩
  | 89 => ⟨S16x2048x8x2x64, .f32⟩
  | 90 => ⟨S16x2048x8x2x64, .f32⟩
  | 91 => ⟨S32, .f32⟩
  | 92 => ⟨S32, .f32⟩
  | 93 => ⟨S_, .f32⟩
  | 94 => ⟨S32, .f32⟩
  | 95 => ⟨S32, .f32⟩
  | 96 => ⟨S_, .f32⟩
  | 97 => ⟨S32, .f32⟩
  | 98 => ⟨S32, .f32⟩
  | 99 => ⟨S2048, .f32⟩
  | 100 => ⟨S2048x1, .f32⟩
  | 101 => ⟨S1x32, .f32⟩
  | 102 => ⟨S2048x32, .f32⟩
  | 103 => ⟨S2048x32, .f32⟩
  | 104 => ⟨S2048x32, .f32⟩
  | 105 => ⟨S2048x32, .f32⟩
  | 106 => ⟨S1x2048x1x1x32, .f32⟩
  | 107 => ⟨S2048x32, .f32⟩
  | 108 => ⟨S1x2048x1x1x32, .f32⟩
  | 109 => ⟨S16x2048x8x2x32, .f32⟩
  | 110 => ⟨S16x2048x8x2x32, .f32⟩
  | 111 => ⟨S16x2048x8x2x32, .f32⟩
  | 112 => ⟨S16x2048x8x2x32, .f32⟩
  | 113 => ⟨S16x2048x8x2x32, .f32⟩
  | 114 => ⟨S16x2048x8x2x32, .f32⟩
  | 115 => ⟨S16x2048x8x2x32, .f32⟩
  | 116 => ⟨S16x2048x8x2x32, .f32⟩
  | 117 => ⟨S16x2048x8x2x32, .f32⟩
  | 118 => ⟨S16x2048x8x2x32, .f32⟩
  | 119 => ⟨S16x2048x8x2x32, .f32⟩
  | 120 => ⟨S16x2048x8x2x32, .f32⟩
  | 121 => ⟨S16x2048x8x2x64, .f32⟩
  | 122 => ⟨S16x2048x8x128, .f32⟩
  | 123 => ⟨S_, .f32⟩
  | 124 => ⟨S16x2048x8x2x64, .f32⟩
  | 125 => ⟨S16x2048x8x2x64, .f32⟩
  | 126 => ⟨S16x2048x1024, .f32⟩
  | 127 => ⟨S16x1024x2048, .f32⟩
  | _ => ⟨S16x2048x1024, .f32⟩

abbrev hbmTy0_1 (i : Nat) : BufTy := match i % 128 with
  | 0 => ⟨S128x256x8x128, .f32⟩
  | 1 => ⟨S128x8x128x256, .f32⟩
  | 2 => ⟨S_, .f32⟩
  | 3 => ⟨S128x8x16x256, .f32⟩
  | 4 => ⟨S128x8x144x256, .f32⟩
  | 5 => ⟨S128x1152x256, .f32⟩
  | 6 => ⟨S16x1024x2048, .bf16⟩
  | 7 => ⟨S32768x1024, .f32⟩
  | 8 => ⟨S32768x1024, .bf16⟩
  | 9 => ⟨S128x1152x256, .bf16⟩
  | 10 => ⟨S1x16x2048x8x2x64, .f32⟩
  | 11 => ⟨S1x16x2048x8x128, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_cst_7 : Ref sig .tc := ⟨.hbm, 76, rfl⟩
abbrev main_v63 : Ref sig .tc := ⟨.hbm, 77, rfl⟩
abbrev main_v64 : Ref sig .tc := ⟨.hbm, 78, rfl⟩
abbrev main_cst_8 : Ref sig .tc := ⟨.hbm, 79, rfl⟩
abbrev main_v65 : Ref sig .tc := ⟨.hbm, 80, rfl⟩
abbrev main_v66 : Ref sig .tc := ⟨.hbm, 81, rfl⟩
abbrev main_cst_9 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_cst_10 : Ref sig .tc := ⟨.hbm, 93, rfl⟩
abbrev main_v77 : Ref sig .tc := ⟨.hbm, 94, rfl⟩
abbrev main_v78 : Ref sig .tc := ⟨.hbm, 95, rfl⟩
abbrev main_cst_11 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_cst_12 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_cst_13 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩

abbrev nD : Nat := 1
abbrev τ : Topo := Topo.v7x

variable {F : FTy → Type} [FloatOps F]
-- ==== Proof.MlpBlock.lean ====
/-
  The feed-forward block of the layer, one row at a time: the function both programs compute (`mlpRow`), and the
  proof that the kernel's body leaves it in its output block.

  The body normalises a block of rows once and then walks the 4096 hidden units in eight chunks of 512, adding each
  chunk's contribution to the residual.  Over the reals the eight chunk sums are one sum over the hidden units.
-/
module

public import proofs.«01_k».proof.Defs
public import proofs.«01_k».proof.Proof.Gen.MlpIdeal.Value
public import Idealize.ShloMosaic.Lib.Pointwise

@[expose] public section

set_option maxRecDepth 16384

noncomputable section

open Idealize.ShloMosaic Idealize.ShloMosaic.TcCoe Idealize.SL.Sem

namespace Cert.Layer

/-- A row of 1024 features after the root-mean-square norm with gains `g`. -/
def normRow (x g : Fin 1024 → EReal) (k : Fin 1024) : EReal :=
  x k * Ideal.rsqrt (Ideal.div (∑ l : Fin 1024, x l * x l) (Ideal.ofBits .f32 0x44800000#32) + Ideal.ofBits .f32 0x358637BD#32) * g k

/-- Hidden unit `f` of the feed-forward block: the squared positive part of its product with the normalised row. -/
def hiddenUnit (x g : Fin 1024 → EReal) (w : Fin 1024 → EReal) : EReal :=
  max (∑ k : Fin 1024, normRow x g k * w k) 0 * max (∑ k : Fin 1024, normRow x g k * w k) 0

/-- Feature `c` of a row after the feed-forward block. -/
def mlpRow (x g : Fin 1024 → EReal) (w1 : Fin 1024 → Fin 4096 → EReal) (w2 : Fin 4096 → Fin 1024 → EReal) (c : Fin 1024) : EReal :=
  x c + ∑ f : Fin 4096, hiddenUnit x g (fun k => w1 k f) * w2 f c

/-- Feature `c` of a row after the last layer's feed-forward block and the final norm with gains `gf`. -/
def mlpLastRow (x g : Fin 1024 → EReal) (w1 : Fin 1024 → Fin 4096 → EReal) (w2 : Fin 4096 → Fin 1024 → EReal)
    (gf : Fin 1024 → EReal) (c : Fin 1024) : EReal :=
  normRow (mlpRow x g w1 w2) gf c

/-- A sum of 4096 terms is eight sums of 512, added up in order. -/
theorem sum_eight {M : Type*} [AddCommMonoid M] (f : Fin 4096 → M) (a : M) :
    a + ∑ k : Fin 4096, f k
      = a + (∑ t : Fin 512, f ⟨t.val, by omega⟩) + (∑ t : Fin 512, f ⟨512 + t.val, by omega⟩)
        + (∑ t : Fin 512, f ⟨1024 + t.val, by omega⟩) + (∑ t : Fin 512, f ⟨1536 + t.val, by omega⟩)
        + (∑ t : Fin 512, f ⟨2048 + t.val, by omega⟩) + (∑ t : Fin 512, f ⟨2560 + t.val, by omega⟩)
        + (∑ t : Fin 512, f ⟨3072 + t.val, by omega⟩) + (∑ t : Fin 512, f ⟨3584 + t.val, by omega⟩) := by
  rw [Fin.sum_univ_tiles 8 512 (by norm_num) f, Fin.sum_univ_eight]
  simp only [add_assoc]
  congr 2

end Cert.Layer

namespace Cert.MlpIdeal.RefValue

open Cert.MlpIdeal Cert.MlpIdeal.Gen Cert.Layer

/-- What the body stores, read at row `r` and feature `c` of its block. -/
theorem out_apply (x0 : FVec Ideal S1024x1024 .f32) (x1 : FVec Ideal S1x1024 .f32) (x2 : FVec Ideal S1024x4096 .bf16)
    (x3 : FVec Ideal S4096x1024 .bf16) (x4 : FVec Ideal S1x1024 .f32) (r c : Fin 1024) :
    out0_5 (F := Ideal) x0 x1 x2 x3 x4 (ix2 r c)
      = mlpRow (fun k => x0 (ix2 r k)) (fun k => x1 (ix2 0 k)) (fun k f => x2 (ix2 k f)) (fun f d => x3 (ix2 f d)) c := by
  have hz : (![0, 0] : Fin 2 → Nat) = fun _ => 0 := funext fun a => by fin_cases a <;> rfl
  unfold mlpRow
  rw [sum_eight]
  unfold_out out0_5
  rw [View.canon_unit_zero hz]
  pointwise [k0_pay1, k0_pay2, k0_pay3, k0_pay4, k0_pay5]
  rfl

end Cert.MlpIdeal.RefValue

end
-- ==== Proof.MlpValue.lean ====
/-
  The feed-forward call's result array: every grid point writes the block of 1024 rows it is given, and the 32 blocks
  tile the array, so the array ends holding the feed-forward block of every row.  The reference's result is the same
  function of the same arguments.
-/
module

public import proofs.«01_k».proof.Proof.MlpBlock
public import proofs.«01_k».proof.Proof.Gen.Mlp.Frame
public import proofs.«01_k».proof.Proof.Gen.MlpRefIdeal.Run
public import proofs.«01_k».proof.Proof.Gen.MlpRefIdeal.Read
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.MlpIdeal.RefValue

open Cert.MlpIdeal Cert.MlpIdeal.Gen Cert.Layer

variable (m : (ℓ : Loc nD τ sig) → Buf (Elt Ideal) ℓ)

/-- The feed-forward block of every row of `X`. -/
def mlp (X : FVec Ideal S32768x1024 .f32) (G : FVec Ideal S1024 .f32) (W1 : FVec Ideal S1024x4096 .f32)
    (W2 : FVec Ideal S4096x1024 .f32) : FVec Ideal S32768x1024 .f32 := fun i =>
  mlpRow (fun k => X (ix2 (i 0) k)) (fun k => G (ix1 k)) (fun k f => W1 (ix2 k f)) (fun f d => W2 (ix2 f d)) (i 1)

/-- Where each window's block sits, at every grid point. -/
theorem idx_val : ∀ t : Fin cfg0.N, win0_0.index t = ![t.val, 0] ∧ win0_1.index t = ![0, 0] ∧ win0_2.index t = ![0, 0]
    ∧ win0_3.index t = ![0, 0] ∧ win0_5.index t = ![t.val, 0] := (by decide +kernel : ∀ t : Fin grid0.N, _)

/-- The row block of the residual stream at point `t`. -/
theorem blk0 (c : Dev nD) (t : Fin cfg0.N) (r k : Fin 1024) (i : Fin 32768) (hi : i.val = t.val * 1024 + r.val) :
    iblk m c 0 t (ix2 r k) = m ((c : Thread nD τ).loc main_arg0) (ix2 i k) := by
  blk_ext [iblk, V_main_arg0, idx_val t]

/-- The gains' block is the whole gain vector. -/
theorem blk1 (c : Dev nD) (t : Fin cfg0.N) (k : Fin 1024) :
    iblk m c 1 t (ix2 0 k) = m ((c : Thread nD τ).loc main_arg1) (ix1 k) := by
  blk_simp [iblk]
  entry_read
  pointwise
  blk_ext [idx_val t]

/-- The first weight matrix's block is the whole matrix. -/
theorem blk2 (c : Dev nD) (t : Fin cfg0.N) (k : Fin 1024) (f : Fin 4096) :
    iblk m c 2 t (ix2 k f) = m ((c : Thread nD τ).loc main_arg2) (ix2 k f) := by
  blk_simp [iblk]
  entry_read
  pointwise
  blk_ext [idx_val t]

/-- The second weight matrix's block is the whole matrix. -/
theorem blk3 (c : Dev nD) (t : Fin cfg0.N) (f : Fin 4096) (d : Fin 1024) :
    iblk m c 3 t (ix2 f d) = m ((c : Thread nD τ).loc main_arg3) (ix2 f d) := by
  blk_simp [iblk]
  entry_read
  pointwise
  blk_ext [idx_val t]

/-- What the body stores at an index of its block is the feed-forward block at the array index it sits at. -/
theorem point (c : Dev nD) (t : Fin cfg0.N) (y : S1024x1024.Idx) :
    out0_5 (iblk m c 0 t) (iblk m c 1 t) (iblk m c 2 t) (iblk m c 3 t) (iblk m c 4 t) y
      = mlp (m ((c : Thread nD τ).loc main_arg0)) (m ((c : Thread nD τ).loc main_arg1)) (m ((c : Thread nD τ).loc main_arg2))
          (m ((c : Thread nD τ).loc main_arg3)) (((cfg0.win 5).blk t).view.emb y) := by
  idx_vars y
  have ht : t.val < 32 := lt_of_lt_of_eq t.isLt N_0
  have e : (((cfg0.win 5).blk t).view.emb (ix2 y0 y1) : S32768x1024.Idx) = ix2 ⟨t.val * 1024 + y0.val, by omega⟩ y1 := by
    blk_ext [idx_val t]
  rw [e]
  refine (out_apply _ _ _ _ _ y0 y1).trans ?_
  show mlpRow _ _ _ _ y1 = mlpRow _ _ _ _ y1
  congr 1
  · exact funext fun k => blk0 m c t y0 k _ rfl
  · exact funext fun k => blk1 m c t k
  · exact funext fun k => funext fun f => blk2 m c t k f
  · exact funext fun f => funext fun d => blk3 m c t f d

/-- The result array after the run. -/
theorem final (c : Dev nD) : (dats m 0 c).arrAt 5 (cfgs 0).N
    = mlp (m ((c : Thread nD τ).loc main_arg0)) (m ((c : Thread nD τ).loc main_arg1)) (m ((c : Thread nD τ).loc main_arg2))
          (m ((c : Thread nD τ).loc main_arg3)) := by
  refine (dats m 0 c).arrAt_eq_of_covers 5 _ (by decide +kernel) fun t _ y => ?_
  blk_simp
  rw [after0_5]
  exact point m c t y

end Cert.MlpIdeal.RefValue

namespace Cert.MlpRefIdeal.RefValue

open Cert.MlpRefIdeal Cert.MlpRefIdeal.Gen Cert.Layer

/-- The reference's result is the feed-forward block of every row. -/
theorem ref_eq (X : FVec Ideal S32768x1024 .f32) (G : FVec Ideal S1024 .f32) (W1 : FVec Ideal S1024x4096 .f32)
    (W2 : FVec Ideal S4096x1024 .f32) : Read.val_main_v17 (F := Ideal) X G W1 W2
    = Cert.MlpIdeal.RefValue.mlp X G W1 W2 := by
  funext i
  idx_vars i
  unfold Cert.MlpIdeal.RefValue.mlp mlpRow hiddenUnit normRow
  pointwise [Read.val_main_v17, Read.val_main_v16, Read.val_main_v15, Read.val_main_v14, Read.val_main_v13, Read.val_main_v12,
    Read.val_main_v11, Read.val_main_v10, Read.val_main_v9, Read.val_main_v8, Read.val_main_v7, Read.val_main_v6, Read.val_main_v5,
    Read.val_main_v4, Read.val_main_v3, Read.val_main_v2, Read.val_main_v1, Read.val_main_v0,
    Read.val_main_cst, Read.val_main_cst_0, Read.val_main_cst_1, Read.val_main_call0_cst, Read.val_main_call0_v0, zero_add]

end Cert.MlpRefIdeal.RefValue

namespace Cert.Proof.MlpClaims

/-- The frames: every run ends, leaves the arguments as they were and no semaphore raised. -/
theorem frame_k : Cert.quiescent_Mlp := fun m ρ _ => Cert.Mlp.Gen.frame m ρ
theorem frame_i : Cert.quiescent_MlpIdeal := fun m ρ _ => Cert.MlpIdeal.Gen.frame m ρ
theorem frame_r : Cert.quiescent_MlpRefIdeal := fun m ρ _ =>
  (θ_run Cert.MlpRefIdeal.defs _ _).mono (fun r h => ⟨fun c => (h c).2, Idealize.ShloMosaic.sem_eq_zero_of_no_sems (by decide) r.2⟩)
    (Cert.MlpRefIdeal.Value.run (F := Ideal) m ρ)

/-- The kernel and the reference compute the same function of the same arguments. -/
theorem algebraic : Cert.algebraic_MlpIdeal_MlpRefIdeal := by
  intro m ρ m' ρ' _ hag
  refine ⟨fun c => Cert.MlpIdeal.RefValue.mlp (m ((c.tc : Thread _ _).loc Cert.MlpIdeal.main_arg0)) (m ((c.tc : Thread _ _).loc Cert.MlpIdeal.main_arg1)) (m ((c.tc : Thread _ _).loc Cert.MlpIdeal.main_arg2))
    (m ((c.tc : Thread _ _).loc Cert.MlpIdeal.main_arg3)), ?_, ?_⟩
  · exact (θ_run Cert.MlpIdeal.defs _ _).mono (fun _ h c => ⟨(h c).1.trans (Cert.MlpIdeal.RefValue.final m c), (h c).2⟩)
      (Cert.MlpIdeal.Value.run_blocks (F := Ideal) m ρ)
  · refine (θ_run Cert.MlpRefIdeal.defs _ _).mono (fun _ h c => ⟨(h c).1.trans ?_, (h c).2⟩)
      (Cert.MlpRefIdeal.Value.run (F := Ideal) m' ρ')
    rw [Cert.MlpRefIdeal.Read.val_main_v17_eq, Cert.MlpRefIdeal.RefValue.ref_eq, (hag c).1, (hag c).2.1, (hag c).2.2.1, (hag c).2.2.2.1]

end Cert.Proof.MlpClaims

end
-- ==== Proof.MlpLastValue.lean ====
/-
  The last layer's feed-forward call on the prompt's 32768 rows: it is the feed-forward block followed by the model's final
  norm.  The body's store, the result array and the reference's result are all `mlpLastRow` of every row.
-/
module

public import proofs.«01_k».proof.Proof.MlpBlock
public import proofs.«01_k».proof.Proof.Gen.MlpLast.Frame
public import proofs.«01_k».proof.Proof.Gen.MlpLastIdeal.Value
public import proofs.«01_k».proof.Proof.Gen.MlpLastRefIdeal.Run
public import proofs.«01_k».proof.Proof.Gen.MlpLastRefIdeal.Read
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.MlpLastIdeal.RefValue

open Cert.MlpLastIdeal Cert.MlpLastIdeal.Gen Cert.Layer

/-- The value the body normalises at the end, at row `r` and feature `c` of its block: the feed-forward block. -/
theorem acc_apply (x0 : FVec Ideal S1024x1024 .f32) (x1 : FVec Ideal S1x1024 .f32) (x2 : FVec Ideal S1024x4096 .bf16)
    (x3 : FVec Ideal S4096x1024 .bf16) (x4 : FVec Ideal S1x1024 .f32) (r : Fin 1024) (c : Fin 1024) :
    k0_pay6 (F := Ideal) (k0_pay9 x0 x1 x2 x3 x4) (k0_pay10 x0 x1 x2 x3 x4) (k0_pay11 x0 x1 x2 x3 x4) (View.ld x3 r0_13)
        (View.ld x2 r0_14) (View.ld x3 r0_15) (View.ld x2 r0_16) (View.ld x3 r0_17) (ix2 r c)
      = mlpRow (fun k => x0 (ix2 r k)) (fun k => x1 (ix2 0 k)) (fun k f => x2 (ix2 k f)) (fun f d => x3 (ix2 f d)) c := by
  unfold mlpRow
  rw [sum_eight]
  unfold k0_pay11 k0_pay10 k0_pay9
  pointwise [k0_pay2, k0_pay3, k0_pay4, k0_pay5, k0_pay6]
  rfl

/-- What the body stores: that block after the final norm. -/
theorem out_apply (x0 : FVec Ideal S1024x1024 .f32) (x1 : FVec Ideal S1x1024 .f32) (x2 : FVec Ideal S1024x4096 .bf16)
    (x3 : FVec Ideal S4096x1024 .bf16) (x4 : FVec Ideal S1x1024 .f32) (r : Fin 1024) (c : Fin 1024) :
    out0_5 (F := Ideal) x0 x1 x2 x3 x4 (ix2 r c)
      = mlpLastRow (fun k => x0 (ix2 r k)) (fun k => x1 (ix2 0 k)) (fun k f => x2 (ix2 k f)) (fun f d => x3 (ix2 f d))
          (fun k => x4 (ix2 0 k)) c := by
  have hz : (![0, 0] : Fin 2 → Nat) = fun _ => 0 := funext fun a => by fin_cases a <;> rfl
  unfold out0_5
  rw [View.canon_unit_zero hz]
  pointwise [k0_pay1, k0_pay7, k0_pay8]
  simp only [acc_apply]
  rfl

variable (m : (ℓ : Loc nD τ sig) → Buf (Elt Ideal) ℓ)

/-- The feed-forward block of every row of `X`, after the final norm. -/
def mlpLast (X : FVec Ideal S32768x1024 .f32) (G : FVec Ideal S1024 .f32) (W1 : FVec Ideal S1024x4096 .f32)
    (W2 : FVec Ideal S4096x1024 .f32) (GF : FVec Ideal S1024 .f32) : FVec Ideal S32768x1024 .f32 := fun i =>
  mlpLastRow (fun k => X (ix2 (i 0) k)) (fun k => G (ix1 k)) (fun k f => W1 (ix2 k f)) (fun f d => W2 (ix2 f d))
    (fun k => GF (ix1 k)) (i 1)

/-- Where each window's block sits, at every grid point. -/
theorem idx_val : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, _)

/-- The row block of the residual stream at point `t`. -/
theorem blk0 (c : Dev nD) (t : Fin cfg0.N) (r : Fin 1024) (k : Fin 1024) (i : Fin 32768) (hi : i.val = t.val * 1024 + r.val) :
    iblk m c 0 t (ix2 r k) = m ((c : Thread nD τ).loc main_arg0) (ix2 i k) := by
  blk_ext [iblk, V_main_arg0, idx_val t]

/-- The gains' block is the whole gain vector. -/
theorem blk1 (c : Dev nD) (t : Fin cfg0.N) (k : Fin 1024) :
    iblk m c 1 t (ix2 0 k) = m ((c : Thread nD τ).loc main_arg1) (ix1 k) := by
  blk_simp [iblk]
  entry_read
  pointwise
  blk_ext [idx_val t]

/-- The weights' blocks are the whole matrices. -/
theorem blk2 (c : Dev nD) (t : Fin cfg0.N) (k : Fin 1024) (f : Fin 4096) :
    iblk m c 2 t (ix2 k f) = m ((c : Thread nD τ).loc main_arg2) (ix2 k f) := by
  blk_simp [iblk]
  entry_read
  pointwise
  blk_ext [idx_val t]

theorem blk3 (c : Dev nD) (t : Fin cfg0.N) (f : Fin 4096) (d : Fin 1024) :
    iblk m c 3 t (ix2 f d) = m ((c : Thread nD τ).loc main_arg3) (ix2 f d) := by
  blk_simp [iblk]
  entry_read
  pointwise
  blk_ext [idx_val t]

/-- The final norm's gains. -/
theorem blk4 (c : Dev nD) (t : Fin cfg0.N) (k : Fin 1024) :
    iblk m c 4 t (ix2 0 k) = m ((c : Thread nD τ).loc main_arg4) (ix1 k) := by
  blk_simp [iblk]
  entry_read
  pointwise
  blk_ext [idx_val t]

/-- What the body stores at an index of its block is the function at the array index it sits at. -/
theorem point (c : Dev nD) (t : Fin cfg0.N) (y : S1024x1024.Idx) :
    out0_5 (iblk m c 0 t) (iblk m c 1 t) (iblk m c 2 t) (iblk m c 3 t) (iblk m c 4 t) y
      = mlpLast (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 5).blk t).view.emb y) := by
  idx_vars y
  have ht : t.val < 32 := lt_of_lt_of_eq t.isLt N_0
  have e : (((cfg0.win 5).blk t).view.emb (ix2 y0 y1) : S32768x1024.Idx) = ix2 ⟨t.val * 1024 + y0.val, by omega⟩ y1 := by
    blk_ext [idx_val t]
  rw [e]
  refine (out_apply _ _ _ _ _ y0 y1).trans ?_
  show mlpLastRow _ _ _ _ _ y1 = mlpLastRow _ _ _ _ _ y1
  congr 1
  · exact funext fun k => blk0 m c t y0 k _ rfl
  · exact funext fun k => blk1 m c t k
  · exact funext fun k => funext fun f => blk2 m c t k f
  · exact funext fun f => funext fun d => blk3 m c t f d
  · exact funext fun k => blk4 m c t k

/-- The result array after the run. -/
theorem final (c : Dev nD) : (dats m 0 c).arrAt 5 (cfgs 0).N
    = mlpLast (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 5 _ (by decide +kernel) fun t _ y => ?_
  blk_simp
  rw [after0_5]
  exact point m c t y

end Cert.MlpLastIdeal.RefValue

namespace Cert.MlpLastRefIdeal.RefValue

open Cert.MlpLastRefIdeal Cert.MlpLastRefIdeal.Gen Cert.Layer

/-- The value the reference normalises at the end is the feed-forward block. -/
theorem acc_apply (X : FVec Ideal S32768x1024 .f32) (G : FVec Ideal S1024 .f32) (W1 : FVec Ideal S1024x4096 .f32)
    (W2 : FVec Ideal S4096x1024 .f32) (r : Fin 32768) (c : Fin 1024) : Read.val_main_v17 (F := Ideal) X G W1 W2 (ix2 r c)
    = mlpRow (fun k => X (ix2 r k)) (fun k => G (ix1 k)) (fun k f => W1 (ix2 k f)) (fun f d => W2 (ix2 f d)) c := by
  unfold mlpRow hiddenUnit normRow
  pointwise [Read.val_main_v17, Read.val_main_v16, Read.val_main_v15, Read.val_main_v14, Read.val_main_v13, Read.val_main_v12,
    Read.val_main_v11, Read.val_main_v10, Read.val_main_v9, Read.val_main_v8, Read.val_main_v7, Read.val_main_v6, Read.val_main_v5,
    Read.val_main_v4, Read.val_main_v3, Read.val_main_v2, Read.val_main_v1, Read.val_main_v0,
    Read.val_main_cst, Read.val_main_cst_0, Read.val_main_cst_1, Read.val_main_call0_cst, Read.val_main_call0_v0, zero_add]

/-- The reference's result is the same function. -/
theorem ref_eq (X : FVec Ideal S32768x1024 .f32) (G : FVec Ideal S1024 .f32) (W1 : FVec Ideal S1024x4096 .f32)
    (W2 : FVec Ideal S4096x1024 .f32) (GF : FVec Ideal S1024 .f32) : Read.val_main_v30 (F := Ideal) X G W1 W2 GF
    = Cert.MlpLastIdeal.RefValue.mlpLast X G W1 W2 GF := by
  funext i
  idx_vars i
  unfold Cert.MlpLastIdeal.RefValue.mlpLast mlpLastRow normRow
  pointwise [Read.val_main_v30, Read.val_main_v29, Read.val_main_v28, Read.val_main_v27, Read.val_main_v26, Read.val_main_v25,
    Read.val_main_v24, Read.val_main_v23, Read.val_main_v22, Read.val_main_v21, Read.val_main_v20, Read.val_main_v19,
    Read.val_main_v18, Read.val_main_cst_2, Read.val_main_cst_3, Read.val_main_cst_4, zero_add, acc_apply]

end Cert.MlpLastRefIdeal.RefValue

namespace Cert.Proof.MlpLastClaims

/-- The frames: every run ends, leaves the arguments as they were and no semaphore raised. -/
theorem frame_k : Cert.quiescent_MlpLast := fun m ρ _ => Cert.MlpLast.Gen.frame m ρ
theorem frame_i : Cert.quiescent_MlpLastIdeal := fun m ρ _ => Cert.MlpLastIdeal.Gen.frame m ρ
theorem frame_r : Cert.quiescent_MlpLastRefIdeal := fun m ρ _ =>
  (θ_run Cert.MlpLastRefIdeal.defs _ _).mono (fun r h => ⟨fun c => (h c).2, Idealize.ShloMosaic.sem_eq_zero_of_no_sems (by decide) r.2⟩)
    (Cert.MlpLastRefIdeal.Value.run (F := Ideal) m ρ)

/-- The kernel and the reference compute the same function of the same arguments. -/
theorem algebraic : Cert.algebraic_MlpLastIdeal_MlpLastRefIdeal := by
  intro m ρ m' ρ' _ hag
  refine ⟨fun c => Cert.MlpLastIdeal.RefValue.mlpLast (m ((c.tc : Thread _ _).loc Cert.MlpLastIdeal.main_arg0))
    (m ((c.tc : Thread _ _).loc Cert.MlpLastIdeal.main_arg1)) (m ((c.tc : Thread _ _).loc Cert.MlpLastIdeal.main_arg2))
    (m ((c.tc : Thread _ _).loc Cert.MlpLastIdeal.main_arg3)) (m ((c.tc : Thread _ _).loc Cert.MlpLastIdeal.main_arg4)), ?_, ?_⟩
  · exact (θ_run Cert.MlpLastIdeal.defs _ _).mono (fun _ h c => ⟨(h c).1.trans (Cert.MlpLastIdeal.RefValue.final m c), (h c).2⟩)
      (Cert.MlpLastIdeal.Value.run_blocks (F := Ideal) m ρ)
  · refine (θ_run Cert.MlpLastRefIdeal.defs _ _).mono (fun _ h c => ⟨(h c).1.trans ?_, (h c).2⟩)
      (Cert.MlpLastRefIdeal.Value.run (F := Ideal) m' ρ')
    rw [Cert.MlpLastRefIdeal.Read.val_main_v30_eq, Cert.MlpLastRefIdeal.RefValue.ref_eq, (hag c).1, (hag c).2.1, (hag c).2.2.1,
      (hag c).2.2.2.1, (hag c).2.2.2.2]

end Cert.Proof.MlpLastClaims

end
-- ==== Proof.MlpSampleValue.lean ====
/-
  The last layer's feed-forward call on the sample's 256 rows: it is the feed-forward block followed by the model's final
  norm.  The body's store, the result array and the reference's result are all `mlpLastRow` of every row.
-/
module

public import proofs.«01_k».proof.Proof.MlpBlock
public import proofs.«01_k».proof.Proof.Gen.MlpSample.Frame
public import proofs.«01_k».proof.Proof.Gen.MlpSampleIdeal.Value
public import proofs.«01_k».proof.Proof.Gen.MlpSampleRefIdeal.Run
public import proofs.«01_k».proof.Proof.Gen.MlpSampleRefIdeal.Read
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.MlpSampleIdeal.RefValue

open Cert.MlpSampleIdeal Cert.MlpSampleIdeal.Gen Cert.Layer

/-- The value the body normalises at the end, at row `r` and feature `c` of its block: the feed-forward block. -/
theorem acc_apply (x0 : FVec Ideal S256x1024 .f32) (x1 : FVec Ideal S1x1024 .f32) (x2 : FVec Ideal S1024x4096 .bf16)
    (x3 : FVec Ideal S4096x1024 .bf16) (x4 : FVec Ideal S1x1024 .f32) (r : Fin 256) (c : Fin 1024) :
    k0_pay6 (F := Ideal) (k0_pay9 x0 x1 x2 x3 x4) (k0_pay10 x0 x1 x2 x3 x4) (k0_pay11 x0 x1 x2 x3 x4) (View.ld x3 r0_13)
        (View.ld x2 r0_14) (View.ld x3 r0_15) (View.ld x2 r0_16) (View.ld x3 r0_17) (ix2 r c)
      = mlpRow (fun k => x0 (ix2 r k)) (fun k => x1 (ix2 0 k)) (fun k f => x2 (ix2 k f)) (fun f d => x3 (ix2 f d)) c := by
  unfold mlpRow
  rw [sum_eight]
  unfold k0_pay11 k0_pay10 k0_pay9
  pointwise [k0_pay2, k0_pay3, k0_pay4, k0_pay5, k0_pay6]
  rfl

/-- What the body stores: that block after the final norm. -/
theorem out_apply (x0 : FVec Ideal S256x1024 .f32) (x1 : FVec Ideal S1x1024 .f32) (x2 : FVec Ideal S1024x4096 .bf16)
    (x3 : FVec Ideal S4096x1024 .bf16) (x4 : FVec Ideal S1x1024 .f32) (r : Fin 256) (c : Fin 1024) :
    out0_5 (F := Ideal) x0 x1 x2 x3 x4 (ix2 r c)
      = mlpLastRow (fun k => x0 (ix2 r k)) (fun k => x1 (ix2 0 k)) (fun k f => x2 (ix2 k f)) (fun f d => x3 (ix2 f d))
          (fun k => x4 (ix2 0 k)) c := by
  have hz : (![0, 0] : Fin 2 → Nat) = fun _ => 0 := funext fun a => by fin_cases a <;> rfl
  unfold out0_5
  rw [View.canon_unit_zero hz]
  pointwise [k0_pay1, k0_pay7, k0_pay8]
  simp only [acc_apply]
  rfl

variable (m : (ℓ : Loc nD τ sig) → Buf (Elt Ideal) ℓ)

/-- The feed-forward block of every row of `X`, after the final norm. -/
def mlpLast (X : FVec Ideal S256x1024 .f32) (G : FVec Ideal S1024 .f32) (W1 : FVec Ideal S1024x4096 .f32)
    (W2 : FVec Ideal S4096x1024 .f32) (GF : FVec Ideal S1024 .f32) : FVec Ideal S256x1024 .f32 := fun i =>
  mlpLastRow (fun k => X (ix2 (i 0) k)) (fun k => G (ix1 k)) (fun k f => W1 (ix2 k f)) (fun f d => W2 (ix2 f d))
    (fun k => GF (ix1 k)) (i 1)

/-- Where each window's block sits, at every grid point. -/
theorem idx_val : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, _)

/-- The row block of the residual stream at point `t`. -/
theorem blk0 (c : Dev nD) (t : Fin cfg0.N) (r : Fin 256) (k : Fin 1024) (i : Fin 256) (hi : i.val = t.val * 256 + r.val) :
    iblk m c 0 t (ix2 r k) = m ((c : Thread nD τ).loc main_arg0) (ix2 i k) := by
  blk_ext [iblk, V_main_arg0, idx_val t]

/-- The gains' block is the whole gain vector. -/
theorem blk1 (c : Dev nD) (t : Fin cfg0.N) (k : Fin 1024) :
    iblk m c 1 t (ix2 0 k) = m ((c : Thread nD τ).loc main_arg1) (ix1 k) := by
  blk_simp [iblk]
  entry_read
  pointwise
  blk_ext [idx_val t]

/-- The weights' blocks are the whole matrices. -/
theorem blk2 (c : Dev nD) (t : Fin cfg0.N) (k : Fin 1024) (f : Fin 4096) :
    iblk m c 2 t (ix2 k f) = m ((c : Thread nD τ).loc main_arg2) (ix2 k f) := by
  blk_simp [iblk]
  entry_read
  pointwise
  blk_ext [idx_val t]

theorem blk3 (c : Dev nD) (t : Fin cfg0.N) (f : Fin 4096) (d : Fin 1024) :
    iblk m c 3 t (ix2 f d) = m ((c : Thread nD τ).loc main_arg3) (ix2 f d) := by
  blk_simp [iblk]
  entry_read
  pointwise
  blk_ext [idx_val t]

/-- The final norm's gains. -/
theorem blk4 (c : Dev nD) (t : Fin cfg0.N) (k : Fin 1024) :
    iblk m c 4 t (ix2 0 k) = m ((c : Thread nD τ).loc main_arg4) (ix1 k) := by
  blk_simp [iblk]
  entry_read
  pointwise
  blk_ext [idx_val t]

/-- What the body stores at an index of its block is the function at the array index it sits at. -/
theorem point (c : Dev nD) (t : Fin cfg0.N) (y : S256x1024.Idx) :
    out0_5 (iblk m c 0 t) (iblk m c 1 t) (iblk m c 2 t) (iblk m c 3 t) (iblk m c 4 t) y
      = mlpLast (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 5).blk t).view.emb y) := by
  idx_vars y
  have ht : t.val < 1 := lt_of_lt_of_eq t.isLt N_0
  have e : (((cfg0.win 5).blk t).view.emb (ix2 y0 y1) : S256x1024.Idx) = ix2 ⟨t.val * 256 + y0.val, by omega⟩ y1 := by
    blk_ext [idx_val t]
  rw [e]
  refine (out_apply _ _ _ _ _ y0 y1).trans ?_
  show mlpLastRow _ _ _ _ _ y1 = mlpLastRow _ _ _ _ _ y1
  congr 1
  · exact funext fun k => blk0 m c t y0 k _ rfl
  · exact funext fun k => blk1 m c t k
  · exact funext fun k => funext fun f => blk2 m c t k f
  · exact funext fun f => funext fun d => blk3 m c t f d
  · exact funext fun k => blk4 m c t k

/-- The result array after the run. -/
theorem final (c : Dev nD) : (dats m 0 c).arrAt 5 (cfgs 0).N
    = mlpLast (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 5 _ (by decide +kernel) fun t _ y => ?_
  blk_simp
  rw [after0_5]
  exact point m c t y

end Cert.MlpSampleIdeal.RefValue

namespace Cert.MlpSampleRefIdeal.RefValue

open Cert.MlpSampleRefIdeal Cert.MlpSampleRefIdeal.Gen Cert.Layer

/-- The value the reference normalises at the end is the feed-forward block. -/
theorem acc_apply (X : FVec Ideal S256x1024 .f32) (G : FVec Ideal S1024 .f32) (W1 : FVec Ideal S1024x4096 .f32)
    (W2 : FVec Ideal S4096x1024 .f32) (r : Fin 256) (c : Fin 1024) : Read.val_main_v17 (F := Ideal) X G W1 W2 (ix2 r c)
    = mlpRow (fun k => X (ix2 r k)) (fun k => G (ix1 k)) (fun k f => W1 (ix2 k f)) (fun f d => W2 (ix2 f d)) c := by
  unfold mlpRow hiddenUnit normRow
  pointwise [Read.val_main_v17, Read.val_main_v16, Read.val_main_v15, Read.val_main_v14, Read.val_main_v13, Read.val_main_v12,
    Read.val_main_v11, Read.val_main_v10, Read.val_main_v9, Read.val_main_v8, Read.val_main_v7, Read.val_main_v6, Read.val_main_v5,
    Read.val_main_v4, Read.val_main_v3, Read.val_main_v2, Read.val_main_v1, Read.val_main_v0,
    Read.val_main_cst, Read.val_main_cst_0, Read.val_main_cst_1, Read.val_main_call0_cst, Read.val_main_call0_v0, zero_add]

/-- The reference's result is the same function. -/
theorem ref_eq (X : FVec Ideal S256x1024 .f32) (G : FVec Ideal S1024 .f32) (W1 : FVec Ideal S1024x4096 .f32)
    (W2 : FVec Ideal S4096x1024 .f32) (GF : FVec Ideal S1024 .f32) : Read.val_main_v30 (F := Ideal) X G W1 W2 GF
    = Cert.MlpSampleIdeal.RefValue.mlpLast X G W1 W2 GF := by
  funext i
  idx_vars i
  unfold Cert.MlpSampleIdeal.RefValue.mlpLast mlpLastRow normRow
  pointwise [Read.val_main_v30, Read.val_main_v29, Read.val_main_v28, Read.val_main_v27, Read.val_main_v26, Read.val_main_v25,
    Read.val_main_v24, Read.val_main_v23, Read.val_main_v22, Read.val_main_v21, Read.val_main_v20, Read.val_main_v19,
    Read.val_main_v18, Read.val_main_cst_2, Read.val_main_cst_3, Read.val_main_cst_4, zero_add, acc_apply]

end Cert.MlpSampleRefIdeal.RefValue

namespace Cert.Proof.MlpSampleClaims

/-- The frames: every run ends, leaves the arguments as they were and no semaphore raised. -/
theorem frame_k : Cert.quiescent_MlpSample := fun m ρ _ => Cert.MlpSample.Gen.frame m ρ
theorem frame_i : Cert.quiescent_MlpSampleIdeal := fun m ρ _ => Cert.MlpSampleIdeal.Gen.frame m ρ
theorem frame_r : Cert.quiescent_MlpSampleRefIdeal := fun m ρ _ =>
  (θ_run Cert.MlpSampleRefIdeal.defs _ _).mono (fun r h => ⟨fun c => (h c).2, Idealize.ShloMosaic.sem_eq_zero_of_no_sems (by decide) r.2⟩)
    (Cert.MlpSampleRefIdeal.Value.run (F := Ideal) m ρ)

/-- The kernel and the reference compute the same function of the same arguments. -/
theorem algebraic : Cert.algebraic_MlpSampleIdeal_MlpSampleRefIdeal := by
  intro m ρ m' ρ' _ hag
  refine ⟨fun c => Cert.MlpSampleIdeal.RefValue.mlpLast (m ((c.tc : Thread _ _).loc Cert.MlpSampleIdeal.main_arg0))
    (m ((c.tc : Thread _ _).loc Cert.MlpSampleIdeal.main_arg1)) (m ((c.tc : Thread _ _).loc Cert.MlpSampleIdeal.main_arg2))
    (m ((c.tc : Thread _ _).loc Cert.MlpSampleIdeal.main_arg3)) (m ((c.tc : Thread _ _).loc Cert.MlpSampleIdeal.main_arg4)), ?_, ?_⟩
  · exact (θ_run Cert.MlpSampleIdeal.defs _ _).mono (fun _ h c => ⟨(h c).1.trans (Cert.MlpSampleIdeal.RefValue.final m c), (h c).2⟩)
      (Cert.MlpSampleIdeal.Value.run_blocks (F := Ideal) m ρ)
  · refine (θ_run Cert.MlpSampleRefIdeal.defs _ _).mono (fun _ h c => ⟨(h c).1.trans ?_, (h c).2⟩)
      (Cert.MlpSampleRefIdeal.Value.run (F := Ideal) m' ρ')
    rw [Cert.MlpSampleRefIdeal.Read.val_main_v30_eq, Cert.MlpSampleRefIdeal.RefValue.ref_eq, (hag c).1, (hag c).2.1, (hag c).2.2.1,
      (hag c).2.2.2.1, (hag c).2.2.2.2]

end Cert.Proof.MlpSampleClaims

end
-- ==== Proof.RgMath.lean ====
/-
  The scalar mathematics of the gated linear recurrence: the two forms of gelu agree, the softplus is not negative,
  the decay lies between 0 and 1, and the two forms of the input's scale agree.
-/
module

public import Idealize.ShloMosaic.Lib.Pointwise

@[expose] public section

noncomputable section

open Idealize.ShloMosaic

namespace Cert.Layer

/-- The tanh form's two constants, as float32 holds √(2/π) and 0.044715. -/
def geluRoot : ℝ := 6693141 / 8388608
def geluCube : ℝ := 12003091 / 268435456

theorem ofBits_root : Ideal.ofBits .f32 0x3F4C422A#32 = (geluRoot : EReal) := by
  simp [Ideal.ofBits, Ideal.ieee, geluRoot, -EReal.coe_mul]; norm_num
theorem ofBits_cube : Ideal.ofBits .f32 0x3D372713#32 = (geluCube : EReal) := by
  simp [Ideal.ofBits, Ideal.ieee, geluCube, -EReal.coe_mul]; norm_num
theorem ofBits_half : Ideal.ofBits .f32 0x3F000000#32 = ((1 / 2 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_neg_eight : Ideal.ofBits .f32 0xC1000000#32 = ((-8 : ℝ) : EReal) := by
  simp [Ideal.ofBits, Ideal.ieee, -EReal.coe_mul]; norm_num

/-- The base-2 form's two constants. -/
def geluExp : ℝ := (-6693141 / 4194304) * (Real.log 2)⁻¹
def geluExpCube : ℝ := (12003091 / 268435456) * ((-6693141 / 4194304) * (Real.log 2)⁻¹)

theorem geluExp_neg : geluExp < 0 := by
  unfold geluExp
  exact mul_neg_of_neg_of_pos (by norm_num) (inv_pos.mpr (Real.log_pos (by norm_num)))

theorem geluExpCube_neg : geluExpCube < 0 :=
  mul_neg_of_pos_of_neg (by norm_num) geluExp_neg

/-- gelu with one exponential to base 2. -/
def gelu (v : EReal) : EReal :=
  Ideal.div v (1 + Ideal.exp2 (v * ((geluExp : EReal) + (geluExpCube : EReal) * (v * v))))

theorem gelu_real (x : ℝ) : x / (1 + (2 : ℝ) ^ (x * (geluExp + geluExpCube * (x * x))))
    = x * (1 / 2 * (1 + Real.tanh (geluRoot * (x + geluCube * (x * x * x))))) := by
  have hl : Real.log 2 ≠ 0 := (Real.log_pos (by norm_num)).ne'
  have e : (2 : ℝ) ^ (x * (geluExp + geluExpCube * (x * x)))
      = Real.exp (-(2 * (geluRoot * (x + geluCube * (x * x * x))))) := by
    rw [Real.rpow_def_of_pos (by norm_num)]
    congr 1
    unfold geluExp geluExpCube geluRoot geluCube
    field_simp
    ring
  rw [e]
  generalize geluRoot * (x + geluCube * (x * x * x)) = w
  have h1 : Real.exp (-(2 * w)) = Real.exp (-w) * Real.exp (-w) := by rw [← Real.exp_add]; congr 1; ring
  have h2 : Real.exp w * Real.exp (-w) = 1 := by rw [← Real.exp_add]; simp
  have p1 := Real.exp_pos w
  have p2 := Real.exp_pos (-w)
  rw [Real.tanh_eq_sinh_div_cosh, Real.sinh_eq, Real.cosh_eq, h1]
  generalize Real.exp (-w) = q at *
  generalize Real.exp w = p at *
  have hq : q = 1 / p := by field_simp; linarith
  subst hq
  field_simp
  ring

/-- The two forms of gelu agree, at the infinities too. -/
theorem gelu_tanh (v : EReal) : gelu v
    = v * (((1 / 2 : ℝ) : EReal) * (1 + Ideal.tanh ((geluRoot : EReal) * (v + (geluCube : EReal) * (v * v * v))))) := by
  have hr : 0 < geluRoot := by norm_num [geluRoot]
  have hc : 0 < geluCube := by norm_num [geluCube]
  unfold gelu
  induction v with
  | bot =>
    rw [EReal.bot_mul_bot, EReal.coe_mul_top_of_neg geluExpCube_neg, EReal.add_bot, EReal.bot_mul_bot,
      EReal.top_mul_bot, EReal.coe_mul_bot_of_pos hc, EReal.bot_add, EReal.coe_mul_bot_of_pos hr]
    simp only [Ideal.exp2_top, Ideal.tanh_bot]
    have e0 : (1 : EReal) + (-1) = 0 := by
      rw [← EReal.coe_one, ← EReal.coe_neg, ← EReal.coe_add]; simp
    have e1 : (1 : EReal) + ⊤ = ⊤ := by rw [← EReal.coe_one, EReal.coe_add_top]
    rw [e0, e1, mul_zero, mul_zero]
    simp [Ideal.div]
  | top =>
    rw [EReal.top_mul_top, EReal.coe_mul_top_of_neg geluExpCube_neg, EReal.add_bot, EReal.top_mul_bot,
      EReal.top_mul_top, EReal.coe_mul_top_of_pos hc, EReal.top_add_top, EReal.coe_mul_top_of_pos hr]
    simp only [Ideal.exp2_bot, Ideal.tanh_top]
    have e1 : ((1 / 2 : ℝ) : EReal) * (1 + 1) = 1 := by
      rw [← EReal.coe_one, ← EReal.coe_add, ← EReal.coe_mul]; norm_num
    rw [e1, add_zero, mul_one]
    simp [Ideal.div]
  | coe x =>
    rw [← EReal.coe_one]
    simp only [← EReal.coe_mul, ← EReal.coe_add, Ideal.exp2_coe, Ideal.tanh_coe, Real.rpow_eq_pow]
    rw [Ideal.div_coe (by positivity), ← EReal.coe_mul, ← gelu_real]
    congr 1
    rw [mul_one_div]

/-- The softplus of `-l`. -/
def softplusNeg (l : EReal) : EReal := max (-l) 0 + Ideal.log1p (Ideal.exp (-(max (-l) (- -l))))

theorem exp_nonneg (x : EReal) : 0 ≤ Ideal.exp x := by
  induction x with
  | bot => simp
  | top => simp
  | coe r => rw [Ideal.exp_coe]; exact_mod_cast (Real.exp_pos r).le

theorem exp_le_one {x : EReal} (h : x ≤ 0) : Ideal.exp x ≤ 1 := by
  induction x with
  | bot => simp
  | top => simp at h
  | coe r => rw [Ideal.exp_coe]; exact_mod_cast Real.exp_le_one_iff.mpr (by exact_mod_cast h)

theorem log1p_nonneg {x : EReal} (h : 0 ≤ x) : 0 ≤ Ideal.log1p x := by
  unfold Ideal.log1p
  induction x with
  | bot => exact absurd h (by simp)
  | top => rw [← EReal.coe_one, EReal.coe_add_top, Ideal.log_top]; exact le_top
  | coe r =>
    have hr : 0 ≤ r := by exact_mod_cast h
    rw [← EReal.coe_one, ← EReal.coe_add, Ideal.log_coe, if_neg (by linarith)]
    exact_mod_cast Real.log_nonneg (by linarith)

theorem softplusNeg_nonneg (l : EReal) : 0 ≤ softplusNeg l :=
  add_nonneg (le_max_right _ _) (log1p_nonneg (exp_nonneg _))

theorem logistic_nonneg (x : EReal) : 0 ≤ Ideal.logistic x := by
  induction x with
  | bot => simp
  | top => simp
  | coe r => rw [Ideal.logistic_coe]; exact_mod_cast (by positivity)

/-- The logarithm of the decay, and the decay, which lies between 0 and 1. -/
def logDecay (z l : EReal) : EReal := ((-8 : ℝ) : EReal) * Ideal.logistic z * softplusNeg l
def decay (z l : EReal) : EReal := Ideal.exp (logDecay z l)

theorem logDecay_nonpos (z l : EReal) : logDecay z l ≤ 0 := by
  unfold logDecay
  refine EReal.mul_nonpos_iff.mpr (.inr ⟨EReal.mul_nonpos_iff.mpr (.inr ⟨?_, logistic_nonneg z⟩), softplusNeg_nonneg l⟩)
  exact_mod_cast (by norm_num : (-8 : ℝ) ≤ 0)

theorem decay_nonneg (z l : EReal) : 0 ≤ decay z l := exp_nonneg _
theorem decay_ne_top (z l : EReal) : decay z l ≠ ⊤ :=
  ((exp_le_one (logDecay_nonpos z l)).trans_lt (by exact_mod_cast EReal.coe_lt_top 1)).ne

/-- The scale of the input: one less the decay's square, by `expm1` of twice its logarithm. -/
theorem scale_eq (x : EReal) : -(Ideal.expm1 (((2 : ℝ) : EReal) * x)) = 1 - Ideal.exp x * Ideal.exp x := by
  unfold Ideal.expm1
  induction x with
  | bot =>
    rw [EReal.coe_mul_bot_of_pos (by norm_num)]
    simp
  | top =>
    rw [EReal.coe_mul_top_of_pos (by norm_num), Ideal.exp_top, ← EReal.coe_one, EReal.top_sub_coe, EReal.top_mul_top]
    simp
  | coe r =>
    rw [← EReal.coe_mul, Ideal.exp_coe, Ideal.exp_coe, ← EReal.coe_one, ← EReal.coe_sub, ← EReal.coe_mul, ← EReal.coe_neg,
      ← EReal.coe_sub]
    congr 1
    rw [two_mul, Real.exp_add]
    ring

end Cert.Layer

end
-- ==== Proof.RgScan.lean ====
/-
  A first-order linear recurrence `h (t+1) = a t * h t + b t` over the extended reals with coefficients `a t` in
  [0, ∞), and the two ways the programs solve it: inside groups of eight steps by doubling, carrying the state from
  group to group (the kernel), and by pairing neighbours recursively (the reference's associative scan).
-/
module

public import Idealize.ShloMosaic.Lib.Pointwise

@[expose] public section

noncomputable section

namespace Cert.Layer

/-- The state after each step. -/
def steps (a b : ℕ → EReal) (h0 : EReal) : ℕ → EReal
  | 0 => h0
  | t + 1 => a t * steps a b h0 t + b t

/-- Every coefficient is a real number that is not negative. -/
def Coeff (a : ℕ → EReal) : Prop := ∀ t, 0 ≤ a t ∧ a t ≠ ⊤

/-- Starting later is starting from the state reached. -/
theorem steps_shift (a b : ℕ → EReal) (h0 : EReal) (s t : ℕ) :
    steps a b h0 (s + t) = steps (fun i => a (s + i)) (fun i => b (s + i)) (steps a b h0 s) t := by
  induction t with
  | zero => rfl
  | succ t ih => exact congrArg (fun x => a (s + t) * x + b (s + t)) ih

/-! ## Groups of eight -/

/-- `A t` and `B t` carry the state over up to `w` steps ending with step `t`, not past the start of its group. -/
def Reach (w : ℕ) (h A B : ℕ → EReal) : Prop :=
  ∀ t, (0 ≤ A t ∧ A t ≠ ⊤) ∧ h (t + 1) = A t * h (max (8 * (t / 8)) (t + 1 - w)) + B t

/-- One doubling: the coefficient and the input of the two halves, composed where the earlier half is in the group. -/
def doubleA (w : ℕ) (A : ℕ → EReal) (t : ℕ) : EReal := if w ≤ t % 8 then A t * A (t - w) else A t
def doubleB (w : ℕ) (A B : ℕ → EReal) (t : ℕ) : EReal := if w ≤ t % 8 then A t * B (t - w) + B t else B t

theorem reach_one {a : ℕ → EReal} (ha : Coeff a) (b : ℕ → EReal) (h0 : EReal) : Reach 1 (steps a b h0) a b := by
  intro t
  refine ⟨ha t, ?_⟩
  have e : max (8 * (t / 8)) (t + 1 - 1) = t := by omega
  rw [e]; rfl

theorem Reach.double {w : ℕ} {h A B : ℕ → EReal} (hw : 1 ≤ w) (hr : Reach w h A B) :
    Reach (2 * w) h (doubleA w A) (doubleB w A B) := by
  intro t
  obtain ⟨⟨p, q⟩, e⟩ := hr t
  unfold doubleA doubleB
  by_cases hc : w ≤ t % 8
  · obtain ⟨⟨p', q'⟩, e'⟩ := hr (t - w)
    simp only [if_pos hc]
    refine ⟨⟨mul_nonneg p p', EReal.mul_ne_top _ _ |>.mpr ?_⟩, ?_⟩
    · refine ⟨.inl (ne_of_gt (lt_of_lt_of_le (EReal.bot_lt_zero) p)), .inl p, .inl q, .inr q'⟩
    · have e1 : max (8 * (t / 8)) (t + 1 - w) = t - w + 1 := by omega
      have e2 : max (8 * ((t - w) / 8)) (t - w + 1 - w) = max (8 * (t / 8)) (t + 1 - 2 * w) := by omega
      rw [e, e1, e', e2, EReal.left_distrib_of_nonneg_of_ne_top p q, mul_assoc, add_assoc]
  · simp only [if_neg hc]
    refine ⟨⟨p, q⟩, ?_⟩
    have e1 : max (8 * (t / 8)) (t + 1 - 2 * w) = max (8 * (t / 8)) (t + 1 - w) := by omega
    rw [e, e1]

/-- The coefficient and the input over the whole part of the group up to step `t`, after three doublings. -/
def groupA (a : ℕ → EReal) : ℕ → EReal := doubleA 4 (doubleA 2 (doubleA 1 a))
def groupB (a b : ℕ → EReal) : ℕ → EReal :=
  doubleB 4 (doubleA 2 (doubleA 1 a)) (doubleB 2 (doubleA 1 a) (doubleB 1 a b))

/-- The state after a step, from the state its group began with. -/
theorem group_steps {a : ℕ → EReal} (ha : Coeff a) (b : ℕ → EReal) (h0 : EReal) (t : ℕ) :
    steps a b h0 (t + 1) = groupA a t * steps a b h0 (8 * (t / 8)) + groupB a b t := by
  have h := ((((reach_one ha b h0).double (by norm_num)).double (by norm_num)).double (by norm_num) t).2
  have e : max (8 * (t / 8)) (t + 1 - 2 * (2 * (2 * 1))) = 8 * (t / 8) := by omega
  rw [e] at h
  exact h

/-! ## Pairing neighbours -/

/-- The states of a scan whose first is the first input. -/
def scan (a b : ℕ → EReal) : ℕ → EReal
  | 0 => b 0
  | t + 1 => a (t + 1) * scan a b t + b (t + 1)

/-- Two neighbouring steps as one. -/
def pairA (a : ℕ → EReal) (t : ℕ) : EReal := a (2 * t) * a (2 * t + 1)
def pairB (a b : ℕ → EReal) (t : ℕ) : EReal := a (2 * t + 1) * b (2 * t) + b (2 * t + 1)

theorem coeff_pairA {a : ℕ → EReal} (ha : Coeff a) : Coeff (pairA a) := by
  intro t
  obtain ⟨p, q⟩ := ha (2 * t)
  obtain ⟨p', q'⟩ := ha (2 * t + 1)
  exact ⟨mul_nonneg p p', EReal.mul_ne_top _ _ |>.mpr
    ⟨.inl (ne_of_gt (lt_of_lt_of_le (EReal.bot_lt_zero) p)), .inl p, .inl q, .inr q'⟩⟩

/-- The odd states are the pairs' states. -/
theorem scan_odd {a : ℕ → EReal} (ha : Coeff a) (b : ℕ → EReal) (t : ℕ) :
    scan a b (2 * t + 1) = scan (pairA a) (pairB a b) t := by
  induction t with
  | zero => rfl
  | succ t ih =>
    obtain ⟨p, q⟩ := ha (2 * (t + 1) + 1)
    show a (2 * (t + 1) + 1) * (a (2 * (t + 1)) * scan a b (2 * t + 1) + b (2 * (t + 1))) + b (2 * (t + 1) + 1) = _
    rw [ih, EReal.left_distrib_of_nonneg_of_ne_top p q]
    show _ = a (2 * (t + 1)) * a (2 * (t + 1) + 1) * scan (pairA a) (pairB a b) t + _
    rw [← mul_assoc, mul_comm (a (2 * (t + 1) + 1)) (a (2 * (t + 1))), add_assoc]
    rfl

/-- The even states come one step after the odd ones. -/
theorem scan_even {a : ℕ → EReal} (ha : Coeff a) (b : ℕ → EReal) (t : ℕ) :
    scan a b (2 * t + 2) = a (2 * t + 2) * scan (pairA a) (pairB a b) t + b (2 * t + 2) := by
  rw [← scan_odd ha]; rfl

/-- Folding the first state into the first input makes the recurrence a scan. -/
theorem steps_scan (a b : ℕ → EReal) (h0 : EReal) (t : ℕ) :
    steps a b h0 (t + 1) = scan a (fun i => if i = 0 then b 0 + a 0 * h0 else b i) t := by
  induction t with
  | zero => exact add_comm _ _
  | succ t ih =>
    show a (t + 1) * steps a b h0 (t + 1) + b (t + 1) = _
    rw [ih]; rfl

end Cert.Layer

end
-- ==== Proof.RgSpec.lean ====
/-
  The gated linear recurrence's block, as functions of time: what both programs compute of a sequence of rows `x t`
  (1024 features each), three earlier rows of convolution inputs `hist` and a first state `h0`.
-/
module

public import proofs.«01_k».proof.Proof.RgMath
public import proofs.«01_k».proof.Proof.RgScan
public import proofs.«01_k».proof.Proof.MlpBlock

@[expose] public section

noncomputable section

open Idealize.ShloMosaic

namespace Cert.Layer

/-- A row of 1024 features. -/
abbrev Row := Fin 1024 → EReal

/-- The block's weights. -/
structure RgParams where
  g : Row
  win : Fin 1024 → Fin 2048 → EReal
  bin : Fin 2048 → EReal
  cw : Fin 4 → Row
  cb : Row
  wa : Fin 4 → Fin 256 → Fin 256 → EReal
  ba : Row
  wi : Fin 4 → Fin 256 → Fin 256 → EReal
  bi : Row
  lam : Row
  wout : Fin 1024 → Row

/-- The input projection of the normalised row. -/
def project (x g : Row) (win : Fin 1024 → Fin 2048 → EReal) (bin : Fin 2048 → EReal) (c : Fin 2048) : EReal :=
  (∑ k : Fin 1024, normRow x g k * win k c) + bin c

/-- Its first half goes through gelu, its second half is the convolution's input. -/
def gateRow (x g : Row) (win : Fin 1024 → Fin 2048 → EReal) (bin : Fin 2048 → EReal) : Row := fun c =>
  gelu (project x g win bin ⟨c.val, by omega⟩)
def convIn (x g : Row) (win : Fin 1024 → Fin 2048 → EReal) (bin : Fin 2048 → EReal) : Row := fun c =>
  project x g win bin ⟨1024 + c.val, by omega⟩

/-- The convolution over four consecutive rows, the oldest first. -/
def convRow (e3 e2 e1 e0 : Row) (cw : Fin 4 → Row) (cb : Row) : Row := fun c =>
  cb c + cw 3 c * e0 c + cw 0 c * e3 c + cw 1 c * e2 c + cw 2 c * e1 c

/-- A product with a block-diagonal matrix of four 256 × 256 blocks, plus a bias. -/
def blockRow (xc : Row) (w : Fin 4 → Fin 256 → Fin 256 → EReal) (b : Row) : Row := fun c =>
  (∑ k : Fin 256, xc ⟨256 * (c.val / 256) + k.val, by omega⟩ * w ⟨c.val / 256, by omega⟩ k ⟨c.val % 256, by omega⟩) + b c

/-- The recurrence's coefficient and input. -/
def coefRow (xc : Row) (wa : Fin 4 → Fin 256 → Fin 256 → EReal) (ba lam : Row) : Row := fun c =>
  decay (blockRow xc wa ba c) (lam c)
def feedRow (xc : Row) (wa : Fin 4 → Fin 256 → Fin 256 → EReal) (ba lam : Row) (wi : Fin 4 → Fin 256 → Fin 256 → EReal)
    (bi : Row) : Row := fun c =>
  Ideal.sqrt (1 - coefRow xc wa ba lam c * coefRow xc wa ba lam c) * (Ideal.logistic (blockRow xc wi bi c) * xc c)

/-- The block's output from the row, the state and the gate. -/
def outRow (x h gate : Row) (wout : Fin 1024 → Row) : Row := fun c => x c + ∑ k : Fin 1024, h k * gate k * wout k c

/-- The rows as a sequence. -/
structure RgInput where
  p : RgParams
  x : ℕ → Row
  hist : ℕ → Row
  h0 : Row

namespace RgInput

variable (s : RgInput)

/-- The convolution's inputs: three earlier rows, then the sequence's own. -/
def ext (t : ℕ) : Row := if t < 3 then s.hist t else convIn (s.x (t - 3)) s.p.g s.p.win s.p.bin
def conv (t : ℕ) : Row := convRow (s.ext t) (s.ext (t + 1)) (s.ext (t + 2)) (s.ext (t + 3)) s.p.cw s.p.cb
def coef (c : Fin 1024) (t : ℕ) : EReal := coefRow (s.conv t) s.p.wa s.p.ba s.p.lam c
def feed (c : Fin 1024) (t : ℕ) : EReal := feedRow (s.conv t) s.p.wa s.p.ba s.p.lam s.p.wi s.p.bi c
/-- The state before step `t`. -/
def state (t : ℕ) : Row := fun c => steps (s.coef c) (s.feed c) (s.h0 c) t
/-- The block's output at step `t`. -/
def out (t : ℕ) : Row := outRow (s.x t) (s.state (t + 1)) (gateRow (s.x t) s.p.g s.p.win s.p.bin) s.p.wout

theorem coeff_coef (c : Fin 1024) : Coeff (s.coef c) := fun _ => ⟨decay_nonneg _ _, decay_ne_top _ _⟩

/-- The state a group of eight leads to, in a tile that begins at step `t0`. -/
theorem state_group (t0 r : ℕ) (c : Fin 1024) : s.state (t0 + r + 1) c
    = groupA (fun i => s.coef c (t0 + i)) r * s.state (t0 + 8 * (r / 8)) c
      + groupB (fun i => s.coef c (t0 + i)) (fun i => s.feed c (t0 + i)) r := by
  unfold state
  rw [show t0 + r + 1 = t0 + (r + 1) by omega, steps_shift, steps_shift _ _ _ t0 (8 * (r / 8)),
    group_steps (fun i => s.coeff_coef c (t0 + i))]

end RgInput

end Cert.Layer

end
-- ==== Proof.RgTile.lean ====
/-
  What a tile of the recurrence's kernel needs of its rows' numbers: the convolution's taps across the tile's edge, the
  four blocks of the gates' weights, and which rows lie far enough into their group of eight.
-/
module

public import proofs.«01_k».proof.Proof.RgSpec
public import Idealize.ShloMosaic.Lib.WordCmp

@[expose] public section

set_option maxRecDepth 16384

noncomputable section

open Idealize.ShloMosaic

namespace Cert.Layer

theorem slt_small : ∀ (n : Fin 512) (j : Fin 8), IntOp.cmpi .slt (BitVec.ofNat 32 n.val) (BitVec.ofNat 32 j.val)
    = if n.val < j.val then 1#1 else 0#1 := by decide +kernel

/-- A row's place in its group of eight, as the kernel computes it from the row's number. -/
abbrev placeWord (n : ℕ) : BitVec 32 :=
  Scalar.select
    (IntOp.andi
      (IntOp.xori
        (IntOp.cmpi .slt
          (IntOp.remsi .vector (BitVec.ofNat 32 n) (Scalar.select (Scalar.cmpi .eq 8#32 0#32) 1#32 8#32)) 0#32)
        (Scalar.cmpi .slt 8#32 0#32))
      (IntOp.cmpi .ne
        (IntOp.remsi .vector (BitVec.ofNat 32 n) (Scalar.select (Scalar.cmpi .eq 8#32 0#32) 1#32 8#32)) 0#32))
    (IntOp.addi
      (IntOp.remsi .vector (BitVec.ofNat 32 n) (Scalar.select (Scalar.cmpi .eq 8#32 0#32) 1#32 8#32)) 8#32)
    (IntOp.remsi .vector (BitVec.ofNat 32 n) (Scalar.select (Scalar.cmpi .eq 8#32 0#32) 1#32 8#32))

theorem place_small : ∀ (n : Fin 512) (j : Fin 8), IntOp.cmpi .sge (placeWord n.val) (BitVec.ofNat 32 j.val)
    = if j.val ≤ n.val % 8 then 1#1 else 0#1 := by decide +kernel

theorem select_lt {α : Type} (n j : ℕ) (hn : n < 512) (hj : j < 8) (x y : α) :
    Scalar.select (IntOp.cmpi .slt (BitVec.ofNat 32 n) (BitVec.ofNat 32 j)) x y = if n < j then x else y := by
  rw [slt_small ⟨n, hn⟩ ⟨j, hj⟩]
  show Scalar.select (if n < j then 1#1 else 0#1) x y = _
  split <;> rfl

theorem select_place {α : Type} (n j : ℕ) (hn : n < 512) (hj : j < 8) (x y : α) :
    Scalar.select (IntOp.cmpi .sge (placeWord n) (BitVec.ofNat 32 j)) x y = if j ≤ n % 8 then x else y := by
  rw [place_small ⟨n, hn⟩ ⟨j, hj⟩]
  show Scalar.select (if j ≤ n % 8 then 1#1 else 0#1) x y = _
  split <;> rfl

/-- The convolution's input `j` rows back: from the rows before the tile where the tile has none. -/
theorem tap_eq {n : ℕ} (u : Fin n → EReal) (prev : Fin 8 → EReal) (E : ℕ → EReal) (j : ℕ) (hj1 : 1 ≤ j) (hj : j ≤ 3)
    (h8 : 8 ≤ n) (hn : n ≤ 512) (hu : ∀ r : Fin n, u r = E (r.val + 3)) (hp : ∀ (i : ℕ) (h : i < 3), prev ⟨5 + i, by omega⟩ = E i)
    (r : Fin n) (t : ℕ) (ht : t + j = r.val + 3) (p1 : (r.val + 8 - j) % 8 < 8) (p2 : (r.val + n - j) % n < n)
    (p3 : ∀ _ : ¬ r.val < 8, (8 + (r.val - 8) + n - j) % n < n) :
    (if h : r.val < 8 then
      Scalar.select (IntOp.cmpi .slt (BitVec.ofNat 32 r.val) (BitVec.ofNat 32 j)) (prev ⟨(r.val + 8 - j) % 8, p1⟩)
        (u ⟨(r.val + n - j) % n, p2⟩)
      else u ⟨(8 + (r.val - 8) + n - j) % n, p3 h⟩) = E t := by
  have hr := r.isLt
  rw [select_lt _ _ (by omega) (by omega)]
  by_cases hrj : r.val < j
  · rw [dif_pos (by omega), if_pos hrj, ← hp t (by omega)]
    congr 2
    rw [Nat.mod_eq_of_lt (by omega)]
    omega
  · have e : (r.val + n - j) % n = r.val - j := by
      rw [show r.val + n - j = r.val - j + n by omega, Nat.add_mod_right, Nat.mod_eq_of_lt (by omega)]
    have e' : t = (r.val - j) + 3 := by omega
    by_cases h : r.val < 8
    · rw [dif_pos h, if_neg hrj, hu]
      show E ((r.val + n - j) % n + 3) = _
      rw [e, e']
    · rw [dif_neg h, hu]
      show E ((8 + (r.val - 8) + n - j) % n + 3) = _
      rw [show 8 + (r.val - 8) = r.val by omega, e, e']

/-- One doubling as the kernel does it: the row `w` back, turned round within the group where the group has none. -/
theorem back_A {n : ℕ} (A : Fin n → EReal) (F : ℕ → EReal) (hA : ∀ r : Fin n, A r = F r.val) (w : ℕ) (hw : 1 ≤ w ∧ w < 8)
    (hn : n ≤ 512) (r : Fin n) (p : r.val / 8 * 8 + (r.val % 8 + 8 - w) % 8 < n) :
    Scalar.select (IntOp.cmpi .sge (placeWord r.val) (BitVec.ofNat 32 w))
      (A r * A ⟨r.val / 8 * 8 + (r.val % 8 + 8 - w) % 8, p⟩) (A r) = doubleA w F r.val := by
  have hr := r.isLt
  rw [select_place _ _ (by omega) hw.2, hA, hA]
  unfold doubleA
  split
  · congr 2
    show r.val / 8 * 8 + (r.val % 8 + 8 - w) % 8 = r.val - w
    rw [show r.val % 8 + 8 - w = (r.val % 8 - w) + 8 by omega, Nat.add_mod_right, Nat.mod_eq_of_lt (by omega)]
    omega
  · rfl

theorem back_B {n : ℕ} (A B : Fin n → EReal) (F G : ℕ → EReal) (hA : ∀ r : Fin n, A r = F r.val)
    (hB : ∀ r : Fin n, B r = G r.val) (w : ℕ) (hw : 1 ≤ w ∧ w < 8)
    (hn : n ≤ 512) (r : Fin n) (p : r.val / 8 * 8 + (r.val % 8 + 8 - w) % 8 < n) :
    Scalar.select (IntOp.cmpi .sge (placeWord r.val) (BitVec.ofNat 32 w))
      (A r * B ⟨r.val / 8 * 8 + (r.val % 8 + 8 - w) % 8, p⟩ + B r) (B r) = doubleB w F G r.val := by
  have hr := r.isLt
  rw [select_place _ _ (by omega) hw.2, hA, hB, hB]
  unfold doubleB
  split
  · congr 3
    show r.val / 8 * 8 + (r.val % 8 + 8 - w) % 8 = r.val - w
    rw [show r.val % 8 + 8 - w = (r.val % 8 - w) + 8 by omega, Nat.add_mod_right, Nat.mod_eq_of_lt (by omega)]
    omega
  · rfl

/-- Four products with the blocks, side by side. -/
theorem four_blocks (xc : Row) (w : Fin 4 → Fin 256 → Fin 256 → EReal) (c : Fin 1024) :
    (if h : c.val < 256 then ∑ k : Fin 256, xc ⟨k.val, by omega⟩ * w 0 k ⟨c.val, h⟩
      else if h : c.val - 256 < 256 then ∑ k : Fin 256, xc ⟨256 + k.val, by omega⟩ * w 1 k ⟨c.val - 256, h⟩
      else if h : c.val - 256 - 256 < 256 then ∑ k : Fin 256, xc ⟨512 + k.val, by omega⟩ * w 2 k ⟨c.val - 256 - 256, h⟩
      else ∑ k : Fin 256, xc ⟨768 + k.val, by omega⟩ * w 3 k ⟨c.val - 256 - 256 - 256, by omega⟩)
    = ∑ k : Fin 256, xc ⟨256 * (c.val / 256) + k.val, by omega⟩ * w ⟨c.val / 256, by omega⟩ k ⟨c.val % 256, by omega⟩ := by
  have hc := c.isLt
  have key : ∀ (q : Fin 4) (o : ℕ) (ho : o = 256 * q.val) (l : Fin 256) (h : c.val = o + l.val),
      (∑ k : Fin 256, xc ⟨o + k.val, by omega⟩ * w q k l)
        = ∑ k : Fin 256, xc ⟨256 * (c.val / 256) + k.val, by omega⟩ * w ⟨c.val / 256, by omega⟩ k ⟨c.val % 256, by omega⟩ := by
    intro q o ho l h
    have e1 : q = ⟨c.val / 256, by omega⟩ := Fin.ext (by show q.val = c.val / 256; omega)
    have e2 : l = ⟨c.val % 256, by omega⟩ := Fin.ext (by show l.val = c.val % 256; omega)
    rw [← e1, ← e2]
    refine Finset.sum_congr rfl fun k _ => ?_
    congr 3
    omega
  split
  · rename_i h
    refine Eq.trans ?_ (key 0 0 rfl ⟨c.val, h⟩ (by simp))
    refine Finset.sum_congr rfl fun k _ => ?_
    congr 3
    omega
  · split
    · exact key 1 256 rfl ⟨c.val - 256, by omega⟩ (by show c.val = 256 + (c.val - 256); omega)
    · split
      · exact key 2 512 rfl ⟨c.val - 256 - 256, by omega⟩ (by show c.val = 512 + (c.val - 256 - 256); omega)
      · exact key 3 768 rfl ⟨c.val - 256 - 256 - 256, by omega⟩ (by show c.val = 768 + (c.val - 256 - 256 - 256); omega)

end Cert.Layer

end
-- ==== Proof.RgTree.lean ====
/-
  The reference computes the recurrence by an associative scan: level by level it multiplies neighbouring pairs together,
  solves the half-long recurrence and fills in the steps between.  Here is one level of that, on arrays of any length.
-/
module

public import proofs.«01_k».proof.Proof.RgScan
public import Idealize.ShloMosaic.Lib.Pointwise

@[expose] public section

set_option maxRecDepth 16384

noncomputable section

open Idealize.ShloMosaic Idealize.ShloMosaic.TcCoe Idealize.SL.Sem

namespace Cert.Layer

/-- `d` sequences of `n` rows of 1024 features. -/
abbrev Seqs (d n : ℕ) : Shape := ⟨3, ![d, n, 1024]⟩

/-- The array holds the sequences `f b c`. -/
def Reads {d n : ℕ} (A : FVec Ideal (Seqs d n) .f32) (f : Fin d → Fin 1024 → ℕ → EReal) : Prop :=
  ∀ b i c, A (ix3 b i c) = f b c i.val

variable {d n m : ℕ}

theorem stride_apply {A : FVec Ideal (Seqs d m) .f32} {f : Fin d → Fin 1024 → ℕ → EReal} (hA : Reads A f) (q : ℕ) (h)
    (b : Fin d) (i : Fin n) (c : Fin 1024) (hm : q + 2 * i.val < m) :
    Host.slice (Seqs d n) ![0, q, 0] ![1, 2, 1] A h (ix3 b i c) = f b c (q + 2 * i.val) := by
  have e : Host.slice (Seqs d n) ![0, q, 0] ![1, 2, 1] A h (ix3 b i c) = A (ix3 b ⟨q + 2 * i.val, hm⟩ c) := by
    pointwise
    refine congrArg A (funext fun k => Fin.ext ?_)
    fin_cases k <;> simp [Shape.Idx.norm]
  exact e.trans (hA _ _ _)

/-- The coefficients of the pairs. -/
theorem reads_pairA {A : FVec Ideal (Seqs d m) .f32} {f : Fin d → Fin 1024 → ℕ → EReal} (hA : Reads A f) (hm : m = 2 * n)
    (h0) (h1) :
    Reads (mulf (Host.slice (Seqs d n) ![0, 0, 0] ![1, 2, 1] A h0) (Host.slice (Seqs d n) ![0, 1, 0] ![1, 2, 1] A h1))
      (fun b c => pairA (f b c)) := by
  intro b i c
  refine (congrArg₂ (· * ·) (stride_apply hA 0 h0 b i c (by omega)) (stride_apply hA 1 h1 b i c (by omega))).trans ?_
  simp only [pairA, zero_add, Nat.add_comm 1]

/-- The inputs of the pairs. -/
theorem reads_pairB {A B : FVec Ideal (Seqs d m) .f32} {f g : Fin d → Fin 1024 → ℕ → EReal} (hA : Reads A f)
    (hB : Reads B g) (hm : m = 2 * n) (h0) (h1) (h2) :
    Reads (addf (mulf (Host.slice (Seqs d n) ![0, 1, 0] ![1, 2, 1] A h0) (Host.slice (Seqs d n) ![0, 0, 0] ![1, 2, 1] B h1))
        (Host.slice (Seqs d n) ![0, 1, 0] ![1, 2, 1] B h2))
      (fun b c => pairB (f b c) (g b c)) := by
  intro b i c
  refine (congrArg₂ (· + ·) (congrArg₂ (· * ·) (stride_apply hA 1 h0 b i c (by omega))
    (stride_apply hB 0 h1 b i c (by omega))) (stride_apply hB 1 h2 b i c (by omega))).trans ?_
  simp only [pairB, zero_add, Nat.add_comm 1]

/-- A recurrence of a single step. -/
theorem reads_single {B : FVec Ideal (Seqs d 1) .f32} {f g : Fin d → Fin 1024 → ℕ → EReal} (hB : Reads B g) :
    Reads B (fun b c => scan (f b c) (g b c)) := by
  intro b i c
  obtain rfl : i = 0 := Subsingleton.elim _ _
  exact hB _ _ _

/-- A first row put before the other rows. -/
theorem reads_join {l : ℕ} {H : FVec Ideal (Seqs d 1) .f32} {T : FVec Ideal (Seqs d l) .f32}
    {f : Fin d → Fin 1024 → ℕ → EReal} (hH : ∀ b c, H (ix3 b 0 c) = f b c 0)
    (hT : ∀ b i c, T (ix3 b i c) = f b c (i.val + 1)) (hn : n = 1 + l)
    (h : Shape.Concatenates [Seqs d 1, Seqs d l] (Seqs d n) (1 : Fin 3)) :
    Reads (d := d) (n := n) (concatenate (Seqs d n) (1 : Fin 3) [⟨Seqs d 1, H⟩, ⟨Seqs d l, T⟩] h) f := by
  intro b i c
  by_cases hi : i.val = 0
  · refine (concatenate_pair_apply_left (t := Seqs d n) (1 : Fin 3) H T h (ix3 b i c) rfl (ix3 b 0 c) ?_).trans
      ((hH b c).trans (by rw [hi]))
    intro k; fin_cases k <;> simp [hi]
  · refine (concatenate_pair_apply_right (t := Seqs d n) (1 : Fin 3) H T h (ix3 b i c) rfl rfl
      (ix3 b ⟨i.val - 1, by omega⟩ c) ?_ ?_).trans ((hT b _ c).trans ?_)
    · intro k hk; fin_cases k <;> simp at hk ⊢
    · simp; omega
    · show f b c (i.val - 1 + 1) = _
      rw [Nat.sub_add_cancel (by omega)]

theorem first_apply {B : FVec Ideal (Seqs d m) .f32} {g : Fin d → Fin 1024 → ℕ → EReal} (hB : Reads B g) (hm : 0 < m)
    (h) (b : Fin d) (c : Fin 1024) : extractStridedSlice (Seqs d 1) ![0, 0, 0] B h (ix3 b 0 c) = g b c 0 := by
  have e : extractStridedSlice (Seqs d 1) ![0, 0, 0] B h (ix3 b 0 c) = B (ix3 b ⟨0, hm⟩ c) := by
    pointwise
    refine congrArg B (funext fun k => Fin.ext ?_)
    fin_cases k <;> simp [Shape.Idx.norm]
  exact e.trans (hB _ _ _)

theorem prefix_apply {l : ℕ} {S : FVec Ideal (Seqs d n) .f32} {s : Fin d → Fin 1024 → ℕ → EReal} (hS : Reads S s)
    (hn : l ≤ n) (h) (b : Fin d) (i : Fin l) (c : Fin 1024) :
    extractStridedSlice (Seqs d l) ![0, 0, 0] S h (ix3 b i c) = s b c i.val := by
  have e : extractStridedSlice (Seqs d l) ![0, 0, 0] S h (ix3 b i c) = S (ix3 b ⟨i.val, by omega⟩ c) := by
    pointwise
    refine congrArg S (funext fun k => Fin.ext ?_)
    fin_cases k <;> simp [Shape.Idx.norm]
  exact e.trans (hS _ _ _)

/-- Rows spread to every other place, from the first or from the second, with zeros between. -/
theorem pad_even {E : FVec Ideal (Seqs d n) .f32} {e : Fin d → Fin 1024 → ℕ → EReal} (hE : Reads E e) (hm : m = 2 * n)
    (h) (h') (b : Fin d) (i : Fin m) (c : Fin 1024) :
    pad (Seqs d m) ![0, 0, 0] ![0, 1, 0] ![0, 1, 0] E (constant ⟨0, ![]⟩ .f32 0x00000000#32 : FVec Ideal ⟨0, ![]⟩ .f32) h h' (ix3 b i c)
      = if i.val % 2 = 0 then e b c (i.val / 2) else 0 := by
  pointwise
  by_cases hi : i.val % 2 = 0
  · rw [dif_pos ⟨hi, by omega⟩, if_pos hi]
    refine (congrArg E (funext fun k => Fin.ext ?_)).trans (hE b ⟨i.val / 2, by omega⟩ c)
    fin_cases k <;> simp [Shape.Idx.norm]
  · rw [dif_neg (fun H => hi H.1), if_neg hi]

theorem pad_odd {S : FVec Ideal (Seqs d n) .f32} {e : Fin d → Fin 1024 → ℕ → EReal} (hE : Reads S e) (hm : m = 2 * n)
    (h) (h') (b : Fin d) (i : Fin m) (c : Fin 1024) :
    pad (Seqs d m) ![0, 1, 0] ![0, 0, 0] ![0, 1, 0] S (constant ⟨0, ![]⟩ .f32 0x00000000#32 : FVec Ideal ⟨0, ![]⟩ .f32) h h' (ix3 b i c)
      = if i.val % 2 = 0 then 0 else e b c (i.val / 2) := by
  pointwise
  by_cases hi : i.val % 2 = 0
  · rw [dif_neg (fun H => by omega), if_pos hi]
  · rw [dif_pos ⟨by omega, by omega, by omega⟩, if_neg hi]
    refine (congrArg S (funext fun k => Fin.ext ?_)).trans (hE b ⟨i.val / 2, by omega⟩ c)
    fin_cases k <;> simp [Shape.Idx.norm]
    omega

/-- The whole recurrence from its even and its odd places. -/
theorem reads_scan {A B : FVec Ideal (Seqs d m) .f32} {S : FVec Ideal (Seqs d n) .f32} {l : ℕ}
    {f g : Fin d → Fin 1024 → ℕ → EReal} (hf : ∀ b c, Coeff (f b c)) (hA : Reads A f) (hB : Reads B g)
    (hS : Reads S (fun b c => scan (pairA (f b c)) (pairB (f b c) (g b c)))) (hm : m = 2 * n) (hn : n = 1 + l)
    (h0) (h1) (h2) (h3) (hc) (p1) (p2) (p3) (p4) :
    Reads (d := d) (n := m) (addf
      (pad (Seqs d m) ![0, 0, 0] ![0, 1, 0] ![0, 1, 0]
        (concatenate (Seqs d n) (1 : Fin 3)
          [⟨Seqs d 1, extractStridedSlice (Seqs d 1) ![0, 0, 0] B h0⟩,
           ⟨Seqs d l, addf (mulf (Host.slice (Seqs d l) ![0, 2, 0] ![1, 2, 1] A h1)
              (extractStridedSlice (Seqs d l) ![0, 0, 0] S h2)) (Host.slice (Seqs d l) ![0, 2, 0] ![1, 2, 1] B h3)⟩] hc)
        (constant ⟨0, ![]⟩ .f32 0x00000000#32 : FVec Ideal ⟨0, ![]⟩ .f32) p1 p2)
      (pad (Seqs d m) ![0, 1, 0] ![0, 0, 0] ![0, 1, 0] S
        (constant ⟨0, ![]⟩ .f32 0x00000000#32 : FVec Ideal ⟨0, ![]⟩ .f32) p3 p4))
      (fun b c => scan (f b c) (g b c)) := by
  have hE := reads_join (n := n) (f := fun b c i => scan (f b c) (g b c) (2 * i)) (first_apply hB (by omega) h0)
    (T := addf (mulf (Host.slice (Seqs d l) ![0, 2, 0] ![1, 2, 1] A h1)
              (extractStridedSlice (Seqs d l) ![0, 0, 0] S h2)) (Host.slice (Seqs d l) ![0, 2, 0] ![1, 2, 1] B h3))
    (fun b i c => (congrArg₂ (· + ·) (congrArg₂ (· * ·) (stride_apply hA 2 h1 b i c (by omega))
      (prefix_apply hS (by omega) h2 b i c)) (stride_apply hB 2 h3 b i c (by omega))).trans
        (by rw [show 2 + 2 * i.val = 2 * i.val + 2 by omega, show 2 * (i.val + 1) = 2 * i.val + 2 by omega, scan_even (hf b c)])) hn hc
  intro b i c
  refine (congrArg₂ (· + ·) (pad_even hE hm p1 p2 b i c) (pad_odd hS hm p3 p4 b i c)).trans ?_
  by_cases hi : i.val % 2 = 0
  · rw [if_pos hi, if_pos hi, add_zero, show 2 * (i.val / 2) = i.val by omega]
  · rw [if_neg hi, if_neg hi, zero_add, ← scan_odd (hf b c), show 2 * (i.val / 2) + 1 = i.val by omega]

end Cert.Layer

end
-- ==== Proof.RgInputs.lean ====
/-
  The block's arguments as sequences, one for each batch element, and its results as functions of them.
-/
module

public import proofs.«01_k».proof.Proof.RgSpec
public import proofs.«01_k».proof.Proof.RgTree
public import Idealize.ShloMosaic.Lib.Pointwise

@[expose] public section

noncomputable section

open Idealize.ShloMosaic Idealize.ShloMosaic.TcCoe Idealize.SL.Sem

namespace Cert.Layer

/-- The block's parameters, from the call's arguments. -/
def rgParams (G : FVec Ideal ⟨1, ![1024]⟩ .f32) (Win : FVec Ideal ⟨2, ![1024, 2048]⟩ .f32) (Bin : FVec Ideal ⟨1, ![2048]⟩ .f32)
    (Cw : FVec Ideal ⟨2, ![4, 1024]⟩ .f32) (Cb : FVec Ideal ⟨1, ![1024]⟩ .f32) (Wa : FVec Ideal ⟨3, ![4, 256, 256]⟩ .f32) (Ba : FVec Ideal ⟨1, ![1024]⟩ .f32)
    (Wi : FVec Ideal ⟨3, ![4, 256, 256]⟩ .f32) (Bi Lam : FVec Ideal ⟨1, ![1024]⟩ .f32) (Wout : FVec Ideal ⟨2, ![1024, 1024]⟩ .f32) : RgParams where
  g := fun k => G (ix1 k)
  win := fun k c => Win (ix2 k c)
  bin := fun c => Bin (ix1 c)
  cw := fun j k => Cw (ix2 j k)
  cb := fun k => Cb (ix1 k)
  wa := fun q k l => Wa (ix3 q k l)
  ba := fun k => Ba (ix1 k)
  wi := fun q k l => Wi (ix3 q k l)
  bi := fun k => Bi (ix1 k)
  lam := fun k => Lam (ix1 k)
  wout := fun k c => Wout (ix2 k c)

/-- The rows, history, state and parameters as one sequence for each batch element. -/
def seqInput {n : ℕ} (X : FVec Ideal (Seqs 16 n) .f32) (G : FVec Ideal ⟨1, ![1024]⟩ .f32) (Hi : FVec Ideal (Seqs 16 3) .f32)
    (H0 : FVec Ideal ⟨2, ![16, 1024]⟩ .f32) (Win : FVec Ideal ⟨2, ![1024, 2048]⟩ .f32) (Bin : FVec Ideal ⟨1, ![2048]⟩ .f32)
    (Cw : FVec Ideal ⟨2, ![4, 1024]⟩ .f32) (Cb : FVec Ideal ⟨1, ![1024]⟩ .f32) (Wa : FVec Ideal ⟨3, ![4, 256, 256]⟩ .f32) (Ba : FVec Ideal ⟨1, ![1024]⟩ .f32)
    (Wi : FVec Ideal ⟨3, ![4, 256, 256]⟩ .f32) (Bi Lam : FVec Ideal ⟨1, ![1024]⟩ .f32) (Wout : FVec Ideal ⟨2, ![1024, 1024]⟩ .f32) (b : Fin 16) :
    RgInput where
  p := rgParams G Win Bin Cw Cb Wa Ba Wi Bi Lam Wout
  x := fun t k => if h : t < n then X (ix3 b ⟨t, h⟩ k) else 0
  hist := fun t k => if h : t < 3 then Hi (ix3 b ⟨t, h⟩ k) else 0
  h0 := fun k => H0 (ix2 b k)

def batchOf (i : Fin 256) : Fin 16 := ⟨i.val / 16, by omega⟩

/-- The results: the rows' outputs, the last three of the convolution's inputs, and the last states. -/
def outRows (I : Fin 16 → RgInput) : FVec Ideal ⟨2, ![256, 1024]⟩ .f32 := fun i => (I (batchOf (i 0))).out ((i 0).val % 16) (i 1)
def lastInputs (I : Fin 16 → RgInput) : FVec Ideal (Seqs 16 3) .f32 := fun i => (I (i 0)).ext (16 + (i 1).val) (i 2)
def lastState (I : Fin 16 → RgInput) : FVec Ideal ⟨2, ![16, 1024]⟩ .f32 := fun i => (I (i 0)).state 16 (i 1)

/-- The convolution's terms may be added in the order of time. -/
theorem conv_order (b u0 w0 u1 w1 u2 w2 u3 w3 : EReal) :
    b + u0 * w0 + u1 * w1 + u2 * w2 + u3 * w3 = b + w3 * u3 + w0 * u0 + w1 * u1 + w2 * u2 := by
  rw [mul_comm u0, mul_comm u1, mul_comm u2, mul_comm u3]
  abel

end Cert.Layer

end
-- ==== Proof.RgSampleBlock.lean ====
/-
  One batch element of the sampled recurrence, as the kernel computes it: sixteen rows, read entry by entry.
-/
module

public import proofs.«01_k».proof.Proof.RgTile
public import proofs.«01_k».proof.Proof.RgInputs
public import proofs.«01_k».proof.Proof.Gen.RgSampleIdeal.Skeleton

@[expose] public section

set_option maxRecDepth 16384

noncomputable section

open Idealize.ShloMosaic Idealize.ShloMosaic.TcCoe Idealize.SL.Sem

namespace Cert.RgSampleIdeal.RefValue

open Cert.RgSampleIdeal Cert.RgSampleIdeal.Gen Cert.Layer

section Rows

variable (x : FVec Ideal S16x1024 .f32) (g : FVec Ideal S1x1024 .f32) (win : FVec Ideal S1024x2048 .bf16)
    (bin : FVec Ideal S1x2048 .f32) (r : Fin 16)

theorem project_apply (c : Fin 2048) : k0_pay6 (F := Ideal) x g win bin (ix2 r c)
    = project (fun k => x (ix2 r k)) (fun k => g (ix2 0 k)) (fun k c => win (ix2 k c)) (fun c => bin (ix2 0 c)) c := by
  unfold project normRow
  pointwise [k0_pay6, k0_pay5]

theorem gate_apply (c : Fin 1024) : k0_pay7 (F := Ideal) x g win bin (ix2 r c)
    = gateRow (fun k => x (ix2 r k)) (fun k => g (ix2 0 k)) (fun k c => win (ix2 k c)) (fun c => bin (ix2 0 c)) c := by
  have e1 : Named.named (F := Ideal) κ "gelu_exp" (φ := .f32) 0xC0135761#32 = geluExp :=
    IdealRules.named_const.ideal_named_scalar κ _ _ _ rfl
  have e2 : Named.named (F := Ideal) κ "gelu_exp_cube" (φ := .f32) 0xBDD2D3E8#32 = geluExpCube :=
    IdealRules.named_const.ideal_named_scalar κ _ _ _ rfl
  unfold gateRow gelu
  rw [← project_apply x g win bin]
  pointwise [k0_pay7]
  simp only [e1, e2]
  rfl

theorem convIn_apply (c : Fin 1024) : k0_pay8 (F := Ideal) x g win bin (ix2 r c)
    = convIn (fun k => x (ix2 r k)) (fun k => g (ix2 0 k)) (fun k c => win (ix2 k c)) (fun c => bin (ix2 0 c)) c := by
  unfold convIn
  rw [← project_apply x g win bin]
  pointwise [k0_pay8]

end Rows

theorem conv_apply (u : FVec Ideal S16x1024 .f32) (cw : FVec Ideal S4x1024 .f32) (prev : FVec Ideal S8x1024 .f32)
    (cb : FVec Ideal S1x1024 .f32) (E : ℕ → Row) (hu : ∀ (r : Fin 16) c, u (ix2 r c) = E (r.val + 3) c)
    (hp : ∀ (i : ℕ) (h : i < 3) c, prev (ix2 ⟨5 + i, by omega⟩ c) = E i c) (r : Fin 16) (c : Fin 1024) :
    k0_pay9 (F := Ideal) u cw prev cb (ix2 r c)
    = convRow (E r.val) (E (r.val + 1)) (E (r.val + 2)) (E (r.val + 3)) (fun j k => cw (ix2 j k)) (fun k => cb (ix2 0 k)) c := by
  have tap := fun (j : ℕ) h1 h3 => tap_eq (fun r => u (ix2 r c)) (fun i => prev (ix2 i c)) (fun t => E t c) j h1 h3
    (by norm_num) (by norm_num) (fun r => hu r c) (fun i h => hp i h c) r
  unfold convRow
  rw [← hu r c]
  pointwise [k0_pay9]
  exact congrArg₂ (· + ·) (congrArg₂ (· + ·) (congrArg₂ (· + ·) rfl
    (congrArg (cw (ix2 0 c) * ·) (tap 3 (by norm_num) (by norm_num) r.val (by omega) (by omega) (by omega) (fun _ => by omega))))
    (congrArg (cw (ix2 1 c) * ·) (tap 2 (by norm_num) (by norm_num) (r.val + 1) (by omega) (by omega) (by omega) (fun _ => by omega))))
    (congrArg (cw (ix2 2 c) * ·) (tap 1 (by norm_num) (by norm_num) (r.val + 2) (by omega) (by omega) (by omega) (fun _ => by omega)))

section Gates

variable (xc : FVec Ideal S16x1024 .f32) (w : Fin 4 → FVec Ideal S1x256x256 .bf16) (v : Fin 4 → FVec Ideal S1x256x256 .bf16)
  (ba bi lam : FVec Ideal S1x1024 .f32) (r : Fin 16) (c : Fin 1024)

/-- The recurrence's coefficients and inputs of the tile, as the kernel computes them. -/
abbrev coefTile : FVec Ideal S16x1024 .f32 :=
  k0_pay23 (F := Ideal) (k0_pay12 xc (w 0)) (k0_pay15 xc (w 1)) (k0_pay18 xc (w 2)) (k0_pay21 xc (w 3)) ba lam
abbrev feedTile : FVec Ideal S16x1024 .f32 :=
  k0_pay24 (F := Ideal) xc (k0_pay12 xc (w 0)) (k0_pay13 xc (v 0)) (k0_pay15 xc (w 1)) (k0_pay16 xc (v 1))
    (k0_pay18 xc (w 2)) (k0_pay19 xc (v 2)) (k0_pay20 xc) (k0_pay21 xc (w 3)) (k0_pay22 (v 3))
    (constant S16x256 .f32 0x00000000#32) ba bi lam

theorem coef_apply : coefTile xc w ba lam (ix2 r c)
    = coefRow (fun k => xc (ix2 r k)) (fun q k l => w q (ix3 0 k l)) (fun k => ba (ix2 0 k)) (fun k => lam (ix2 0 k)) c := by
  unfold coefRow blockRow
  rw [← four_blocks (fun k => xc (ix2 r k)) (fun q k l => w q (ix3 0 k l))]
  unfold decay logDecay softplusNeg
  pointwise [coefTile, k0_pay23, k0_pay12, k0_pay15, k0_pay18, k0_pay21, k0_pay10, k0_pay11, k0_pay14, k0_pay17, k0_pay20]
  rw [ofBits_neg_eight]
  simp only [zero_sub]
  rfl

theorem feed_apply : feedTile xc w v ba bi lam (ix2 r c)
    = feedRow (fun k => xc (ix2 r k)) (fun q k l => w q (ix3 0 k l)) (fun k => ba (ix2 0 k)) (fun k => lam (ix2 0 k))
        (fun q k l => v q (ix3 0 k l)) (fun k => bi (ix2 0 k)) c := by
  unfold feedRow
  rw [← coef_apply]
  unfold blockRow
  rw [← four_blocks (fun k => xc (ix2 r k)) (fun q k l => v q (ix3 0 k l))]
  pointwise [feedTile, coefTile, k0_pay24, k0_pay13, k0_pay16, k0_pay19, k0_pay22, k0_pay10, k0_pay11, k0_pay14, k0_pay17, k0_pay20]

end Gates

section Scan

variable (a b : FVec Ideal S16x1024 .f32) (c : Fin 1024) (α β : ℕ → EReal) (ha : ∀ r : Fin 16, a (ix2 r c) = α r.val)
  (hb : ∀ r : Fin 16, b (ix2 r c) = β r.val)

include ha in
theorem scan_one (r : Fin 16) : k0_pay30 (F := Ideal) a 8#32 k0_pay25 k0_pay26 k0_pay27 (ix2 r c) = doubleA 1 α r.val := by
  have e := back_A (fun r => a (ix2 r c)) α ha 1 (by norm_num) (by norm_num) r (by omega)
  pointwise [k0_pay30, k0_pay29, k0_pay28, k0_pay27, k0_pay26, k0_pay25]
  exact e

include ha in
theorem scan_two (r : Fin 16) :
    k0_pay32 (F := Ideal) a 8#32 k0_pay25 k0_pay26 k0_pay27 (ix2 r c) = doubleA 2 (doubleA 1 α) r.val := by
  have e := back_A (fun r => k0_pay30 (F := Ideal) a 8#32 k0_pay25 k0_pay26 k0_pay27 (ix2 r c)) _ (scan_one a c α ha) 2
    (by norm_num) (by norm_num) r (by omega)
  pointwise [k0_pay32, k0_pay31, k0_pay28, k0_pay27, k0_pay26, k0_pay25]
  exact e

include ha in
theorem groupA_apply (r : Fin 16) :
    k0_pay35 (F := Ideal) a 8#32 k0_pay25 k0_pay26 k0_pay27 (ix2 r c) = groupA α r.val := by
  have e := back_A (fun r => k0_pay32 (F := Ideal) a 8#32 k0_pay25 k0_pay26 k0_pay27 (ix2 r c)) _ (scan_two a c α ha) 4
    (by norm_num) (by norm_num) r (by omega)
  pointwise [k0_pay35, k0_pay33, k0_pay28, k0_pay27, k0_pay26, k0_pay25]
  exact e

include ha hb in
theorem groupB_apply (r : Fin 16) :
    k0_pay34 (F := Ideal) a b 8#32 k0_pay25 k0_pay26 k0_pay27 (ix2 r c) = groupB α β r.val := by
  have h1 := scan_one a c α ha
  have h2 := scan_two a c α ha
  let B1 : Fin 16 → EReal := fun r => Scalar.select (IntOp.cmpi .sge (placeWord r.val) 1#32)
    (a (ix2 r c) * b (ix2 ⟨r.val / 8 * 8 + (r.val % 8 + 8 - 1) % 8, by omega⟩ c) + b (ix2 r c)) (b (ix2 r c))
  have e1 : ∀ r, B1 r = doubleB 1 α β r.val := fun r =>
    back_B (fun r => a (ix2 r c)) (fun r => b (ix2 r c)) α β ha hb 1 (by norm_num) (by norm_num) r (by omega)
  unfold k0_pay34
  generalize k0_pay30 (F := Ideal) _ _ _ _ _ = A2 at h1 ⊢
  generalize k0_pay32 (F := Ideal) _ _ _ _ _ = A4 at h2 ⊢
  let B2 : Fin 16 → EReal := fun r => Scalar.select (IntOp.cmpi .sge (placeWord r.val) 2#32)
    (A2 (ix2 r c) * B1 ⟨r.val / 8 * 8 + (r.val % 8 + 8 - 2) % 8, by omega⟩ + B1 r) (B1 r)
  have e2 : ∀ r, B2 r = doubleB 2 (doubleA 1 α) (doubleB 1 α β) r.val := fun r =>
    back_B (fun r => A2 (ix2 r c)) B1 _ _ h1 e1 2 (by norm_num) (by norm_num) r (by omega)
  have e3 := back_B (fun r => A4 (ix2 r c)) B2 _ _ h2 e2 4 (by norm_num) (by norm_num) r (by omega)
  pointwise [k0_pay33, k0_pay31, k0_pay29, k0_pay28, k0_pay27, k0_pay26, k0_pay25]
  exact e3

end Scan

section Tile

variable (s : RgInput) (x : FVec Ideal S16x1024 .f32) (g : FVec Ideal S1x1024 .f32) (win : FVec Ideal S1024x2048 .bf16)
  (bin : FVec Ideal S1x2048 .f32) (cw : FVec Ideal S4x1024 .f32) (cb : FVec Ideal S1x1024 .f32)
  (w v : Fin 4 → FVec Ideal S1x256x256 .bf16) (ba bi lam : FVec Ideal S1x1024 .f32) (wout : FVec Ideal S1024x1024 .bf16)
  (prev : FVec Ideal S8x1024 .f32)

/-- The block's parameters, from the tile's arrays. -/
abbrev tileParams : RgParams where
  g := fun k => g (ix2 0 k)
  win := fun k c => win (ix2 k c)
  bin := fun c => bin (ix2 0 c)
  cw := fun j k => cw (ix2 j k)
  cb := fun k => cb (ix2 0 k)
  wa := fun q k l => w q (ix3 0 k l)
  ba := fun k => ba (ix2 0 k)
  wi := fun q k l => v q (ix3 0 k l)
  bi := fun k => bi (ix2 0 k)
  lam := fun k => lam (ix2 0 k)
  wout := fun k c => wout (ix2 k c)

variable (hs : s.p = tileParams g win bin cw cb w v ba bi lam wout)
  (hx : ∀ (r : Fin 16) k, x (ix2 r k) = s.x r.val k)
  (hp : ∀ (i : ℕ) (h : i < 3) c, prev (ix2 ⟨5 + i, by omega⟩ c) = s.ext i c)

include hs hx in
theorem ext_tile (r : Fin 16) (c : Fin 1024) : k0_pay8 (F := Ideal) x g win bin (ix2 r c) = s.ext (r.val + 3) c := by
  rw [convIn_apply]
  unfold RgInput.ext
  rw [if_neg (by omega), hs, Nat.add_sub_cancel]
  exact congrArg (fun y => convIn y _ _ _ c) (funext fun k => hx r k)

include hs hx in
theorem gate_tile (r : Fin 16) (c : Fin 1024) : k0_pay7 (F := Ideal) x g win bin (ix2 r c)
    = gateRow (s.x r.val) s.p.g s.p.win s.p.bin c := by
  rw [gate_apply, hs]
  exact congrArg (fun y => gateRow y _ _ _ c) (funext fun k => hx r k)

include hs hx hp in
theorem conv_tile (r : Fin 16) (c : Fin 1024) :
    k0_pay9 (F := Ideal) (k0_pay8 x g win bin) cw prev cb (ix2 r c) = s.conv r.val c := by
  refine (conv_apply _ cw prev cb s.ext (ext_tile s x g win bin cw cb w v ba bi lam wout hs hx) hp r c).trans ?_
  unfold RgInput.conv
  rw [hs]

variable (xc : FVec Ideal S16x1024 .f32) (hxc : ∀ (r : Fin 16) k, xc (ix2 r k) = s.conv r.val k)

include hs hxc in
theorem coef_tile (r : Fin 16) (c : Fin 1024) : coefTile xc w ba lam (ix2 r c) = s.coef c r.val := by
  refine (coef_apply _ w ba lam r c).trans ?_
  unfold RgInput.coef
  rw [hs]
  exact congrArg (fun y => coefRow y _ _ _ c) (funext fun k => hxc r k)

include hs hxc in
theorem feed_tile (r : Fin 16) (c : Fin 1024) : feedTile xc w v ba bi lam (ix2 r c) = s.feed c r.val := by
  refine (feed_apply _ w v ba bi lam r c).trans ?_
  unfold RgInput.feed
  rw [hs]
  exact congrArg (fun y => feedRow y _ _ _ _ _ c) (funext fun k => hxc r k)

end Tile

section Groups

variable (s : RgInput) (a b A B : FVec Ideal S16x1024 .f32) (hc : FVec Ideal S8x1024 .f32)
  (ha : ∀ (r : Fin 16) c, a (ix2 r c) = s.coef c r.val) (hb : ∀ (r : Fin 16) c, b (ix2 r c) = s.feed c r.val)
  (hAB : ∀ (r : Fin 16) c, A (ix2 r c) * s.state (8 * (r.val / 8)) c + B (ix2 r c) = s.state (r.val + 1) c)
  (hh : ∀ (i : Fin 8) c, hc (ix2 i c) = s.h0 c)

include ha hb in
/-- Every row's state, from the state its group of eight begins with. -/
theorem group_tile (r : Fin 16) (c : Fin 1024) :
    k0_pay35 (F := Ideal) a 8#32 k0_pay25 k0_pay26 k0_pay27 (ix2 r c) * s.state (8 * (r.val / 8)) c
      + k0_pay34 (F := Ideal) a b 8#32 k0_pay25 k0_pay26 k0_pay27 (ix2 r c) = s.state (r.val + 1) c := by
  have e := s.state_group 0 r.val c
  simp only [Nat.zero_add] at e
  rw [e, groupA_apply a c _ (fun r => ha r c) r, groupB_apply a b c _ _ (fun r => ha r c) (fun r => hb r c) r]

include hAB hh in
theorem first_group (i : Fin 8) (c : Fin 1024) : k0_pay36 (F := Ideal) B A hc (ix2 i c) = s.state (i.val + 1) c := by
  have e := hAB ⟨i.val, by omega⟩ c
  rw [← e, show 8 * (i.val / 8) = 0 by omega]
  pointwise [k0_pay36]
  rw [hh]
  rfl

include hAB hh in
theorem second_group (i : Fin 8) (c : Fin 1024) : k0_pay38 (F := Ideal) B A hc (ix2 i c) = s.state (8 + i.val + 1) c := by
  have e := hAB ⟨8 + i.val, by omega⟩ c
  have e0 := first_group s A B hc hAB hh 7 c
  unfold k0_pay38
  generalize k0_pay36 (F := Ideal) B A hc = H at e0 ⊢
  rw [← e, show 8 * ((8 + i.val) / 8) = 8 by omega]
  pointwise
  rw [show H (ix2 7 c) = s.state 8 c from e0]

end Groups

end Cert.RgSampleIdeal.RefValue
end
-- ==== Proof.RgSampleValue.lean ====
/-
  The recurrent block's call on the samples: every batch element is one grid point.
-/
module

public import proofs.«01_k».proof.Proof.RgSampleBlock
public import proofs.«01_k».proof.Proof.Gen.RgSampleIdeal.Frame
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.RgSampleIdeal.RefValue

open Cert.RgSampleIdeal Cert.RgSampleIdeal.Gen Cert.Layer

variable (m : (ℓ : Loc nD τ sig) → Buf (Elt Ideal) ℓ) (c : Dev nD) (t : Fin cfg0.N)

/-- Where each window's block sits, at every grid point. -/
theorem idx_val : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0, 0]
    ∧ win0_7.index t = ![0, 0] ∧ win0_8.index t = ![0, 0, 0] ∧ win0_9.index t = ![0, 0] ∧ win0_10.index t = ![0, 0]
    ∧ win0_11.index t = ![0, 0] ∧ win0_12.index t = ![t.val, 0, 0] ∧ win0_13.index t = ![t.val, 0, 0]
    ∧ win0_14.index t = ![t.val, 0] ∧ win0_15.index t = ![t.val, 0, 0] ∧ win0_16.index t = ![t.val, 0, 0] :=
  (by decide +kernel : ∀ t : Fin grid0.N, _)

theorem blk1 (k : Fin 1024) : iblk m c 1 t (ix2 0 k) = m ((c : Thread nD τ).loc main_arg1) (ix1 k) := by
  blk_simp [iblk]
  unfold V V0
  simp only [List.flatten_cons, List.flatten_nil, List.cons_append, List.nil_append, List.append_nil, hostOps0, hostOps0_1, hostOps0_2]
  after_results_simp
  pointwise
  blk_ext [idx_val t]

theorem blk2 (k : Fin 1024) (l : Fin 2048) : iblk m c 2 t (ix2 k l) = m ((c : Thread nD τ).loc main_arg4) (ix2 k l) := by
  blk_simp [iblk]
  unfold V V0
  simp only [List.flatten_cons, List.flatten_nil, List.cons_append, List.nil_append, List.append_nil, hostOps0, hostOps0_1, hostOps0_2]
  after_results_simp
  pointwise
  blk_ext [idx_val t]

theorem blk3 (k : Fin 2048) : iblk m c 3 t (ix2 0 k) = m ((c : Thread nD τ).loc main_arg5) (ix1 k) := by
  blk_simp [iblk]
  unfold V V0
  simp only [List.flatten_cons, List.flatten_nil, List.cons_append, List.nil_append, List.append_nil, hostOps0, hostOps0_1, hostOps0_2]
  after_results_simp
  pointwise
  blk_ext [idx_val t]

theorem blk4 (k : Fin 4) (l : Fin 1024) : iblk m c 4 t (ix2 k l) = m ((c : Thread nD τ).loc main_arg6) (ix2 k l) := by
  blk_simp [iblk]
  unfold V V0
  simp only [List.flatten_cons, List.flatten_nil, List.cons_append, List.nil_append, List.append_nil, hostOps0, hostOps0_1, hostOps0_2]
  after_results_simp
  pointwise
  blk_ext [idx_val t]

theorem blk5 (k : Fin 1024) : iblk m c 5 t (ix2 0 k) = m ((c : Thread nD τ).loc main_arg7) (ix1 k) := by
  blk_simp [iblk]
  unfold V V0
  simp only [List.flatten_cons, List.flatten_nil, List.cons_append, List.nil_append, List.append_nil, hostOps0, hostOps0_1, hostOps0_2]
  after_results_simp
  pointwise
  blk_ext [idx_val t]

theorem blk6 (q : Fin 4) (k l : Fin 256) : iblk m c 6 t (ix3 q k l) = m ((c : Thread nD τ).loc main_arg8) (ix3 q k l) := by
  blk_simp [iblk]
  unfold V V0
  simp only [List.flatten_cons, List.flatten_nil, List.cons_append, List.nil_append, List.append_nil, hostOps0, hostOps0_1, hostOps0_2]
  after_results_simp
  pointwise
  blk_ext [idx_val t]

theorem blk7 (k : Fin 1024) : iblk m c 7 t (ix2 0 k) = m ((c : Thread nD τ).loc main_arg9) (ix1 k) := by
  blk_simp [iblk]
  unfold V V0
  simp only [List.flatten_cons, List.flatten_nil, List.cons_append, List.nil_append, List.append_nil, hostOps0, hostOps0_1, hostOps0_2]
  after_results_simp
  pointwise
  blk_ext [idx_val t]

theorem blk8 (q : Fin 4) (k l : Fin 256) : iblk m c 8 t (ix3 q k l) = m ((c : Thread nD τ).loc main_arg10) (ix3 q k l) := by
  blk_simp [iblk]
  unfold V V0
  simp only [List.flatten_cons, List.flatten_nil, List.cons_append, List.nil_append, List.append_nil, hostOps0, hostOps0_1, hostOps0_2]
  after_results_simp
  pointwise
  blk_ext [idx_val t]

theorem blk9 (k : Fin 1024) : iblk m c 9 t (ix2 0 k) = m ((c : Thread nD τ).loc main_arg11) (ix1 k) := by
  blk_simp [iblk]
  unfold V V0
  simp only [List.flatten_cons, List.flatten_nil, List.cons_append, List.nil_append, List.append_nil, hostOps0, hostOps0_1, hostOps0_2]
  after_results_simp
  pointwise
  blk_ext [idx_val t]

theorem blk10 (k : Fin 1024) : iblk m c 10 t (ix2 0 k) = m ((c : Thread nD τ).loc main_arg12) (ix1 k) := by
  blk_simp [iblk]
  unfold V V0
  simp only [List.flatten_cons, List.flatten_nil, List.cons_append, List.nil_append, List.append_nil, hostOps0, hostOps0_1, hostOps0_2]
  after_results_simp
  pointwise
  blk_ext [idx_val t]

theorem blk11 (k : Fin 1024) (l : Fin 1024) : iblk m c 11 t (ix2 k l) = m ((c : Thread nD τ).loc main_arg13) (ix2 k l) := by
  blk_simp [iblk]
  unfold V V0
  simp only [List.flatten_cons, List.flatten_nil, List.cons_append, List.nil_append, List.append_nil, hostOps0, hostOps0_1, hostOps0_2]
  after_results_simp
  pointwise
  blk_ext [idx_val t]

theorem blk0 (r : Fin 16) (k : Fin 1024) : iblk m c 0 t (ix2 r k) = m ((c : Thread nD τ).loc main_arg0) (ix3 ⟨t.val, lt_of_lt_of_eq t.isLt N_0⟩ r k) := by
  blk_simp [iblk]
  unfold V V0
  simp only [List.flatten_cons, List.flatten_nil, List.cons_append, List.nil_append, List.append_nil, hostOps0, hostOps0_1, hostOps0_2]
  after_results_simp
  pointwise
  blk_ext [idx_val t]

/-- The kernel holds the three earlier rows at the end of a group of eight. -/
theorem hist_pad (X : FVec Ideal S16x3x1024 .f32) (z : FVec Ideal S_ .f32) (b : Fin 16) (i : ℕ) (h : i < 3) (k : Fin 1024) :
    pad S16x8x1024 ![0, 5, 0] ![0, 0, 0] ![0, 0, 0] X z pads_S16x3x1024_S16x8x1024_000_500_000 h_S_ (ix3 b ⟨5 + i, by omega⟩ k)
      = X (ix3 b ⟨i, h⟩ k) := by
  pointwise
  exact dif_pos h

theorem blk12 (i : ℕ) (h : i < 3) (k : Fin 1024) : iblk m c 12 t (ix3 0 ⟨5 + i, by omega⟩ k) = m ((c : Thread nD τ).loc main_arg2) (ix3 ⟨t.val, lt_of_lt_of_eq t.isLt N_0⟩ ⟨i, h⟩ k) := by
  blk_simp [iblk]
  unfold V V0
  simp only [List.flatten_cons, List.flatten_nil, List.cons_append, List.nil_append, List.append_nil, hostOps0, hostOps0_1, hostOps0_2]
  after_results_simp
  show pad S16x8x1024 ![0, 5, 0] ![0, 0, 0] ![0, 0, 0] (m ((c : Thread nD τ).loc main_arg2) : FVec Ideal S16x3x1024 .f32)
    (sitofp .f32 (constantI S_ 32 0#32) : FVec Ideal S_ .f32)
    pads_S16x3x1024_S16x8x1024_000_500_000 h_S_ ((win0_12.blk t).view.emb (ix3 0 ⟨5 + i, by omega⟩ k)) = _
  have e : ((win0_12.blk t).view.emb (ix3 0 ⟨5 + i, by omega⟩ k) : S16x8x1024.Idx)
      = ix3 ⟨t.val, lt_of_lt_of_eq t.isLt N_0⟩ ⟨5 + i, by omega⟩ k := by
    blk_ext [idx_val t]
  rw [e]
  exact hist_pad _ _ _ i h k

theorem blk13 (i : Fin 8) (k : Fin 1024) : iblk m c 13 t (ix3 0 i k) = m ((c : Thread nD τ).loc main_arg3) (ix2 ⟨t.val, lt_of_lt_of_eq t.isLt N_0⟩ k) := by
  blk_simp [iblk]
  unfold V V0
  simp only [List.flatten_cons, List.flatten_nil, List.cons_append, List.nil_append, List.append_nil, hostOps0, hostOps0_1, hostOps0_2]
  after_results_simp
  pointwise
  blk_ext [idx_val t]

/-- The sequence of a batch element, from the arguments in memory. -/
abbrev seq (b : Fin 16) : RgInput := seqInput (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg6)) (m ((c : Thread nD τ).loc main_arg7))
  (m ((c : Thread nD τ).loc main_arg8)) (m ((c : Thread nD τ).loc main_arg9)) (m ((c : Thread nD τ).loc main_arg10))
  (m ((c : Thread nD τ).loc main_arg11)) (m ((c : Thread nD τ).loc main_arg12)) (m ((c : Thread nD τ).loc main_arg13)) b

abbrev at_ : Fin 16 := ⟨t.val, lt_of_lt_of_eq t.isLt N_0⟩

abbrev wBlk (x : FVec Ideal S4x256x256 .bf16) : Fin 4 → FVec Ideal S1x256x256 .bf16 :=
  ![View.ld (Val := Elt Ideal) (e' := .bf16) x (Rect.unit (s := S4x256x256) ![0, 0, 0] ![1, 256, 256] (by decide)), View.ld (Val := Elt Ideal) (e' := .bf16) x (Rect.unit (s := S4x256x256) ![1, 0, 0] ![1, 256, 256] (by decide)),
    View.ld (Val := Elt Ideal) (e' := .bf16) x (Rect.unit (s := S4x256x256) ![2, 0, 0] ![1, 256, 256] (by decide)), View.ld (Val := Elt Ideal) (e' := .bf16) x (Rect.unit (s := S4x256x256) ![3, 0, 0] ![1, 256, 256] (by decide))]

theorem wBlk_apply (x : FVec Ideal S4x256x256 .bf16) (q : Fin 4) (k l : Fin 256) : wBlk x q (ix3 0 k l) = x (ix3 q k l) := by
  fin_cases q <;> pointwise [wBlk] <;> rfl

theorem seq_p : (seq m c (at_ t)).p = tileParams (iblk m c 1 t) (iblk m c 2 t) (iblk m c 3 t) (iblk m c 4 t) (iblk m c 5 t)
    (wBlk (iblk m c 6 t)) (wBlk (iblk m c 8 t)) (iblk m c 7 t) (iblk m c 9 t) (iblk m c 10 t) (iblk m c 11 t) := by
  simp only [tileParams, wBlk_apply]
  simp only [blk1, blk2, blk3, blk4, blk5, blk6, blk7, blk8, blk9, blk10, blk11]
  rfl

theorem seq_x (r : Fin 16) (k : Fin 1024) : iblk m c 0 t (ix2 r k) = (seq m c (at_ t)).x r.val k := by
  rw [blk0]
  simp only [seq, seqInput, dif_pos r.isLt]

theorem seq_hist (i : ℕ) (h : i < 3) (k : Fin 1024) : k0_pay3 (F := Ideal) (iblk m c 12 t) (ix2 ⟨5 + i, by omega⟩ k)
    = (seq m c (at_ t)).ext i k := by
  pointwise [k0_pay3]
  rw [blk12 m c t i h k]
  unfold RgInput.ext
  rw [if_pos h]
  simp only [seq, seqInput, dif_pos h]

theorem seq_h0 (i : Fin 8) (k : Fin 1024) : k0_pay4 (F := Ideal) (iblk m c 13 t) (ix2 i k) = (seq m c (at_ t)).h0 k := by
  pointwise [k0_pay4]
  rw [blk13 m c t i k]
  rfl

theorem out_apply (x0 gate hs : FVec Ideal S16x1024 .f32) (wo : FVec Ideal S1024x1024 .bf16) (r : Fin 16) (k : Fin 1024) :
    k0_pay42 (F := Ideal) x0 gate hs wo (ix2 r k)
      = x0 (ix2 r k) + ∑ j : Fin 1024, hs (ix2 r j) * gate (ix2 r j) * wo (ix2 j k) := by
  pointwise [k0_pay42]

theorem first_store (B A : FVec Ideal S16x1024 .f32) (hc : FVec Ideal S8x1024 .f32) (i : Fin 8) (k : Fin 1024) :
    k0_pay37 (F := Ideal) B A hc (ix2 i k) = k0_pay36 B A hc (ix2 i k) := by
  unfold k0_pay37
  pointwise

theorem second_store (B A : FVec Ideal S16x1024 .f32) (hc : FVec Ideal S8x1024 .f32) (i : Fin 8) (k : Fin 1024) :
    k0_pay39 (F := Ideal) B A hc (ix2 i k) = k0_pay38 B A hc (ix2 i k) := by
  unfold k0_pay39
  pointwise

theorem state_store (B A : FVec Ideal S16x1024 .f32) (hc : FVec Ideal S8x1024 .f32) (i : Fin 8) (k : Fin 1024) :
    k0_pay2 (F := Ideal) (k0_pay40 B A hc) (ix3 0 i k) = k0_pay38 B A hc (ix2 7 k) := by
  unfold k0_pay40
  pointwise [k0_pay2]

theorem hs_read (p0 p1 : FVec Ideal S8x1024 .f32) (S : ℕ → Row) (h0 : ∀ (i : Fin 8) k, p0 (ix2 i k) = S (i.val + 1) k)
    (h1 : ∀ (i : Fin 8) k, p1 (ix2 i k) = S (8 + i.val + 1) k) (r : Fin 16) (j : Fin 1024) :
    View.readCov (Val := Elt Ideal) (View.whole cc0_scratch2)
      [⟨Rect.unit (s := S16x1024) ![8, 0] ![8, 1024] (by decide), p1⟩, ⟨Rect.unit (s := S16x1024) ![0, 0] ![8, 1024] (by decide), p0⟩]
      (Rect.unit (s := S16x1024) ![0, 0] ![16, 1024] (by decide)).toLoadRect (ix2 r j) = S (r.val + 1) j := by
  rw [View.readCov_eq_canon']
  refine (View.canon_apply_of_pieces (fun y : S16x1024.Idx => S ((y 0).val + 1) (y 1)) _ ?_ _
    (View.cover_of_tiled _ ![8, 1024] (by rfl) _)).trans ?_
  · refine List.forall_mem_cons.2 ⟨fun y => ?_, List.forall_mem_cons.2 ⟨fun y => ?_, by simp⟩⟩
    · idx_vars y
      refine (h1 y0 y1).trans (congrArg₂ S ?_ (Fin.ext ?_)) <;> simp [Rect.emb, Rect.unit]
    · idx_vars y
      refine (h0 y0 y1).trans (congrArg₂ S ?_ (Fin.ext ?_)) <;> simp [Rect.emb, Rect.unit]
  · refine congrArg₂ S ?_ (Fin.ext ?_) <;> simp [LoadRect.idx, Rect.toLoadRect, Rect.unit]

set_option maxHeartbeats 1000000 in
/-- What the body stores: its rows' outputs, and the state after the last row. -/
theorem point_rows : (∀ (r : Fin 16) (k : Fin 1024), (dats m 0 c).after 14 t (ix2 r k) = (seq m c (at_ t)).out r.val k)
    ∧ ∀ (i : Fin 8) (k : Fin 1024), (dats m 0 c).after 16 t (ix3 0 i k) = (seq m c (at_ t)).state 16 k := by
  rw [after0_14, after0_16]
  unfold outsAt0
  frame_out
  generalize exc : k0_pay9 (F := Ideal) _ _ _ _ = xc
  have hxc : ∀ (r : Fin 16) k, xc (ix2 r k) = (seq m c (at_ t)).conv r.val k := by
    intro r k
    rw [← exc]
    exact conv_tile _ _ _ _ _ _ _ _ _ _ _ _ _ _ (seq_p m c t) (seq_x m c t) (seq_hist m c t) r k
  clear exc
  generalize ea : k0_pay23 (F := Ideal) _ _ _ _ _ _ = a
  have ha : ∀ (r : Fin 16) k, a (ix2 r k) = (seq m c (at_ t)).coef k r.val := by
    intro r k
    rw [← ea]
    exact coef_tile (seq m c (at_ t)) _ _ _ _ _ _ _ _ _ _ _ (seq_p m c t) xc hxc r k
  clear ea
  generalize eb : k0_pay24 (F := Ideal) _ _ _ _ _ _ _ _ _ _ _ _ _ _ = b
  have hb : ∀ (r : Fin 16) k, b (ix2 r k) = (seq m c (at_ t)).feed k r.val := by
    intro r k
    rw [← eb]
    exact feed_tile (seq m c (at_ t)) _ _ _ _ _ _ _ _ _ _ _ (seq_p m c t) xc hxc r k
  clear eb
  have hAB := group_tile (seq m c (at_ t)) a b ha hb
  have f0 := fun i k => (first_store _ _ _ i k).trans (first_group (seq m c (at_ t)) _ _ _ hAB (seq_h0 m c t) i k)
  have f1 := fun i k => (second_store _ _ _ i k).trans (second_group (seq m c (at_ t)) _ _ _ hAB (seq_h0 m c t) i k)
  refine ⟨fun r k => ?_, fun i k => (state_store _ _ _ i k).trans (second_group (seq m c (at_ t)) _ _ _ hAB (seq_h0 m c t) 7 k)⟩
  refine (out_apply _ _ _ _ r k).trans ?_
  unfold RgInput.out outRow
  refine congrArg₂ (· + ·) ?_ (Finset.sum_congr rfl fun j _ => congrArg₂ (· * ·) (congrArg₂ (· * ·) ?_ ?_) ?_)
  · pointwise [k0_pay5]
    exact seq_x m c t r k
  · exact hs_read _ _ _ f0 f1 r j
  · exact gate_tile _ _ _ _ _ _ _ _ _ _ _ _ _ (seq_p m c t) (seq_x m c t) r j
  · rw [seq_p m c t]
/-- And the last eight of the convolution's inputs. -/
theorem point_conv (i : Fin 8) (k : Fin 1024) :
    (dats m 0 c).after 15 t (ix3 0 i k) = (seq m c (at_ t)).ext (8 + i.val + 3) k := by
  rw [after0_15]
  unfold outsAt0
  frame_out
  have e := ext_tile (seq m c (at_ t)) _ _ _ _ _ _ _ _ _ _ _ _ (seq_p m c t) (seq_x m c t) ⟨8 + i.val, by omega⟩ k
  generalize k0_pay8 (F := Ideal) _ _ _ _ = u at e ⊢
  refine Eq.trans ?_ e
  pointwise [k0_pay1, k0_pay44]

/-- The three result arrays after the region. -/
theorem final_rows : (dats m 0 c).arrAt 14 (cfgs 0).N
    = outRows (seq m c) := by
  refine (dats m 0 c).arrAt_eq_of_covers 14 _ (by decide +kernel) fun t _ y => ?_
  blk_simp
  idx_vars y
  have e : (((cfg0.win 14).blk t).view.emb (ix2 y0 y1) : S256x1024.Idx)
      = ix2 ⟨t.val * 16 + y0.val, by have := lt_of_lt_of_eq t.isLt N_0; omega⟩ y1 := by
    blk_ext [idx_val t]
  rw [e]
  refine ((point_rows m c t).1 y0 y1).trans ?_
  have eb : batchOf ⟨t.val * 16 + y0.val, by have := lt_of_lt_of_eq t.isLt N_0; omega⟩ = at_ t :=
    Fin.ext (by show (t.val * 16 + y0.val) / 16 = t.val; omega)
  have er : (t.val * 16 + y0.val) % 16 = y0.val := by omega
  show _ = (seq m c (batchOf ⟨t.val * 16 + y0.val, _⟩)).out ((t.val * 16 + y0.val) % 16) y1
  rw [eb, er]

theorem final_conv : (dats m 0 c).arrAt 15 (cfgs 0).N
    = fun i : S16x8x1024.Idx => (seq m c (i 0)).ext (8 + (i 1).val + 3) (i 2) := by
  refine (dats m 0 c).arrAt_eq_of_covers 15 _ (by decide +kernel) fun t _ y => ?_
  blk_simp
  idx_vars y
  have e : (((cfg0.win 15).blk t).view.emb (ix3 y0 y1 y2) : S16x8x1024.Idx) = ix3 (at_ t) y1 y2 := by
    blk_ext [idx_val t]
  rw [e, show y0 = 0 from Subsingleton.elim _ _]
  refine (point_conv m c t y1 y2).trans ?_
  show _ = (seq m c (at_ t)).ext (8 + (win0_15.index t 1 * 8 + y1.val) + 3) y2
  rw [show win0_15.index t 1 = 0 from congrFun (idx_val t).2.2.2.2.2.2.2.2.2.2.2.2.2.2.2.1 1, Nat.zero_mul, Nat.zero_add]

theorem final_state : (dats m 0 c).arrAt 16 (cfgs 0).N
    = fun i : S16x8x1024.Idx => (seq m c (i 0)).state 16 (i 2) := by
  refine (dats m 0 c).arrAt_eq_of_covers 16 _ (by decide +kernel) fun t _ y => ?_
  blk_simp
  idx_vars y
  have e : (((cfg0.win 16).blk t).view.emb (ix3 y0 y1 y2) : S16x8x1024.Idx) = ix3 (at_ t) y1 y2 := by
    blk_ext [idx_val t]
  rw [e, show y0 = 0 from Subsingleton.elim _ _]
  exact (point_rows m c t).2 y1 y2

theorem run (ρ : Dev nD → PrngReg) : θ_run defs (onTc (τ := τ) (main (F := Ideal))) ⟨m, fun _ => 0, ρ⟩ fun r => ∀ c : Dev nD,
      r.2.mem ((c : Thread nD τ).loc main_v14_0) = outRows (seq m c)
      ∧ r.2.mem ((c : Thread nD τ).loc main_v15) = lastInputs (seq m c)
      ∧ r.2.mem ((c : Thread nD τ).loc main_v17) = lastState (seq m c) := by
  refine (θ_run defs _ _).mono (fun r h c => ⟨?_, ?_, ?_⟩) (run_main (F := Ideal) m ρ)
  · exact ((h c).1 14).trans (final_rows m c)
  · refine ((h c).2 main_v15 (by decide)).trans ?_
    unfold Pipeline.afterTail₀
    simp only [List.flatten_cons, List.flatten_nil, List.append_nil, hostOps1]
    after_region_results
    have e := (Pipeline.withArrays_arr (cfgs 0).spec launch0.win.arr_inj c (V0 m c) (fun w => (dats m 0 c).arrAt w (cfgs 0).N) 15).trans
      (final_conv m c)
    refine (congrArg (fun Y => extractStridedSlice S16x3x1024 ![0, 5, 0] Y slices_S16x8x1024_S16x3x1024_0_5_0) e).trans ?_
    funext i
    idx_vars i
    unfold lastInputs
    pointwise
    rw [show 8 + (5 + i1.val) + 3 = 16 + i1.val by omega]
  · refine ((h c).2 main_v17 (by decide)).trans ?_
    unfold Pipeline.afterTail₀
    simp only [List.flatten_cons, List.flatten_nil, List.append_nil, hostOps1]
    after_region_results
    have e := (Pipeline.withArrays_arr (cfgs 0).spec launch0.win.arr_inj c (V0 m c) (fun w => (dats m 0 c).arrAt w (cfgs 0).N) 16).trans
      (final_state m c)
    refine (congrArg (fun Y => shapeCast S16x1024 (extractStridedSlice S16x1x1024 ![0, 0, 0] Y slices_S16x8x1024_S16x1x1024_0_0_0)
      shapeCasts_S16x1x1024_S16x1024) e).trans ?_
    funext i
    idx_vars i
    unfold lastState
    pointwise

end Cert.RgSampleIdeal.RefValue
end
-- ==== Proof.RgSampleRef.lean ====
/-
  The reference of the sampled recurrence, read at its indices: the same sequences' outputs, convolution inputs and states.
-/
module

public import proofs.«01_k».proof.Proof.RgInputs
public import proofs.«01_k».proof.Proof.Gen.RgSampleRefIdeal.Run
public import proofs.«01_k».proof.Proof.Gen.RgSampleRefIdeal.Read
public import Idealize.ShloMosaic.Lib.Pointwise

@[expose] public section

set_option maxRecDepth 16384

noncomputable section

open Idealize.ShloMosaic Idealize.ShloMosaic.TcCoe Idealize.SL.Sem

namespace Cert.RgSampleRefIdeal.RefValue

open Cert.RgSampleRefIdeal Cert.RgSampleRefIdeal.Gen Cert.Layer

variable (X : FVec Ideal S16x16x1024 .f32) (G : FVec Ideal S1024 .f32) (Hi : FVec Ideal S16x3x1024 .f32)
    (H0 : FVec Ideal S16x1024 .f32) (Win : FVec Ideal S1024x2048 .f32) (Bin : FVec Ideal S2048 .f32)
    (Cw : FVec Ideal S4x1024 .f32) (Cb : FVec Ideal S1024 .f32) (Wa : FVec Ideal S4x256x256 .f32) (Ba : FVec Ideal S1024 .f32)
    (Wi : FVec Ideal S4x256x256 .f32) (Bi Lam : FVec Ideal S1024 .f32) (Wout : FVec Ideal S1024x1024 .f32)

/-- The sequences of the arguments. -/
abbrev sq (b : Fin 16) : RgInput := seqInput X G Hi H0 Win Bin Cw Cb Wa Ba Wi Bi Lam Wout b

theorem sq_x (b t : Fin 16) (k : Fin 1024) : (sq X G Hi H0 Win Bin Cw Cb Wa Ba Wi Bi Lam Wout b).x t.val k = X (ix3 b t k) := by
  simp only [sq, seqInput, dif_pos t.isLt]

/-- The projection of the normalised row. -/
theorem project_apply (b t : Fin 16) (c : Fin 2048) : Read.val_main_v16 (F := Ideal) X G Win Bin (ix3 b t c)
    = project ((sq X G Hi H0 Win Bin Cw Cb Wa Ba Wi Bi Lam Wout b).x t.val) (fun k => G (ix1 k)) (fun k c => Win (ix2 k c)) (fun c => Bin (ix1 c)) c := by
  unfold project normRow
  simp only [sq_x]
  pointwise [Read.val_main_v16, Read.val_main_v15, Read.val_main_v14, Read.val_main_v13, Read.val_main_v12,
    Read.val_main_v11, Read.val_main_v10, Read.val_main_v9, Read.val_main_v8, Read.val_main_v7, Read.val_main_v6, Read.val_main_v5,
    Read.val_main_v4, Read.val_main_v3, Read.val_main_v2, Read.val_main_v1, Read.val_main_v0,
    Read.val_main_cst, Read.val_main_cst_0, Read.val_main_cst_1, zero_add]

/-- Its first half through gelu. -/
theorem gate_apply (b t : Fin 16) (c : Fin 1024) : Read.val_main_v31 (F := Ideal) X G Win Bin (ix3 b t c)
    = gateRow ((sq X G Hi H0 Win Bin Cw Cb Wa Ba Wi Bi Lam Wout b).x t.val) (fun k => G (ix1 k)) (fun k c => Win (ix2 k c)) (fun c => Bin (ix1 c)) c := by
  unfold gateRow
  rw [gelu_tanh, ← project_apply X G Hi H0 Win Bin Cw Cb Wa Ba Wi Bi Lam Wout b t]
  pointwise [Read.val_main_v31, Read.val_main_v30, Read.val_main_v29, Read.val_main_v28, Read.val_main_v27, Read.val_main_v26,
    Read.val_main_v25, Read.val_main_v24, Read.val_main_v23, Read.val_main_v22, Read.val_main_v21, Read.val_main_v20,
    Read.val_main_v19, Read.val_main_v17, Read.val_main_cst_2, Read.val_main_cst_3, Read.val_main_cst_4, Read.val_main_cst_5,
    ofBits_root, ofBits_cube, ofBits_half]

/-- The convolution's inputs. -/
theorem ext_apply (b : Fin 16) (j : Fin 19) (c : Fin 1024) : Read.val_main_v32 (F := Ideal) X G Hi Win Bin (ix3 b j c)
    = (sq X G Hi H0 Win Bin Cw Cb Wa Ba Wi Bi Lam Wout b).ext j.val c := by
  have hx := project_apply X G Hi H0 Win Bin Cw Cb Wa Ba Wi Bi Lam Wout b
  unfold RgInput.ext
  by_cases hj : j.val < 3
  · rw [if_pos hj]
    refine (concatenate_pair_apply_left (t := S16x19x1024) (1 : Fin 3) Hi _ _ (ix3 b j c) rfl (ix3 b ⟨j.val, hj⟩ c) ?_).trans ?_
    · intro k; fin_cases k <;> simp
    · simp only [sq, seqInput, dif_pos hj]
  · rw [if_neg hj]
    refine (concatenate_pair_apply_right (t := S16x19x1024) (s₂ := S16x16x1024) (1 : Fin 3) Hi _ _ (ix3 b j c) rfl rfl
      (ix3 b ⟨j.val - 3, by omega⟩ c) ?_ ?_).trans ?_
    · intro k hk; fin_cases k <;> simp at hk ⊢
    · simp; omega
    · refine Eq.trans ?_ (hx ⟨j.val - 3, by omega⟩ ⟨1024 + c.val, by omega⟩)
      pointwise [Read.val_main_v18]

/-- The convolution. -/
theorem conv_apply (b t : Fin 16) (c : Fin 1024) : Read.val_main_v62 (F := Ideal) X G Hi Win Bin Cw Cb (ix3 b t c)
    = (sq X G Hi H0 Win Bin Cw Cb Wa Ba Wi Bi Lam Wout b).conv t.val c := by
  have he := ext_apply X G Hi H0 Win Bin Cw Cb Wa Ba Wi Bi Lam Wout b
  refine Eq.trans (b := Cb (ix1 c) + Read.val_main_v32 (F := Ideal) X G Hi Win Bin (ix3 b ⟨t.val, by omega⟩ c) * Cw (ix2 0 c)
    + Read.val_main_v32 (F := Ideal) X G Hi Win Bin (ix3 b ⟨t.val + 1, by omega⟩ c) * Cw (ix2 1 c)
    + Read.val_main_v32 (F := Ideal) X G Hi Win Bin (ix3 b ⟨t.val + 2, by omega⟩ c) * Cw (ix2 2 c)
    + Read.val_main_v32 (F := Ideal) X G Hi Win Bin (ix3 b ⟨t.val + 3, by omega⟩ c) * Cw (ix2 3 c)) ?_ ?_
  · pointwise [Read.val_main_v62, Read.val_main_v61, Read.val_main_v60, Read.val_main_v59, Read.val_main_v58, Read.val_main_v57,
      Read.val_main_v56, Read.val_main_v55, Read.val_main_v54, Read.val_main_v53, Read.val_main_v52, Read.val_main_v51,
      Read.val_main_v50, Read.val_main_v49, Read.val_main_v48, Read.val_main_v47, Read.val_main_v46, Read.val_main_v45,
      Read.val_main_v44, Read.val_main_v43, Read.val_main_v42, Read.val_main_v41, Read.val_main_v40, Read.val_main_v39,
      Read.val_main_v38, Read.val_main_v37, Read.val_main_v36, Read.val_main_v35, Read.val_main_v34, Read.val_main_v33]
    simp only [Nat.add_comm]
  · rw [he, he, he, he]
    exact conv_order _ _ _ _ _ _ _ _ _

/-- The two gates' products with the block-diagonal weights. -/
theorem block_a (b t : Fin 16) (c : Fin 1024) : Read.val_main_v69 (F := Ideal) X G Hi Win Bin Cw Cb Wa Ba (ix3 b t c)
    = blockRow ((sq X G Hi H0 Win Bin Cw Cb Wa Ba Wi Bi Lam Wout b).conv t.val) (fun q k l => Wa (ix3 q k l)) (fun k => Ba (ix1 k)) c := by
  have hc := conv_apply X G Hi H0 Win Bin Cw Cb Wa Ba Wi Bi Lam Wout b t
  unfold blockRow
  simp only [← hc]
  pointwise [Read.val_main_v69, Read.val_main_v68, Read.val_main_v67, Read.val_main_v66, Read.val_main_v65, Read.val_main_v64, Read.val_main_v63]
  exact congrArg (· + _) (Finset.sum_congr rfl fun k _ => (mul_comm _ _).trans (by simp only [Nat.mul_comm 256]))

theorem block_i (b t : Fin 16) (c : Fin 1024) : Read.val_main_v81 (F := Ideal) X G Hi Win Bin Cw Cb Wi Bi (ix3 b t c)
    = blockRow ((sq X G Hi H0 Win Bin Cw Cb Wa Ba Wi Bi Lam Wout b).conv t.val) (fun q k l => Wi (ix3 q k l)) (fun k => Bi (ix1 k)) c := by
  have hc := conv_apply X G Hi H0 Win Bin Cw Cb Wa Ba Wi Bi Lam Wout b t
  unfold blockRow
  simp only [← hc]
  pointwise [Read.val_main_v81, Read.val_main_v80, Read.val_main_v79, Read.val_main_v78, Read.val_main_v77, Read.val_main_v76, Read.val_main_v63]
  exact congrArg (· + _) (Finset.sum_congr rfl fun k _ => (mul_comm _ _).trans (by simp only [Nat.mul_comm 256]))

theorem softplus_apply (c : Fin 1024) : Read.val_main_v91 (F := Ideal) Lam (ix1 c) = softplusNeg (Lam (ix1 c)) := by
  unfold softplusNeg
  pointwise [Read.val_main_v91, Read.val_main_v90, Read.val_main_call0_v11, Read.val_main_call0_v10, Read.val_main_call0_v9,
    Read.val_main_call0_v8, Read.val_main_call0_v7, Read.val_main_call0_v6, Read.val_main_call0_v5, Read.val_main_call0_v4,
    Read.val_main_call0_v3, Read.val_main_call0_v2, Read.val_main_call0_v1, Read.val_main_call0_v0, Read.val_main_call0_cst]
  rw [if_neg (fun h => h rfl)]
  rfl

theorem logDecay_apply (b t : Fin 16) (c : Fin 1024) : Read.val_main_v94 (F := Ideal) X G Hi Win Bin Cw Cb Wa Ba Lam (ix3 b t c)
    = logDecay (blockRow ((sq X G Hi H0 Win Bin Cw Cb Wa Ba Wi Bi Lam Wout b).conv t.val) (fun q k l => Wa (ix3 q k l)) (fun k => Ba (ix1 k)) c)
        (Lam (ix1 c)) := by
  unfold logDecay
  rw [← softplus_apply, ← block_a X G Hi H0 Win Bin Cw Cb Wa Ba Wi Bi Lam Wout b t]
  pointwise [Read.val_main_v94, Read.val_main_v93, Read.val_main_v92, Read.val_main_v89, Read.val_main_v88, Read.val_main_v75,
    Read.val_main_v74, Read.val_main_v73, Read.val_main_v72, Read.val_main_v71, Read.val_main_v70, Read.val_main_cst_6,
    Read.val_main_cst_7, Read.val_main_cst_10, ofBits_neg_eight]
  rfl

theorem coef_apply (b t : Fin 16) (c : Fin 1024) : Read.val_main_v95 (F := Ideal) X G Hi Win Bin Cw Cb Wa Ba Lam (ix3 b t c)
    = (sq X G Hi H0 Win Bin Cw Cb Wa Ba Wi Bi Lam Wout b).coef c t.val :=
  congrArg Ideal.exp (logDecay_apply X G Hi H0 Win Bin Cw Cb Wa Ba Wi Bi Lam Wout b t c)

theorem feed_apply (b t : Fin 16) (c : Fin 1024) :
    Read.val_main_v102 (F := Ideal) X G Hi Win Bin Cw Cb Wa Ba Wi Bi Lam (ix3 b t c)
    = (sq X G Hi H0 Win Bin Cw Cb Wa Ba Wi Bi Lam Wout b).feed c t.val := by
  unfold RgInput.feed feedRow coefRow decay
  rw [← scale_eq]
  have e1 := logDecay_apply X G Hi H0 Win Bin Cw Cb Wa Ba Wi Bi Lam Wout b t c
  have e2 := block_i X G Hi H0 Win Bin Cw Cb Wa Ba Wi Bi Lam Wout b t c
  have e3 := conv_apply X G Hi H0 Win Bin Cw Cb Wa Ba Wi Bi Lam Wout b t c
  refine Eq.trans (b := Ideal.sqrt (-(Ideal.expm1 (((2 : ℝ) : EReal) * Read.val_main_v94 (F := Ideal) X G Hi Win Bin Cw Cb Wa Ba Lam (ix3 b t c))))
    * (Ideal.logistic (Read.val_main_v81 (F := Ideal) X G Hi Win Bin Cw Cb Wi Bi (ix3 b t c))
      * Read.val_main_v62 (F := Ideal) X G Hi Win Bin Cw Cb (ix3 b t c))) ?_ ?_
  · pointwise [Read.val_main_v102, Read.val_main_v101, Read.val_main_v100, Read.val_main_v99, Read.val_main_v98, Read.val_main_v97,
      Read.val_main_v96, Read.val_main_v87, Read.val_main_v86, Read.val_main_v85, Read.val_main_v84, Read.val_main_v83,
      Read.val_main_v82, Read.val_main_cst_8, Read.val_main_cst_9, Read.val_main_cst_11, ofBits_two]
    rfl
  · rw [e1, e2, e3]
    rfl

/-- The first step's input with the first state folded in. -/
theorem reads_first : Reads (d := 16) (n := 16) (Read.val_main_v109 (F := Ideal) X G Hi H0 Win Bin Cw Cb Wa Ba Wi Bi Lam)
    (fun b c i => if i = 0 then (sq X G Hi H0 Win Bin Cw Cb Wa Ba Wi Bi Lam Wout b).feed c 0
        + (sq X G Hi H0 Win Bin Cw Cb Wa Ba Wi Bi Lam Wout b).coef c 0 * (sq X G Hi H0 Win Bin Cw Cb Wa Ba Wi Bi Lam Wout b).h0 c
      else (sq X G Hi H0 Win Bin Cw Cb Wa Ba Wi Bi Lam Wout b).feed c i) := by
  have ec := coef_apply X G Hi H0 Win Bin Cw Cb Wa Ba Wi Bi Lam Wout
  have ef := feed_apply X G Hi H0 Win Bin Cw Cb Wa Ba Wi Bi Lam Wout
  refine reads_join (d := 16) (n := 16) (l := 15) (H := Read.val_main_v107 (F := Ideal) X G Hi H0 Win Bin Cw Cb Wa Ba Wi Bi Lam)
    (T := Read.val_main_v108 (F := Ideal) X G Hi Win Bin Cw Cb Wa Ba Wi Bi Lam) (fun b c => ?_) (fun b i c => ?_) rfl _
  · rw [if_pos rfl]
    refine Eq.trans ?_ (congrArg₂ (· + ·) (ef b 0 c) (congrArg (· * H0 (ix2 b c)) (ec b 0 c)))
    pointwise [Read.val_main_v107, Read.val_main_v106, Read.val_main_v105, Read.val_main_v104, Read.val_main_v103]
  · rw [if_neg (Nat.succ_ne_zero _)]
    refine Eq.trans ?_ (ef b ⟨i.val + 1, by omega⟩ c)
    pointwise [Read.val_main_v108]
    simp only [Nat.add_comm]

/-- The state after each step. -/
theorem state_apply (b t : Fin 16) (c : Fin 1024) :
    Read.val_main_v205 (F := Ideal) X G Hi H0 Win Bin Cw Cb Wa Ba Wi Bi Lam (ix3 b t c)
      = (sq X G Hi H0 Win Bin Cw Cb Wa Ba Wi Bi Lam Wout b).state (t.val + 1) c := by
  have hc : ∀ b c, Coeff ((sq X G Hi H0 Win Bin Cw Cb Wa Ba Wi Bi Lam Wout b).coef c) := fun b c => RgInput.coeff_coef _ _
  have a0 : Reads (d := 16) (n := 16) (Read.val_main_v95 (F := Ideal) X G Hi Win Bin Cw Cb Wa Ba Lam) _ :=
    coef_apply X G Hi H0 Win Bin Cw Cb Wa Ba Wi Bi Lam Wout
  have b0 := reads_first X G Hi H0 Win Bin Cw Cb Wa Ba Wi Bi Lam Wout
  have a1 : Reads (d := 16) (n := 8) (Read.val_main_v114 (F := Ideal) X G Hi Win Bin Cw Cb Wa Ba Lam) _ := reads_pairA a0 rfl _ _
  have b1 : Reads (d := 16) (n := 8) (Read.val_main_v116 (F := Ideal) X G Hi H0 Win Bin Cw Cb Wa Ba Wi Bi Lam) _ :=
    reads_pairB a0 b0 rfl _ _ _
  have a2 : Reads (d := 16) (n := 4) (Read.val_main_v121 (F := Ideal) X G Hi Win Bin Cw Cb Wa Ba Lam) _ := reads_pairA a1 rfl _ _
  have b2 : Reads (d := 16) (n := 4) (Read.val_main_v123 (F := Ideal) X G Hi H0 Win Bin Cw Cb Wa Ba Wi Bi Lam) _ :=
    reads_pairB a1 b1 rfl _ _ _
  have a3 : Reads (d := 16) (n := 2) (Read.val_main_v128 (F := Ideal) X G Hi Win Bin Cw Cb Wa Ba Lam) _ := reads_pairA a2 rfl _ _
  have b3 : Reads (d := 16) (n := 2) (Read.val_main_v130 (F := Ideal) X G Hi H0 Win Bin Cw Cb Wa Ba Wi Bi Lam) _ :=
    reads_pairB a2 b2 rfl _ _ _
  have b4 : Reads (d := 16) (n := 1) (Read.val_main_v137 (F := Ideal) X G Hi H0 Win Bin Cw Cb Wa Ba Wi Bi Lam) _ :=
    reads_pairB a3 b3 rfl _ _ _
  have s3 : Reads (d := 16) (n := 2) (Read.val_main_v154 (F := Ideal) X G Hi H0 Win Bin Cw Cb Wa Ba Wi Bi Lam) _ :=
    reads_scan (l := 0) (fun b c => coeff_pairA (coeff_pairA (coeff_pairA (hc b c)))) a3 b3 (reads_single b4) rfl rfl _ _ _ _ _ _ _ _ _
  have s2 : Reads (d := 16) (n := 4) (Read.val_main_v171 (F := Ideal) X G Hi H0 Win Bin Cw Cb Wa Ba Wi Bi Lam) _ :=
    reads_scan (l := 1) (fun b c => coeff_pairA (coeff_pairA (hc b c))) a2 b2 s3 rfl rfl _ _ _ _ _ _ _ _ _
  have s1 : Reads (d := 16) (n := 8) (Read.val_main_v188 (F := Ideal) X G Hi H0 Win Bin Cw Cb Wa Ba Wi Bi Lam) _ :=
    reads_scan (l := 3) (fun b c => coeff_pairA (hc b c)) a1 b1 s2 rfl rfl _ _ _ _ _ _ _ _ _
  have s0 : Reads (d := 16) (n := 16) (Read.val_main_v205 (F := Ideal) X G Hi H0 Win Bin Cw Cb Wa Ba Wi Bi Lam) _ :=
    reads_scan (l := 7) hc a0 b0 s1 rfl rfl _ _ _ _ _ _ _ _ _
  rw [s0 b t c]
  exact (steps_scan _ _ _ _).symm

/-- The three results. -/
theorem rows_eq : Read.val_main_v209 (F := Ideal) X G Hi H0 Win Bin Cw Cb Wa Ba Wi Bi Lam Wout
    = outRows (sq X G Hi H0 Win Bin Cw Cb Wa Ba Wi Bi Lam Wout) := by
  funext i
  idx_vars i
  have er : i0.val % 16 < 16 := Nat.mod_lt _ (by norm_num)
  have es := state_apply X G Hi H0 Win Bin Cw Cb Wa Ba Wi Bi Lam Wout (batchOf i0) ⟨i0.val % 16, er⟩
  have eg := gate_apply X G Hi H0 Win Bin Cw Cb Wa Ba Wi Bi Lam Wout (batchOf i0) ⟨i0.val % 16, er⟩
  have ex := sq_x X G Hi H0 Win Bin Cw Cb Wa Ba Wi Bi Lam Wout (batchOf i0) ⟨i0.val % 16, er⟩ i1
  show _ = outRow _ _ _ _ i1
  unfold outRow
  refine Eq.trans ?_ (congrArg₂ (· + ·) ex.symm (Finset.sum_congr rfl fun k _ => congrArg (· * Wout (ix2 k i1))
    (congrArg₂ (· * ·) (es k) (eg k))))
  pointwise [Read.val_main_v209, Read.val_main_v208, Read.val_main_v207, Read.val_main_v206]
  rfl

theorem inputs_eq : Read.val_main_v210 (F := Ideal) X G Hi Win Bin
    = lastInputs (sq X G Hi H0 Win Bin Cw Cb Wa Ba Wi Bi Lam Wout) := by
  funext i
  idx_vars i
  refine Eq.trans ?_ (ext_apply X G Hi H0 Win Bin Cw Cb Wa Ba Wi Bi Lam Wout i0 ⟨16 + i1.val, by omega⟩ i2)
  pointwise [Read.val_main_v210]

theorem last_eq : Read.val_main_v212 (F := Ideal) X G Hi H0 Win Bin Cw Cb Wa Ba Wi Bi Lam
    = lastState (sq X G Hi H0 Win Bin Cw Cb Wa Ba Wi Bi Lam Wout) := by
  funext i
  idx_vars i
  refine Eq.trans ?_ (state_apply X G Hi H0 Win Bin Cw Cb Wa Ba Wi Bi Lam Wout i0 15 i1)
  pointwise [Read.val_main_v212, Read.val_main_v211]

end Cert.RgSampleRefIdeal.RefValue

end
-- ==== Proof.RgSampleClaims.lean ====
/-
  The claims about the sampled recurrence: the kernel and the reference leave the same three results.
-/
module

public import proofs.«01_k».proof.Defs
public import proofs.«01_k».proof.Proof.RgSampleValue
public import proofs.«01_k».proof.Proof.RgSampleRef
public import proofs.«01_k».proof.Proof.Gen.RgSample
public import proofs.«01_k».proof.Proof.Gen.RgSampleIdeal
public import proofs.«01_k».proof.Proof.Gen.RgSampleRefIdeal
public import proofs.«01_k».proof.Proof.Gen.RgSample.Frame

@[expose] public section

set_option maxRecDepth 16384

noncomputable section

open Idealize.ShloMosaic Idealize.ShloMosaic.TcCoe Idealize.SL.Sem

namespace Cert.Proof.RgSampleClaims

open Cert.RgSampleIdeal.RefValue Cert.RgSampleRefIdeal.RefValue Cert.Layer

/-- The frames: every run ends, leaves the arguments as they were and no semaphore raised. -/
theorem frame_k : Cert.quiescent_RgSample := fun m ρ _ => Cert.RgSample.Gen.frame m ρ
theorem frame_i : Cert.quiescent_RgSampleIdeal := fun m ρ _ => Cert.RgSampleIdeal.Gen.frame m ρ
theorem frame_r : Cert.quiescent_RgSampleRefIdeal := fun m ρ _ =>
  (θ_run Cert.RgSampleRefIdeal.defs _ _).mono
    (fun r h => ⟨fun c => (h c).2.2.2, Idealize.ShloMosaic.sem_eq_zero_of_no_sems (by decide) r.2⟩)
    (Cert.RgSampleRefIdeal.Value.run (F := Ideal) m ρ)

/-- The two named constants are the words the kernel's program holds. -/
theorem preserved : Cert.preserves_RgSample_RgSampleIdeal :=
  ⟨Idealize.ShloMosaic.IdealRules.named_const.statement _ _ _ _ _ rfl,
    Idealize.ShloMosaic.IdealRules.named_const.statement _ _ _ _ _ rfl⟩

/-- The kernel and the reference compute the same function of the same arguments. -/
theorem algebraic : Cert.algebraic_RgSampleIdeal_RgSampleRefIdeal := by
  intro m ρ m' ρ' _ hag
  refine ⟨fun c => outRows (seq m c), fun c => lastInputs (seq m c), fun c => lastState (seq m c), ?_, ?_⟩
  · exact (θ_run Cert.RgSampleIdeal.defs _ _).mono
      (fun _ h c => ⟨(h.1 c).1, (h.1 c).2.1, (h.1 c).2.2, h.2 c⟩)
      (θ_run_and (run m ρ) (Cert.RgSampleIdeal.Gen.unchanged (F := Ideal) m ρ))
  · refine (θ_run Cert.RgSampleRefIdeal.defs _ _).mono (fun _ h c => ?_)
      (Cert.RgSampleRefIdeal.Value.run (F := Ideal) m' ρ')
    obtain ⟨e0, e1, e2, e3, e4, e5, e6, e7, e8, e9, e10, e11, e12, e13⟩ := hag c
    have es : sq (m' ((c.tc : Thread Cert.RgSampleRefIdeal.nD Cert.RgSampleRefIdeal.τ).loc Cert.RgSampleRefIdeal.main_arg0)) (m' ((c.tc : Thread Cert.RgSampleRefIdeal.nD Cert.RgSampleRefIdeal.τ).loc Cert.RgSampleRefIdeal.main_arg1)) (m' ((c.tc : Thread Cert.RgSampleRefIdeal.nD Cert.RgSampleRefIdeal.τ).loc Cert.RgSampleRefIdeal.main_arg2)) (m' ((c.tc : Thread Cert.RgSampleRefIdeal.nD Cert.RgSampleRefIdeal.τ).loc Cert.RgSampleRefIdeal.main_arg3)) (m' ((c.tc : Thread Cert.RgSampleRefIdeal.nD Cert.RgSampleRefIdeal.τ).loc Cert.RgSampleRefIdeal.main_arg4)) (m' ((c.tc : Thread Cert.RgSampleRefIdeal.nD Cert.RgSampleRefIdeal.τ).loc Cert.RgSampleRefIdeal.main_arg5)) (m' ((c.tc : Thread Cert.RgSampleRefIdeal.nD Cert.RgSampleRefIdeal.τ).loc Cert.RgSampleRefIdeal.main_arg6)) (m' ((c.tc : Thread Cert.RgSampleRefIdeal.nD Cert.RgSampleRefIdeal.τ).loc Cert.RgSampleRefIdeal.main_arg7)) (m' ((c.tc : Thread Cert.RgSampleRefIdeal.nD Cert.RgSampleRefIdeal.τ).loc Cert.RgSampleRefIdeal.main_arg8)) (m' ((c.tc : Thread Cert.RgSampleRefIdeal.nD Cert.RgSampleRefIdeal.τ).loc Cert.RgSampleRefIdeal.main_arg9)) (m' ((c.tc : Thread Cert.RgSampleRefIdeal.nD Cert.RgSampleRefIdeal.τ).loc Cert.RgSampleRefIdeal.main_arg10)) (m' ((c.tc : Thread Cert.RgSampleRefIdeal.nD Cert.RgSampleRefIdeal.τ).loc Cert.RgSampleRefIdeal.main_arg11)) (m' ((c.tc : Thread Cert.RgSampleRefIdeal.nD Cert.RgSampleRefIdeal.τ).loc Cert.RgSampleRefIdeal.main_arg12)) (m' ((c.tc : Thread Cert.RgSampleRefIdeal.nD Cert.RgSampleRefIdeal.τ).loc Cert.RgSampleRefIdeal.main_arg13)) = seq m c := by
      rw [e0, e1, e2, e3, e4, e5, e6, e7, e8, e9, e10, e11, e12, e13]
    refine ⟨(h c).1.trans ?_, (h c).2.1.trans ?_, (h c).2.2.1.trans ?_, (h c).2.2.2⟩
    · rw [Cert.RgSampleRefIdeal.Read.val_main_v209_eq, rows_eq]
      exact congrArg outRows es
    · rw [Cert.RgSampleRefIdeal.Read.val_main_v210_eq, inputs_eq]
      exact congrArg lastInputs es
    · rw [Cert.RgSampleRefIdeal.Read.val_main_v212_eq, last_eq]
      exact congrArg lastState es

end Cert.Proof.RgSampleClaims

end
-- ==== Proof.ProjMath.lean ====
/-
  The projection of one row of features into queries, keys and values: the function the programs of both attention
  mixers compute. A row is normalised, multiplied by the 1024 × 3072 matrix, and its queries and keys are normalised
  again within each group of 64 features.
-/
module

public import proofs.«01_k».proof.Defs
public import proofs.«01_k».proof.Proof.MlpBlock
public import Idealize.ShloMosaic.Lib.Pointwise

@[expose] public section

set_option maxRecDepth 16384

noncomputable section

open Idealize.ShloMosaic Idealize.ShloMosaic.TcCoe Idealize.SL.Sem

namespace Cert.Layer

/-- Multiplying by the word of 1/64 is dividing by the word of 64. -/
theorem mul_inv_group (x : EReal) :
    x * Ideal.ofBits .f32 0x3C800000#32 = Ideal.div x (Ideal.ofBits .f32 0x42800000#32) := by
  have h1 : Ideal.ofBits .f32 0x3C800000#32 = ((1 / 64 : ℝ) : EReal) := by
    simp [Ideal.ofBits, Ideal.ieee, -EReal.coe_mul]; norm_num
  have h2 : Ideal.ofBits .f32 0x42800000#32 = ((64 : ℝ) : EReal) := by
    simp [Ideal.ofBits, Ideal.ieee, -EReal.coe_mul]; norm_num
  have h3 : ((64 : ℝ) : EReal) ≠ 0 := by
    rw [← EReal.coe_zero]; exact fun h => absurd (EReal.coe_eq_coe_iff.mp h) (by norm_num)
  rw [h1, h2, Ideal.div, if_neg h3, ← EReal.coe_inv]
  norm_num

/-- The place of member `l` of the group that feature `f` lies in. -/
def groupMate (f : Fin 1024) (l : Fin 64) : Fin 1024 := ⟨f.val / 64 * 64 + l.val, by omega⟩

/-- The place of feature `f` within its group. -/
def groupPlace (f : Fin 1024) : Fin 64 := ⟨f.val % 64, Nat.mod_lt _ (by norm_num)⟩

/-- Feature `f` of `u` after the root-mean-square norm of its group, with gains `g`. -/
def groupNorm (u : Fin 1024 → EReal) (g : Fin 64 → EReal) (f : Fin 1024) : EReal :=
  u f * Ideal.rsqrt (Ideal.div (∑ l : Fin 64, u (groupMate f l) * u (groupMate f l)) (Ideal.ofBits .f32 0x42800000#32)
    + Ideal.ofBits .f32 0x358637BD#32) * g (groupPlace f)

/-- Feature `f` of the product of a normalised row with the matrix. -/
def projected (x g : Fin 1024 → EReal) (w : Fin 1024 → Fin 3072 → EReal) (f : Fin 3072) : EReal :=
  ∑ k : Fin 1024, normRow x g k * w k f

/-- The row's 1024 features for the queries, the keys and the values. -/
def third (x g : Fin 1024 → EReal) (w : Fin 1024 → Fin 3072 → EReal) (n : Fin 3) (f : Fin 1024) : EReal :=
  projected x g w ⟨n.val * 1024 + f.val, by omega⟩

/-- What a projection is given: `n` rows for each of 16 sequences, the gains, the matrix. -/
structure ProjIn (n : ℕ) where
  x : Fin 16 → Fin n → Fin 1024 → EReal
  g : Fin 1024 → EReal
  w : Fin 1024 → Fin 3072 → EReal
  qg : Fin 64 → EReal
  kg : Fin 64 → EReal

namespace ProjIn

variable {n : ℕ} (I : ProjIn n)

/-- Feature `f` of the normalised query, of the normalised key, and of the value at row `t` of sequence `b`. -/
def query (b : Fin 16) (t : Fin n) (f : Fin 1024) : EReal := groupNorm (third (I.x b t) I.g I.w 0) I.qg f
def key (b : Fin 16) (t : Fin n) (f : Fin 1024) : EReal := groupNorm (third (I.x b t) I.g I.w 1) I.kg f
def value (b : Fin 16) (t : Fin n) (f : Fin 1024) : EReal := third (I.x b t) I.g I.w 2 f

end ProjIn

/-- The scale the queries carry into the attention call. -/
abbrev queryScale : EReal := Ideal.ofBits .f32 0x3E38AA3B#32

/-- The arguments of a projection, read from its arrays. -/
def projIn {n : ℕ} (X : FVec Ideal ⟨3, ![16, n, 1024]⟩ .f32) (G : FVec Ideal ⟨1, ![1024]⟩ .f32) (W : FVec Ideal ⟨2, ![1024, 3072]⟩ .f32)
    (Q K : FVec Ideal ⟨1, ![64]⟩ .f32) : ProjIn n where
  x := fun b t k => X (ix3 b t k)
  g := fun k => G (ix1 k)
  w := fun k f => W (ix2 k f)
  qg := fun l => Q (ix1 l)
  kg := fun l => K (ix1 l)

end Cert.Layer

end
-- ==== Proof.BandProjBlock.lean ====
/-
  What the body of the band mixer's projection computes from one block of 512 rows.  It works on transposed blocks: 256
  features by 512 rows for each of the twelve products, and 64 features by 512 rows for each normalised group.
-/
module

public import proofs.«01_k».proof.Proof.ProjMath
public import proofs.«01_k».proof.Proof.Gen.BandProjIdeal.Skeleton
public import Idealize.ShloMosaic.Lib.Pipeline.ValueKit

@[expose] public section

set_option maxRecDepth 16384

noncomputable section

open Idealize.ShloMosaic Idealize.ShloMosaic.TcCoe Idealize.SL.Sem

namespace Cert.BandProjIdeal.RefValue

open Cert.BandProjIdeal Cert.BandProjIdeal.Gen Cert.Layer

/-- Sixty-four features of a product from feature `a` on, normalised over the group with the gains `g`. -/
def group (a : ℕ) (h : S256x512.Slices ![a, 0] S64x512) (p : FVec Ideal S256x512 .f32) (g : Vec Ideal S64x512 .f32) :
    FVec Ideal S64x512 .f32 :=
  have t : FVec Ideal S64x512 .f32 := extractStridedSlice S64x512 ![a, 0] p h
  have q : FVec Ideal S512 .f32 := multiReduction .add [0] S512 (mulf t t) 0x00000000#32 reduces_S64x512_S512 (.inl rfl) rfl
  have s : FVec Ideal S1x512 .f32 := mulf (shapeCast S1x512 q shapeCasts_S512_S1x512) (broadcast S1x512 (Scalar.ofBits .f32 0x3C800000#32))
  have r : FVec Ideal S1x512 .f32 := rsqrt (addf s (broadcast S1x512 (Scalar.ofBits .f32 0x358637BD#32)))
  mulf (mulf t (broadcastTo S64x512 r broadcasts_S1x512_S64x512)) (shapeCast S64x512 g shapeCasts_S64x512_S64x512)

/-- The block of keys a group ends as, and the block of queries: scaled, rounded and given a leading axis. -/
def keyGroup (a : ℕ) (h : S256x512.Slices ![a, 0] S64x512) (p : FVec Ideal S256x512 .f32) (g : Vec Ideal S64x512 .f32) :
    FVec Ideal S64x512 .f32 := shapeCast S64x512 (group a h p g) shapeCasts_S64x512_S64x512
def queryGroup (a : ℕ) (h : S256x512.Slices ![a, 0] S64x512) (p : FVec Ideal S256x512 .f32) (g : Vec Ideal S64x512 .f32) :
    FVec Ideal S1x64x512 .bf16 :=
  shapeCast S1x64x512 (truncf .bf16 (mulf (group a h p g) (broadcast S64x512 (Scalar.ofBits .f32 0x3E38AA3B#32))) bitsLt_bf16_f32)
    shapeCasts_S64x512_S1x64x512

theorem group_apply (a : ℕ) (h : S256x512.Slices ![a, 0] S64x512) (ha : a + 64 ≤ 256) (p : FVec Ideal S256x512 .f32) (g : Vec Ideal S64x512 .f32)
    (i : Fin 64) (r : Fin 512) :
    group a h p g (ix2 i r) = p (ix2 ⟨a + i.val, by omega⟩ r)
      * Ideal.rsqrt (Ideal.div (∑ l : Fin 64, p (ix2 ⟨a + l.val, by omega⟩ r) * p (ix2 ⟨a + l.val, by omega⟩ r)) (Ideal.ofBits .f32 0x42800000#32)
        + Ideal.ofBits .f32 0x358637BD#32) * g (ix2 i r) := by
  rw [← mul_inv_group]
  pointwise [group]

/-- The normalised rows. -/
theorem rows_apply (x : Vec Ideal S512x1024 .f32) (g : Vec Ideal S1x1024 .f32) (r : Fin 512) (k : Fin 1024) :
    k0_pay5 (F := Ideal) x g (ix2 r k) = normRow (fun l => x (ix2 r l)) (fun l => g (ix2 0 l)) k := by
  unfold normRow
  pointwise [k0_pay5]

/-- One product. -/
theorem product_apply (xn : FVec Ideal S512x1024 .bf16) (w : Vec Ideal S256x1024 .bf16) (f : Fin 256) (r : Fin 512) :
    k0_pay28 (F := Ideal) xn w (ix2 f r) = ∑ k : Fin 1024, w (ix2 f k) * xn (ix2 r k) := by
  pointwise [k0_pay28]

section Tile

/- The block's rows `xr`, the gains and the matrix the four inputs hold. -/
variable (x0 : Vec Ideal S512x1024 .f32) (x1 : Vec Ideal S1x1024 .f32) (x2 : Vec Ideal S3072x1024 .bf16) (x3 : Vec Ideal S1024x512 .f32)
  (xr : Fin 512 → Fin 1024 → EReal) (g : Fin 1024 → EReal) (w : Fin 1024 → Fin 3072 → EReal) (gain : Fin 64 → EReal)
  (h0 : ∀ r k, x0 (ix2 r k) = xr r k) (h1 : ∀ k, x1 (ix2 0 k) = g k) (h2 : ∀ f k, x2 (ix2 f k) = w k f)
  (h3 : ∀ f r, x3 (ix2 f r) = gain (groupPlace f))

include h0 h1 h2

/-- The product over the rows of the matrix from `o` on. -/
theorem slab_apply (o : ℕ) (ho : o + 256 ≤ 3072) (inb) (f : Fin 256) (r : Fin 512) :
    k0_pay28 (F := Ideal) (k0_pay5 x0 x1) (View.ld (Val := Elt Ideal) (e' := .bf16) x2 (Rect.unit (s := S3072x1024) ![o, 0] ![256, 1024] inb)) (ix2 f r)
      = projected (xr r) g w ⟨o + f.val, by omega⟩ := by
  rw [product_apply]
  refine Finset.sum_congr rfl fun k _ => ?_
  rw [rows_apply, mul_comm]
  refine congrArg₂ (· * ·) ?_ ?_
  · unfold normRow
    simp only [h0, h1]
  · refine Eq.trans (congrArg x2 ?_) (h2 _ _)
    funext a
    fin_cases a <;> exact Fin.ext (by simp [LoadRect.idx, Rect.toLoadRect, Rect.unit, ix2])

/-- The same for the values, which are stored as they are. -/
theorem value_tile (o f : ℕ) (ho : o = 2048 + f) (inb inb') (y : S256x512.Idx) :
    shapeCast S256x512 (k0_pay28 (F := Ideal) (k0_pay5 x0 x1)
        (View.ld (Val := Elt Ideal) (e' := .bf16) x2 (Rect.unit (s := S3072x1024) ![o, 0] ![256, 1024] inb))) shapeCasts_S256x512_S256x512 y
      = (fun z : S1024x512.Idx => third (xr (z 1)) g w 2 (z 0)) ((Rect.unit (s := S1024x512) ![f, 0] ![256, 512] inb').emb y) := by
  have ho' : o + 256 ≤ 3072 := by simpa using inb 0
  idx_vars y
  pointwise
  refine (slab_apply x0 x1 x2 xr g w h0 h1 h2 o ho' inb y0 y1).trans ?_
  refine congrArg₂ (fun r f => projected (xr r) g w f) (Fin.ext ?_) (Fin.ext ?_)
  · simp [Rect.emb, Rect.unit]
  · simp [Rect.emb, Rect.unit, ho]
    omega

include h3

/-- A normalised group of features from `f` on, in third `n` of the product. -/
theorem group_tile (n : Fin 3) (a o f : ℕ) (ha : a + 64 ≤ 256) (ho : o + a = n.val * 1024 + f) (hf : f % 64 = 0) (hf' : f + 64 ≤ 1024) (hs inb inb')
    (i : Fin 64) (r : Fin 512) :
    group a hs (k0_pay28 (F := Ideal) (k0_pay5 x0 x1) (View.ld (Val := Elt Ideal) (e' := .bf16) x2 (Rect.unit (s := S3072x1024) ![o, 0] ![256, 1024] inb)))
        (View.ld (Val := Elt Ideal) (e' := .f32) x3 (Rect.unit (s := S1024x512) ![f, 0] ![64, 512] inb')) (ix2 i r)
      = groupNorm (third (xr r) g w n) gain ⟨f + i.val, by omega⟩ := by
  have ho' : o + 256 ≤ 3072 := by simpa using inb 0
  have hp : ∀ l : Fin 64, k0_pay28 (F := Ideal) (k0_pay5 x0 x1) (View.ld (Val := Elt Ideal) (e' := .bf16) x2 (Rect.unit (s := S3072x1024) ![o, 0] ![256, 1024] inb)) (ix2 ⟨a + l.val, by omega⟩ r)
      = third (xr r) g w n ⟨f + l.val, by omega⟩ := fun l =>
    (slab_apply x0 x1 x2 xr g w h0 h1 h2 o ho' inb _ r).trans (congrArg (projected _ _ _) (Fin.ext (by show o + (a + l.val) = n.val * 1024 + (f + l.val); omega)))
  rw [group_apply a hs ha]
  unfold groupNorm
  refine congrArg₂ (· * ·) (congrArg₂ (· * ·) (hp i) (congrArg (fun s => Ideal.rsqrt (Ideal.div s _ + _)) ?_)) ?_
  · refine Finset.sum_congr rfl fun l _ => ?_
    have e : groupMate ⟨f + i.val, by omega⟩ l = ⟨f + l.val, by omega⟩ := Fin.ext (by show (f + i.val) / 64 * 64 + l.val = f + l.val; omega)
    rw [hp l, e]
  · have e : groupPlace ⟨f + i.val, by omega⟩ = groupPlace (⟨f + i.val, by omega⟩ : Fin 1024) := rfl
    refine Eq.trans (congrArg x3 ?_) (h3 ⟨f + i.val, by omega⟩ r)
    funext a
    fin_cases a <;> exact Fin.ext (by simp [LoadRect.idx, Rect.toLoadRect, Rect.unit, ix2])

/-- The block of keys, and the block of queries, that a group is stored as. -/
theorem key_tile (n : Fin 3) (a o f : ℕ) (ha : a + 64 ≤ 256) (ho : o + a = n.val * 1024 + f) (hf : f % 64 = 0) (hf' : f + 64 ≤ 1024) (hs inb inb')
    (y : S64x512.Idx) :
    keyGroup a hs (k0_pay28 (F := Ideal) (k0_pay5 x0 x1) (View.ld (Val := Elt Ideal) (e' := .bf16) x2 (Rect.unit (s := S3072x1024) ![o, 0] ![256, 1024] inb)))
        (View.ld (Val := Elt Ideal) (e' := .f32) x3 (Rect.unit (s := S1024x512) ![f, 0] ![64, 512] inb')) y
      = (fun z : S1024x512.Idx => groupNorm (third (xr (z 1)) g w n) gain (z 0)) ((Rect.unit (s := S1024x512) ![f, 0] ![64, 512] inb').emb y) := by
  idx_vars y
  unfold keyGroup
  pointwise
  refine (group_tile x0 x1 x2 x3 xr g w gain h0 h1 h2 h3 n a o f ha ho hf hf' hs inb inb' y0 y1).trans ?_
  refine congrArg₂ (fun r f => groupNorm (third (xr r) g w n) gain f) (Fin.ext ?_) (Fin.ext ?_) <;> simp [Rect.emb, Rect.unit]

theorem query_tile (n : Fin 3) (a o f : ℕ) (ha : a + 64 ≤ 256) (ho : o + a = n.val * 1024 + f) (hf : f % 64 = 0) (hf' : f + 64 ≤ 1024) (hs inb inb' inb'')
    (y : S1x64x512.Idx) :
    queryGroup a hs (k0_pay28 (F := Ideal) (k0_pay5 x0 x1) (View.ld (Val := Elt Ideal) (e' := .bf16) x2 (Rect.unit (s := S3072x1024) ![o, 0] ![256, 1024] inb)))
        (View.ld (Val := Elt Ideal) (e' := .f32) x3 (Rect.unit (s := S1024x512) ![f, 0] ![64, 512] inb')) y
      = (fun z : S1x1024x512.Idx => groupNorm (third (xr (z 2)) g w n) gain (z 1) * queryScale)
          ((Rect.unit (s := S1x1024x512) ![0, f, 0] ![1, 64, 512] inb'').emb y) := by
  idx_vars y
  unfold queryGroup
  pointwise
  refine congrArg (· * queryScale) ((group_tile x0 x1 x2 x3 xr g w gain h0 h1 h2 h3 n a o f ha ho hf hf' hs inb inb' y1 y2).trans ?_)
  refine congrArg₂ (fun r f => groupNorm (third (xr r) g w n) gain f) (Fin.ext ?_) (Fin.ext ?_) <;> simp [Rect.emb, Rect.unit]

end Tile

/-- The tiled values: two tiles of 256 rows, in each the eight heads' 128 features followed by sixteen rows of ones. -/
def tiled (v : Vec Ideal S1024x512 .f32) (z : S2x1152x256.Idx) : EReal :=
  if (z 1).val % 144 < 128 then v (ix2 ⟨(z 1).val / 144 * 128 + (z 1).val % 144 % 128, by have : (z 1).val < 1152 := (z 1).isLt; omega⟩
    ⟨(z 0).val * 256 + (z 2).val, by have : (z 0).val < 2 := (z 0).isLt; have : (z 2).val < 256 := (z 2).isLt; omega⟩) else 1

/-- A head's features are stored as the values' rows from `a` on and columns from `b` on. -/
def headTile (a b : ℕ) (h : S1024x512.Slices ![a, b] S128x256) (v : Vec Ideal S1024x512 .f32) : FVec Ideal S1x128x256 .bf16 :=
  shapeCast S1x128x256 (truncf .bf16 (extractStridedSlice S128x256 ![a, b] v h) bitsLt_bf16_f32) shapeCasts_S128x256_S1x128x256

theorem head_tile (v : Vec Ideal S1024x512 .f32) (q a b o : ℕ) (hs inb) (hb : b = q * 256) (ho : o % 144 = 0) (ha : a = o / 144 * 128) (y : S1x128x256.Idx) :
    headTile a b hs v y = tiled v ((Rect.unit (s := S2x1152x256) ![q, o, 0] ![1, 128, 256] inb).emb y) := by
  idx_vars y
  subst hb ha
  have e0 : y0.val = 0 := by omega
  unfold headTile tiled
  simp only [Rect.emb, Rect.unit]
  pointwise
  rw [if_pos (by simp; omega)]
  refine congrArg v ?_
  refine congrArg₂ ix2 (Fin.ext ?_) (Fin.ext ?_) <;> simp <;> omega

theorem ones_tile (v : Vec Ideal S1024x512 .f32) (q o : ℕ) (inb) (ho : o % 144 = 128) (y : S1x16x256.Idx) :
    k0_pay108 (F := Ideal) k0_pay88 y = tiled v ((Rect.unit (s := S2x1152x256) ![q, o, 0] ![1, 16, 256] inb).emb y) := by
  idx_vars y
  unfold tiled
  rw [if_neg (by simp [Rect.emb, Rect.unit]; omega)]
  pointwise [k0_pay108, k0_pay88]

end Cert.BandProjIdeal.RefValue

end
-- ==== Proof.BandProjValue.lean ====
/-
  What the band mixer's projection on the prompt leaves in its five results, entry by entry: the scaled queries feature by
  feature, the keys row by row, the values in tiles, and the last 512 keys and values of every sequence.
-/
module

public import proofs.«01_k».proof.Proof.BandProjBlock
public import proofs.«01_k».proof.Proof.Gen.BandProjIdeal.Frame
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.BandProjIdeal.RefValue

open Cert.BandProjIdeal Cert.BandProjIdeal.Gen Cert.Layer

variable (m : (ℓ : Loc nD τ sig) → Buf (Elt Ideal) ℓ) (c : Dev nD) (t : Fin cfg0.N)

/-- Where each window's block sits, at every grid point. -/
theorem idx_val : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val / 4, 0, t.val % 4] ∧ win0_6.index t = ![t.val, 0]
    ∧ win0_7.index t = ![t.val, 0, 0] ∧ win0_8.index t = ![0, t.val / 4, 0, 0] ∧ win0_9.index t = ![0, t.val / 4, 0, 0] :=
  (by decide +kernel : ∀ t : Fin grid0.N, _)

/-- The call's arguments. -/
def inp : ProjIn 2048 := projIn (m ((c : Thread nD τ).loc main_arg0)) (m ((c : Thread nD τ).loc main_arg1))
  (m ((c : Thread nD τ).loc main_arg2)) (m ((c : Thread nD τ).loc main_arg3)) (m ((c : Thread nD τ).loc main_arg4))

theorem pt_lt : t.val < 64 := lt_of_lt_of_eq t.isLt N_0

/-- The sequence a grid point works on, and the position of row `r` of its block. -/
def seqOf : Fin 16 := ⟨t.val / 4, by have := pt_lt t; omega⟩
def posOf (r : Fin 512) : Fin 2048 := ⟨t.val % 4 * 512 + r.val, by omega⟩

theorem blk0 (r : Fin 512) (k : Fin 1024) : iblk m c 0 t (ix2 r k) = (inp m c).x (seqOf t) (posOf t r) k := by
  have e : iblk m c 0 t (ix2 r k) = V m c main_v0 (ix2 ⟨t.val * 512 + r.val, by have := pt_lt t; omega⟩ k) := by
    blk_simp [iblk]
    blk_ext [idx_val t]
  rw [e]
  unfold V V0
  simp only [List.flatten_cons, List.flatten_nil, List.append_nil, hostOps0]
  after_results_simp
  pointwise
  show _ = m ((c : Thread nD τ).loc main_arg0) (ix3 (seqOf t) (posOf t r) k)
  refine congrArg₂ (fun a b => m ((c : Thread nD τ).loc main_arg0) (ix3 a b k)) (Fin.ext ?_) (Fin.ext ?_)
  · show (t.val * 512 + r.val) / 2048 = t.val / 4
    omega
  · show (t.val * 512 + r.val) % 2048 = t.val % 4 * 512 + r.val
    omega

theorem blk1 (k : Fin 1024) : iblk m c 1 t (ix2 0 k) = (inp m c).g k := by
  blk_simp [iblk]
  unfold V V0
  simp only [List.flatten_cons, List.flatten_nil, List.append_nil, hostOps0]
  after_results_simp
  pointwise
  show _ = m ((c : Thread nD τ).loc main_arg1) (ix1 k)
  blk_ext [idx_val t]

theorem blk2 (f : Fin 3072) (k : Fin 1024) : iblk m c 2 t (ix2 f k) = (inp m c).w k f := by
  blk_simp [iblk]
  unfold V V0
  simp only [List.flatten_cons, List.flatten_nil, List.append_nil, hostOps0]
  after_results_simp
  pointwise
  show _ = m ((c : Thread nD τ).loc main_arg2) (ix2 k f)
  blk_ext [idx_val t]

theorem blk3 (f : Fin 1024) (r : Fin 512) : iblk m c 3 t (ix2 f r) = (inp m c).qg (groupPlace f) := by
  have e : iblk m c 3 t (ix2 f r) = V m c main_v9 (ix2 f r) := by
    blk_simp [iblk]
    blk_ext [idx_val t]
  rw [e]
  unfold V V0
  simp only [List.flatten_cons, List.flatten_nil, List.append_nil, hostOps0]
  after_results_simp
  pointwise
  rfl

theorem blk4 (f : Fin 1024) (r : Fin 512) : iblk m c 4 t (ix2 f r) = (inp m c).kg (groupPlace f) := by
  have e : iblk m c 4 t (ix2 f r) = V m c main_v15 (ix2 f r) := by
    blk_simp [iblk]
    blk_ext [idx_val t]
  rw [e]
  unfold V V0
  simp only [List.flatten_cons, List.flatten_nil, List.append_nil, hostOps0]
  after_results_simp
  pointwise
  rfl

/-- The rows of the block at a grid point. -/
abbrev xr (r : Fin 512) : Fin 1024 → EReal := (inp m c).x (seqOf t) (posOf t r)

set_option maxHeartbeats 1000000 in
/-- The queries a point stores. -/
theorem point_q (z : S1x1024x512.Idx) : (dats m 0 c).after 5 t z = (inp m c).query (seqOf t) (posOf t (z 2)) (z 1) * queryScale := by
  show _ = groupNorm (third (xr m c t (z 2)) (inp m c).g (inp m c).w 0) (inp m c).qg (z 1) * queryScale
  have b0 : ∀ r k, iblk m c 0 t (ix2 r k) = xr m c t r k := blk0 m c t
  have b1 := blk1 m c t
  have b2 := blk2 m c t
  have b3 := blk3 m c t
  rw [after0_5]
  rcases em (t.val % 4 = 3) with h | h
  on_goal 1 => rw [outsAt0_B m c t h]
  on_goal 2 => rw [outsAt0_A m c t h]
  all_goals frame_out
  all_goals
    generalize iblk m c 0 t = x0 at b0 ⊢
    generalize iblk m c 1 t = x1 at b1 ⊢
    generalize iblk m c 2 t = x2 at b2 ⊢
    generalize iblk m c 3 t = x3 at b3 ⊢
    generalize xr m c t = xr at b0 ⊢
    generalize (inp m c).g = g at b1 ⊢
    generalize (inp m c).w = w at b2 ⊢
    generalize (inp m c).qg = gain at b3 ⊢
    refine (View.canon_apply_of_pieces (fun z : S1x1024x512.Idx => groupNorm (third (xr (z 2)) g w 0) gain (z 1) * queryScale) _ ?_ _
      (View.cover_of_tiled _ ![1, 64, 512] (by rfl) _)).trans rfl
    have q := query_tile x0 x1 x2 x3 xr g w gain b0 b1 b2 b3 0
    refine List.forall_mem_cons.2 ⟨q 192 768 960 (by decide) rfl rfl (by decide) (by decide) (by decide) (by decide) (by decide), ?_⟩
    refine List.forall_mem_cons.2 ⟨q 128 768 896 (by decide) rfl rfl (by decide) (by decide) (by decide) (by decide) (by decide), ?_⟩
    refine List.forall_mem_cons.2 ⟨q 64 768 832 (by decide) rfl rfl (by decide) (by decide) (by decide) (by decide) (by decide), ?_⟩
    refine List.forall_mem_cons.2 ⟨q 0 768 768 (by decide) rfl rfl (by decide) (by decide) (by decide) (by decide) (by decide), ?_⟩
    refine List.forall_mem_cons.2 ⟨q 192 512 704 (by decide) rfl rfl (by decide) (by decide) (by decide) (by decide) (by decide), ?_⟩
    refine List.forall_mem_cons.2 ⟨q 128 512 640 (by decide) rfl rfl (by decide) (by decide) (by decide) (by decide) (by decide), ?_⟩
    refine List.forall_mem_cons.2 ⟨q 64 512 576 (by decide) rfl rfl (by decide) (by decide) (by decide) (by decide) (by decide), ?_⟩
    refine List.forall_mem_cons.2 ⟨q 0 512 512 (by decide) rfl rfl (by decide) (by decide) (by decide) (by decide) (by decide), ?_⟩
    refine List.forall_mem_cons.2 ⟨q 192 256 448 (by decide) rfl rfl (by decide) (by decide) (by decide) (by decide) (by decide), ?_⟩
    refine List.forall_mem_cons.2 ⟨q 128 256 384 (by decide) rfl rfl (by decide) (by decide) (by decide) (by decide) (by decide), ?_⟩
    refine List.forall_mem_cons.2 ⟨q 64 256 320 (by decide) rfl rfl (by decide) (by decide) (by decide) (by decide) (by decide), ?_⟩
    refine List.forall_mem_cons.2 ⟨q 0 256 256 (by decide) rfl rfl (by decide) (by decide) (by decide) (by decide) (by decide), ?_⟩
    refine List.forall_mem_cons.2 ⟨q 192 0 192 (by decide) rfl rfl (by decide) (by decide) (by decide) (by decide) (by decide), ?_⟩
    refine List.forall_mem_cons.2 ⟨q 128 0 128 (by decide) rfl rfl (by decide) (by decide) (by decide) (by decide) (by decide), ?_⟩
    refine List.forall_mem_cons.2 ⟨q 64 0 64 (by decide) rfl rfl (by decide) (by decide) (by decide) (by decide) (by decide), ?_⟩
    refine List.forall_mem_cons.2 ⟨q 0 0 0 (by decide) rfl rfl (by decide) (by decide) (by decide) (by decide) (by decide), ?_⟩
    exact fun _ hp => absurd hp List.not_mem_nil

end Cert.BandProjIdeal.RefValue
end
-- ==== Proof.ProjLayout.lean ====
/-
  The layouts in which a projection hands its queries, keys and values on: feature by feature, row by row, in tiles, and the
  last positions kept for the cache.
-/
module

public import proofs.«01_k».proof.Proof.ProjMath

@[expose] public section

noncomputable section

open Idealize.ShloMosaic Idealize.ShloMosaic.TcCoe

namespace Cert.Layer

variable (q : Fin 16 → Fin 2048 → Fin 1024 → EReal)

/-- The scaled queries, feature by feature. -/
def scaledQueries : FVec Ideal ⟨3, ![16, 1024, 2048]⟩ .bf16 := fun i => q (i 0) (i 2) (i 1) * queryScale

/-- The rows of all sequences, one after another. -/
def keyRows : FVec Ideal ⟨2, ![32768, 1024]⟩ .bf16 := fun i =>
  q ⟨(i 0).val / 2048, by have : (i 0).val < 32768 := (i 0).isLt; omega⟩ ⟨(i 0).val % 2048, by omega⟩ (i 1)

/-- Tiles of 256 positions: eight heads of 128 features, each followed by sixteen rows of ones. -/
def valueTiles : FVec Ideal ⟨3, ![128, 1152, 256]⟩ .bf16 := fun i =>
  if (i 1).val % 144 < 128 then
    q ⟨(i 0).val / 8, by have : (i 0).val < 128 := (i 0).isLt; omega⟩
      ⟨(i 0).val % 8 * 256 + (i 2).val, by have : (i 2).val < 256 := (i 2).isLt; omega⟩
      ⟨(i 1).val / 144 * 128 + (i 1).val % 144 % 128, by have : (i 1).val < 1152 := (i 1).isLt; omega⟩
  else 1

/-- The last 512 positions of every sequence, in groups of 64 features. -/
def keptGroups : FVec Ideal ⟨5, ![1, 16, 512, 16, 64]⟩ .f32 := fun i =>
  q (i 1) ⟨1536 + (i 2).val, by have : (i 2).val < 512 := (i 2).isLt; omega⟩
    ⟨(i 3).val * 64 + (i 4).val, by have : (i 3).val < 16 := (i 3).isLt; have : (i 4).val < 64 := (i 4).isLt; omega⟩

end Cert.Layer

end
-- ==== Proof.BandProjStored.lean ====
/-
  The keys and values the band mixer's projection leaves on the prompt, and the arrays its call returns.
-/
module

public import proofs.«01_k».proof.Proof.BandProjValue
public import proofs.«01_k».proof.Proof.ProjLayout

@[expose] public section

set_option maxRecDepth 16384

noncomputable section

open Idealize.ShloMosaic Idealize.ShloMosaic.TcCoe Idealize.SL.Sem
open Idealize.ShloMosaic.Pipeline (Dat)

namespace Cert.BandProjIdeal.RefValue

open Cert.BandProjIdeal Cert.BandProjIdeal.Gen Cert.Layer

/-- The keys' rows, and the kept blocks, are the scratch contents read another way. -/
theorem key_rows (K : S1024x512.Idx → EReal) (Y : Vec Ideal S1024x512 .f32) (z : S512x1024.Idx) (h : Y = K) :
    k0_pay87 (F := Ideal) Y z = K (ix2 (z 1) (z 0)) := by
  subst h
  idx_vars z
  pointwise [k0_pay87]

theorem kept_keys (K : S1024x512.Idx → EReal) (Y : Vec Ideal S1024x512 .f32) (z : S1x1x1024x512.Idx) (h : Y = K) :
    k0_pay3 (F := Ideal) Y z = K (ix2 (z 2) (z 3)) := by
  subst h
  idx_vars z
  pointwise [k0_pay3]

theorem kept_values (K : S1024x512.Idx → EReal) (Y : Vec Ideal S1024x512 .f32) (z : S1x1x1024x512.Idx) (h : Y = K) :
    k0_pay4 (F := Ideal) Y z = K (ix2 (z 2) (z 3)) := by
  subst h
  idx_vars z
  pointwise [k0_pay4]

variable (m : (ℓ : Loc nD τ sig) → Buf (Elt Ideal) ℓ) (c : Dev nD) (t : Fin cfg0.N)

set_option maxHeartbeats 1000000 in
/-- The keys a point stores, and those the last point of a sequence keeps. -/
theorem point_keys (z : S512x1024.Idx) (z' : S1x1x1024x512.Idx) :
    (dats m 0 c).after 6 t z = (inp m c).key (seqOf t) (posOf t (z 0)) (z 1)
    ∧ (t.val % 4 = 3 → (dats m 0 c).after 8 t z' = (inp m c).key (seqOf t) (posOf t (z' 3)) (z' 2)) := by
  show _ = groupNorm (third (xr m c t (z 0)) (inp m c).g (inp m c).w 1) (inp m c).kg (z 1)
    ∧ (_ → _ = groupNorm (third (xr m c t (z' 3)) (inp m c).g (inp m c).w 1) (inp m c).kg (z' 2))
  have b0 : ∀ r k, iblk m c 0 t (ix2 r k) = xr m c t r k := blk0 m c t
  have b1 := blk1 m c t
  have b2 := blk2 m c t
  have b3 := blk4 m c t
  refine ⟨?_, fun h => ?_⟩
  on_goal 1 => rcases em (t.val % 4 = 3) with h | h
  on_goal 1 => rw [after0_6, outsAt0_B m c t h]
  on_goal 2 => rw [after0_6, outsAt0_A m c t h]
  on_goal 3 => rw [after0_8, outsAt0_B m c t h]
  all_goals frame_out
  all_goals
    generalize iblk m c 0 t = x0 at b0 ⊢
    generalize iblk m c 1 t = x1 at b1 ⊢
    generalize iblk m c 2 t = x2 at b2 ⊢
    generalize iblk m c 4 t = x3 at b3 ⊢
    generalize xr m c t = xr at b0 ⊢
    generalize (inp m c).g = g at b1 ⊢
    generalize (inp m c).w = w at b2 ⊢
    generalize (inp m c).kg = gain at b3 ⊢
  on_goal 1 => refine key_rows (fun z : S1024x512.Idx => groupNorm (third (xr (z 1)) g w 1) gain (z 0)) _ z ?_
  on_goal 2 => refine key_rows (fun z : S1024x512.Idx => groupNorm (third (xr (z 1)) g w 1) gain (z 0)) _ z ?_
  on_goal 3 => refine kept_keys (fun z : S1024x512.Idx => groupNorm (third (xr (z 1)) g w 1) gain (z 0)) _ z' ?_
  all_goals
    funext y
    rw [View.readCov_eq_canon']
    refine (View.canon_apply_of_pieces (fun z : S1024x512.Idx => groupNorm (third (xr (z 1)) g w 1) gain (z 0)) _ ?_ _
      (View.cover_of_tiled _ ![64, 512] (by rfl) _)).trans ?_
    on_goal 2 =>
      refine congrArg₂ (fun r f => groupNorm (third (xr r) g w 1) gain f) (Fin.ext ?_) (Fin.ext ?_) <;> simp [LoadRect.idx, Rect.toLoadRect, Rect.unit]
    have q := key_tile x0 x1 x2 x3 xr g w gain b0 b1 b2 b3 1
    refine List.forall_mem_cons.2 ⟨q 192 1792 960 (by decide) rfl rfl (by decide) (by decide) (by decide) (by decide), ?_⟩
    refine List.forall_mem_cons.2 ⟨q 128 1792 896 (by decide) rfl rfl (by decide) (by decide) (by decide) (by decide), ?_⟩
    refine List.forall_mem_cons.2 ⟨q 64 1792 832 (by decide) rfl rfl (by decide) (by decide) (by decide) (by decide), ?_⟩
    refine List.forall_mem_cons.2 ⟨q 0 1792 768 (by decide) rfl rfl (by decide) (by decide) (by decide) (by decide), ?_⟩
    refine List.forall_mem_cons.2 ⟨q 192 1536 704 (by decide) rfl rfl (by decide) (by decide) (by decide) (by decide), ?_⟩
    refine List.forall_mem_cons.2 ⟨q 128 1536 640 (by decide) rfl rfl (by decide) (by decide) (by decide) (by decide), ?_⟩
    refine List.forall_mem_cons.2 ⟨q 64 1536 576 (by decide) rfl rfl (by decide) (by decide) (by decide) (by decide), ?_⟩
    refine List.forall_mem_cons.2 ⟨q 0 1536 512 (by decide) rfl rfl (by decide) (by decide) (by decide) (by decide), ?_⟩
    refine List.forall_mem_cons.2 ⟨q 192 1280 448 (by decide) rfl rfl (by decide) (by decide) (by decide) (by decide), ?_⟩
    refine List.forall_mem_cons.2 ⟨q 128 1280 384 (by decide) rfl rfl (by decide) (by decide) (by decide) (by decide), ?_⟩
    refine List.forall_mem_cons.2 ⟨q 64 1280 320 (by decide) rfl rfl (by decide) (by decide) (by decide) (by decide), ?_⟩
    refine List.forall_mem_cons.2 ⟨q 0 1280 256 (by decide) rfl rfl (by decide) (by decide) (by decide) (by decide), ?_⟩
    refine List.forall_mem_cons.2 ⟨q 192 1024 192 (by decide) rfl rfl (by decide) (by decide) (by decide) (by decide), ?_⟩
    refine List.forall_mem_cons.2 ⟨q 128 1024 128 (by decide) rfl rfl (by decide) (by decide) (by decide) (by decide), ?_⟩
    refine List.forall_mem_cons.2 ⟨q 64 1024 64 (by decide) rfl rfl (by decide) (by decide) (by decide) (by decide), ?_⟩
    refine List.forall_mem_cons.2 ⟨q 0 1024 0 (by decide) rfl rfl (by decide) (by decide) (by decide) (by decide), ?_⟩
    exact fun _ hp => absurd hp List.not_mem_nil

set_option maxHeartbeats 1000000 in
/-- The tiled values a point stores, and the values the last point of a sequence keeps. -/
theorem point_values (z : S2x1152x256.Idx) (z' : S1x1x1024x512.Idx) :
    (dats m 0 c).after 7 t z = tiled (fun z => (inp m c).value (seqOf t) (posOf t (z 1)) (z 0)) z
    ∧ (t.val % 4 = 3 → (dats m 0 c).after 9 t z' = (inp m c).value (seqOf t) (posOf t (z' 3)) (z' 2)) := by
  show _ = tiled (fun z => third (xr m c t (z 1)) (inp m c).g (inp m c).w 2 (z 0)) z
    ∧ (_ → _ = third (xr m c t (z' 3)) (inp m c).g (inp m c).w 2 (z' 2))
  have b0 : ∀ r k, iblk m c 0 t (ix2 r k) = xr m c t r k := blk0 m c t
  have b1 := blk1 m c t
  have b2 := blk2 m c t
  refine ⟨?_, fun h => ?_⟩
  on_goal 1 => rcases em (t.val % 4 = 3) with h | h
  on_goal 1 => rw [after0_7, outsAt0_B m c t h]
  on_goal 2 => rw [after0_7, outsAt0_A m c t h]
  on_goal 3 => rw [after0_9, outsAt0_B m c t h]
  all_goals frame_out
  all_goals
    generalize iblk m c 0 t = x0 at b0 ⊢
    generalize iblk m c 1 t = x1 at b1 ⊢
    generalize iblk m c 2 t = x2 at b2 ⊢
    generalize xr m c t = xr at b0 ⊢
    generalize (inp m c).g = g at b1 ⊢
    generalize (inp m c).w = w at b2 ⊢
  on_goal 3 => refine kept_values (fun z : S1024x512.Idx => third (xr (z 1)) g w 2 (z 0)) _ z' ?_
  on_goal 1 => generalize hV : View.readCov (Val := Elt Ideal) (View.whole cc0_scratch1) _ _ = V
  on_goal 2 => generalize hV : View.readCov (Val := Elt Ideal) (View.whole cc0_scratch1) _ _ = V
  any_goals
    refine (View.canon_apply_of_pieces (tiled V) _ ?_ _ (View.cover_of_tiledBy _ ![1, 16, 256] (by sl_kernel_rfl) _)).trans (congrArg (fun V => tiled V z) (hV.symm.trans ?_))
    on_goal 1 =>
      refine List.forall_mem_cons.2 ⟨ones_tile V 1 1136 (by decide) rfl, ?_⟩
      refine List.forall_mem_cons.2 ⟨head_tile V 1 896 256 1008 (by decide) (by decide) rfl rfl rfl, ?_⟩
      refine List.forall_mem_cons.2 ⟨ones_tile V 1 992 (by decide) rfl, ?_⟩
      refine List.forall_mem_cons.2 ⟨head_tile V 1 768 256 864 (by decide) (by decide) rfl rfl rfl, ?_⟩
      refine List.forall_mem_cons.2 ⟨ones_tile V 1 848 (by decide) rfl, ?_⟩
      refine List.forall_mem_cons.2 ⟨head_tile V 1 640 256 720 (by decide) (by decide) rfl rfl rfl, ?_⟩
      refine List.forall_mem_cons.2 ⟨ones_tile V 1 704 (by decide) rfl, ?_⟩
      refine List.forall_mem_cons.2 ⟨head_tile V 1 512 256 576 (by decide) (by decide) rfl rfl rfl, ?_⟩
      refine List.forall_mem_cons.2 ⟨ones_tile V 1 560 (by decide) rfl, ?_⟩
      refine List.forall_mem_cons.2 ⟨head_tile V 1 384 256 432 (by decide) (by decide) rfl rfl rfl, ?_⟩
      refine List.forall_mem_cons.2 ⟨ones_tile V 1 416 (by decide) rfl, ?_⟩
      refine List.forall_mem_cons.2 ⟨head_tile V 1 256 256 288 (by decide) (by decide) rfl rfl rfl, ?_⟩
      refine List.forall_mem_cons.2 ⟨ones_tile V 1 272 (by decide) rfl, ?_⟩
      refine List.forall_mem_cons.2 ⟨head_tile V 1 128 256 144 (by decide) (by decide) rfl rfl rfl, ?_⟩
      refine List.forall_mem_cons.2 ⟨ones_tile V 1 128 (by decide) rfl, ?_⟩
      refine List.forall_mem_cons.2 ⟨head_tile V 1 0 256 0 (by decide) (by decide) rfl rfl rfl, ?_⟩
      refine List.forall_mem_cons.2 ⟨ones_tile V 0 1136 (by decide) rfl, ?_⟩
      refine List.forall_mem_cons.2 ⟨head_tile V 0 896 0 1008 (by decide) (by decide) rfl rfl rfl, ?_⟩
      refine List.forall_mem_cons.2 ⟨ones_tile V 0 992 (by decide) rfl, ?_⟩
      refine List.forall_mem_cons.2 ⟨head_tile V 0 768 0 864 (by decide) (by decide) rfl rfl rfl, ?_⟩
      refine List.forall_mem_cons.2 ⟨ones_tile V 0 848 (by decide) rfl, ?_⟩
      refine List.forall_mem_cons.2 ⟨head_tile V 0 640 0 720 (by decide) (by decide) rfl rfl rfl, ?_⟩
      refine List.forall_mem_cons.2 ⟨ones_tile V 0 704 (by decide) rfl, ?_⟩
      refine List.forall_mem_cons.2 ⟨head_tile V 0 512 0 576 (by decide) (by decide) rfl rfl rfl, ?_⟩
      refine List.forall_mem_cons.2 ⟨ones_tile V 0 560 (by decide) rfl, ?_⟩
      refine List.forall_mem_cons.2 ⟨head_tile V 0 384 0 432 (by decide) (by decide) rfl rfl rfl, ?_⟩
      refine List.forall_mem_cons.2 ⟨ones_tile V 0 416 (by decide) rfl, ?_⟩
      refine List.forall_mem_cons.2 ⟨head_tile V 0 256 0 288 (by decide) (by decide) rfl rfl rfl, ?_⟩
      refine List.forall_mem_cons.2 ⟨ones_tile V 0 272 (by decide) rfl, ?_⟩
      refine List.forall_mem_cons.2 ⟨head_tile V 0 128 0 144 (by decide) (by decide) rfl rfl rfl, ?_⟩
      refine List.forall_mem_cons.2 ⟨ones_tile V 0 128 (by decide) rfl, ?_⟩
      refine List.forall_mem_cons.2 ⟨head_tile V 0 0 0 0 (by decide) (by decide) rfl rfl rfl, ?_⟩
      exact fun _ hp => absurd hp List.not_mem_nil
  all_goals
    funext y
    rw [View.readCov_eq_canon']
    refine (View.canon_apply_of_pieces (fun z : S1024x512.Idx => third (xr (z 1)) g w 2 (z 0)) _ ?_ _
      (View.cover_of_tiled _ ![256, 512] (by rfl) _)).trans ?_
    on_goal 2 =>
      refine congrArg₂ (fun r f => third (xr r) g w 2 f) (Fin.ext ?_) (Fin.ext ?_) <;> simp [LoadRect.idx, Rect.toLoadRect, Rect.unit]
    have q := value_tile x0 x1 x2 xr g w b0 b1 b2
    refine List.forall_mem_cons.2 ⟨q 2816 768 rfl (by decide) (by decide), ?_⟩
    refine List.forall_mem_cons.2 ⟨q 2560 512 rfl (by decide) (by decide), ?_⟩
    refine List.forall_mem_cons.2 ⟨q 2304 256 rfl (by decide) (by decide), ?_⟩
    refine List.forall_mem_cons.2 ⟨q 2048 0 rfl (by decide) (by decide), ?_⟩
    exact fun _ hp => absurd hp List.not_mem_nil

/-- The arrays the call writes. -/
theorem final_q : (dats m 0 c).arrAt 5 (cfgs 0).N = scaledQueries (inp m c).query := by
  refine (dats m 0 c).arrAt_eq_of_covers 5 _ (by decide +kernel) fun t _ y => ?_
  have := pt_lt t
  blk_simp
  idx_vars y
  have e : (((cfg0.win 5).blk t).view.emb (ix3 y0 y1 y2) : S16x1024x2048.Idx) = ix3 (seqOf t) y1 (posOf t y2) := by
    blk_ext [idx_val t, seqOf, posOf]
  rw [e]
  exact point_q m c t (ix3 y0 y1 y2)

theorem final_k : (dats m 0 c).arrAt 6 (cfgs 0).N = keyRows (inp m c).key := by
  refine (dats m 0 c).arrAt_eq_of_covers 6 _ (by decide +kernel) fun t _ y => ?_
  have := pt_lt t
  blk_simp
  idx_vars y
  have e : (((cfg0.win 6).blk t).view.emb (ix2 y0 y1) : S32768x1024.Idx) = ix2 ⟨t.val * 512 + y0.val, by omega⟩ y1 := by
    blk_ext [idx_val t]
  rw [e]
  refine (point_keys m c t (ix2 y0 y1) (fun _ => ⟨0, by decide +revert⟩)).1.trans ?_
  refine congrArg₂ (fun a b => (inp m c).key a b y1) (Fin.ext ?_) (Fin.ext ?_)
  · show t.val / 4 = (t.val * 512 + y0.val) / 2048
    omega
  · show t.val % 4 * 512 + y0.val = (t.val * 512 + y0.val) % 2048
    omega

theorem final_v : (dats m 0 c).arrAt 7 (cfgs 0).N = valueTiles (inp m c).value := by
  refine (dats m 0 c).arrAt_eq_of_covers 7 _ (by decide +kernel) fun t _ y => ?_
  have := pt_lt t
  blk_simp
  idx_vars y
  have e : (((cfg0.win 7).blk t).view.emb (ix3 y0 y1 y2) : S128x1152x256.Idx) = ix3 ⟨t.val * 2 + y0.val, by omega⟩ y1 y2 := by
    blk_ext [idx_val t]
  rw [e]
  refine (point_values m c t (ix3 y0 y1 y2) (fun _ => ⟨0, by decide +revert⟩)).1.trans ?_
  unfold tiled valueTiles
  refine if_congr Iff.rfl ?_ rfl
  refine congrArg₂ (fun a b => (inp m c).value a b _) (Fin.ext ?_) (Fin.ext ?_)
  · show t.val / 4 = (t.val * 2 + y0.val) / 8
    omega
  · show t.val % 4 * 512 + (y0.val * 256 + y2.val) = (t.val * 2 + y0.val) % 8 * 256 + y2.val
    omega

/-- The last 512 positions of each sequence. -/
abbrev kept (k : Fin 16 → Fin 2048 → Fin 1024 → EReal) : FVec Ideal S1x16x1024x512 .f32 := fun i =>
  k (i 1) ⟨1536 + (i 3).val, by have : (i 3).val < 512 := (i 3).isLt; omega⟩ (i 2)

theorem last_point : ∀ t : Fin cfg0.N, (cfg0.win 8).flush t = true → t.val % 4 = 3 := by decide +kernel
theorem last_point' : ∀ t : Fin cfg0.N, (cfg0.win 9).flush t = true → t.val % 4 = 3 := by decide +kernel

theorem final_kk : (dats m 0 c).arrAt 8 (cfgs 0).N = kept (inp m c).key := by
  refine (dats m 0 c).arrAt_eq_of_covers 8 _ (by decide +kernel) fun t ht y => ?_
  have h := last_point t ht
  blk_simp
  idx_vars y
  have e : (((cfg0.win 8).blk t).view.emb (ix4 y0 y1 y2 y3) : S1x16x1024x512.Idx) = ix4 0 (seqOf t) y2 y3 := by
    blk_ext [idx_val t, seqOf]
  rw [e]
  refine ((point_keys m c t (fun _ => ⟨0, by decide +revert⟩) (ix4 y0 y1 y2 y3)).2 h).trans ?_
  refine congrArg (fun a => (inp m c).key (seqOf t) a y2) (Fin.ext ?_)
  show t.val % 4 * 512 + y3.val = 1536 + y3.val
  omega

theorem final_kv : (dats m 0 c).arrAt 9 (cfgs 0).N = kept (inp m c).value := by
  refine (dats m 0 c).arrAt_eq_of_covers 9 _ (by decide +kernel) fun t ht y => ?_
  have h := last_point' t ht
  blk_simp
  idx_vars y
  have e : (((cfg0.win 9).blk t).view.emb (ix4 y0 y1 y2 y3) : S1x16x1024x512.Idx) = ix4 0 (seqOf t) y2 y3 := by
    blk_ext [idx_val t, seqOf]
  rw [e]
  refine ((point_values m c t (fun _ => ⟨0, by decide +revert⟩) (ix4 y0 y1 y2 y3)).2 h).trans ?_
  refine congrArg (fun a => (inp m c).value (seqOf t) a y2) (Fin.ext ?_)
  show t.val % 4 * 512 + y3.val = 1536 + y3.val
  omega

/-- The host splits the features into groups and puts the positions first. -/
theorem kept_groups (k : Fin 16 → Fin 2048 → Fin 1024 → EReal) :
    transpose S1x16x512x16x64 [0, 1, 4, 2, 3] (shapeCast S1x16x16x64x512 (kept k) shapeCasts_S1x16x1024x512_S1x16x16x64x512)
      transposes_S1x16x16x64x512_S1x16x512x16x64_0_1_4_2_3 = keptGroups k := by
  funext i
  idx_vars i
  unfold keptGroups
  pointwise
  rfl

/-- The call's results are the projection in its layouts. -/
theorem run (ρ : Dev nD → PrngReg) : θ_run defs (onTc (τ := τ) (main (F := Ideal))) ⟨m, fun _ => 0, ρ⟩ fun r => ∀ c : Dev nD,
      r.2.mem ((c : Thread nD τ).loc main_v16_0) = scaledQueries (inp m c).query
      ∧ r.2.mem ((c : Thread nD τ).loc main_v16_1) = keyRows (inp m c).key
      ∧ r.2.mem ((c : Thread nD τ).loc main_v16_2) = valueTiles (inp m c).value
      ∧ r.2.mem ((c : Thread nD τ).loc main_v18) = keptGroups (inp m c).key
      ∧ r.2.mem ((c : Thread nD τ).loc main_v20) = keptGroups (inp m c).value := by
  refine (θ_run defs _ _).mono (fun r h c => ⟨?_, ?_, ?_, ?_, ?_⟩) (run_main (F := Ideal) m ρ)
  · exact ((h c).1 5).trans (final_q m c)
  · exact ((h c).1 6).trans (final_k m c)
  · exact ((h c).1 7).trans (final_v m c)
  · refine ((h c).2 main_v18 (by decide)).trans ?_
    unfold Pipeline.afterTail₀
    simp only [List.flatten_cons, List.flatten_nil, List.append_nil, hostOps1]
    after_region_results
    have e := (Pipeline.withArrays_arr (cfgs 0).spec launch0.win.arr_inj c (V0 m c) (fun w => (dats m 0 c).arrAt w (cfgs 0).N) 8).trans
      (final_kk m c)
    exact (congrArg (fun Y => transpose S1x16x512x16x64 [0, 1, 4, 2, 3] (shapeCast S1x16x16x64x512 Y shapeCasts_S1x16x1024x512_S1x16x16x64x512)
      transposes_S1x16x16x64x512_S1x16x512x16x64_0_1_4_2_3) e).trans (kept_groups _)
  · refine ((h c).2 main_v20 (by decide)).trans ?_
    unfold Pipeline.afterTail₀
    simp only [List.flatten_cons, List.flatten_nil, List.append_nil, hostOps1]
    after_region_results
    have e := (Pipeline.withArrays_arr (cfgs 0).spec launch0.win.arr_inj c (V0 m c) (fun w => (dats m 0 c).arrAt w (cfgs 0).N) 9).trans
      (final_kv m c)
    exact (congrArg (fun Y => transpose S1x16x512x16x64 [0, 1, 4, 2, 3] (shapeCast S1x16x16x64x512 Y shapeCasts_S1x16x1024x512_S1x16x16x64x512)
      transposes_S1x16x16x64x512_S1x16x512x16x64_0_1_4_2_3) e).trans (kept_groups _)

end Cert.BandProjIdeal.RefValue
end
-- ==== Proof.BandProjRef.lean ====
/-
  The reference of the band mixer's projection on the prompt, read at its indices: the same queries, keys and values in the same
  layouts.
-/
module

public import proofs.«01_k».proof.Proof.ProjLayout
public import proofs.«01_k».proof.Proof.Gen.BandProjRefIdeal.Run
public import proofs.«01_k».proof.Proof.Gen.BandProjRefIdeal.Read
public import Idealize.ShloMosaic.Lib.Pointwise

@[expose] public section

set_option maxRecDepth 16384

noncomputable section

open Idealize.ShloMosaic Idealize.ShloMosaic.TcCoe Idealize.SL.Sem

namespace Cert.BandProjRefIdeal.RefValue

open Cert.BandProjRefIdeal Cert.BandProjRefIdeal.Gen Cert.Layer

variable (X : FVec Ideal S16x2048x1024 .f32) (G : FVec Ideal S1024 .f32) (W : FVec Ideal S1024x3072 .f32) (Q K : FVec Ideal S64 .f32)

/-- The product of the normalised rows with the matrix. -/
theorem product_ref (b : Fin 16) (t : Fin 2048) (f : Fin 3072) : Read.val_main_v13 (F := Ideal) X G W (ix3 b t f)
    = projected ((projIn X G W Q K).x b t) (projIn X G W Q K).g (projIn X G W Q K).w f := by
  unfold projected normRow projIn
  pointwise [Read.val_main_v13, Read.val_main_v12,
    Read.val_main_v11, Read.val_main_v10, Read.val_main_v9, Read.val_main_v8, Read.val_main_v7, Read.val_main_v6, Read.val_main_v5,
    Read.val_main_v4, Read.val_main_v3, Read.val_main_v2, Read.val_main_v1, Read.val_main_v0,
    Read.val_main_cst, Read.val_main_cst_0, Read.val_main_cst_1, zero_add]

/-- The three thirds in groups of 64. -/
theorem query_group (b : Fin 16) (t : Fin 2048) (h : Fin 16) (l : Fin 64) : Read.val_main_v17 (F := Ideal) X G W (ix4 b t h l)
    = third ((projIn X G W Q K).x b t) (projIn X G W Q K).g (projIn X G W Q K).w 0 ⟨h.val * 64 + l.val, by omega⟩ := by
  refine Eq.trans ?_ (product_ref X G W Q K b t _)
  pointwise [Read.val_main_v17, Read.val_main_v14]
  all_goals exact congrArg (fun a => Read.val_main_v13 (F := Ideal) X G W (ix3 b t a)) (Fin.ext (by simp))

theorem key_group (b : Fin 16) (t : Fin 2048) (h : Fin 16) (l : Fin 64) : Read.val_main_v31 (F := Ideal) X G W (ix4 b t h l)
    = third ((projIn X G W Q K).x b t) (projIn X G W Q K).g (projIn X G W Q K).w 1 ⟨h.val * 64 + l.val, by omega⟩ := by
  refine Eq.trans ?_ (product_ref X G W Q K b t _)
  pointwise [Read.val_main_v31, Read.val_main_v15]
  all_goals exact congrArg (fun a => Read.val_main_v13 (F := Ideal) X G W (ix3 b t a)) (Fin.ext (by simp))

theorem value_group (b : Fin 16) (t : Fin 2048) (h : Fin 16) (l : Fin 64) : Read.val_main_v45 (F := Ideal) X G W (ix4 b t h l)
    = (projIn X G W Q K).value b t ⟨h.val * 64 + l.val, by omega⟩ := by
  refine Eq.trans ?_ (product_ref X G W Q K b t _)
  pointwise [Read.val_main_v45, Read.val_main_v16]
  all_goals exact congrArg (fun a => Read.val_main_v13 (F := Ideal) X G W (ix3 b t a)) (Fin.ext (by simp))

/-- A group's norm, from its 64 members. -/
theorem norm_of_group (u : Fin 1024 → EReal) (g : Fin 64 → EReal) (v : Fin 64 → EReal) (h : Fin 16) (l : Fin 64)
    (hv : ∀ l : Fin 64, v l = u ⟨h.val * 64 + l.val, by omega⟩) :
    v l * Ideal.rsqrt (Ideal.div (∑ j, v j * v j) (Ideal.ofBits .f32 0x42800000#32) + Ideal.ofBits .f32 0x358637BD#32) * g l
      = groupNorm u g ⟨h.val * 64 + l.val, by omega⟩ := by
  have e : ∀ j, groupMate ⟨h.val * 64 + l.val, by omega⟩ j = ⟨h.val * 64 + j.val, by omega⟩ := fun j =>
    Fin.ext (by show (h.val * 64 + l.val) / 64 * 64 + j.val = h.val * 64 + j.val; omega)
  have e' : groupPlace ⟨h.val * 64 + l.val, by omega⟩ = l := Fin.ext (by show (h.val * 64 + l.val) % 64 = l.val; omega)
  unfold groupNorm
  simp only [e, e', hv]

theorem query_ref (b : Fin 16) (t : Fin 2048) (h : Fin 16) (l : Fin 64) : Read.val_main_v30 (F := Ideal) X G W Q (ix4 b t h l)
    = (projIn X G W Q K).query b t ⟨h.val * 64 + l.val, by omega⟩ := by
  refine Eq.trans ?_ (norm_of_group _ _ _ h l (query_group X G W Q K b t h))
  pointwise [Read.val_main_v30, Read.val_main_v29, Read.val_main_v28, Read.val_main_v27, Read.val_main_v26, Read.val_main_v25,
    Read.val_main_v24, Read.val_main_v23, Read.val_main_v22, Read.val_main_v21, Read.val_main_v20, Read.val_main_v19, Read.val_main_v18,
    Read.val_main_cst_2, Read.val_main_cst_3, Read.val_main_cst_4, zero_add]
  rfl

theorem key_ref (b : Fin 16) (t : Fin 2048) (h : Fin 16) (l : Fin 64) : Read.val_main_v44 (F := Ideal) X G W K (ix4 b t h l)
    = (projIn X G W Q K).key b t ⟨h.val * 64 + l.val, by omega⟩ := by
  refine Eq.trans ?_ (norm_of_group _ _ _ h l (key_group X G W Q K b t h))
  pointwise [Read.val_main_v44, Read.val_main_v43, Read.val_main_v42, Read.val_main_v41, Read.val_main_v40, Read.val_main_v39,
    Read.val_main_v38, Read.val_main_v37, Read.val_main_v36, Read.val_main_v35, Read.val_main_v34, Read.val_main_v33, Read.val_main_v32,
    Read.val_main_cst_5, Read.val_main_cst_6, Read.val_main_cst_7, zero_add]
  rfl

/-- The five results. -/
theorem queries_eq : Read.val_main_v55 (F := Ideal) X G W Q = scaledQueries (projIn X G W Q K).query := by
  funext i
  idx_vars i
  unfold scaledQueries
  refine Eq.trans ?_ (congrArg (· * queryScale) ((query_ref X G W Q K i0 i2 ⟨i1.val / 64, by omega⟩ ⟨i1.val % 64, by omega⟩).trans
    (congrArg ((projIn X G W Q K).query i0 i2) (Fin.ext (by show i1.val / 64 * 64 + i1.val % 64 = i1.val; omega)))))
  pointwise [Read.val_main_v55, Read.val_main_v49, Read.val_main_v48, Read.val_main_v47, Read.val_main_v46, Read.val_main_cst_8]

theorem keys_eq : Read.val_main_v57 (F := Ideal) X G W K = keyRows (projIn X G W Q K).key := by
  funext i
  idx_vars i
  unfold keyRows
  refine Eq.trans ?_ ((key_ref X G W Q K ⟨i0.val / 2048, by omega⟩ ⟨i0.val % 2048, by omega⟩ ⟨i1.val / 64, by omega⟩ ⟨i1.val % 64, by omega⟩).trans
    (congrArg ((projIn X G W Q K).key _ _) (Fin.ext (by show i1.val / 64 * 64 + i1.val % 64 = i1.val; omega))))
  pointwise [Read.val_main_v57, Read.val_main_v56]

theorem tiles_eq : Read.val_main_v58 (F := Ideal) X G W = valueTiles (projIn X G W Q K).value := by
  funext i
  idx_vars i
  have e : Read.val_main_v58 (F := Ideal) X G W (ix3 i0 i1 i2) = Read.val_main_v53 (F := Ideal) X G W (ix4 i0 ⟨i1.val / 144, by omega⟩ ⟨i1.val % 144, by omega⟩ i2) := by
    pointwise [Read.val_main_v58, Read.val_main_v54]
  rw [e]
  unfold valueTiles Read.val_main_v53
  by_cases h : i1.val % 144 < 128
  · refine Eq.trans ?_ (if_pos h).symm
    refine (concatenate_pair_apply_left (t := S128x8x144x256) (2 : Fin 4) (Read.val_main_v51 (F := Ideal) X G W) (Read.val_main_v52 (F := Ideal)) _ (ix4 i0 ⟨i1.val / 144, by omega⟩ ⟨i1.val % 144, by omega⟩ i2) rfl
      (ix4 i0 ⟨i1.val / 144, by omega⟩ ⟨i1.val % 144, h⟩ i2) ?_).trans ?_
    · intro k; fin_cases k <;> simp
    · refine Eq.trans ?_ ((value_group X G W Q K ⟨i0.val / 8, by omega⟩ ⟨i0.val % 8 * 256 + i2.val, by omega⟩
        ⟨(i1.val / 144 * 128 + i1.val % 144 % 128) / 64, by omega⟩ ⟨(i1.val / 144 * 128 + i1.val % 144 % 128) % 64, by omega⟩).trans
        (congrArg ((projIn X G W Q K).value _ _) (Fin.ext (by show (i1.val / 144 * 128 + i1.val % 144 % 128) / 64 * 64 + (i1.val / 144 * 128 + i1.val % 144 % 128) % 64 = i1.val / 144 * 128 + i1.val % 144 % 128; omega))))
      pointwise [Read.val_main_v51, Read.val_main_v50]
      refine congrArg₂ (fun a b => Read.val_main_v45 (F := Ideal) X G W (ix4 ⟨i0.val / 8, by omega⟩ ⟨i0.val % 8 * 256 + i2.val, by omega⟩ a b)) (Fin.ext ?_) (Fin.ext ?_)
      · show i1.val / 144 * 2 + i1.val % 144 / 64 = (i1.val / 144 * 128 + i1.val % 144 % 128) / 64
        omega
      · show i1.val % 144 % 64 = (i1.val / 144 * 128 + i1.val % 144 % 128) % 64
        omega
  · refine Eq.trans ?_ (if_neg h).symm
    refine (concatenate_pair_apply_right (t := S128x8x144x256) (s₂ := S128x8x16x256) (2 : Fin 4) (Read.val_main_v51 (F := Ideal) X G W) (Read.val_main_v52 (F := Ideal)) _ (ix4 i0 ⟨i1.val / 144, by omega⟩ ⟨i1.val % 144, by omega⟩ i2) rfl rfl
      (ix4 i0 ⟨i1.val / 144, by omega⟩ ⟨i1.val % 144 - 128, by omega⟩ i2) ?_ ?_).trans ?_
    · intro k hk; fin_cases k <;> simp at hk ⊢
    · simp; omega
    · pointwise [Read.val_main_v52, Read.val_main_cst_9]

theorem kept_keys_eq : Read.val_main_v60 (F := Ideal) X G W K = keptGroups (projIn X G W Q K).key := by
  funext i
  idx_vars i
  unfold keptGroups
  refine Eq.trans ?_ (key_ref X G W Q K i1 ⟨1536 + i2.val, by omega⟩ i3 i4)
  pointwise [Read.val_main_v60, Read.val_main_v59]

theorem kept_values_eq : Read.val_main_v62 (F := Ideal) X G W = keptGroups (projIn X G W Q K).value := by
  funext i
  idx_vars i
  unfold keptGroups
  refine Eq.trans ?_ (value_group X G W Q K i1 ⟨1536 + i2.val, by omega⟩ i3 i4)
  pointwise [Read.val_main_v62, Read.val_main_v61]

end Cert.BandProjRefIdeal.RefValue

end
-- ==== Proof.BandProjClaims.lean ====
/-
  The claims about the band mixer's projection on the prompt: the frames of the kernel and of its two idealized programs, and that
  the kernel over the reals computes what the reference computes.
-/
module

public import proofs.«01_k».proof.Proof.BandProjStored
public import proofs.«01_k».proof.Proof.BandProjRef
public import proofs.«01_k».proof.Proof.Gen.BandProj.Frame
public import Idealize.ShloMosaic.Lib.Quiescent

@[expose] public section

noncomputable section

open Idealize.ShloMosaic Idealize.ShloMosaic.TcCoe Idealize.SL.Sem

namespace Cert.Proof.BandProjClaims

open Cert.BandProjIdeal.RefValue Cert.BandProjRefIdeal.RefValue Cert.Layer

/-- The frames: every run ends, leaves the arguments as they were and no semaphore raised. -/
theorem frame_k : Cert.quiescent_BandProj := fun m ρ _ => Cert.BandProj.Gen.frame m ρ
theorem frame_i : Cert.quiescent_BandProjIdeal := fun m ρ _ => Cert.BandProjIdeal.Gen.frame m ρ
theorem frame_r : Cert.quiescent_BandProjRefIdeal := fun m ρ _ =>
  (θ_run Cert.BandProjRefIdeal.defs _ _).mono
    (fun r h => ⟨fun c => (h c).2.2.2.2.2, Idealize.ShloMosaic.sem_eq_zero_of_no_sems (by decide) r.2⟩)
    (Cert.BandProjRefIdeal.Value.run (F := Ideal) m ρ)

/-- The kernel and the reference compute the same function of the same arguments. -/
theorem algebraic : Cert.algebraic_BandProjIdeal_BandProjRefIdeal := by
  intro m ρ m' ρ' _ hag
  refine ⟨fun c => scaledQueries (inp m c).query, fun c => keyRows (inp m c).key, fun c => valueTiles (inp m c).value,
    fun c => keptGroups (inp m c).key, fun c => keptGroups (inp m c).value, ?_, ?_⟩
  · exact (θ_run Cert.BandProjIdeal.defs _ _).mono
      (fun _ h c => ⟨(h.1 c).1, (h.1 c).2.1, (h.1 c).2.2.1, (h.1 c).2.2.2.1, (h.1 c).2.2.2.2, h.2 c⟩)
      (θ_run_and (run m ρ) (Cert.BandProjIdeal.Gen.unchanged (F := Ideal) m ρ))
  · refine (θ_run Cert.BandProjRefIdeal.defs _ _).mono (fun _ h c => ?_)
      (Cert.BandProjRefIdeal.Value.run (F := Ideal) m' ρ')
    obtain ⟨e0, e1, e2, e3, e4⟩ := hag c
    have es : projIn (m' ((c.tc : Thread Cert.BandProjRefIdeal.nD Cert.BandProjRefIdeal.τ).loc Cert.BandProjRefIdeal.main_arg0)) (m' ((c.tc : Thread Cert.BandProjRefIdeal.nD Cert.BandProjRefIdeal.τ).loc Cert.BandProjRefIdeal.main_arg1)) (m' ((c.tc : Thread Cert.BandProjRefIdeal.nD Cert.BandProjRefIdeal.τ).loc Cert.BandProjRefIdeal.main_arg2)) (m' ((c.tc : Thread Cert.BandProjRefIdeal.nD Cert.BandProjRefIdeal.τ).loc Cert.BandProjRefIdeal.main_arg3)) (m' ((c.tc : Thread Cert.BandProjRefIdeal.nD Cert.BandProjRefIdeal.τ).loc Cert.BandProjRefIdeal.main_arg4)) = inp m c := by
      rw [e0, e1, e2, e3, e4]
      rfl
    refine ⟨(h c).1.trans ?_, (h c).2.1.trans ?_, (h c).2.2.1.trans ?_, (h c).2.2.2.1.trans ?_, (h c).2.2.2.2.1.trans ?_, (h c).2.2.2.2.2⟩
    · rw [Cert.BandProjRefIdeal.Read.val_main_v55_eq, queries_eq _ _ _ _ (m' ((c.tc : Thread Cert.BandProjRefIdeal.nD Cert.BandProjRefIdeal.τ).loc Cert.BandProjRefIdeal.main_arg4))]
      exact congrArg (fun I : ProjIn 2048 => scaledQueries I.query) es
    · rw [Cert.BandProjRefIdeal.Read.val_main_v57_eq, keys_eq _ _ _ (m' ((c.tc : Thread Cert.BandProjRefIdeal.nD Cert.BandProjRefIdeal.τ).loc Cert.BandProjRefIdeal.main_arg3))]
      exact congrArg (fun I : ProjIn 2048 => keyRows I.key) es
    · rw [Cert.BandProjRefIdeal.Read.val_main_v58_eq, tiles_eq _ _ _ (m' ((c.tc : Thread Cert.BandProjRefIdeal.nD Cert.BandProjRefIdeal.τ).loc Cert.BandProjRefIdeal.main_arg3)) (m' ((c.tc : Thread Cert.BandProjRefIdeal.nD Cert.BandProjRefIdeal.τ).loc Cert.BandProjRefIdeal.main_arg4))]
      exact congrArg (fun I : ProjIn 2048 => valueTiles I.value) es
    · rw [Cert.BandProjRefIdeal.Read.val_main_v60_eq, kept_keys_eq _ _ _ (m' ((c.tc : Thread Cert.BandProjRefIdeal.nD Cert.BandProjRefIdeal.τ).loc Cert.BandProjRefIdeal.main_arg3))]
      exact congrArg (fun I : ProjIn 2048 => keptGroups I.key) es
    · rw [Cert.BandProjRefIdeal.Read.val_main_v62_eq, kept_values_eq _ _ _ (m' ((c.tc : Thread Cert.BandProjRefIdeal.nD Cert.BandProjRefIdeal.τ).loc Cert.BandProjRefIdeal.main_arg3)) (m' ((c.tc : Thread Cert.BandProjRefIdeal.nD Cert.BandProjRefIdeal.τ).loc Cert.BandProjRefIdeal.main_arg4))]
      exact congrArg (fun I : ProjIn 2048 => keptGroups I.value) es

end Cert.Proof.BandProjClaims

end
-- ==== Proof.RowsBlock.lean ====
/-
  The body of the projection of the sampled rows. It handles all 256 rows and all 1024 features at once: the sum of squares of
  each group of 64 features is read off a product, in pieces of 128 features, with a matrix of zeros and ones that is one where
  two features lie in the same group.
-/
module

public import proofs.«01_k».proof.Proof.ProjMath
public import proofs.«01_k».proof.Proof.Gen.BandRowsIdeal.Skeleton
public import Idealize.ShloMosaic.Lib.Pipeline.ValueKit

@[expose] public section

set_option maxRecDepth 16384

noncomputable section

open Idealize.ShloMosaic Idealize.ShloMosaic.TcCoe Idealize.SL.Sem

namespace Cert.Layer

/-- The results' layouts: the 256 rows of the 16 sequences one after another, and each row's groups of 64 features. -/
def sampleRows (q : Fin 16 → Fin 16 → Fin 1024 → EReal) : (⟨2, ![256, 1024]⟩ : Shape).Idx → EReal := fun i =>
  q ⟨(i 0).val / 16, by have : (i 0).val < 256 := (i 0).isLt; omega⟩ ⟨(i 0).val % 16, by omega⟩ (i 1)

def sampleGroups (q : Fin 16 → Fin 16 → Fin 1024 → EReal) : (⟨4, ![16, 16, 16, 64]⟩ : Shape).Idx → EReal := fun i =>
  q (i 0) (i 1) ⟨(i 2).val * 64 + (i 3).val, by have : (i 2).val < 16 := (i 2).isLt; have : (i 3).val < 64 := (i 3).isLt; omega⟩

/-- Which 128 features the product's piece with feature `f` reads. -/
def pieceMate (f : Fin 1024) (k : Fin 128) : Fin 1024 := ⟨f.val / 128 * 128 + k.val, by omega⟩

/-- Whether two of 128 features lie in one group, as a number. -/
def sameGroup (k l : Fin 128) : EReal := if k.val / 64 = l.val / 64 then 1 else 0

/-- The piece's sum keeps the group's members only. -/
theorem sum_sameGroup (s : Fin 1024 → EReal) (f : Fin 1024) :
    ∑ k : Fin 128, s (pieceMate f k) * sameGroup k ⟨f.val % 128, Nat.mod_lt _ (by norm_num)⟩ = ∑ l : Fin 64, s (groupMate f l) := by
  refine (Fin.sum_univ_add (a := 64) (b := 64) _).trans ?_
  by_cases h : f.val % 128 < 64
  · have e1 : ∀ l : Fin 64, sameGroup (Fin.castAdd 64 l) ⟨f.val % 128, Nat.mod_lt _ (by norm_num)⟩ = 1 := fun l =>
      if_pos (by show l.val / 64 = f.val % 128 / 64; omega)
    have e2 : ∀ l : Fin 64, sameGroup (Fin.natAdd 64 l) ⟨f.val % 128, Nat.mod_lt _ (by norm_num)⟩ = 0 := fun l =>
      if_neg (by show ¬ (64 + l.val) / 64 = f.val % 128 / 64; omega)
    simp only [e1, e2, mul_one, mul_zero, Finset.sum_const_zero, add_zero]
    refine Finset.sum_congr rfl fun l _ => congrArg s (Fin.ext ?_)
    show f.val / 128 * 128 + l.val = f.val / 64 * 64 + l.val
    omega
  · have e1 : ∀ l : Fin 64, sameGroup (Fin.castAdd 64 l) ⟨f.val % 128, Nat.mod_lt _ (by norm_num)⟩ = 0 := fun l =>
      if_neg (by show ¬ l.val / 64 = f.val % 128 / 64; omega)
    have e2 : ∀ l : Fin 64, sameGroup (Fin.natAdd 64 l) ⟨f.val % 128, Nat.mod_lt _ (by norm_num)⟩ = 1 := fun l =>
      if_pos (by show (64 + l.val) / 64 = f.val % 128 / 64; omega)
    simp only [e1, e2, mul_one, mul_zero, Finset.sum_const_zero, zero_add]
    refine Finset.sum_congr rfl fun l _ => congrArg s (Fin.ext ?_)
    show f.val / 128 * 128 + (64 + l.val) = f.val / 64 * 64 + l.val
    omega

end Cert.Layer

namespace Cert.BandRowsIdeal.RefValue

open Cert.BandRowsIdeal Cert.BandRowsIdeal.Gen Cert.Layer

/-- The product of the 128 features from `a` on with the matrix of zeros and ones. -/
def piece (a : ℕ) (h : S256x1024.Slices ![0, a] S256x128) (sq : FVec Ideal S256x1024 .bf16) (bd : FVec Ideal S128x128 .bf16) :
    FVec Ideal S256x128 .f32 :=
  matmul dot_S256x128_S128x128_S256x128_1_0_0_1_n_n none (extractStridedSlice S256x128 ![0, a] sq h) bd
    (constant S256x128 .f32 0x00000000#32)

theorem piece_apply (a : ℕ) (h : S256x1024.Slices ![0, a] S256x128) (ha : a + 128 ≤ 1024) (sq : FVec Ideal S256x1024 .bf16)
    (bd : FVec Ideal S128x128 .bf16) (r : Fin 256) (l : Fin 128) :
    piece a h sq bd (ix2 r l) = ∑ k : Fin 128, sq (ix2 r ⟨a + k.val, by omega⟩) * bd (ix2 k l) := by
  pointwise [piece]

theorem piece_slices : ∀ n : Fin 8, S256x1024.Slices ![0, 128 * n.val] S256x128 := by decide

/-- Eight pieces side by side. -/
theorem pieces_apply (p : (a : ℕ) → S256x1024.Slices ![0, a] S256x128 → FVec Ideal S256x128 .f32) (hs0 hs1 hs2 hs3 hs4 hs5 hs6 hs7)
    (r : Fin 256) (f : Fin 1024) :
    concatenate S256x1024 1 [⟨S256x128, p 0 hs0⟩, ⟨S256x128, p 128 hs1⟩, ⟨S256x128, p 256 hs2⟩, ⟨S256x128, p 384 hs3⟩, ⟨S256x128, p 512 hs4⟩,
      ⟨S256x128, p 640 hs5⟩, ⟨S256x128, p 768 hs6⟩, ⟨S256x128, p 896 hs7⟩]
      concatenates_S256x128_S256x128_S256x128_S256x128_S256x128_S256x128_S256x128_S256x128_S256x1024_d1 (ix2 r f)
    = p (128 * (f.val / 128)) (piece_slices ⟨f.val / 128, by omega⟩) (ix2 r ⟨f.val % 128, Nat.mod_lt _ (by norm_num)⟩) :=
  concatenate_ofFn_apply (t := S256x1024) (s₁ := S256x128) (1 : Fin 2) (fun n : Fin 8 => p (128 * n.val) (piece_slices n))
    concatenates_S256x128_S256x128_S256x128_S256x128_S256x128_S256x128_S256x128_S256x128_S256x1024_d1 rfl 128 rfl (ix2 r f)
    ⟨f.val / 128, by omega⟩ rfl (ix2 r ⟨f.val % 128, Nat.mod_lt _ (by norm_num)⟩) rfl
    (by intro b hb; fin_cases b
        · rfl
        · exact absurd rfl hb)

/-- The 1024 features of the product from `o` on, normalised over their groups with the gains. -/
def normed (o : ℕ) (h : S256x3072.Slices ![0, o] S256x1024) (v : FVec Ideal S256x3072 .f32) (bd : FVec Ideal S128x128 .bf16)
    (gain : Vec Ideal S1x1024 .f32) : FVec Ideal S256x1024 .f32 :=
  have t : FVec Ideal S256x1024 .f32 := extractStridedSlice S256x1024 ![0, o] v h
  have sq : FVec Ideal S256x1024 .bf16 := truncf .bf16 (mulf t t) bitsLt_bf16_f32
  have ss : FVec Ideal S256x1024 .f32 := concatenate S256x1024 1 [⟨S256x128, piece 0 slices_S256x1024_o0_0_S256x128 sq bd⟩,
    ⟨S256x128, piece 128 slices_S256x1024_o0_128_S256x128 sq bd⟩, ⟨S256x128, piece 256 slices_S256x1024_o0_256_S256x128 sq bd⟩,
    ⟨S256x128, piece 384 slices_S256x1024_o0_384_S256x128 sq bd⟩, ⟨S256x128, piece 512 slices_S256x1024_o0_512_S256x128 sq bd⟩,
    ⟨S256x128, piece 640 slices_S256x1024_o0_640_S256x128 sq bd⟩, ⟨S256x128, piece 768 slices_S256x1024_o0_768_S256x128 sq bd⟩,
    ⟨S256x128, piece 896 slices_S256x1024_o0_896_S256x128 sq bd⟩]
    concatenates_S256x128_S256x128_S256x128_S256x128_S256x128_S256x128_S256x128_S256x128_S256x1024_d1
  have n : FVec Ideal S256x1024 .f32 := rsqrt (addf (mulf ss (broadcast S256x1024 (Scalar.ofBits .f32 0x3C800000#32)))
    (broadcast S256x1024 (Scalar.ofBits .f32 0x358637BD#32)))
  mulf (mulf t n) (broadcastTo S256x1024 (shapeCast S1x1024 gain shapeCasts_S1x1024_S1x1024) broadcasts_S1x1024_S256x1024)

theorem normed_apply (o : ℕ) (h : S256x3072.Slices ![0, o] S256x1024) (v : FVec Ideal S256x3072 .f32) (bd : FVec Ideal S128x128 .bf16)
    (gain : Vec Ideal S1x1024 .f32) (u : Fin 256 → Fin 1024 → EReal) (g : Fin 64 → EReal)
    (hu : ∀ r f, extractStridedSlice S256x1024 ![0, o] v h (ix2 r f) = u r f) (hb : ∀ k l, bd (ix2 k l) = sameGroup k l)
    (hg : ∀ f, gain (ix2 0 f) = g (groupPlace f)) (r : Fin 256) (f : Fin 1024) :
    normed o h v bd gain (ix2 r f) = groupNorm (u r) g f := by
  unfold groupNorm
  rw [← mul_inv_group, ← sum_sameGroup (fun k => u r k * u r k) f, ← hg]
  have hsq : ∀ f, truncf (F := Ideal) .bf16 (mulf (extractStridedSlice S256x1024 ![0, o] v h) (extractStridedSlice S256x1024 ![0, o] v h))
      bitsLt_bf16_f32 (ix2 r f) = u r f * u r f := fun f => congrArg₂ (· * ·) (hu r f) (hu r f)
  have e := pieces_apply (fun a hs => piece a hs (truncf (F := Ideal) .bf16 (mulf (extractStridedSlice S256x1024 ![0, o] v h)
    (extractStridedSlice S256x1024 ![0, o] v h)) bitsLt_bf16_f32) bd) slices_S256x1024_o0_0_S256x128 slices_S256x1024_o0_128_S256x128
    slices_S256x1024_o0_256_S256x128 slices_S256x1024_o0_384_S256x128 slices_S256x1024_o0_512_S256x128 slices_S256x1024_o0_640_S256x128
    slices_S256x1024_o0_768_S256x128 slices_S256x1024_o0_896_S256x128 r f
  have eg : broadcastTo S256x1024 (shapeCast S1x1024 gain shapeCasts_S1x1024_S1x1024) broadcasts_S1x1024_S256x1024 (ix2 r f) = gain (ix2 0 f) := by
    pointwise
  refine congrArg₂ (· * ·) (congrArg₂ (· * ·) (hu r f) (congrArg Ideal.rsqrt (congrArg (· + _) (congrArg (· * _) (e.trans ?_))))) eg
  rw [piece_apply _ _ (by omega)]
  refine Finset.sum_congr rfl fun k _ => ?_
  rw [hsq, hb]
  have em : (⟨128 * (f.val / 128) + k.val, by omega⟩ : Fin 1024) = pieceMate f k := Fin.ext (by show 128 * (f.val / 128) + k.val = f.val / 128 * 128 + k.val; omega)
  rw [em]

/-- The body's normalised queries and keys are these. -/
theorem q_body (x0 : Vec Ideal S256x1024 .f32) (x1 : Vec Ideal S1x1024 .f32) (x2 : Vec Ideal S1024x3072 .bf16) (x3 : Vec Ideal S1x1024 .f32)
    (x5 : Vec Ideal S128x128 .bf16) :
    k0_pay15 (F := Ideal) (k0_pay5 x5) (k0_pay6 x0 x1 x2) (k0_pay7 x3) (k0_pay8 x0 x1 x2) (k0_pay9 x0 x1 x2 x5) (k0_pay10 x0 x1 x2 x5)
      (k0_pay11 x0 x1 x2 x5) (k0_pay12 x0 x1 x2 x5) (k0_pay13 x0 x1 x2 x5) (k0_pay14 x0 x1 x2 x5)
    = normed 0 slices_S256x3072_o0_0_S256x1024 (k0_pay4 x0 x1 x2) (k0_pay5 x5) x3 := by
  simp only [k0_pay15, k0_pay6, k0_pay7, k0_pay8, k0_pay9, k0_pay10, k0_pay11, k0_pay12, k0_pay13, k0_pay14, normed, piece]

theorem k_body (v : FVec Ideal S256x3072 .f32) (bd : FVec Ideal S128x128 .bf16) (x4 : Vec Ideal S1x1024 .f32) :
    k0_pay16 (F := Ideal) v bd x4 = normed 1024 slices_S256x3072_o0_1024_S256x1024 v bd x4 := by
  simp only [k0_pay16, normed, piece]

section Block

/- The rows, gains and matrices the inputs hold. -/
variable (x0 : Vec Ideal S256x1024 .f32) (x1 : Vec Ideal S1x1024 .f32) (x2 : Vec Ideal S1024x3072 .bf16) (x3 x4 : Vec Ideal S1x1024 .f32)
  (x5 : Vec Ideal S128x128 .bf16)
  (xr : Fin 256 → Fin 1024 → EReal) (g : Fin 1024 → EReal) (w : Fin 1024 → Fin 3072 → EReal) (gain : Fin 64 → EReal)
  (h0 : ∀ r k, x0 (ix2 r k) = xr r k) (h1 : ∀ k, x1 (ix2 0 k) = g k) (h2 : ∀ k f, x2 (ix2 k f) = w k f)
  (h5 : ∀ k l, x5 (ix2 k l) = sameGroup k l)

include h0 h1 h2

theorem product_apply (r : Fin 256) (f : Fin 3072) : k0_pay4 (F := Ideal) x0 x1 x2 (ix2 r f) = projected (xr r) g w f := by
  have e0 : xr r = fun k => x0 (ix2 r k) := funext fun k => (h0 r k).symm
  have e1 : g = fun k => x1 (ix2 0 k) := funext fun k => (h1 k).symm
  have e2 : w = fun k f => x2 (ix2 k f) := funext fun k => funext fun f => (h2 k f).symm
  rw [e0, e1, e2]
  unfold projected normRow
  pointwise [k0_pay4]

/-- A third of the product. -/
theorem third_apply (n : Fin 3) (o : ℕ) (ho : o = n.val * 1024) (h : S256x3072.Slices ![0, o] S256x1024) (r : Fin 256) (f : Fin 1024) :
    extractStridedSlice S256x1024 ![0, o] (k0_pay4 (F := Ideal) x0 x1 x2) h (ix2 r f) = third (xr r) g w n f := by
  refine Eq.trans ?_ (product_apply x0 x1 x2 xr g w h0 h1 h2 r ⟨n.val * 1024 + f.val, by omega⟩)
  subst ho
  pointwise

include h5

/-- A third of the product, normalised over its groups. -/
theorem normed_third (n : Fin 3) (o : ℕ) (ho : o = n.val * 1024) (h : S256x3072.Slices ![0, o] S256x1024) (x3 : Vec Ideal S1x1024 .f32)
    (h3 : ∀ f, x3 (ix2 0 f) = gain (groupPlace f)) (r : Fin 256) (f : Fin 1024) :
    normed o h (k0_pay4 (F := Ideal) x0 x1 x2) (k0_pay5 (F := Ideal) x5) x3 (ix2 r f) = groupNorm (third (xr r) g w n) gain f := by
  refine normed_apply o h _ _ x3 (fun r => third (xr r) g w n) gain (third_apply x0 x1 x2 xr g w h0 h1 h2 n o ho h) (fun k l => ?_) h3 r f
  rw [← h5]
  pointwise [k0_pay5]

end Block

end Cert.BandRowsIdeal.RefValue
end
-- ==== Proof.BandRowsValue.lean ====
/-
  What the band mixer's projection of the sampled rows leaves in its five results, entry by entry: the scaled queries, the keys and
  the values of the 256 rows, and the keys and values once more unrounded.
-/
module

public import proofs.«01_k».proof.Proof.RowsBlock
public import proofs.«01_k».proof.Proof.Gen.BandRowsIdeal.Frame
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.BandRowsIdeal.RefValue

open Cert.BandRowsIdeal Cert.BandRowsIdeal.Gen Cert.Layer

variable (m : (ℓ : Loc nD τ sig) → Buf (Elt Ideal) ℓ) (c : Dev nD) (t : Fin cfg0.N)

/-- Where each window's block sits: there is one grid point, and every block is the whole array. -/
theorem idx_val : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0] :=
  (by decide +kernel : ∀ t : Fin grid0.N, _)

/-- The call's arguments. -/
def inp : ProjIn 16 := projIn (m ((c : Thread nD τ).loc main_arg0)) (m ((c : Thread nD τ).loc main_arg1))
  (m ((c : Thread nD τ).loc main_arg2)) (m ((c : Thread nD τ).loc main_arg3)) (m ((c : Thread nD τ).loc main_arg4))

/-- The rows. -/
def xr (r : Fin 256) : Fin 1024 → EReal := (inp m c).x ⟨r.val / 16, by omega⟩ ⟨r.val % 16, by omega⟩

theorem blk0 (r : Fin 256) (k : Fin 1024) : iblk m c 0 t (ix2 r k) = xr m c r k := by
  have e : iblk m c 0 t (ix2 r k) = V m c main_v8 (ix2 r k) := by
    blk_simp [iblk]
    blk_ext [idx_val t]
  rw [e]
  unfold V V0
  simp only [List.flatten_cons, List.flatten_nil, List.append_nil, List.cons_append, List.nil_append, hostOps0, hostOps0_1, hostOps0_2]
  after_results_simp
  pointwise
  rfl

theorem blk1 (k : Fin 1024) : iblk m c 1 t (ix2 0 k) = (inp m c).g k := by
  have e : iblk m c 1 t (ix2 0 k) = V m c main_v9 (ix2 0 k) := by
    blk_simp [iblk]
    blk_ext [idx_val t]
  rw [e]
  unfold V V0
  simp only [List.flatten_cons, List.flatten_nil, List.append_nil, List.cons_append, List.nil_append, hostOps0, hostOps0_1, hostOps0_2]
  after_results_simp
  pointwise
  rfl

theorem blk2 (k : Fin 1024) (f : Fin 3072) : iblk m c 2 t (ix2 k f) = (inp m c).w k f := by
  have e : iblk m c 2 t (ix2 k f) = V m c main_v10 (ix2 k f) := by
    blk_simp [iblk]
    blk_ext [idx_val t]
  rw [e]
  unfold V V0
  simp only [List.flatten_cons, List.flatten_nil, List.append_nil, List.cons_append, List.nil_append, hostOps0, hostOps0_1, hostOps0_2]
  after_results_simp
  pointwise
  rfl

theorem blk3 (f : Fin 1024) : iblk m c 3 t (ix2 0 f) = (inp m c).qg (groupPlace f) := by
  have e : iblk m c 3 t (ix2 0 f) = V m c main_v14 (ix2 0 f) := by
    blk_simp [iblk]
    blk_ext [idx_val t]
  rw [e]
  unfold V V0
  simp only [List.flatten_cons, List.flatten_nil, List.append_nil, List.cons_append, List.nil_append, hostOps0, hostOps0_1, hostOps0_2]
  after_results_simp
  pointwise
  rfl

theorem blk4 (f : Fin 1024) : iblk m c 4 t (ix2 0 f) = (inp m c).kg (groupPlace f) := by
  have e : iblk m c 4 t (ix2 0 f) = V m c main_v18 (ix2 0 f) := by
    blk_simp [iblk]
    blk_ext [idx_val t]
  rw [e]
  unfold V V0
  simp only [List.flatten_cons, List.flatten_nil, List.append_nil, List.cons_append, List.nil_append, hostOps0, hostOps0_1, hostOps0_2]
  after_results_simp
  pointwise
  rfl

/-- The group each of 128 features lies in: the host's floored division by 64. -/
def groupNumber : IVec S128 32 :=
  have i : IVec S128 32 := iotaInDim S128 32 0
  have n : IVec S_ 32 := constantI S_ 32 64#32
  have nb : IVec S128 32 := broadcastInDim S128 ![] bcast_S_S128 n
  have d : IVec S128 32 := Host.divsi i nb
  select (andi (cmpi .ne (signi i) (broadcastInDim S128 ![] bcast_S_S128 (signi n)))
      (cmpi .ne (Host.remsi i nb) (broadcastInDim S128 ![] bcast_S_S128 (constantI S_ 32 0#32))))
    (subi d (broadcastInDim S128 ![] bcast_S_S128 (constantI S_ 32 1#32))) d

theorem groupNumber_apply (k : Fin 128) : groupNumber (ix1 k) = BitVec.ofNat 32 (k.val / 64) := by
  pointwise [groupNumber]
  revert k
  decide +kernel

theorem sameNumber : ∀ k l : Fin 128, (BitVec.ofNat 32 (k.val / 64) = BitVec.ofNat 32 (l.val / 64)) ↔ k.val / 64 = l.val / 64 := by
  intro k l
  refine ⟨fun h => ?_, fun h => by rw [h]⟩
  have := congrArg BitVec.toNat h
  simp only [BitVec.toNat_ofNat] at this
  omega

/-- The matrix of zeros and ones, from the groups' numbers. -/
theorem groups_apply (k l : Fin 128) : (uitofp (F := Ideal) .bf16 (cmpi .eq
      (broadcastInDim S128x128 ![0, 1] bcast_S128x1_S128x128_0_1 (broadcastInDim S128x1 ![0] bcast_S128_S128x1_0 groupNumber))
      (broadcastInDim S128x128 ![0, 1] bcast_S1x128_S128x128_0_1 (broadcastInDim S1x128 ![1] bcast_S128_S1x128_1 groupNumber))) :
      FVec Ideal S128x128 .bf16) (ix2 k l)
    = sameGroup k l := by
  pointwise [groupNumber_apply]
  unfold sameGroup
  by_cases h : k.val / 64 = l.val / 64
  · rw [if_pos h, h]
    show ((((IntOp.cmpi .eq (BitVec.ofNat 32 (l.val / 64)) (BitVec.ofNat 32 (l.val / 64))).toNat : ℝ)) : EReal) = 1
    simp [IntOp.cmpi]
  · rw [if_neg h]
    have hn : ¬ BitVec.ofNat 32 (k.val / 64) = BitVec.ofNat 32 (l.val / 64) := fun e => h ((sameNumber k l).1 e)
    show ((((IntOp.cmpi .eq (BitVec.ofNat 32 (k.val / 64)) (BitVec.ofNat 32 (l.val / 64))).toNat : ℝ)) : EReal) = 0
    simp [IntOp.cmpi, beq_eq_false_iff_ne.2 hn]

theorem blk5 (k l : Fin 128) : iblk m c 5 t (ix2 k l) = sameGroup k l := by
  have e : iblk m c 5 t (ix2 k l) = V m c main_v7 (ix2 k l) := by
    blk_simp [iblk]
    blk_ext [idx_val t]
  rw [e]
  unfold V V0
  simp only [List.flatten_cons, List.flatten_nil, List.append_nil, List.cons_append, List.nil_append, hostOps0, hostOps0_1, hostOps0_2]
  after_results_simp
  exact groups_apply k l

/-- The rows' queries, keys and values as the body computes them. -/
theorem rows_q (r : Fin 256) (f : Fin 1024) : normed 0 slices_S256x3072_o0_0_S256x1024
      (k0_pay4 (F := Ideal) (iblk m c 0 t) (iblk m c 1 t) (iblk m c 2 t)) (k0_pay5 (F := Ideal) (iblk m c 5 t)) (iblk m c 3 t) (ix2 r f)
    = (inp m c).query ⟨r.val / 16, by omega⟩ ⟨r.val % 16, by omega⟩ f :=
  normed_third _ _ _ _ (xr m c) _ _ _ (blk0 m c t) (blk1 m c t) (blk2 m c t) (blk5 m c t) 0 0 rfl _ _ (blk3 m c t) r f

theorem rows_k (r : Fin 256) (f : Fin 1024) : normed 1024 slices_S256x3072_o0_1024_S256x1024
      (k0_pay4 (F := Ideal) (iblk m c 0 t) (iblk m c 1 t) (iblk m c 2 t)) (k0_pay5 (F := Ideal) (iblk m c 5 t)) (iblk m c 4 t) (ix2 r f)
    = (inp m c).key ⟨r.val / 16, by omega⟩ ⟨r.val % 16, by omega⟩ f :=
  normed_third _ _ _ _ (xr m c) _ _ _ (blk0 m c t) (blk1 m c t) (blk2 m c t) (blk5 m c t) 1 1024 rfl _ _ (blk4 m c t) r f

theorem rows_v (r : Fin 256) (f : Fin 1024) :
    k0_pay17 (F := Ideal) (k0_pay4 (F := Ideal) (iblk m c 0 t) (iblk m c 1 t) (iblk m c 2 t)) (ix2 r f)
    = (inp m c).value ⟨r.val / 16, by omega⟩ ⟨r.val % 16, by omega⟩ f :=
  third_apply _ _ _ (xr m c) _ _ (blk0 m c t) (blk1 m c t) (blk2 m c t) 2 2048 rfl slices_S256x3072_o0_2048_S256x1024 r f

/-- What is stored. -/
theorem point_q (r : Fin 256) (f : Fin 1024) : (dats m 0 c).after 6 t (ix2 r f)
    = (inp m c).query ⟨r.val / 16, by omega⟩ ⟨r.val % 16, by omega⟩ f * queryScale := by
  rw [after0_6]
  unfold_out out0_6
  frame_out
  rw [q_body]
  exact congrArg (· * queryScale) (rows_q m c t r f)

theorem point_k (r : Fin 256) (f : Fin 1024) : (dats m 0 c).after 7 t (ix2 r f)
    = (inp m c).key ⟨r.val / 16, by omega⟩ ⟨r.val % 16, by omega⟩ f := by
  rw [after0_7]
  unfold_out out0_7
  frame_out
  rw [k_body]
  exact rows_k m c t r f

theorem point_v (r : Fin 256) (f : Fin 1024) : (dats m 0 c).after 8 t (ix2 r f)
    = (inp m c).value ⟨r.val / 16, by omega⟩ ⟨r.val % 16, by omega⟩ f := by
  rw [after0_8]
  unfold_out out0_8
  frame_out
  exact rows_v m c t r f

theorem point_kf (r : Fin 256) (f : Fin 1024) : (dats m 0 c).after 9 t (ix2 r f)
    = (inp m c).key ⟨r.val / 16, by omega⟩ ⟨r.val % 16, by omega⟩ f := by
  rw [after0_9]
  unfold_out out0_9
  frame_out
  rw [k_body]
  exact rows_k m c t r f

theorem point_vf (r : Fin 256) (f : Fin 1024) : (dats m 0 c).after 10 t (ix2 r f)
    = (inp m c).value ⟨r.val / 16, by omega⟩ ⟨r.val % 16, by omega⟩ f := by
  rw [after0_10]
  unfold_out out0_10
  frame_out
  exact rows_v m c t r f

/-- The results' arrays. -/
theorem final_q : (dats m 0 c).arrAt 6 (cfgs 0).N = sampleRows fun b t f => (inp m c).query b t f * queryScale := by
  refine (dats m 0 c).arrAt_eq_of_covers 6 _ (by decide +kernel) fun t _ y => ?_
  blk_simp
  idx_vars y
  have e : (((cfg0.win 6).blk t).view.emb (ix2 y0 y1) : S256x1024.Idx) = ix2 y0 y1 := by
    blk_ext [idx_val t]
  rw [e]
  exact point_q m c t y0 y1

theorem final_k : (dats m 0 c).arrAt 7 (cfgs 0).N = sampleRows (inp m c).key := by
  refine (dats m 0 c).arrAt_eq_of_covers 7 _ (by decide +kernel) fun t _ y => ?_
  blk_simp
  idx_vars y
  have e : (((cfg0.win 7).blk t).view.emb (ix2 y0 y1) : S256x1024.Idx) = ix2 y0 y1 := by
    blk_ext [idx_val t]
  rw [e]
  exact point_k m c t y0 y1

theorem final_v : (dats m 0 c).arrAt 8 (cfgs 0).N = sampleRows (inp m c).value := by
  refine (dats m 0 c).arrAt_eq_of_covers 8 _ (by decide +kernel) fun t _ y => ?_
  blk_simp
  idx_vars y
  have e : (((cfg0.win 8).blk t).view.emb (ix2 y0 y1) : S256x1024.Idx) = ix2 y0 y1 := by
    blk_ext [idx_val t]
  rw [e]
  exact point_v m c t y0 y1

theorem final_kf : (dats m 0 c).arrAt 9 (cfgs 0).N = sampleRows (inp m c).key := by
  refine (dats m 0 c).arrAt_eq_of_covers 9 _ (by decide +kernel) fun t _ y => ?_
  blk_simp
  idx_vars y
  have e : (((cfg0.win 9).blk t).view.emb (ix2 y0 y1) : S256x1024.Idx) = ix2 y0 y1 := by
    blk_ext [idx_val t]
  rw [e]
  exact point_kf m c t y0 y1

theorem final_vf : (dats m 0 c).arrAt 10 (cfgs 0).N = sampleRows (inp m c).value := by
  refine (dats m 0 c).arrAt_eq_of_covers 10 _ (by decide +kernel) fun t _ y => ?_
  blk_simp
  idx_vars y
  have e : (((cfg0.win 10).blk t).view.emb (ix2 y0 y1) : S256x1024.Idx) = ix2 y0 y1 := by
    blk_ext [idx_val t]
  rw [e]
  exact point_vf m c t y0 y1

theorem groups_of_rows (q : Fin 16 → Fin 16 → Fin 1024 → EReal) :
    shapeCast S16x16x16x64 (sampleRows q : FVec Ideal S256x1024 .f32) shapeCasts_S256x1024_S16x16x16x64 = sampleGroups q := by
  funext i
  idx_vars i
  pointwise [sampleRows, sampleGroups]
  exact congrArg₂ (fun a b => q a b _) (Fin.ext (by show (i0.val * 16 + i1.val) / 16 = i0.val; omega))
    (Fin.ext (by show (i0.val * 16 + i1.val) % 16 = i1.val; omega))

theorem run (ρ : Dev nD → PrngReg) : θ_run defs (onTc (τ := τ) (main (F := Ideal))) ⟨m, fun _ => 0, ρ⟩ fun r => ∀ c : Dev nD,
      r.2.mem ((c : Thread nD τ).loc main_v19_0) = (sampleRows fun b t f => (inp m c).query b t f * queryScale)
      ∧ r.2.mem ((c : Thread nD τ).loc main_v19_1) = sampleRows (inp m c).key
      ∧ r.2.mem ((c : Thread nD τ).loc main_v19_2) = sampleRows (inp m c).value
      ∧ r.2.mem ((c : Thread nD τ).loc main_v20) = sampleGroups (inp m c).key
      ∧ r.2.mem ((c : Thread nD τ).loc main_v21) = sampleGroups (inp m c).value := by
  refine (θ_run defs _ _).mono (fun r h c => ⟨?_, ?_, ?_, ?_, ?_⟩) (run_main (F := Ideal) m ρ)
  · exact ((h c).1 6).trans (final_q m c)
  · exact ((h c).1 7).trans (final_k m c)
  · exact ((h c).1 8).trans (final_v m c)
  · refine ((h c).2 main_v20 (by decide)).trans ?_
    unfold Pipeline.afterTail₀
    simp only [List.flatten_cons, List.flatten_nil, List.append_nil, hostOps1]
    after_region_results
    have e := (Pipeline.withArrays_arr (cfgs 0).spec launch0.win.arr_inj c (V0 m c) (fun w => (dats m 0 c).arrAt w (cfgs 0).N) 9).trans
      (final_kf m c)
    exact (congrArg (fun Y => shapeCast S16x16x16x64 Y shapeCasts_S256x1024_S16x16x16x64) e).trans (groups_of_rows _)
  · refine ((h c).2 main_v21 (by decide)).trans ?_
    unfold Pipeline.afterTail₀
    simp only [List.flatten_cons, List.flatten_nil, List.append_nil, hostOps1]
    after_region_results
    have e := (Pipeline.withArrays_arr (cfgs 0).spec launch0.win.arr_inj c (V0 m c) (fun w => (dats m 0 c).arrAt w (cfgs 0).N) 10).trans
      (final_vf m c)
    exact (congrArg (fun Y => shapeCast S16x16x16x64 Y shapeCasts_S256x1024_S16x16x16x64) e).trans (groups_of_rows _)

end Cert.BandRowsIdeal.RefValue
end
-- ==== Proof.BandRowsRef.lean ====
/-
  The reference of the band mixer's projection of the sampled rows, read at its indices: the same queries, keys and
  values in the same layouts.
-/
module

public import proofs.«01_k».proof.Proof.RowsBlock
public import proofs.«01_k».proof.Proof.BandProjRef
public import proofs.«01_k».proof.Proof.Gen.BandRowsRefIdeal.Run
public import proofs.«01_k».proof.Proof.Gen.BandRowsRefIdeal.Read
public import Idealize.ShloMosaic.Lib.Pointwise

@[expose] public section

set_option maxRecDepth 16384

noncomputable section

open Idealize.ShloMosaic Idealize.ShloMosaic.TcCoe Idealize.SL.Sem

namespace Cert.BandRowsRefIdeal.RefValue

open Cert.BandRowsRefIdeal Cert.BandRowsRefIdeal.Gen Cert.Layer

variable (X : FVec Ideal S16x16x1024 .f32) (G : FVec Ideal S1024 .f32) (W : FVec Ideal S1024x3072 .f32) (Q K : FVec Ideal S64 .f32)

/-- The product of the normalised rows with the matrix. -/
theorem product_ref (b : Fin 16) (t : Fin 16) (f : Fin 3072) : Read.val_main_v13 (F := Ideal) X G W (ix3 b t f)
    = projected ((projIn X G W Q K).x b t) (projIn X G W Q K).g (projIn X G W Q K).w f := by
  unfold projected normRow projIn
  pointwise [Read.val_main_v13, Read.val_main_v12,
    Read.val_main_v11, Read.val_main_v10, Read.val_main_v9, Read.val_main_v8, Read.val_main_v7, Read.val_main_v6, Read.val_main_v5,
    Read.val_main_v4, Read.val_main_v3, Read.val_main_v2, Read.val_main_v1, Read.val_main_v0,
    Read.val_main_cst, Read.val_main_cst_0, Read.val_main_cst_1, zero_add]

/-- The three thirds in groups of 64. -/
theorem query_group (b : Fin 16) (t : Fin 16) (h : Fin 16) (l : Fin 64) : Read.val_main_v17 (F := Ideal) X G W (ix4 b t h l)
    = third ((projIn X G W Q K).x b t) (projIn X G W Q K).g (projIn X G W Q K).w 0 ⟨h.val * 64 + l.val, by omega⟩ := by
  refine Eq.trans ?_ (product_ref X G W Q K b t _)
  pointwise [Read.val_main_v17, Read.val_main_v14]
  all_goals exact congrArg (fun a => Read.val_main_v13 (F := Ideal) X G W (ix3 b t a)) (Fin.ext (by simp))

theorem key_group (b : Fin 16) (t : Fin 16) (h : Fin 16) (l : Fin 64) : Read.val_main_v31 (F := Ideal) X G W (ix4 b t h l)
    = third ((projIn X G W Q K).x b t) (projIn X G W Q K).g (projIn X G W Q K).w 1 ⟨h.val * 64 + l.val, by omega⟩ := by
  refine Eq.trans ?_ (product_ref X G W Q K b t _)
  pointwise [Read.val_main_v31, Read.val_main_v15]
  all_goals exact congrArg (fun a => Read.val_main_v13 (F := Ideal) X G W (ix3 b t a)) (Fin.ext (by simp))

theorem value_group (b : Fin 16) (t : Fin 16) (h : Fin 16) (l : Fin 64) : Read.val_main_v45 (F := Ideal) X G W (ix4 b t h l)
    = (projIn X G W Q K).value b t ⟨h.val * 64 + l.val, by omega⟩ := by
  refine Eq.trans ?_ (product_ref X G W Q K b t _)
  pointwise [Read.val_main_v45, Read.val_main_v16]
  all_goals exact congrArg (fun a => Read.val_main_v13 (F := Ideal) X G W (ix3 b t a)) (Fin.ext (by simp))

theorem query_ref (b : Fin 16) (t : Fin 16) (h : Fin 16) (l : Fin 64) : Read.val_main_v30 (F := Ideal) X G W Q (ix4 b t h l)
    = (projIn X G W Q K).query b t ⟨h.val * 64 + l.val, by omega⟩ := by
  refine Eq.trans ?_ (Cert.BandProjRefIdeal.RefValue.norm_of_group _ _ _ h l (query_group X G W Q K b t h))
  pointwise [Read.val_main_v30, Read.val_main_v29, Read.val_main_v28, Read.val_main_v27, Read.val_main_v26, Read.val_main_v25,
    Read.val_main_v24, Read.val_main_v23, Read.val_main_v22, Read.val_main_v21, Read.val_main_v20, Read.val_main_v19, Read.val_main_v18,
    Read.val_main_cst_2, Read.val_main_cst_3, Read.val_main_cst_4, zero_add]
  rfl

theorem key_ref (b : Fin 16) (t : Fin 16) (h : Fin 16) (l : Fin 64) : Read.val_main_v44 (F := Ideal) X G W K (ix4 b t h l)
    = (projIn X G W Q K).key b t ⟨h.val * 64 + l.val, by omega⟩ := by
  refine Eq.trans ?_ (Cert.BandProjRefIdeal.RefValue.norm_of_group _ _ _ h l (key_group X G W Q K b t h))
  pointwise [Read.val_main_v44, Read.val_main_v43, Read.val_main_v42, Read.val_main_v41, Read.val_main_v40, Read.val_main_v39,
    Read.val_main_v38, Read.val_main_v37, Read.val_main_v36, Read.val_main_v35, Read.val_main_v34, Read.val_main_v33, Read.val_main_v32,
    Read.val_main_cst_5, Read.val_main_cst_6, Read.val_main_cst_7, zero_add]
  rfl

/-- The five results. -/
theorem queries_eq : Read.val_main_v49 (F := Ideal) X G W Q = sampleRows fun b t f => (projIn X G W Q K).query b t f * queryScale := by
  funext i
  idx_vars i
  unfold sampleRows
  refine Eq.trans ?_ (congrArg (· * queryScale) ((query_ref X G W Q K ⟨i0.val / 16, by omega⟩ ⟨i0.val % 16, by omega⟩ ⟨i1.val / 64, by omega⟩
    ⟨i1.val % 64, by omega⟩).trans (congrArg ((projIn X G W Q K).query _ _) (Fin.ext (by show i1.val / 64 * 64 + i1.val % 64 = i1.val; omega)))))
  pointwise [Read.val_main_v49, Read.val_main_v48, Read.val_main_v47, Read.val_main_v46, Read.val_main_cst_8]

theorem keys_eq : Read.val_main_v51 (F := Ideal) X G W K = sampleRows (projIn X G W Q K).key := by
  funext i
  idx_vars i
  unfold sampleRows
  refine Eq.trans ?_ ((key_ref X G W Q K ⟨i0.val / 16, by omega⟩ ⟨i0.val % 16, by omega⟩ ⟨i1.val / 64, by omega⟩ ⟨i1.val % 64, by omega⟩).trans
    (congrArg ((projIn X G W Q K).key _ _) (Fin.ext (by show i1.val / 64 * 64 + i1.val % 64 = i1.val; omega))))
  pointwise [Read.val_main_v51, Read.val_main_v50]

theorem values_eq : Read.val_main_v53 (F := Ideal) X G W = sampleRows (projIn X G W Q K).value := by
  funext i
  idx_vars i
  unfold sampleRows
  refine Eq.trans ?_ ((value_group X G W Q K ⟨i0.val / 16, by omega⟩ ⟨i0.val % 16, by omega⟩ ⟨i1.val / 64, by omega⟩ ⟨i1.val % 64, by omega⟩).trans
    (congrArg ((projIn X G W Q K).value _ _) (Fin.ext (by show i1.val / 64 * 64 + i1.val % 64 = i1.val; omega))))
  pointwise [Read.val_main_v53, Read.val_main_v52]

theorem key_groups_eq : Read.val_main_v44 (F := Ideal) X G W K = sampleGroups (projIn X G W Q K).key := by
  funext i
  idx_vars i
  exact key_ref X G W Q K i0 i1 i2 i3

theorem value_groups_eq : Read.val_main_v45 (F := Ideal) X G W = sampleGroups (projIn X G W Q K).value := by
  funext i
  idx_vars i
  exact value_group X G W Q K i0 i1 i2 i3

end Cert.BandRowsRefIdeal.RefValue

end
-- ==== Proof.BandRowsClaims.lean ====
/-
  The claims about the band mixer's projection of the sampled rows: the frames of the kernel and of its two idealized programs, and that
  the kernel over the reals computes what the reference computes.
-/
module

public import proofs.«01_k».proof.Proof.BandRowsValue
public import proofs.«01_k».proof.Proof.BandRowsRef
public import proofs.«01_k».proof.Proof.Gen.BandRows.Frame
public import Idealize.ShloMosaic.Lib.Quiescent

@[expose] public section

noncomputable section

open Idealize.ShloMosaic Idealize.ShloMosaic.TcCoe Idealize.SL.Sem

namespace Cert.Proof.BandRowsClaims

open Cert.BandRowsIdeal.RefValue Cert.BandRowsRefIdeal.RefValue Cert.Layer

/-- The frames: every run ends, leaves the arguments as they were and no semaphore raised. -/
theorem frame_k : Cert.quiescent_BandRows := fun m ρ _ => Cert.BandRows.Gen.frame m ρ
theorem frame_i : Cert.quiescent_BandRowsIdeal := fun m ρ _ => Cert.BandRowsIdeal.Gen.frame m ρ
theorem frame_r : Cert.quiescent_BandRowsRefIdeal := fun m ρ _ =>
  (θ_run Cert.BandRowsRefIdeal.defs _ _).mono
    (fun r h => ⟨fun c => (h c).2.2.2.2.2, Idealize.ShloMosaic.sem_eq_zero_of_no_sems (by decide) r.2⟩)
    (Cert.BandRowsRefIdeal.Value.run (F := Ideal) m ρ)

/-- The kernel and the reference compute the same function of the same arguments. -/
theorem algebraic : Cert.algebraic_BandRowsIdeal_BandRowsRefIdeal := by
  intro m ρ m' ρ' _ hag
  refine ⟨fun c => sampleRows fun b t f => (inp m c).query b t f * queryScale, fun c => sampleRows (inp m c).key, fun c => sampleRows (inp m c).value,
    fun c => sampleGroups (inp m c).key, fun c => sampleGroups (inp m c).value, ?_, ?_⟩
  · exact (θ_run Cert.BandRowsIdeal.defs _ _).mono
      (fun _ h c => ⟨(h.1 c).1, (h.1 c).2.1, (h.1 c).2.2.1, (h.1 c).2.2.2.1, (h.1 c).2.2.2.2, h.2 c⟩)
      (θ_run_and (run m ρ) (Cert.BandRowsIdeal.Gen.unchanged (F := Ideal) m ρ))
  · refine (θ_run Cert.BandRowsRefIdeal.defs _ _).mono (fun _ h c => ?_)
      (Cert.BandRowsRefIdeal.Value.run (F := Ideal) m' ρ')
    obtain ⟨e0, e1, e2, e3, e4⟩ := hag c
    have es : projIn (m' ((c.tc : Thread Cert.BandRowsRefIdeal.nD Cert.BandRowsRefIdeal.τ).loc Cert.BandRowsRefIdeal.main_arg0)) (m' ((c.tc : Thread Cert.BandRowsRefIdeal.nD Cert.BandRowsRefIdeal.τ).loc Cert.BandRowsRefIdeal.main_arg1)) (m' ((c.tc : Thread Cert.BandRowsRefIdeal.nD Cert.BandRowsRefIdeal.τ).loc Cert.BandRowsRefIdeal.main_arg2)) (m' ((c.tc : Thread Cert.BandRowsRefIdeal.nD Cert.BandRowsRefIdeal.τ).loc Cert.BandRowsRefIdeal.main_arg3)) (m' ((c.tc : Thread Cert.BandRowsRefIdeal.nD Cert.BandRowsRefIdeal.τ).loc Cert.BandRowsRefIdeal.main_arg4)) = inp m c := by
      rw [e0, e1, e2, e3, e4]
      rfl
    refine ⟨(h c).1.trans ?_, (h c).2.1.trans ?_, (h c).2.2.1.trans ?_, (h c).2.2.2.1.trans ?_, (h c).2.2.2.2.1.trans ?_, (h c).2.2.2.2.2⟩
    · rw [Cert.BandRowsRefIdeal.Read.val_main_v49_eq, queries_eq _ _ _ _ (m' ((c.tc : Thread Cert.BandRowsRefIdeal.nD Cert.BandRowsRefIdeal.τ).loc Cert.BandRowsRefIdeal.main_arg4))]
      exact congrArg (fun I : ProjIn 16 => (sampleRows fun b t f => I.query b t f * queryScale)) es
    · rw [Cert.BandRowsRefIdeal.Read.val_main_v51_eq, keys_eq _ _ _ (m' ((c.tc : Thread Cert.BandRowsRefIdeal.nD Cert.BandRowsRefIdeal.τ).loc Cert.BandRowsRefIdeal.main_arg3))]
      exact congrArg (fun I : ProjIn 16 => sampleRows I.key) es
    · rw [Cert.BandRowsRefIdeal.Read.val_main_v53_eq, values_eq _ _ _ (m' ((c.tc : Thread Cert.BandRowsRefIdeal.nD Cert.BandRowsRefIdeal.τ).loc Cert.BandRowsRefIdeal.main_arg3)) (m' ((c.tc : Thread Cert.BandRowsRefIdeal.nD Cert.BandRowsRefIdeal.τ).loc Cert.BandRowsRefIdeal.main_arg4))]
      exact congrArg (fun I : ProjIn 16 => sampleRows I.value) es
    · rw [Cert.BandRowsRefIdeal.Read.val_main_v44_eq, key_groups_eq _ _ _ (m' ((c.tc : Thread Cert.BandRowsRefIdeal.nD Cert.BandRowsRefIdeal.τ).loc Cert.BandRowsRefIdeal.main_arg3))]
      exact congrArg (fun I : ProjIn 16 => sampleGroups I.key) es
    · rw [Cert.BandRowsRefIdeal.Read.val_main_v45_eq, value_groups_eq _ _ _ (m' ((c.tc : Thread Cert.BandRowsRefIdeal.nD Cert.BandRowsRefIdeal.τ).loc Cert.BandRowsRefIdeal.main_arg3)) (m' ((c.tc : Thread Cert.BandRowsRefIdeal.nD Cert.BandRowsRefIdeal.τ).loc Cert.BandRowsRefIdeal.main_arg4))]
      exact congrArg (fun I : ProjIn 16 => sampleGroups I.value) es

end Cert.Proof.BandRowsClaims

end
-- ==== Proof.RopeMath.lean ====
/-
  The turning of queries and keys by their positions: within each group of 64 features, feature `i` and feature `i + 32` are a pair
  of coordinates in a plane, turned by the angle that belongs to `i` at that position.
-/
module

public import proofs.«01_k».proof.Proof.ProjLayout

@[expose] public section

noncomputable section

open Idealize.ShloMosaic Idealize.ShloMosaic.TcCoe

namespace Cert.Layer

/-- The angle of pair `i` at position `p`: the position times 10000 to the power -i/32. -/
def ropeAngle (p : Fin 2048) (i : Fin 32) : EReal :=
  FloatOps.sitofp (F := Ideal) FTy.f32 (BitVec.ofNat 32 p.val) * Ideal.pow (Ideal.ofBits FTy.f32 0x461C4000#32)
    (Ideal.div (-FloatOps.sitofp (F := Ideal) FTy.f32 (BitVec.ofNat 32 i.val)) (Ideal.ofBits FTy.f32 0x42000000#32))

def ropeCos (p : Fin 2048) (i : Fin 32) : EReal := Ideal.cos (ropeAngle p i)
def ropeSin (p : Fin 2048) (i : Fin 32) : EReal := Ideal.sin (ropeAngle p i)

/-- The pair a feature belongs to, and the pair's other feature. -/
def pairOf (f : Fin 1024) : Fin 32 := ⟨f.val % 32, Nat.mod_lt _ (by norm_num)⟩
def ropePartner (f : Fin 1024) : Fin 1024 := groupMate f ⟨(f.val % 64 + 32) % 64, Nat.mod_lt _ (by norm_num)⟩

/-- Feature `f` of `u` after each pair is turned by the angles with cosines `cs` and sines `sn`. -/
def turn (cs sn : Fin 32 → EReal) (u : Fin 1024 → EReal) (f : Fin 1024) : EReal :=
  if f.val % 64 < 32 then u f * cs (pairOf f) - u (ropePartner f) * sn (pairOf f)
  else u f * cs (pairOf f) + u (ropePartner f) * sn (pairOf f)

namespace ProjIn

variable (I : ProjIn 2048)

/-- The normalised query and key, turned by the position. -/
def turnedQuery (b : Fin 16) (t : Fin 2048) (f : Fin 1024) : EReal := turn (ropeCos t) (ropeSin t) (I.query b t) f
def turnedKey (b : Fin 16) (t : Fin 2048) (f : Fin 1024) : EReal := turn (ropeCos t) (ropeSin t) (I.key b t) f

end ProjIn

variable (q : Fin 16 → Fin 2048 → Fin 1024 → EReal)

/-- All positions of every sequence, in eight pairs of groups of 64 features. -/
def pairGroups : FVec Ideal ⟨6, ![1, 16, 2048, 8, 2, 64]⟩ .f32 := fun i =>
  q (i 1) (i 2) ⟨((i 3).val * 2 + (i 4).val) * 64 + (i 5).val, by
    have : (i 3).val < 8 := (i 3).isLt; have : (i 4).val < 2 := (i 4).isLt; have : (i 5).val < 64 := (i 5).isLt; omega⟩

/-- All positions of every sequence, in eight heads of 128 features. -/
def headValues : FVec Ideal ⟨5, ![1, 16, 2048, 8, 128]⟩ .f32 := fun i =>
  q (i 1) (i 2) ⟨(i 3).val * 128 + (i 4).val, by
    have : (i 3).val < 8 := (i 3).isLt; have : (i 4).val < 128 := (i 4).isLt; omega⟩

end Cert.Layer

end
-- ==== Proof.RopeRowsBlock.lean ====
/-
  What the differential mixer's projection of the sampled rows adds to the band mixer's: each normalised query and key is turned
  by the angles of its position, in pieces of 128 features. Within a piece a feature's partner comes from rolling the piece by 32
  features one way or the other, and the table of sines carries the sign.
-/
module

public import proofs.«01_k».proof.Proof.RopeMath
public import proofs.«01_k».proof.Proof.RowsBlock
public import proofs.«01_k».proof.Proof.Gen.DiffRowsIdeal.Skeleton
public import Idealize.ShloMosaic.Lib.KernelVsHost
public import Idealize.ShloMosaic.Lib.Pipeline.ValueKit

@[expose] public section

set_option maxRecDepth 16384

noncomputable section

open Idealize.ShloMosaic Idealize.ShloMosaic.TcCoe Idealize.SL.Sem

namespace Cert.Layer

/-- The angle of pair `i` at sampled token `p`, whose position is 4096 + p. -/
def sampleAngle (p : Fin 16) (i : Fin 32) : EReal :=
  FloatOps.sitofp (F := Ideal) FTy.f32 (4096#32 + BitVec.ofNat 32 p.val) * Ideal.pow (Ideal.ofBits FTy.f32 0x461C4000#32)
    (Ideal.div (-FloatOps.sitofp (F := Ideal) FTy.f32 (BitVec.ofNat 32 i.val)) (Ideal.ofBits FTy.f32 0x42000000#32))

def sampleCos (p : Fin 16) (i : Fin 32) : EReal := Ideal.cos (sampleAngle p i)
def sampleSin (p : Fin 16) (i : Fin 32) : EReal := Ideal.sin (sampleAngle p i)

/-- The normalised query and key of a sampled token, turned by its position. -/
def ProjIn.sampleQuery (I : ProjIn 16) (b : Fin 16) (t : Fin 16) (f : Fin 1024) : EReal := turn (sampleCos t) (sampleSin t) (I.query b t) f
def ProjIn.sampleKey (I : ProjIn 16) (b : Fin 16) (t : Fin 16) (f : Fin 1024) : EReal := turn (sampleCos t) (sampleSin t) (I.key b t) f

/-- The results' layouts: eight pairs of groups of 64 features, and eight heads of 128. -/
def samplePairs (q : Fin 16 → Fin 16 → Fin 1024 → EReal) : (⟨5, ![16, 16, 8, 2, 64]⟩ : Shape).Idx → EReal := fun i =>
  q (i 0) (i 1) ⟨((i 2).val * 2 + (i 3).val) * 64 + (i 4).val, by
    have : (i 2).val < 8 := (i 2).isLt; have : (i 3).val < 2 := (i 3).isLt; have : (i 4).val < 64 := (i 4).isLt; omega⟩
def sampleHeads (q : Fin 16 → Fin 16 → Fin 1024 → EReal) : (⟨4, ![16, 16, 8, 128]⟩ : Shape).Idx → EReal := fun i =>
  q (i 0) (i 1) ⟨(i 2).val * 128 + (i 3).val, by have : (i 2).val < 8 := (i 2).isLt; have : (i 3).val < 128 := (i 3).isLt; omega⟩

/-- The table of sines with the sign of the turn. -/
def signedSin (sn : Fin 32 → EReal) (l : Fin 128) : EReal :=
  if l.val % 64 < 32 then -sn ⟨l.val % 32, Nat.mod_lt _ (by norm_num)⟩ else sn ⟨l.val % 32, Nat.mod_lt _ (by norm_num)⟩

end Cert.Layer

namespace Cert.DiffRowsIdeal.RefValue

open Cert.DiffRowsIdeal Cert.DiffRowsIdeal.Gen Cert.Layer
open Cert.BandRowsIdeal.RefValue (normed)

/-- The first half of each group is marked. -/
theorem mark_apply (r : Fin 256) (l : Fin 128) : k0_pay17 (ix2 r l) = if l.val % 64 < 32 then 1#1 else 0#1 := by
  pointwise [k0_pay17]
  revert l
  decide +kernel

/-- The place of a feature's partner in its piece. -/
def lanePartner (l : Fin 128) : Fin 128 := ⟨l.val / 64 * 64 + (l.val % 64 + 32) % 64, by omega⟩

theorem select_one (a b : EReal) : Scalar.select 1#1 a b = a := rfl
theorem select_zero (a b : EReal) : Scalar.select 0#1 a b = b := rfl

/-- The 128 features from `a` on, turned. -/
def turnPiece (cs sn : Vec Ideal S256x128 .f32) (u : FVec Ideal S256x1024 .f32) (a : ℕ) (h : S256x1024.Slices ![0, a] S256x128) :
    FVec Ideal S256x128 .f32 :=
  have j : FVec Ideal S256x128 .f32 := extractStridedSlice S256x128 ![0, a] u h
  addf (mulf j (shapeCast S256x128 cs shapeCasts_S256x128_S256x128))
    (mulf (select k0_pay17 (dynamicRotate 1 96#32 none j rotates_S256x128_d1) (dynamicRotate 1 32#32 none j rotates_S256x128_d1))
      (shapeCast S256x128 sn shapeCasts_S256x128_S256x128))

theorem turnPiece_apply (cs sn : Vec Ideal S256x128 .f32) (u : FVec Ideal S256x1024 .f32) (a : ℕ) (h : S256x1024.Slices ![0, a] S256x128)
    (ha : a + 128 ≤ 1024) (r : Fin 256) (l : Fin 128) :
    turnPiece cs sn u a h (ix2 r l) = u (ix2 r ⟨a + l.val, by omega⟩) * cs (ix2 r l)
      + u (ix2 r ⟨a + (lanePartner l).val, by omega⟩) * sn (ix2 r l) := by
  have ej : ∀ l : Fin 128, extractStridedSlice S256x128 ![0, a] u h (ix2 r l) = u (ix2 r ⟨a + l.val, by omega⟩) := fun l => by
    pointwise
  have ec : ∀ v : Vec Ideal S256x128 .f32, shapeCast S256x128 v shapeCasts_S256x128_S256x128 (ix2 r l) = v (ix2 r l) := fun v => by
    pointwise
  have ep : select k0_pay17 (dynamicRotate 1 96#32 none (extractStridedSlice S256x128 ![0, a] u h) rotates_S256x128_d1)
      (dynamicRotate 1 32#32 none (extractStridedSlice S256x128 ![0, a] u h) rotates_S256x128_d1) (ix2 r l)
      = extractStridedSlice S256x128 ![0, a] u h (ix2 r (lanePartner l)) := by
    show Scalar.select (k0_pay17 (ix2 r l)) _ _ = _
    rw [mark_apply]
    by_cases hl : l.val % 64 < 32
    · rw [if_pos hl, select_one]
      refine dynamicRotate_apply 1 96#32 _ _ (ix2 r l) (ix2 r (lanePartner l)) fun b => ?_
      fin_cases b
      · rfl
      · show l.val / 64 * 64 + (l.val % 64 + 32) % 64 = (l.val + 128 - 96) % 128
        omega
    · rw [if_neg hl, select_zero]
      refine dynamicRotate_apply 1 32#32 _ _ (ix2 r l) (ix2 r (lanePartner l)) fun b => ?_
      fin_cases b
      · rfl
      · show l.val / 64 * 64 + (l.val % 64 + 32) % 64 = (l.val + 128 - 32) % 128
        omega
  refine congrArg₂ (· + ·) (congrArg₂ (· * ·) (ej l) (ec cs)) (congrArg₂ (· * ·) (ep.trans (ej _)) (ec sn))

/-- All features turned, piece by piece. -/
def turnedRows (cs sn : Vec Ideal S256x128 .f32) (u : FVec Ideal S256x1024 .f32) : FVec Ideal S256x1024 .f32 :=
  concatenate S256x1024 1 [⟨S256x128, turnPiece cs sn u 0 slices_S256x1024_o0_0_S256x128⟩, ⟨S256x128, turnPiece cs sn u 128 slices_S256x1024_o0_128_S256x128⟩,
    ⟨S256x128, turnPiece cs sn u 256 slices_S256x1024_o0_256_S256x128⟩, ⟨S256x128, turnPiece cs sn u 384 slices_S256x1024_o0_384_S256x128⟩,
    ⟨S256x128, turnPiece cs sn u 512 slices_S256x1024_o0_512_S256x128⟩, ⟨S256x128, turnPiece cs sn u 640 slices_S256x1024_o0_640_S256x128⟩,
    ⟨S256x128, turnPiece cs sn u 768 slices_S256x1024_o0_768_S256x128⟩, ⟨S256x128, turnPiece cs sn u 896 slices_S256x1024_o0_896_S256x128⟩]
    concatenates_S256x128_S256x128_S256x128_S256x128_S256x128_S256x128_S256x128_S256x128_S256x1024_d1

theorem turnedRows_apply (cs sn : Vec Ideal S256x128 .f32) (u : FVec Ideal S256x1024 .f32) (v : Fin 256 → Fin 1024 → EReal)
    (c s : Fin 256 → Fin 32 → EReal) (hu : ∀ r f, u (ix2 r f) = v r f)
    (hc : ∀ r (l : Fin 128), cs (ix2 r l) = c r ⟨l.val % 32, Nat.mod_lt _ (by norm_num)⟩) (hs : ∀ r l, sn (ix2 r l) = signedSin (s r) l)
    (r : Fin 256) (f : Fin 1024) : turnedRows cs sn u (ix2 r f) = turn (c r) (s r) (v r) f := by
  refine (Cert.BandRowsIdeal.RefValue.pieces_apply (turnPiece cs sn u) slices_S256x1024_o0_0_S256x128 slices_S256x1024_o0_128_S256x128
    slices_S256x1024_o0_256_S256x128 slices_S256x1024_o0_384_S256x128 slices_S256x1024_o0_512_S256x128 slices_S256x1024_o0_640_S256x128
    slices_S256x1024_o0_768_S256x128 slices_S256x1024_o0_896_S256x128 r f).trans ?_
  refine (turnPiece_apply cs sn u _ _ (by omega) r _).trans ?_
  rw [hu, hu, hc, hs]
  have e1 : (⟨128 * (f.val / 128) + f.val % 128, by omega⟩ : Fin 1024) = f := Fin.ext (by show 128 * (f.val / 128) + f.val % 128 = f.val; omega)
  have e2 : (⟨128 * (f.val / 128) + (lanePartner ⟨f.val % 128, Nat.mod_lt _ (by norm_num)⟩).val, by omega⟩ : Fin 1024) = ropePartner f :=
    Fin.ext (by
      show 128 * (f.val / 128) + (f.val % 128 / 64 * 64 + (f.val % 128 % 64 + 32) % 64) = f.val / 64 * 64 + (f.val % 64 + 32) % 64
      omega)
  have e3 : (⟨f.val % 128 % 32, Nat.mod_lt _ (by norm_num)⟩ : Fin 32) = pairOf f := Fin.ext (by show f.val % 128 % 32 = f.val % 32; omega)
  unfold turn signedSin
  simp only [e1, e2, e3]
  by_cases h : f.val % 64 < 32
  · rw [if_pos h, if_pos (by show f.val % 128 % 64 < 32; omega), mul_neg, sub_eq_add_neg]
  · rw [if_neg h, if_neg (by show ¬ f.val % 128 % 64 < 32; omega)]

/-- The body's turned queries and keys are these. -/
theorem q_turn (u : FVec Ideal S256x1024 .f32) (x6 x7 : Vec Ideal S256x128 .f32) :
    k0_pay23 (F := Ideal) u (k0_pay15 x6) (k0_pay16 x7) k0_pay17 (k0_pay18 u x6 x7) (k0_pay19 u x6 x7) (k0_pay21 u x6) (k0_pay22 u x7)
      = turnedRows x6 x7 u := by
  simp only [k0_pay23, k0_pay15, k0_pay16, k0_pay18, k0_pay19, k0_pay20, k0_pay21, k0_pay22, turnedRows, turnPiece]

theorem k_turn (u : FVec Ideal S256x1024 .f32) (x6 x7 : Vec Ideal S256x128 .f32) (n : IVec S256x128 32) (hn : n = iota .tc S256x128 32 [1] iota_S256x128_d1_w32) :
    k0_pay33 (F := Ideal) u (k0_pay24 x6) (k0_pay25 x7) (k0_pay26 n 64#32 (Scalar.cmpi .eq 64#32 0#32) 1#32)
      (k0_pay27 u (k0_pay24 x6) (k0_pay25 x7) n 64#32 (Scalar.cmpi .eq 64#32 0#32) 1#32)
      (k0_pay28 u (k0_pay24 x6) (k0_pay25 x7) n 64#32 (Scalar.cmpi .eq 64#32 0#32) 1#32)
      (k0_pay29 u (k0_pay24 x6) (k0_pay25 x7) n 64#32 (Scalar.cmpi .eq 64#32 0#32) 1#32)
      (k0_pay30 u (k0_pay24 x6) (k0_pay25 x7) n 64#32 (Scalar.cmpi .eq 64#32 0#32) 1#32) (k0_pay31 u) (k0_pay32 u)
      = turnedRows x6 x7 u := by
  subst hn
  simp only [k0_pay33, k0_pay24, k0_pay25, k0_pay27, k0_pay28, k0_pay29, k0_pay30, k0_pay31, k0_pay32, turnedRows, turnPiece]
  rfl

theorem k_turn_rounded (u : FVec Ideal S256x1024 .f32) (x6 x7 : Vec Ideal S256x128 .f32) (n : IVec S256x128 32) (hn : n = iota .tc S256x128 32 [1] iota_S256x128_d1_w32)
    (r : Fin 256) (f : Fin 1024) :
    k0_pay35 (F := Ideal) u (k0_pay24 x6) (k0_pay25 x7) (k0_pay26 n 64#32 (Scalar.cmpi .eq 64#32 0#32) 1#32)
      (k0_pay27 u (k0_pay24 x6) (k0_pay25 x7) n 64#32 (Scalar.cmpi .eq 64#32 0#32) 1#32)
      (k0_pay28 u (k0_pay24 x6) (k0_pay25 x7) n 64#32 (Scalar.cmpi .eq 64#32 0#32) 1#32)
      (k0_pay29 u (k0_pay24 x6) (k0_pay25 x7) n 64#32 (Scalar.cmpi .eq 64#32 0#32) 1#32)
      (k0_pay30 u (k0_pay24 x6) (k0_pay25 x7) n 64#32 (Scalar.cmpi .eq 64#32 0#32) 1#32) (k0_pay31 u) (k0_pay32 u) (ix2 r f)
      = turnedRows x6 x7 u (ix2 r f) :=
  congrFun (k_turn u x6 x7 n hn) (ix2 r f)

/-- What the two mixers' bodies share. -/
theorem product_same (x0 : Vec Ideal S256x1024 .f32) (x1 : Vec Ideal S1x1024 .f32) (x2 : Vec Ideal S1024x3072 .bf16) :
    k0_pay1 (F := Ideal) x0 x1 x2 = Cert.BandRowsIdeal.Gen.k0_pay4 (F := Ideal) x0 x1 x2 := rfl
theorem groups_same (x5 : Vec Ideal S128x128 .bf16) : k0_pay2 (F := Ideal) x5 = Cert.BandRowsIdeal.Gen.k0_pay5 (F := Ideal) x5 := rfl

theorem q_body (x0 : Vec Ideal S256x1024 .f32) (x1 : Vec Ideal S1x1024 .f32) (x2 : Vec Ideal S1024x3072 .bf16) (x3 : Vec Ideal S1x1024 .f32)
    (x5 : Vec Ideal S128x128 .bf16) :
    k0_pay12 (F := Ideal) (k0_pay2 x5) (k0_pay3 x0 x1 x2) (k0_pay4 x3) (k0_pay5 x0 x1 x2) (k0_pay6 x0 x1 x2 x5) (k0_pay7 x0 x1 x2 x5)
      (k0_pay8 x0 x1 x2 x5) (k0_pay9 x0 x1 x2 x5) (k0_pay10 x0 x1 x2 x5) (k0_pay11 x0 x1 x2 x5)
    = normed 0 slices_S256x3072_o0_0_S256x1024 (k0_pay1 (F := Ideal) x0 x1 x2) (k0_pay2 (F := Ideal) x5) x3 := by
  simp only [k0_pay12, k0_pay3, k0_pay4, k0_pay5, k0_pay6, k0_pay7, k0_pay8, k0_pay9, k0_pay10, k0_pay11]
  rfl

theorem k_body (v : FVec Ideal S256x3072 .f32) (bd : FVec Ideal S128x128 .bf16) (x4 : Vec Ideal S1x1024 .f32) :
    k0_pay13 (F := Ideal) v bd x4 = normed 1024 slices_S256x3072_o0_1024_S256x1024 v bd x4 := rfl

end Cert.DiffRowsIdeal.RefValue
end
-- ==== Proof.DiffRowsValue.lean ====
/-
  What the differential mixer's projection of the sampled rows leaves in its five results, entry by entry: the scaled turned queries,
  the turned keys and the values of the 256 rows, and the keys and values once more unrounded.
-/
module

public import proofs.«01_k».proof.Proof.RopeRowsBlock
public import proofs.«01_k».proof.Proof.BandRowsValue
public import proofs.«01_k».proof.Proof.Gen.DiffRowsIdeal.Frame
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.DiffRowsIdeal.RefValue

open Cert.DiffRowsIdeal Cert.DiffRowsIdeal.Gen Cert.Layer
open Cert.BandRowsIdeal.RefValue (normed normed_third third_apply)

variable (m : (ℓ : Loc nD τ sig) → Buf (Elt Ideal) ℓ) (c : Dev nD) (t : Fin cfg0.N)

/-- Where each window's block sits: there is one grid point, and every block is the whole array. -/
theorem idx_val : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] :=
  (by decide +kernel : ∀ t : Fin grid0.N, _)

/-- The call's arguments. -/
def inp : ProjIn 16 := projIn (m ((c : Thread nD τ).loc main_arg0)) (m ((c : Thread nD τ).loc main_arg1))
  (m ((c : Thread nD τ).loc main_arg2)) (m ((c : Thread nD τ).loc main_arg3)) (m ((c : Thread nD τ).loc main_arg4))

/-- The rows. -/
def xr (r : Fin 256) : Fin 1024 → EReal := (inp m c).x ⟨r.val / 16, by omega⟩ ⟨r.val % 16, by omega⟩

theorem blk0 (r : Fin 256) (k : Fin 1024) : iblk m c 0 t (ix2 r k) = xr m c r k := by
  have e : iblk m c 0 t (ix2 r k) = V m c main_v40 (ix2 r k) := by
    blk_simp [iblk]
    blk_ext [idx_val t]
  rw [e]
  unfold V V0
  simp only [List.flatten_cons, List.flatten_nil, List.append_nil, List.cons_append, List.nil_append, hostOps0, hostOps0_1, hostOps0_2]
  after_results_simp
  pointwise
  rfl

theorem blk1 (k : Fin 1024) : iblk m c 1 t (ix2 0 k) = (inp m c).g k := by
  have e : iblk m c 1 t (ix2 0 k) = V m c main_v41 (ix2 0 k) := by
    blk_simp [iblk]
    blk_ext [idx_val t]
  rw [e]
  unfold V V0
  simp only [List.flatten_cons, List.flatten_nil, List.append_nil, List.cons_append, List.nil_append, hostOps0, hostOps0_1, hostOps0_2]
  after_results_simp
  pointwise
  rfl

theorem blk2 (k : Fin 1024) (f : Fin 3072) : iblk m c 2 t (ix2 k f) = (inp m c).w k f := by
  have e : iblk m c 2 t (ix2 k f) = V m c main_v42 (ix2 k f) := by
    blk_simp [iblk]
    blk_ext [idx_val t]
  rw [e]
  unfold V V0
  simp only [List.flatten_cons, List.flatten_nil, List.append_nil, List.cons_append, List.nil_append, hostOps0, hostOps0_1, hostOps0_2]
  after_results_simp
  pointwise
  rfl

theorem blk3 (f : Fin 1024) : iblk m c 3 t (ix2 0 f) = (inp m c).qg (groupPlace f) := by
  have e : iblk m c 3 t (ix2 0 f) = V m c main_v46 (ix2 0 f) := by
    blk_simp [iblk]
    blk_ext [idx_val t]
  rw [e]
  unfold V V0
  simp only [List.flatten_cons, List.flatten_nil, List.append_nil, List.cons_append, List.nil_append, hostOps0, hostOps0_1, hostOps0_2]
  after_results_simp
  pointwise
  rfl

theorem blk4 (f : Fin 1024) : iblk m c 4 t (ix2 0 f) = (inp m c).kg (groupPlace f) := by
  have e : iblk m c 4 t (ix2 0 f) = V m c main_v50 (ix2 0 f) := by
    blk_simp [iblk]
    blk_ext [idx_val t]
  rw [e]
  unfold V V0
  simp only [List.flatten_cons, List.flatten_nil, List.append_nil, List.cons_append, List.nil_append, hostOps0, hostOps0_1, hostOps0_2]
  after_results_simp
  pointwise
  rfl

/-- The matrix of zeros and ones is the band mixer's. -/
theorem blk5 (k l : Fin 128) : iblk m c 5 t (ix2 k l) = sameGroup k l := by
  have e : iblk m c 5 t (ix2 k l) = V m c main_v7 (ix2 k l) := by
    blk_simp [iblk]
    blk_ext [idx_val t]
  rw [e]
  unfold V V0
  simp only [List.flatten_cons, List.flatten_nil, List.append_nil, List.cons_append, List.nil_append, hostOps0, hostOps0_1, hostOps0_2]
  after_results_simp
  exact Cert.BandRowsIdeal.RefValue.groups_apply k l

/-- The host's table of angles, a row for each of the sixteen positions. -/
def angles : FVec Ideal S16x32 .f32 :=
  mulf (broadcastInDim S16x32 ![0, 1] bcast_S16x1_S16x32_0_1 (broadcastInDim S16x1 ![0] bcast_S16_S16x1_0
      (sitofp .f32 (addi (broadcastInDim S16 ![] bcast_S_S16 (constantI S_ 32 4096#32)) (iotaInDim S16 32 0)))))
    (broadcastInDim S16x32 ![0, 1] bcast_S1x32_S16x32_0_1 (broadcastInDim S1x32 ![1] bcast_S32_S1x32_1
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

theorem angles_apply (p : Fin 16) (i : Fin 32) : angles (ix2 p i) = sampleAngle p i := by
  pointwise [angles]
  rfl

/-- The table of cosines, four times side by side and once for each of the sixteen sequences. -/
def cosTable : FVec Ideal S256x128 .f32 :=
  shapeCast S256x128 (broadcastInDim S16x16x1x128 ![0, 1, 2, 3] bcast_S1x16x1x128_S16x16x1x128_0_1_2_3 (shapeCast S1x16x1x128
    (shapeCast S16x128 (broadcastInDim S1x16x4x32 ![0, 1, 2, 3] bcast_S1x16x1x32_S1x16x4x32_0_1_2_3 (shapeCast S1x16x1x32
      (Host.cos angles) shapeCasts_S16x32_S1x16x1x32)) shapeCasts_S1x16x4x32_S16x128) shapeCasts_S16x128_S1x16x1x128)) shapeCasts_S16x16x1x128_S256x128

theorem cosTable_apply (r : Fin 256) (l : Fin 128) : cosTable (ix2 r l)
    = sampleCos ⟨r.val % 16, Nat.mod_lt _ (by norm_num)⟩ ⟨l.val % 32, Nat.mod_lt _ (by norm_num)⟩ := by
  refine Eq.trans ?_ (congrArg Ideal.cos (angles_apply _ _))
  pointwise [cosTable]

/-- The table of sines with their signs: a row of 64 is the negated sines and the sines. -/
def sinPair : FVec Ideal S16x64 .f32 :=
  concatenate S16x64 1 [⟨S16x32, Host.negf (Host.sin angles)⟩, ⟨S16x32, Host.sin angles⟩] concatenates_S16x32_S16x32_S16x64_d1

def sinTable : FVec Ideal S256x128 .f32 :=
  shapeCast S256x128 (broadcastInDim S16x16x1x128 ![0, 1, 2, 3] bcast_S1x16x1x128_S16x16x1x128_0_1_2_3 (shapeCast S1x16x1x128
    (shapeCast S16x128 (broadcastInDim S1x16x2x64 ![0, 1, 2, 3] bcast_S1x16x1x64_S1x16x2x64_0_1_2_3 (shapeCast S1x16x1x64
      sinPair shapeCasts_S16x64_S1x16x1x64)) shapeCasts_S1x16x2x64_S16x128) shapeCasts_S16x128_S1x16x1x128)) shapeCasts_S16x16x1x128_S256x128

theorem sinTable_apply (r : Fin 256) (l : Fin 128) : sinTable (ix2 r l)
    = signedSin (sampleSin ⟨r.val % 16, Nat.mod_lt _ (by norm_num)⟩) l := by
  have e : sinTable (ix2 r l) = sinPair (ix2 ⟨r.val % 16, Nat.mod_lt _ (by norm_num)⟩ ⟨l.val % 64, Nat.mod_lt _ (by norm_num)⟩) := by
    pointwise [sinTable]
  have a : ∀ (p : Fin 16) (i : Fin 32), Host.sin (F := Ideal) angles (ix2 p i) = sampleSin p i := fun p i =>
    congrArg Ideal.sin (angles_apply p i)
  rw [e]
  unfold signedSin sinPair
  by_cases h : l.val % 64 < 32
  · rw [if_pos h]
    refine (concatenate_pair_apply_left (t := S16x64) (1 : Fin 2) (Host.negf (Host.sin angles)) (Host.sin angles) _
      (ix2 _ _) rfl (ix2 ⟨r.val % 16, Nat.mod_lt _ (by norm_num)⟩ ⟨l.val % 32, Nat.mod_lt _ (by norm_num)⟩) ?_).trans (congrArg (fun z : EReal => -z) (a _ _))
    intro k
    fin_cases k
    · rfl
    · show l.val % 32 = l.val % 64
      omega
  · rw [if_neg h]
    refine (concatenate_pair_apply_right (t := S16x64) (s₂ := S16x32) (1 : Fin 2) (Host.negf (Host.sin angles)) (Host.sin angles) _
      (ix2 _ _) rfl rfl (ix2 ⟨r.val % 16, Nat.mod_lt _ (by norm_num)⟩ ⟨l.val % 32, Nat.mod_lt _ (by norm_num)⟩) ?_ ?_).trans (a _ _)
    · intro k hk
      fin_cases k
      all_goals first | rfl | exact absurd rfl hk
    · show l.val % 32 + 32 = l.val % 64
      omega

theorem blk6 (r : Fin 256) (l : Fin 128) : iblk m c 6 t (ix2 r l)
    = sampleCos ⟨r.val % 16, Nat.mod_lt _ (by norm_num)⟩ ⟨l.val % 32, Nat.mod_lt _ (by norm_num)⟩ := by
  have e : iblk m c 6 t (ix2 r l) = V m c main_v36 (ix2 r l) := by
    blk_simp [iblk]
    blk_ext [idx_val t]
  rw [e]
  unfold V V0
  simp only [List.flatten_cons, List.flatten_nil, List.append_nil, List.cons_append, List.nil_append, hostOps0, hostOps0_1, hostOps0_2]
  after_results_simp
  exact cosTable_apply r l

theorem blk7 (r : Fin 256) (l : Fin 128) : iblk m c 7 t (ix2 r l)
    = signedSin (sampleSin ⟨r.val % 16, Nat.mod_lt _ (by norm_num)⟩) l := by
  have e : iblk m c 7 t (ix2 r l) = V m c main_v39 (ix2 r l) := by
    blk_simp [iblk]
    blk_ext [idx_val t]
  rw [e]
  unfold V V0
  simp only [List.flatten_cons, List.flatten_nil, List.append_nil, List.cons_append, List.nil_append, hostOps0, hostOps0_1, hostOps0_2]
  after_results_simp
  exact sinTable_apply r l

/-- The rows' queries, keys and values as the body computes them. -/
theorem rows_q (r : Fin 256) (f : Fin 1024) : normed 0 slices_S256x3072_o0_0_S256x1024
      (k0_pay1 (F := Ideal) (iblk m c 0 t) (iblk m c 1 t) (iblk m c 2 t)) (k0_pay2 (F := Ideal) (iblk m c 5 t)) (iblk m c 3 t) (ix2 r f)
    = (inp m c).query ⟨r.val / 16, by omega⟩ ⟨r.val % 16, by omega⟩ f :=
  normed_third _ _ _ _ (xr m c) _ _ _ (blk0 m c t) (blk1 m c t) (blk2 m c t) (blk5 m c t) 0 0 rfl _ _ (blk3 m c t) r f

theorem rows_k (r : Fin 256) (f : Fin 1024) : normed 1024 slices_S256x3072_o0_1024_S256x1024
      (k0_pay1 (F := Ideal) (iblk m c 0 t) (iblk m c 1 t) (iblk m c 2 t)) (k0_pay2 (F := Ideal) (iblk m c 5 t)) (iblk m c 4 t) (ix2 r f)
    = (inp m c).key ⟨r.val / 16, by omega⟩ ⟨r.val % 16, by omega⟩ f :=
  normed_third _ _ _ _ (xr m c) _ _ _ (blk0 m c t) (blk1 m c t) (blk2 m c t) (blk5 m c t) 1 1024 rfl _ _ (blk4 m c t) r f

theorem rows_v (r : Fin 256) (f : Fin 1024) :
    k0_pay14 (F := Ideal) (k0_pay1 (F := Ideal) (iblk m c 0 t) (iblk m c 1 t) (iblk m c 2 t)) (ix2 r f)
    = (inp m c).value ⟨r.val / 16, by omega⟩ ⟨r.val % 16, by omega⟩ f :=
  third_apply _ _ _ (xr m c) _ _ (blk0 m c t) (blk1 m c t) (blk2 m c t) 2 2048 rfl slices_S256x3072_o0_2048_S256x1024 r f

/-- The turned queries and keys. -/
theorem rows_tq (r : Fin 256) (f : Fin 1024) : turnedRows (iblk m c 6 t) (iblk m c 7 t) (normed 0 slices_S256x3072_o0_0_S256x1024
      (k0_pay1 (F := Ideal) (iblk m c 0 t) (iblk m c 1 t) (iblk m c 2 t)) (k0_pay2 (F := Ideal) (iblk m c 5 t)) (iblk m c 3 t)) (ix2 r f)
    = (inp m c).sampleQuery ⟨r.val / 16, by omega⟩ ⟨r.val % 16, by omega⟩ f :=
  turnedRows_apply _ _ _ (fun r => (inp m c).query ⟨r.val / 16, by omega⟩ ⟨r.val % 16, by omega⟩) (fun r => sampleCos ⟨r.val % 16, by omega⟩)
    (fun r => sampleSin ⟨r.val % 16, by omega⟩) (rows_q m c t) (blk6 m c t) (blk7 m c t) r f

theorem rows_tk (r : Fin 256) (f : Fin 1024) : turnedRows (iblk m c 6 t) (iblk m c 7 t) (normed 1024 slices_S256x3072_o0_1024_S256x1024
      (k0_pay1 (F := Ideal) (iblk m c 0 t) (iblk m c 1 t) (iblk m c 2 t)) (k0_pay2 (F := Ideal) (iblk m c 5 t)) (iblk m c 4 t)) (ix2 r f)
    = (inp m c).sampleKey ⟨r.val / 16, by omega⟩ ⟨r.val % 16, by omega⟩ f :=
  turnedRows_apply _ _ _ (fun r => (inp m c).key ⟨r.val / 16, by omega⟩ ⟨r.val % 16, by omega⟩) (fun r => sampleCos ⟨r.val % 16, by omega⟩)
    (fun r => sampleSin ⟨r.val % 16, by omega⟩) (rows_k m c t) (blk6 m c t) (blk7 m c t) r f

/-- What is stored. -/
theorem point_q (r : Fin 256) (f : Fin 1024) : (dats m 0 c).after 8 t (ix2 r f)
    = (inp m c).sampleQuery ⟨r.val / 16, by omega⟩ ⟨r.val % 16, by omega⟩ f * queryScale := by
  rw [after0_8]
  unfold_out out0_8
  frame_out
  rw [q_body, q_turn]
  exact congrArg (· * queryScale) (rows_tq m c t r f)

theorem point_k (r : Fin 256) (f : Fin 1024) : (dats m 0 c).after 9 t (ix2 r f)
    = (inp m c).sampleKey ⟨r.val / 16, by omega⟩ ⟨r.val % 16, by omega⟩ f := by
  rw [after0_9]
  unfold_out out0_9
  frame_out
  rw [k_body, k_turn_rounded _ _ _ _ rfl]
  exact rows_tk m c t r f

theorem point_v (r : Fin 256) (f : Fin 1024) : (dats m 0 c).after 10 t (ix2 r f)
    = (inp m c).value ⟨r.val / 16, by omega⟩ ⟨r.val % 16, by omega⟩ f := by
  rw [after0_10]
  unfold_out out0_10
  frame_out
  exact rows_v m c t r f

theorem point_kf (r : Fin 256) (f : Fin 1024) : (dats m 0 c).after 11 t (ix2 r f)
    = (inp m c).sampleKey ⟨r.val / 16, by omega⟩ ⟨r.val % 16, by omega⟩ f := by
  rw [after0_11]
  unfold_out out0_11
  frame_out
  rw [k_body, k_turn _ _ _ _ rfl]
  exact rows_tk m c t r f

theorem point_vf (r : Fin 256) (f : Fin 1024) : (dats m 0 c).after 12 t (ix2 r f)
    = (inp m c).value ⟨r.val / 16, by omega⟩ ⟨r.val % 16, by omega⟩ f := by
  rw [after0_12]
  unfold_out out0_12
  frame_out
  exact rows_v m c t r f

/-- The results' arrays. -/
theorem final_q : (dats m 0 c).arrAt 8 (cfgs 0).N = sampleRows fun b t f => (inp m c).sampleQuery b t f * queryScale := by
  refine (dats m 0 c).arrAt_eq_of_covers 8 _ (by decide +kernel) fun t _ y => ?_
  blk_simp
  idx_vars y
  have e : (((cfg0.win 8).blk t).view.emb (ix2 y0 y1) : S256x1024.Idx) = ix2 y0 y1 := by
    blk_ext [idx_val t]
  rw [e]
  exact point_q m c t y0 y1

theorem final_k : (dats m 0 c).arrAt 9 (cfgs 0).N = sampleRows (inp m c).sampleKey := by
  refine (dats m 0 c).arrAt_eq_of_covers 9 _ (by decide +kernel) fun t _ y => ?_
  blk_simp
  idx_vars y
  have e : (((cfg0.win 9).blk t).view.emb (ix2 y0 y1) : S256x1024.Idx) = ix2 y0 y1 := by
    blk_ext [idx_val t]
  rw [e]
  exact point_k m c t y0 y1

theorem final_v : (dats m 0 c).arrAt 10 (cfgs 0).N = sampleRows (inp m c).value := by
  refine (dats m 0 c).arrAt_eq_of_covers 10 _ (by decide +kernel) fun t _ y => ?_
  blk_simp
  idx_vars y
  have e : (((cfg0.win 10).blk t).view.emb (ix2 y0 y1) : S256x1024.Idx) = ix2 y0 y1 := by
    blk_ext [idx_val t]
  rw [e]
  exact point_v m c t y0 y1

theorem final_kf : (dats m 0 c).arrAt 11 (cfgs 0).N = sampleRows (inp m c).sampleKey := by
  refine (dats m 0 c).arrAt_eq_of_covers 11 _ (by decide +kernel) fun t _ y => ?_
  blk_simp
  idx_vars y
  have e : (((cfg0.win 11).blk t).view.emb (ix2 y0 y1) : S256x1024.Idx) = ix2 y0 y1 := by
    blk_ext [idx_val t]
  rw [e]
  exact point_kf m c t y0 y1

theorem final_vf : (dats m 0 c).arrAt 12 (cfgs 0).N = sampleRows (inp m c).value := by
  refine (dats m 0 c).arrAt_eq_of_covers 12 _ (by decide +kernel) fun t _ y => ?_
  blk_simp
  idx_vars y
  have e : (((cfg0.win 12).blk t).view.emb (ix2 y0 y1) : S256x1024.Idx) = ix2 y0 y1 := by
    blk_ext [idx_val t]
  rw [e]
  exact point_vf m c t y0 y1

theorem pairs_of_rows (q : Fin 16 → Fin 16 → Fin 1024 → EReal) :
    shapeCast S16x16x8x2x64 (sampleRows q : FVec Ideal S256x1024 .f32) shapeCasts_S256x1024_S16x16x8x2x64 = samplePairs q := by
  funext i
  idx_vars i
  pointwise [sampleRows, samplePairs]
  refine congr (congrArg₂ q (Fin.ext ?_) (Fin.ext ?_)) (Fin.ext ?_)
  all_goals simp
  all_goals omega

theorem heads_of_rows (q : Fin 16 → Fin 16 → Fin 1024 → EReal) :
    shapeCast S16x16x8x128 (sampleRows q : FVec Ideal S256x1024 .f32) shapeCasts_S256x1024_S16x16x8x128 = sampleHeads q := by
  funext i
  idx_vars i
  pointwise [sampleRows, sampleHeads]
  refine congr (congrArg₂ q (Fin.ext ?_) (Fin.ext ?_)) (Fin.ext ?_)
  all_goals simp
  all_goals omega

theorem run (ρ : Dev nD → PrngReg) : θ_run defs (onTc (τ := τ) (main (F := Ideal))) ⟨m, fun _ => 0, ρ⟩ fun r => ∀ c : Dev nD,
      r.2.mem ((c : Thread nD τ).loc main_v51_0) = (sampleRows fun b t f => (inp m c).sampleQuery b t f * queryScale)
      ∧ r.2.mem ((c : Thread nD τ).loc main_v51_1) = sampleRows (inp m c).sampleKey
      ∧ r.2.mem ((c : Thread nD τ).loc main_v51_2) = sampleRows (inp m c).value
      ∧ r.2.mem ((c : Thread nD τ).loc main_v52) = samplePairs (inp m c).sampleKey
      ∧ r.2.mem ((c : Thread nD τ).loc main_v53) = sampleHeads (inp m c).value := by
  refine (θ_run defs _ _).mono (fun r h c => ⟨?_, ?_, ?_, ?_, ?_⟩) (run_main (F := Ideal) m ρ)
  · exact ((h c).1 8).trans (final_q m c)
  · exact ((h c).1 9).trans (final_k m c)
  · exact ((h c).1 10).trans (final_v m c)
  · refine ((h c).2 main_v52 (by decide)).trans ?_
    unfold Pipeline.afterTail₀
    simp only [List.flatten_cons, List.flatten_nil, List.append_nil, hostOps1]
    after_region_results
    have e := (Pipeline.withArrays_arr (cfgs 0).spec launch0.win.arr_inj c (V0 m c) (fun w => (dats m 0 c).arrAt w (cfgs 0).N) 11).trans
      (final_kf m c)
    exact (congrArg (fun Y => shapeCast S16x16x8x2x64 Y shapeCasts_S256x1024_S16x16x8x2x64) e).trans (pairs_of_rows _)
  · refine ((h c).2 main_v53 (by decide)).trans ?_
    unfold Pipeline.afterTail₀
    simp only [List.flatten_cons, List.flatten_nil, List.append_nil, hostOps1]
    after_region_results
    have e := (Pipeline.withArrays_arr (cfgs 0).spec launch0.win.arr_inj c (V0 m c) (fun w => (dats m 0 c).arrAt w (cfgs 0).N) 12).trans
      (final_vf m c)
    exact (congrArg (fun Y => shapeCast S16x16x8x128 Y shapeCasts_S256x1024_S16x16x8x128) e).trans (heads_of_rows _)

end Cert.DiffRowsIdeal.RefValue
end
-- ==== Proof.DiffProjRef.lean ====
/-
  The reference of the differential mixer's projection on the prompt, read at its indices: the same queries, keys and values in the
  same layouts.
-/
module

public import proofs.«01_k».proof.Proof.RopeMath
public import proofs.«01_k».proof.Proof.Gen.DiffProjRefIdeal.Run
public import proofs.«01_k».proof.Proof.Gen.DiffProjRefIdeal.Read
public import Idealize.ShloMosaic.Lib.Pointwise

@[expose] public section

set_option maxRecDepth 16384

noncomputable section

open Idealize.ShloMosaic Idealize.ShloMosaic.TcCoe Idealize.SL.Sem

namespace Cert.DiffProjRefIdeal.RefValue

open Cert.DiffProjRefIdeal Cert.DiffProjRefIdeal.Gen Cert.Layer

variable (X : FVec Ideal S16x2048x1024 .f32) (G : FVec Ideal S1024 .f32) (W : FVec Ideal S1024x3072 .f32) (Q K : FVec Ideal S64 .f32)

/-- The place of a feature in its pair of groups. -/
def place (h : Fin 8) (s : Fin 2) (l : Fin 64) : Fin 1024 := ⟨(h.val * 2 + s.val) * 64 + l.val, by omega⟩

/-- The product of the normalised rows with the matrix. -/
theorem product_ref (b : Fin 16) (t : Fin 2048) (f : Fin 3072) : Read.val_main_v14 (F := Ideal) X G W (ix3 b t f)
    = projected ((projIn X G W Q K).x b t) (projIn X G W Q K).g (projIn X G W Q K).w f := by
  unfold projected normRow projIn
  pointwise [Read.val_main_v14, Read.val_main_v12,
    Read.val_main_v11, Read.val_main_v10, Read.val_main_v9, Read.val_main_v8, Read.val_main_v7, Read.val_main_v6, Read.val_main_v5,
    Read.val_main_v4, Read.val_main_v3, Read.val_main_v2, Read.val_main_v1, Read.val_main_v0,
    Read.val_main_cst, Read.val_main_cst_0, Read.val_main_cst_1, zero_add]

/-- The three thirds, the first two in pairs of groups of 64, the last in heads of 128. -/
theorem query_group (b : Fin 16) (t : Fin 2048) (h : Fin 8) (s : Fin 2) (l : Fin 64) : Read.val_main_v18 (F := Ideal) X G W (ix5 b t h s l)
    = third ((projIn X G W Q K).x b t) (projIn X G W Q K).g (projIn X G W Q K).w 0 (place h s l) := by
  refine Eq.trans ?_ (product_ref X G W Q K b t _)
  pointwise [Read.val_main_v18, Read.val_main_v15]
  all_goals exact congrArg (fun a => Read.val_main_v14 (F := Ideal) X G W (ix3 b t a)) (Fin.ext (by simp [place]; try omega))

theorem key_group (b : Fin 16) (t : Fin 2048) (h : Fin 8) (s : Fin 2) (l : Fin 64) : Read.val_main_v61 (F := Ideal) X G W (ix5 b t h s l)
    = third ((projIn X G W Q K).x b t) (projIn X G W Q K).g (projIn X G W Q K).w 1 (place h s l) := by
  refine Eq.trans ?_ (product_ref X G W Q K b t _)
  pointwise [Read.val_main_v61, Read.val_main_v16]
  all_goals exact congrArg (fun a => Read.val_main_v14 (F := Ideal) X G W (ix3 b t a)) (Fin.ext (by simp [place]; try omega))

theorem value_group (b : Fin 16) (t : Fin 2048) (h : Fin 8) (l : Fin 128) : Read.val_main_v104 (F := Ideal) X G W (ix4 b t h l)
    = (projIn X G W Q K).value b t ⟨h.val * 128 + l.val, by omega⟩ := by
  refine Eq.trans ?_ (product_ref X G W Q K b t _)
  pointwise [Read.val_main_v104, Read.val_main_v17]
  all_goals exact congrArg (fun a => Read.val_main_v14 (F := Ideal) X G W (ix3 b t a)) (Fin.ext (by simp))

/-- A group's norm, from its 64 members. -/
theorem norm_of_group (u : Fin 1024 → EReal) (g : Fin 64 → EReal) (v : Fin 64 → EReal) (h : Fin 8) (s : Fin 2) (l : Fin 64)
    (hv : ∀ l : Fin 64, v l = u (place h s l)) :
    v l * Ideal.rsqrt (Ideal.div (∑ j, v j * v j) (Ideal.ofBits .f32 0x42800000#32) + Ideal.ofBits .f32 0x358637BD#32) * g l
      = groupNorm u g (place h s l) := by
  have e : ∀ j, groupMate (place h s l) j = place h s j := fun j =>
    Fin.ext (by show ((h.val * 2 + s.val) * 64 + l.val) / 64 * 64 + j.val = (h.val * 2 + s.val) * 64 + j.val; omega)
  have e' : groupPlace (place h s l) = l := Fin.ext (by show ((h.val * 2 + s.val) * 64 + l.val) % 64 = l.val; omega)
  unfold groupNorm
  simp only [e, e', hv]

/-- A turned feature, from the halves of its group. -/
theorem turn_of_halves (cs sn : Fin 32 → EReal) (u : Fin 1024 → EReal) (h : Fin 8) (s : Fin 2) (i : Fin 32) :
    u (place h s ⟨i.val, by omega⟩) * cs i - u (place h s ⟨32 + i.val, by omega⟩) * sn i = turn cs sn u (place h s ⟨i.val, by omega⟩)
    ∧ u (place h s ⟨32 + i.val, by omega⟩) * cs i + u (place h s ⟨i.val, by omega⟩) * sn i = turn cs sn u (place h s ⟨32 + i.val, by omega⟩) := by
  have p1 : pairOf (place h s ⟨i.val, by omega⟩) = i := Fin.ext (by show ((h.val * 2 + s.val) * 64 + i.val) % 32 = i.val; omega)
  have p2 : pairOf (place h s ⟨32 + i.val, by omega⟩) = i := Fin.ext (by show ((h.val * 2 + s.val) * 64 + (32 + i.val)) % 32 = i.val; omega)
  have r1 : ropePartner (place h s ⟨i.val, by omega⟩) = place h s ⟨32 + i.val, by omega⟩ := Fin.ext (by
    show ((h.val * 2 + s.val) * 64 + i.val) / 64 * 64 + (((h.val * 2 + s.val) * 64 + i.val) % 64 + 32) % 64 = (h.val * 2 + s.val) * 64 + (32 + i.val)
    omega)
  have r2 : ropePartner (place h s ⟨32 + i.val, by omega⟩) = place h s ⟨i.val, by omega⟩ := Fin.ext (by
    show ((h.val * 2 + s.val) * 64 + (32 + i.val)) / 64 * 64 + (((h.val * 2 + s.val) * 64 + (32 + i.val)) % 64 + 32) % 64 = (h.val * 2 + s.val) * 64 + i.val
    omega)
  unfold turn
  refine ⟨?_, ?_⟩
  · rw [if_pos (by show ((h.val * 2 + s.val) * 64 + i.val) % 64 < 32; omega), p1, r1]
  · rw [if_neg (by show ¬ ((h.val * 2 + s.val) * 64 + (32 + i.val)) % 64 < 32; omega), p2, r2]

theorem query_ref (b : Fin 16) (t : Fin 2048) (h : Fin 8) (s : Fin 2) (l : Fin 64) : Read.val_main_v31 (F := Ideal) X G W Q (ix5 b t h s l)
    = (projIn X G W Q K).query b t (place h s l) := by
  refine Eq.trans ?_ (norm_of_group _ _ _ h s l (query_group X G W Q K b t h s))
  pointwise [Read.val_main_v31, Read.val_main_v30, Read.val_main_v29, Read.val_main_v28, Read.val_main_v27, Read.val_main_v26, Read.val_main_v25, Read.val_main_v24, Read.val_main_v23, Read.val_main_v22, Read.val_main_v21, Read.val_main_v20, Read.val_main_v19,
    Read.val_main_cst_2, Read.val_main_cst_3, Read.val_main_cst_4, zero_add]
  rfl

theorem key_ref (b : Fin 16) (t : Fin 2048) (h : Fin 8) (s : Fin 2) (l : Fin 64) : Read.val_main_v74 (F := Ideal) X G W K (ix5 b t h s l)
    = (projIn X G W Q K).key b t (place h s l) := by
  refine Eq.trans ?_ (norm_of_group _ _ _ h s l (key_group X G W Q K b t h s))
  pointwise [Read.val_main_v74, Read.val_main_v73, Read.val_main_v72, Read.val_main_v71, Read.val_main_v70, Read.val_main_v69, Read.val_main_v68, Read.val_main_v67, Read.val_main_v66, Read.val_main_v65, Read.val_main_v64, Read.val_main_v63, Read.val_main_v62,
    Read.val_main_cst_7, Read.val_main_cst_8, Read.val_main_cst_9, zero_add]
  rfl

/-- The tables of cosines and sines. -/
theorem query_cos (t : Fin 2048) (i : Fin 32) : Read.val_main_v44 (F := Ideal) (ix2 t i) = ropeCos t i := by
  pointwise [Read.val_main_v44, Read.val_main_v43, Read.val_main_v42, Read.val_main_v41, Read.val_main_v40, Read.val_main_v39, Read.val_main_v38, Read.val_main_v37, Read.val_main_v36, Read.val_main_v35, Read.val_main_v34, Read.val_main_v33, Read.val_main_v32, Read.val_main_v13, Read.val_main_cst_5, Read.val_main_cst_6]
  rfl

theorem query_sin (t : Fin 2048) (i : Fin 32) : Read.val_main_v46 (F := Ideal) (ix2 t i) = ropeSin t i := by
  pointwise [Read.val_main_v46, Read.val_main_v43, Read.val_main_v42, Read.val_main_v41, Read.val_main_v40, Read.val_main_v39, Read.val_main_v38, Read.val_main_v37, Read.val_main_v36, Read.val_main_v35, Read.val_main_v34, Read.val_main_v33, Read.val_main_v32, Read.val_main_v13, Read.val_main_cst_5, Read.val_main_cst_6]
  rfl

theorem key_cos (t : Fin 2048) (i : Fin 32) : Read.val_main_v87 (F := Ideal) (ix2 t i) = ropeCos t i := by
  pointwise [Read.val_main_v87, Read.val_main_v86, Read.val_main_v85, Read.val_main_v84, Read.val_main_v83, Read.val_main_v82, Read.val_main_v81, Read.val_main_v80, Read.val_main_v79, Read.val_main_v78, Read.val_main_v77, Read.val_main_v76, Read.val_main_v75, Read.val_main_v13, Read.val_main_cst_10, Read.val_main_cst_11]
  rfl

theorem key_sin (t : Fin 2048) (i : Fin 32) : Read.val_main_v89 (F := Ideal) (ix2 t i) = ropeSin t i := by
  pointwise [Read.val_main_v89, Read.val_main_v86, Read.val_main_v85, Read.val_main_v84, Read.val_main_v83, Read.val_main_v82, Read.val_main_v81, Read.val_main_v80, Read.val_main_v79, Read.val_main_v78, Read.val_main_v77, Read.val_main_v76, Read.val_main_v75, Read.val_main_v13, Read.val_main_cst_10, Read.val_main_cst_11]
  rfl

/-- The turned queries and keys. -/
theorem turned_query_ref (b : Fin 16) (t : Fin 2048) (h : Fin 8) (s : Fin 2) (l : Fin 64) : Read.val_main_v60 (F := Ideal) X G W Q (ix5 b t h s l)
    = (projIn X G W Q K).turnedQuery b t (place h s l) := by
  have lo : ∀ i : Fin 32, Read.val_main_v48 (F := Ideal) X G W Q (ix5 b t h s i) = (projIn X G W Q K).query b t (place h s ⟨i.val, by omega⟩) := fun i => by
    refine Eq.trans ?_ (query_ref X G W Q K b t h s ⟨i.val, by omega⟩)
    pointwise [Read.val_main_v48]
  have hi : ∀ i : Fin 32, Read.val_main_v49 (F := Ideal) X G W Q (ix5 b t h s i) = (projIn X G W Q K).query b t (place h s ⟨32 + i.val, by omega⟩) := fun i => by
    refine Eq.trans ?_ (query_ref X G W Q K b t h s ⟨32 + i.val, by omega⟩)
    pointwise [Read.val_main_v49]
  have c1 : ∀ i : Fin 32, Read.val_main_v50 (F := Ideal) (ix5 b t h s i) = ropeCos t i := fun i => by
    refine Eq.trans ?_ (query_cos t i)
    pointwise [Read.val_main_v50, Read.val_main_v45]
  have s1 : ∀ i : Fin 32, Read.val_main_v52 (F := Ideal) (ix5 b t h s i) = ropeSin t i := fun i => by
    refine Eq.trans ?_ (query_sin t i)
    pointwise [Read.val_main_v52, Read.val_main_v47]
  have c2 : ∀ i : Fin 32, Read.val_main_v55 (F := Ideal) (ix5 b t h s i) = ropeCos t i := fun i => by
    refine Eq.trans ?_ (query_cos t i)
    pointwise [Read.val_main_v55, Read.val_main_v45]
  have s2 : ∀ i : Fin 32, Read.val_main_v57 (F := Ideal) (ix5 b t h s i) = ropeSin t i := fun i => by
    refine Eq.trans ?_ (query_sin t i)
    pointwise [Read.val_main_v57, Read.val_main_v47]
  have d : ∀ i : Fin 32, Read.val_main_v54 (F := Ideal) X G W Q (ix5 b t h s i) = (projIn X G W Q K).turnedQuery b t (place h s ⟨i.val, by omega⟩) := fun i => by
    refine Eq.trans ?_ (turn_of_halves (ropeCos t) (ropeSin t) ((projIn X G W Q K).query b t) h s i).1
    rw [← lo, ← hi, ← c1 i, ← s1 i]
    rfl
  have a : ∀ i : Fin 32, Read.val_main_v59 (F := Ideal) X G W Q (ix5 b t h s i) = (projIn X G W Q K).turnedQuery b t (place h s ⟨32 + i.val, by omega⟩) := fun i => by
    refine Eq.trans ?_ (turn_of_halves (ropeCos t) (ropeSin t) ((projIn X G W Q K).query b t) h s i).2
    rw [← lo, ← hi, ← c2 i, ← s2 i]
    rfl
  unfold Read.val_main_v60
  by_cases hl : l.val < 32
  · refine (concatenate_pair_apply_left (t := S16x2048x8x2x64) (4 : Fin 5) (Read.val_main_v54 (F := Ideal) X G W Q) (Read.val_main_v59 (F := Ideal) X G W Q) _
      (ix5 b t h s l) rfl (ix5 b t h s ⟨l.val, hl⟩) ?_).trans (d ⟨l.val, hl⟩)
    intro k; fin_cases k <;> rfl
  · refine (concatenate_pair_apply_right (t := S16x2048x8x2x64) (s₂ := S16x2048x8x2x32) (4 : Fin 5) (Read.val_main_v54 (F := Ideal) X G W Q) (Read.val_main_v59 (F := Ideal) X G W Q) _
      (ix5 b t h s l) rfl rfl (ix5 b t h s ⟨l.val - 32, by omega⟩) ?_ ?_).trans ((a ⟨l.val - 32, by omega⟩).trans
      (congrArg (fun l => (projIn X G W Q K).turnedQuery b t (place h s l)) (Fin.ext (by show 32 + (l.val - 32) = l.val; omega))))
    · intro k hk
      fin_cases k
      all_goals first | rfl | exact absurd rfl hk
    · show l.val - 32 + 32 = l.val
      omega

theorem turned_key_ref (b : Fin 16) (t : Fin 2048) (h : Fin 8) (s : Fin 2) (l : Fin 64) : Read.val_main_v103 (F := Ideal) X G W K (ix5 b t h s l)
    = (projIn X G W Q K).turnedKey b t (place h s l) := by
  have lo : ∀ i : Fin 32, Read.val_main_v91 (F := Ideal) X G W K (ix5 b t h s i) = (projIn X G W Q K).key b t (place h s ⟨i.val, by omega⟩) := fun i => by
    refine Eq.trans ?_ (key_ref X G W Q K b t h s ⟨i.val, by omega⟩)
    pointwise [Read.val_main_v91]
  have hi : ∀ i : Fin 32, Read.val_main_v92 (F := Ideal) X G W K (ix5 b t h s i) = (projIn X G W Q K).key b t (place h s ⟨32 + i.val, by omega⟩) := fun i => by
    refine Eq.trans ?_ (key_ref X G W Q K b t h s ⟨32 + i.val, by omega⟩)
    pointwise [Read.val_main_v92]
  have c1 : ∀ i : Fin 32, Read.val_main_v93 (F := Ideal) (ix5 b t h s i) = ropeCos t i := fun i => by
    refine Eq.trans ?_ (key_cos t i)
    pointwise [Read.val_main_v93, Read.val_main_v88]
  have s1 : ∀ i : Fin 32, Read.val_main_v95 (F := Ideal) (ix5 b t h s i) = ropeSin t i := fun i => by
    refine Eq.trans ?_ (key_sin t i)
    pointwise [Read.val_main_v95, Read.val_main_v90]
  have c2 : ∀ i : Fin 32, Read.val_main_v98 (F := Ideal) (ix5 b t h s i) = ropeCos t i := fun i => by
    refine Eq.trans ?_ (key_cos t i)
    pointwise [Read.val_main_v98, Read.val_main_v88]
  have s2 : ∀ i : Fin 32, Read.val_main_v100 (F := Ideal) (ix5 b t h s i) = ropeSin t i := fun i => by
    refine Eq.trans ?_ (key_sin t i)
    pointwise [Read.val_main_v100, Read.val_main_v90]
  have d : ∀ i : Fin 32, Read.val_main_v97 (F := Ideal) X G W K (ix5 b t h s i) = (projIn X G W Q K).turnedKey b t (place h s ⟨i.val, by omega⟩) := fun i => by
    refine Eq.trans ?_ (turn_of_halves (ropeCos t) (ropeSin t) ((projIn X G W Q K).key b t) h s i).1
    rw [← lo, ← hi, ← c1 i, ← s1 i]
    rfl
  have a : ∀ i : Fin 32, Read.val_main_v102 (F := Ideal) X G W K (ix5 b t h s i) = (projIn X G W Q K).turnedKey b t (place h s ⟨32 + i.val, by omega⟩) := fun i => by
    refine Eq.trans ?_ (turn_of_halves (ropeCos t) (ropeSin t) ((projIn X G W Q K).key b t) h s i).2
    rw [← lo, ← hi, ← c2 i, ← s2 i]
    rfl
  unfold Read.val_main_v103
  by_cases hl : l.val < 32
  · refine (concatenate_pair_apply_left (t := S16x2048x8x2x64) (4 : Fin 5) (Read.val_main_v97 (F := Ideal) X G W K) (Read.val_main_v102 (F := Ideal) X G W K) _
      (ix5 b t h s l) rfl (ix5 b t h s ⟨l.val, hl⟩) ?_).trans (d ⟨l.val, hl⟩)
    intro k; fin_cases k <;> rfl
  · refine (concatenate_pair_apply_right (t := S16x2048x8x2x64) (s₂ := S16x2048x8x2x32) (4 : Fin 5) (Read.val_main_v97 (F := Ideal) X G W K) (Read.val_main_v102 (F := Ideal) X G W K) _
      (ix5 b t h s l) rfl rfl (ix5 b t h s ⟨l.val - 32, by omega⟩) ?_ ?_).trans ((a ⟨l.val - 32, by omega⟩).trans
      (congrArg (fun l => (projIn X G W Q K).turnedKey b t (place h s l)) (Fin.ext (by show 32 + (l.val - 32) = l.val; omega))))
    · intro k hk
      fin_cases k
      all_goals first | rfl | exact absurd rfl hk
    · show l.val - 32 + 32 = l.val
      omega

/-- Every feature has its place. -/
theorem place_of (f : Fin 1024) : place ⟨f.val / 128, by omega⟩ ⟨f.val / 64 % 2, by omega⟩ ⟨f.val % 64, by omega⟩ = f :=
  Fin.ext (by show (f.val / 128 * 2 + f.val / 64 % 2) * 64 + f.val % 64 = f.val; omega)

/-- The five results. -/
theorem queries_eq : Read.val_main_v114 (F := Ideal) X G W Q = scaledQueries (projIn X G W Q K).turnedQuery := by
  funext i
  idx_vars i
  unfold scaledQueries
  refine Eq.trans ?_ (congrArg (· * queryScale) ((turned_query_ref X G W Q K i0 i2 _ _ _).trans
    (congrArg ((projIn X G W Q K).turnedQuery i0 i2) (place_of i1))))
  pointwise [Read.val_main_v114, Read.val_main_v108, Read.val_main_v107, Read.val_main_v106, Read.val_main_v105, Read.val_main_cst_12]

theorem keys_eq : Read.val_main_v116 (F := Ideal) X G W K = keyRows (projIn X G W Q K).turnedKey := by
  funext i
  idx_vars i
  unfold keyRows
  refine Eq.trans ?_ ((turned_key_ref X G W Q K ⟨i0.val / 2048, by omega⟩ ⟨i0.val % 2048, by omega⟩ _ _ _).trans
    (congrArg ((projIn X G W Q K).turnedKey _ _) (place_of i1)))
  pointwise [Read.val_main_v116, Read.val_main_v115]

theorem tiles_eq : Read.val_main_v117 (F := Ideal) X G W = valueTiles (projIn X G W Q K).value := by
  funext i
  idx_vars i
  have e : Read.val_main_v117 (F := Ideal) X G W (ix3 i0 i1 i2) = Read.val_main_v112 (F := Ideal) X G W (ix4 i0 ⟨i1.val / 144, by omega⟩ ⟨i1.val % 144, by omega⟩ i2) := by
    pointwise [Read.val_main_v117, Read.val_main_v113]
  rw [e]
  unfold valueTiles Read.val_main_v112
  by_cases h : i1.val % 144 < 128
  · refine Eq.trans ?_ (if_pos h).symm
    refine (concatenate_pair_apply_left (t := S128x8x144x256) (2 : Fin 4) (Read.val_main_v110 (F := Ideal) X G W) (Read.val_main_v111 (F := Ideal)) _ (ix4 i0 ⟨i1.val / 144, by omega⟩ ⟨i1.val % 144, by omega⟩ i2) rfl
      (ix4 i0 ⟨i1.val / 144, by omega⟩ ⟨i1.val % 144, h⟩ i2) ?_).trans ?_
    · intro k; fin_cases k <;> simp
    · refine Eq.trans ?_ ((value_group X G W Q K ⟨i0.val / 8, by omega⟩ ⟨i0.val % 8 * 256 + i2.val, by omega⟩
        ⟨i1.val / 144, by omega⟩ ⟨i1.val % 144 % 128, by omega⟩))
      pointwise [Read.val_main_v110, Read.val_main_v109]
      all_goals exact congrArg (fun a => Read.val_main_v104 (F := Ideal) X G W (ix4 ⟨i0.val / 8, by omega⟩ ⟨i0.val % 8 * 256 + i2.val, by omega⟩ ⟨i1.val / 144, by omega⟩ a)) (Fin.ext (by simp; try omega))
  · refine Eq.trans ?_ (if_neg h).symm
    refine (concatenate_pair_apply_right (t := S128x8x144x256) (s₂ := S128x8x16x256) (2 : Fin 4) (Read.val_main_v110 (F := Ideal) X G W) (Read.val_main_v111 (F := Ideal)) _ (ix4 i0 ⟨i1.val / 144, by omega⟩ ⟨i1.val % 144, by omega⟩ i2) rfl rfl
      (ix4 i0 ⟨i1.val / 144, by omega⟩ ⟨i1.val % 144 - 128, by omega⟩ i2) ?_ ?_).trans ?_
    · intro k hk; fin_cases k <;> simp at hk ⊢
    · simp; omega
    · pointwise [Read.val_main_v111, Read.val_main_cst_13]

theorem cached_keys_eq : Read.val_main_v118 (F := Ideal) X G W K = pairGroups (projIn X G W Q K).turnedKey := by
  funext i
  idx_vars i
  unfold pairGroups
  refine Eq.trans ?_ (turned_key_ref X G W Q K i1 i2 i3 i4 i5)
  pointwise [Read.val_main_v118]

theorem cached_values_eq : Read.val_main_v119 (F := Ideal) X G W = headValues (projIn X G W Q K).value := by
  funext i
  idx_vars i
  unfold headValues
  refine Eq.trans ?_ (value_group X G W Q K i1 i2 i3 i4)
  pointwise [Read.val_main_v119]

end Cert.DiffProjRefIdeal.RefValue

end
-- ==== Proof.DiffRowsRef.lean ====
/-
  The reference of the differential mixer's projection of the sampled rows, read at its indices: the same queries, keys and values in
  the same layouts.
-/
module

public import proofs.«01_k».proof.Proof.RopeRowsBlock
public import proofs.«01_k».proof.Proof.DiffProjRef
public import proofs.«01_k».proof.Proof.Gen.DiffRowsRefIdeal.Run
public import proofs.«01_k».proof.Proof.Gen.DiffRowsRefIdeal.Read
public import Idealize.ShloMosaic.Lib.Pointwise

@[expose] public section

set_option maxRecDepth 16384

noncomputable section

open Idealize.ShloMosaic Idealize.ShloMosaic.TcCoe Idealize.SL.Sem

namespace Cert.DiffRowsRefIdeal.RefValue

open Cert.DiffRowsRefIdeal Cert.DiffRowsRefIdeal.Gen Cert.Layer
open Cert.DiffProjRefIdeal.RefValue (place norm_of_group turn_of_halves place_of)

variable (X : FVec Ideal S16x16x1024 .f32) (G : FVec Ideal S1024 .f32) (W : FVec Ideal S1024x3072 .f32) (Q K : FVec Ideal S64 .f32)

/-- The product of the normalised rows with the matrix. -/
theorem product_ref (b : Fin 16) (t : Fin 16) (f : Fin 3072) : Read.val_main_v16 (F := Ideal) X G W (ix3 b t f)
    = projected ((projIn X G W Q K).x b t) (projIn X G W Q K).g (projIn X G W Q K).w f := by
  unfold projected normRow projIn
  pointwise [Read.val_main_v16, Read.val_main_v12,
    Read.val_main_v11, Read.val_main_v10, Read.val_main_v9, Read.val_main_v8, Read.val_main_v7, Read.val_main_v6, Read.val_main_v5,
    Read.val_main_v4, Read.val_main_v3, Read.val_main_v2, Read.val_main_v1, Read.val_main_v0,
    Read.val_main_cst, Read.val_main_cst_0, Read.val_main_cst_1, zero_add]

/-- The three thirds, the first two in pairs of groups of 64, the last in heads of 128. -/
theorem query_group (b : Fin 16) (t : Fin 16) (h : Fin 8) (s : Fin 2) (l : Fin 64) : Read.val_main_v20 (F := Ideal) X G W (ix5 b t h s l)
    = third ((projIn X G W Q K).x b t) (projIn X G W Q K).g (projIn X G W Q K).w 0 (place h s l) := by
  refine Eq.trans ?_ (product_ref X G W Q K b t _)
  pointwise [Read.val_main_v20, Read.val_main_v17]
  all_goals exact congrArg (fun a => Read.val_main_v16 (F := Ideal) X G W (ix3 b t a)) (Fin.ext (by simp [place]; try omega))

theorem key_group (b : Fin 16) (t : Fin 16) (h : Fin 8) (s : Fin 2) (l : Fin 64) : Read.val_main_v63 (F := Ideal) X G W (ix5 b t h s l)
    = third ((projIn X G W Q K).x b t) (projIn X G W Q K).g (projIn X G W Q K).w 1 (place h s l) := by
  refine Eq.trans ?_ (product_ref X G W Q K b t _)
  pointwise [Read.val_main_v63, Read.val_main_v18]
  all_goals exact congrArg (fun a => Read.val_main_v16 (F := Ideal) X G W (ix3 b t a)) (Fin.ext (by simp [place]; try omega))

theorem value_group (b : Fin 16) (t : Fin 16) (h : Fin 8) (l : Fin 128) : Read.val_main_v106 (F := Ideal) X G W (ix4 b t h l)
    = (projIn X G W Q K).value b t ⟨h.val * 128 + l.val, by omega⟩ := by
  refine Eq.trans ?_ (product_ref X G W Q K b t _)
  pointwise [Read.val_main_v106, Read.val_main_v19]
  all_goals exact congrArg (fun a => Read.val_main_v16 (F := Ideal) X G W (ix3 b t a)) (Fin.ext (by simp))

/-- The normalised queries and keys. -/
theorem query_ref (b : Fin 16) (t : Fin 16) (h : Fin 8) (s : Fin 2) (l : Fin 64) : Read.val_main_v33 (F := Ideal) X G W Q (ix5 b t h s l)
    = (projIn X G W Q K).query b t (place h s l) := by
  refine Eq.trans ?_ (norm_of_group _ _ _ h s l (query_group X G W Q K b t h s))
  pointwise [Read.val_main_v33, Read.val_main_v32, Read.val_main_v31, Read.val_main_v30, Read.val_main_v29, Read.val_main_v28, Read.val_main_v27, Read.val_main_v26, Read.val_main_v25, Read.val_main_v24, Read.val_main_v23, Read.val_main_v22, Read.val_main_v21,
    Read.val_main_cst_2, Read.val_main_cst_3, Read.val_main_cst_4, zero_add]
  rfl

theorem key_ref (b : Fin 16) (t : Fin 16) (h : Fin 8) (s : Fin 2) (l : Fin 64) : Read.val_main_v76 (F := Ideal) X G W K (ix5 b t h s l)
    = (projIn X G W Q K).key b t (place h s l) := by
  refine Eq.trans ?_ (norm_of_group _ _ _ h s l (key_group X G W Q K b t h s))
  pointwise [Read.val_main_v76, Read.val_main_v75, Read.val_main_v74, Read.val_main_v73, Read.val_main_v72, Read.val_main_v71, Read.val_main_v70, Read.val_main_v69, Read.val_main_v68, Read.val_main_v67, Read.val_main_v66, Read.val_main_v65, Read.val_main_v64,
    Read.val_main_cst_7, Read.val_main_cst_8, Read.val_main_cst_9, zero_add]
  rfl

/-- The tables of cosines and sines. -/
theorem query_cos (t : Fin 16) (i : Fin 32) : Read.val_main_v46 (F := Ideal) (ix2 t i) = sampleCos t i := by
  pointwise [Read.val_main_v46, Read.val_main_v45, Read.val_main_v44, Read.val_main_v43, Read.val_main_v42, Read.val_main_v41, Read.val_main_v40, Read.val_main_v39, Read.val_main_v38, Read.val_main_v37, Read.val_main_v36, Read.val_main_v35, Read.val_main_v34, Read.val_main_v15, Read.val_main_v14, Read.val_main_v13, Read.val_main_c, Read.val_main_cst_5, Read.val_main_cst_6]
  rfl

theorem query_sin (t : Fin 16) (i : Fin 32) : Read.val_main_v48 (F := Ideal) (ix2 t i) = sampleSin t i := by
  pointwise [Read.val_main_v48, Read.val_main_v45, Read.val_main_v44, Read.val_main_v43, Read.val_main_v42, Read.val_main_v41, Read.val_main_v40, Read.val_main_v39, Read.val_main_v38, Read.val_main_v37, Read.val_main_v36, Read.val_main_v35, Read.val_main_v34, Read.val_main_v15, Read.val_main_v14, Read.val_main_v13, Read.val_main_c, Read.val_main_cst_5, Read.val_main_cst_6]
  rfl

theorem key_cos (t : Fin 16) (i : Fin 32) : Read.val_main_v89 (F := Ideal) (ix2 t i) = sampleCos t i := by
  pointwise [Read.val_main_v89, Read.val_main_v88, Read.val_main_v87, Read.val_main_v86, Read.val_main_v85, Read.val_main_v84, Read.val_main_v83, Read.val_main_v82, Read.val_main_v81, Read.val_main_v80, Read.val_main_v79, Read.val_main_v78, Read.val_main_v77, Read.val_main_v15, Read.val_main_v14, Read.val_main_v13, Read.val_main_c, Read.val_main_cst_10, Read.val_main_cst_11]
  rfl

theorem key_sin (t : Fin 16) (i : Fin 32) : Read.val_main_v91 (F := Ideal) (ix2 t i) = sampleSin t i := by
  pointwise [Read.val_main_v91, Read.val_main_v88, Read.val_main_v87, Read.val_main_v86, Read.val_main_v85, Read.val_main_v84, Read.val_main_v83, Read.val_main_v82, Read.val_main_v81, Read.val_main_v80, Read.val_main_v79, Read.val_main_v78, Read.val_main_v77, Read.val_main_v15, Read.val_main_v14, Read.val_main_v13, Read.val_main_c, Read.val_main_cst_10, Read.val_main_cst_11]
  rfl

/-- The turned queries and keys. -/
theorem turned_query_ref (b : Fin 16) (t : Fin 16) (h : Fin 8) (s : Fin 2) (l : Fin 64) : Read.val_main_v62 (F := Ideal) X G W Q (ix5 b t h s l)
    = (projIn X G W Q K).sampleQuery b t (place h s l) := by
  have lo : ∀ i : Fin 32, Read.val_main_v50 (F := Ideal) X G W Q (ix5 b t h s i) = (projIn X G W Q K).query b t (place h s ⟨i.val, by omega⟩) := fun i => by
    refine Eq.trans ?_ (query_ref X G W Q K b t h s ⟨i.val, by omega⟩)
    pointwise [Read.val_main_v50]
  have hi : ∀ i : Fin 32, Read.val_main_v51 (F := Ideal) X G W Q (ix5 b t h s i) = (projIn X G W Q K).query b t (place h s ⟨32 + i.val, by omega⟩) := fun i => by
    refine Eq.trans ?_ (query_ref X G W Q K b t h s ⟨32 + i.val, by omega⟩)
    pointwise [Read.val_main_v51]
  have c1 : ∀ i : Fin 32, Read.val_main_v52 (F := Ideal) (ix5 b t h s i) = sampleCos t i := fun i => by
    refine Eq.trans ?_ (query_cos t i)
    pointwise [Read.val_main_v52, Read.val_main_v47]
  have s1 : ∀ i : Fin 32, Read.val_main_v54 (F := Ideal) (ix5 b t h s i) = sampleSin t i := fun i => by
    refine Eq.trans ?_ (query_sin t i)
    pointwise [Read.val_main_v54, Read.val_main_v49]
  have c2 : ∀ i : Fin 32, Read.val_main_v57 (F := Ideal) (ix5 b t h s i) = sampleCos t i := fun i => by
    refine Eq.trans ?_ (query_cos t i)
    pointwise [Read.val_main_v57, Read.val_main_v47]
  have s2 : ∀ i : Fin 32, Read.val_main_v59 (F := Ideal) (ix5 b t h s i) = sampleSin t i := fun i => by
    refine Eq.trans ?_ (query_sin t i)
    pointwise [Read.val_main_v59, Read.val_main_v49]
  have d : ∀ i : Fin 32, Read.val_main_v56 (F := Ideal) X G W Q (ix5 b t h s i) = (projIn X G W Q K).sampleQuery b t (place h s ⟨i.val, by omega⟩) := fun i => by
    refine Eq.trans ?_ (turn_of_halves (sampleCos t) (sampleSin t) ((projIn X G W Q K).query b t) h s i).1
    rw [← lo, ← hi, ← c1 i, ← s1 i]
    rfl
  have a : ∀ i : Fin 32, Read.val_main_v61 (F := Ideal) X G W Q (ix5 b t h s i) = (projIn X G W Q K).sampleQuery b t (place h s ⟨32 + i.val, by omega⟩) := fun i => by
    refine Eq.trans ?_ (turn_of_halves (sampleCos t) (sampleSin t) ((projIn X G W Q K).query b t) h s i).2
    rw [← lo, ← hi, ← c2 i, ← s2 i]
    rfl
  unfold Read.val_main_v62
  by_cases hl : l.val < 32
  · refine (concatenate_pair_apply_left (t := S16x16x8x2x64) (4 : Fin 5) (Read.val_main_v56 (F := Ideal) X G W Q) (Read.val_main_v61 (F := Ideal) X G W Q) _
      (ix5 b t h s l) rfl (ix5 b t h s ⟨l.val, hl⟩) ?_).trans (d ⟨l.val, hl⟩)
    intro k; fin_cases k <;> rfl
  · refine (concatenate_pair_apply_right (t := S16x16x8x2x64) (s₂ := S16x16x8x2x32) (4 : Fin 5) (Read.val_main_v56 (F := Ideal) X G W Q) (Read.val_main_v61 (F := Ideal) X G W Q) _
      (ix5 b t h s l) rfl rfl (ix5 b t h s ⟨l.val - 32, by omega⟩) ?_ ?_).trans ((a ⟨l.val - 32, by omega⟩).trans
      (congrArg (fun l => (projIn X G W Q K).sampleQuery b t (place h s l)) (Fin.ext (by show 32 + (l.val - 32) = l.val; omega))))
    · intro k hk
      fin_cases k
      all_goals first | rfl | exact absurd rfl hk
    · show l.val - 32 + 32 = l.val
      omega

theorem turned_key_ref (b : Fin 16) (t : Fin 16) (h : Fin 8) (s : Fin 2) (l : Fin 64) : Read.val_main_v105 (F := Ideal) X G W K (ix5 b t h s l)
    = (projIn X G W Q K).sampleKey b t (place h s l) := by
  have lo : ∀ i : Fin 32, Read.val_main_v93 (F := Ideal) X G W K (ix5 b t h s i) = (projIn X G W Q K).key b t (place h s ⟨i.val, by omega⟩) := fun i => by
    refine Eq.trans ?_ (key_ref X G W Q K b t h s ⟨i.val, by omega⟩)
    pointwise [Read.val_main_v93]
  have hi : ∀ i : Fin 32, Read.val_main_v94 (F := Ideal) X G W K (ix5 b t h s i) = (projIn X G W Q K).key b t (place h s ⟨32 + i.val, by omega⟩) := fun i => by
    refine Eq.trans ?_ (key_ref X G W Q K b t h s ⟨32 + i.val, by omega⟩)
    pointwise [Read.val_main_v94]
  have c1 : ∀ i : Fin 32, Read.val_main_v95 (F := Ideal) (ix5 b t h s i) = sampleCos t i := fun i => by
    refine Eq.trans ?_ (key_cos t i)
    pointwise [Read.val_main_v95, Read.val_main_v90]
  have s1 : ∀ i : Fin 32, Read.val_main_v97 (F := Ideal) (ix5 b t h s i) = sampleSin t i := fun i => by
    refine Eq.trans ?_ (key_sin t i)
    pointwise [Read.val_main_v97, Read.val_main_v92]
  have c2 : ∀ i : Fin 32, Read.val_main_v100 (F := Ideal) (ix5 b t h s i) = sampleCos t i := fun i => by
    refine Eq.trans ?_ (key_cos t i)
    pointwise [Read.val_main_v100, Read.val_main_v90]
  have s2 : ∀ i : Fin 32, Read.val_main_v102 (F := Ideal) (ix5 b t h s i) = sampleSin t i := fun i => by
    refine Eq.trans ?_ (key_sin t i)
    pointwise [Read.val_main_v102, Read.val_main_v92]
  have d : ∀ i : Fin 32, Read.val_main_v99 (F := Ideal) X G W K (ix5 b t h s i) = (projIn X G W Q K).sampleKey b t (place h s ⟨i.val, by omega⟩) := fun i => by
    refine Eq.trans ?_ (turn_of_halves (sampleCos t) (sampleSin t) ((projIn X G W Q K).key b t) h s i).1
    rw [← lo, ← hi, ← c1 i, ← s1 i]
    rfl
  have a : ∀ i : Fin 32, Read.val_main_v104 (F := Ideal) X G W K (ix5 b t h s i) = (projIn X G W Q K).sampleKey b t (place h s ⟨32 + i.val, by omega⟩) := fun i => by
    refine Eq.trans ?_ (turn_of_halves (sampleCos t) (sampleSin t) ((projIn X G W Q K).key b t) h s i).2
    rw [← lo, ← hi, ← c2 i, ← s2 i]
    rfl
  unfold Read.val_main_v105
  by_cases hl : l.val < 32
  · refine (concatenate_pair_apply_left (t := S16x16x8x2x64) (4 : Fin 5) (Read.val_main_v99 (F := Ideal) X G W K) (Read.val_main_v104 (F := Ideal) X G W K) _
      (ix5 b t h s l) rfl (ix5 b t h s ⟨l.val, hl⟩) ?_).trans (d ⟨l.val, hl⟩)
    intro k; fin_cases k <;> rfl
  · refine (concatenate_pair_apply_right (t := S16x16x8x2x64) (s₂ := S16x16x8x2x32) (4 : Fin 5) (Read.val_main_v99 (F := Ideal) X G W K) (Read.val_main_v104 (F := Ideal) X G W K) _
      (ix5 b t h s l) rfl rfl (ix5 b t h s ⟨l.val - 32, by omega⟩) ?_ ?_).trans ((a ⟨l.val - 32, by omega⟩).trans
      (congrArg (fun l => (projIn X G W Q K).sampleKey b t (place h s l)) (Fin.ext (by show 32 + (l.val - 32) = l.val; omega))))
    · intro k hk
      fin_cases k
      all_goals first | rfl | exact absurd rfl hk
    · show l.val - 32 + 32 = l.val
      omega

/-- The five results. -/
theorem queries_eq : Read.val_main_v110 (F := Ideal) X G W Q = sampleRows (fun b t f => (projIn X G W Q K).sampleQuery b t f * queryScale) := by
  funext i
  idx_vars i
  unfold sampleRows
  refine Eq.trans ?_ (congrArg (· * queryScale) ((turned_query_ref X G W Q K ⟨i0.val / 16, by omega⟩ ⟨i0.val % 16, by omega⟩ _ _ _).trans
    (congrArg ((projIn X G W Q K).sampleQuery _ _) (place_of i1))))
  pointwise [Read.val_main_v110, Read.val_main_v109, Read.val_main_v108, Read.val_main_v107, Read.val_main_cst_12]

theorem keys_eq : Read.val_main_v112 (F := Ideal) X G W K = sampleRows (projIn X G W Q K).sampleKey := by
  funext i
  idx_vars i
  unfold sampleRows
  refine Eq.trans ?_ ((turned_key_ref X G W Q K ⟨i0.val / 16, by omega⟩ ⟨i0.val % 16, by omega⟩ _ _ _).trans
    (congrArg ((projIn X G W Q K).sampleKey _ _) (place_of i1)))
  pointwise [Read.val_main_v112, Read.val_main_v111]

theorem values_eq : Read.val_main_v114 (F := Ideal) X G W = sampleRows (projIn X G W Q K).value := by
  funext i
  idx_vars i
  unfold sampleRows
  refine Eq.trans ?_ ((value_group X G W Q K ⟨i0.val / 16, by omega⟩ ⟨i0.val % 16, by omega⟩ ⟨i1.val / 128, by omega⟩ ⟨i1.val % 128, by omega⟩).trans
    (congrArg ((projIn X G W Q K).value _ _) (Fin.ext (by show i1.val / 128 * 128 + i1.val % 128 = i1.val; omega))))
  pointwise [Read.val_main_v114, Read.val_main_v113]

theorem cached_keys_eq : Read.val_main_v105 (F := Ideal) X G W K = samplePairs (projIn X G W Q K).sampleKey := by
  funext i
  idx_vars i
  exact turned_key_ref X G W Q K i0 i1 i2 i3 i4

theorem cached_values_eq : Read.val_main_v106 (F := Ideal) X G W = sampleHeads (projIn X G W Q K).value := by
  funext i
  idx_vars i
  exact value_group X G W Q K i0 i1 i2 i3

end Cert.DiffRowsRefIdeal.RefValue

end
-- ==== Proof.DiffRowsClaims.lean ====
/-
  The claims about the differential mixer's projection of the sampled rows: the frames of the kernel and of its two idealized programs, and that
  the kernel over the reals computes what the reference computes.
-/
module

public import proofs.«01_k».proof.Proof.DiffRowsValue
public import proofs.«01_k».proof.Proof.DiffRowsRef
public import proofs.«01_k».proof.Proof.Gen.DiffRows.Frame
public import Idealize.ShloMosaic.Lib.Quiescent

@[expose] public section

noncomputable section

open Idealize.ShloMosaic Idealize.ShloMosaic.TcCoe Idealize.SL.Sem

namespace Cert.Proof.DiffRowsClaims

open Cert.DiffRowsIdeal.RefValue Cert.DiffRowsRefIdeal.RefValue Cert.Layer

/-- The frames: every run ends, leaves the arguments as they were and no semaphore raised. -/
theorem frame_k : Cert.quiescent_DiffRows := fun m ρ _ => Cert.DiffRows.Gen.frame m ρ
theorem frame_i : Cert.quiescent_DiffRowsIdeal := fun m ρ _ => Cert.DiffRowsIdeal.Gen.frame m ρ
theorem frame_r : Cert.quiescent_DiffRowsRefIdeal := fun m ρ _ =>
  (θ_run Cert.DiffRowsRefIdeal.defs _ _).mono
    (fun r h => ⟨fun c => (h c).2.2.2.2.2, Idealize.ShloMosaic.sem_eq_zero_of_no_sems (by decide) r.2⟩)
    (Cert.DiffRowsRefIdeal.Value.run (F := Ideal) m ρ)

/-- The kernel and the reference compute the same function of the same arguments. -/
theorem algebraic : Cert.algebraic_DiffRowsIdeal_DiffRowsRefIdeal := by
  intro m ρ m' ρ' _ hag
  refine ⟨fun c => sampleRows fun b t f => (inp m c).sampleQuery b t f * queryScale, fun c => sampleRows (inp m c).sampleKey, fun c => sampleRows (inp m c).value,
    fun c => samplePairs (inp m c).sampleKey, fun c => sampleHeads (inp m c).value, ?_, ?_⟩
  · exact (θ_run Cert.DiffRowsIdeal.defs _ _).mono
      (fun _ h c => ⟨(h.1 c).1, (h.1 c).2.1, (h.1 c).2.2.1, (h.1 c).2.2.2.1, (h.1 c).2.2.2.2, h.2 c⟩)
      (θ_run_and (run m ρ) (Cert.DiffRowsIdeal.Gen.unchanged (F := Ideal) m ρ))
  · refine (θ_run Cert.DiffRowsRefIdeal.defs _ _).mono (fun _ h c => ?_)
      (Cert.DiffRowsRefIdeal.Value.run (F := Ideal) m' ρ')
    obtain ⟨e0, e1, e2, e3, e4⟩ := hag c
    have es : projIn (m' ((c.tc : Thread Cert.DiffRowsRefIdeal.nD Cert.DiffRowsRefIdeal.τ).loc Cert.DiffRowsRefIdeal.main_arg0)) (m' ((c.tc : Thread Cert.DiffRowsRefIdeal.nD Cert.DiffRowsRefIdeal.τ).loc Cert.DiffRowsRefIdeal.main_arg1)) (m' ((c.tc : Thread Cert.DiffRowsRefIdeal.nD Cert.DiffRowsRefIdeal.τ).loc Cert.DiffRowsRefIdeal.main_arg2)) (m' ((c.tc : Thread Cert.DiffRowsRefIdeal.nD Cert.DiffRowsRefIdeal.τ).loc Cert.DiffRowsRefIdeal.main_arg3)) (m' ((c.tc : Thread Cert.DiffRowsRefIdeal.nD Cert.DiffRowsRefIdeal.τ).loc Cert.DiffRowsRefIdeal.main_arg4)) = inp m c := by
      rw [e0, e1, e2, e3, e4]
      rfl
    refine ⟨(h c).1.trans ?_, (h c).2.1.trans ?_, (h c).2.2.1.trans ?_, (h c).2.2.2.1.trans ?_, (h c).2.2.2.2.1.trans ?_, (h c).2.2.2.2.2⟩
    · rw [Cert.DiffRowsRefIdeal.Read.val_main_v110_eq, queries_eq _ _ _ _ (m' ((c.tc : Thread Cert.DiffRowsRefIdeal.nD Cert.DiffRowsRefIdeal.τ).loc Cert.DiffRowsRefIdeal.main_arg4))]
      exact congrArg (fun I : ProjIn 16 => (sampleRows fun b t f => I.sampleQuery b t f * queryScale)) es
    · rw [Cert.DiffRowsRefIdeal.Read.val_main_v112_eq, keys_eq _ _ _ (m' ((c.tc : Thread Cert.DiffRowsRefIdeal.nD Cert.DiffRowsRefIdeal.τ).loc Cert.DiffRowsRefIdeal.main_arg3))]
      exact congrArg (fun I : ProjIn 16 => sampleRows I.sampleKey) es
    · rw [Cert.DiffRowsRefIdeal.Read.val_main_v114_eq, values_eq _ _ _ (m' ((c.tc : Thread Cert.DiffRowsRefIdeal.nD Cert.DiffRowsRefIdeal.τ).loc Cert.DiffRowsRefIdeal.main_arg3)) (m' ((c.tc : Thread Cert.DiffRowsRefIdeal.nD Cert.DiffRowsRefIdeal.τ).loc Cert.DiffRowsRefIdeal.main_arg4))]
      exact congrArg (fun I : ProjIn 16 => sampleRows I.value) es
    · rw [Cert.DiffRowsRefIdeal.Read.val_main_v105_eq, cached_keys_eq _ _ _ (m' ((c.tc : Thread Cert.DiffRowsRefIdeal.nD Cert.DiffRowsRefIdeal.τ).loc Cert.DiffRowsRefIdeal.main_arg3))]
      exact congrArg (fun I : ProjIn 16 => samplePairs I.sampleKey) es
    · rw [Cert.DiffRowsRefIdeal.Read.val_main_v106_eq, cached_values_eq _ _ _ (m' ((c.tc : Thread Cert.DiffRowsRefIdeal.nD Cert.DiffRowsRefIdeal.τ).loc Cert.DiffRowsRefIdeal.main_arg3)) (m' ((c.tc : Thread Cert.DiffRowsRefIdeal.nD Cert.DiffRowsRefIdeal.τ).loc Cert.DiffRowsRefIdeal.main_arg4))]
      exact congrArg (fun I : ProjIn 16 => sampleHeads I.value) es

end Cert.Proof.DiffRowsClaims

end
-- ==== Proof.DiffProjBlock.lean ====
/-
  What the body of the differential mixer's projection adds to the band mixer's: each normalised group of 64 features is turned by
  the angles of its positions before it is stored.
-/
module

public import proofs.«01_k».proof.Proof.RopeMath
public import proofs.«01_k».proof.Proof.BandProjBlock
public import proofs.«01_k».proof.Proof.Gen.DiffProjIdeal.Skeleton
public import Idealize.ShloMosaic.Lib.Pipeline.ValueKit

@[expose] public section

set_option maxRecDepth 16384

noncomputable section

open Idealize.ShloMosaic Idealize.ShloMosaic.TcCoe Idealize.SL.Sem

namespace Cert.DiffProjIdeal.RefValue

open Cert.DiffProjIdeal Cert.DiffProjIdeal.Gen Cert.Layer
open Cert.BandProjIdeal.RefValue (group)

/-- A group turned by the angles with cosines `cs` and sines `sn`. -/
def turned (u : FVec Ideal S64x512 .f32) (cs sn : Vec Ideal S32x512 .f32) : FVec Ideal S64x512 .f32 :=
  have c : FVec Ideal S32x512 .f32 := shapeCast S32x512 cs shapeCasts_S32x512_S32x512
  have s : FVec Ideal S32x512 .f32 := shapeCast S32x512 sn shapeCasts_S32x512_S32x512
  have lo : FVec Ideal S32x512 .f32 := extractStridedSlice S32x512 ![0, 0] u slices_S64x512_o0_0_S32x512
  have hi : FVec Ideal S32x512 .f32 := extractStridedSlice S32x512 ![32, 0] u slices_S64x512_o32_0_S32x512
  concatenate S64x512 0 [⟨S32x512, subf (mulf lo c) (mulf hi s)⟩, ⟨S32x512, addf (mulf hi c) (mulf lo s)⟩]
    concatenates_S32x512_S32x512_S64x512_d0

theorem turned_apply (u : FVec Ideal S64x512 .f32) (cs sn : Vec Ideal S32x512 .f32) (i : Fin 64) (r : Fin 512) :
    turned u cs sn (ix2 i r) = if i.val < 32
      then u (ix2 i r) * cs (ix2 ⟨i.val % 32, by omega⟩ r) - u (ix2 ⟨(i.val + 32) % 64, by omega⟩ r) * sn (ix2 ⟨i.val % 32, by omega⟩ r)
      else u (ix2 i r) * cs (ix2 ⟨i.val % 32, by omega⟩ r) + u (ix2 ⟨(i.val + 32) % 64, by omega⟩ r) * sn (ix2 ⟨i.val % 32, by omega⟩ r) := by
  have p0 : ∀ (j : Fin 32) (k : Fin 64), k.val = j.val →
      extractStridedSlice S32x512 ![0, 0] u slices_S64x512_o0_0_S32x512 (ix2 j r) = u (ix2 k r) := by
    intro j k h
    pointwise
    exact congrArg (fun a => u (ix2 a r)) (Fin.ext (by simp [h]))
  have p1 : ∀ (j : Fin 32) (k : Fin 64), k.val = 32 + j.val →
      extractStridedSlice S32x512 ![32, 0] u slices_S64x512_o32_0_S32x512 (ix2 j r) = u (ix2 k r) := by
    intro j k h
    pointwise
    exact congrArg (fun a => u (ix2 a r)) (Fin.ext (by simp [h]))
  have pc : ∀ (v : Vec Ideal S32x512 .f32) (j : Fin 32), shapeCast S32x512 v shapeCasts_S32x512_S32x512 (ix2 j r) = v (ix2 j r) := by
    intro v j
    pointwise
  by_cases h : i.val < 32
  · rw [if_pos h]
    unfold turned
    refine (concatenate_pair_apply_left (t := S64x512) (0 : Fin 2)
      (subf (mulf (extractStridedSlice S32x512 ![0, 0] u slices_S64x512_o0_0_S32x512) (shapeCast S32x512 cs shapeCasts_S32x512_S32x512))
        (mulf (extractStridedSlice S32x512 ![32, 0] u slices_S64x512_o32_0_S32x512) (shapeCast S32x512 sn shapeCasts_S32x512_S32x512)))
      (addf (mulf (extractStridedSlice S32x512 ![32, 0] u slices_S64x512_o32_0_S32x512) (shapeCast S32x512 cs shapeCasts_S32x512_S32x512))
        (mulf (extractStridedSlice S32x512 ![0, 0] u slices_S64x512_o0_0_S32x512) (shapeCast S32x512 sn shapeCasts_S32x512_S32x512)))
      _ (ix2 i r) rfl (ix2 ⟨i.val % 32, by omega⟩ r) ?_).trans ?_
    · intro k; fin_cases k
      · show i.val % 32 = i.val
        omega
      · rfl
    · show _ * _ - _ * _ = _
      rw [p0 _ i (by show i.val = i.val % 32; omega), p1 _ ⟨(i.val + 32) % 64, by omega⟩ (by show (i.val + 32) % 64 = 32 + i.val % 32; omega), pc, pc]
  · rw [if_neg h]
    unfold turned
    refine (concatenate_pair_apply_right (t := S64x512) (s₂ := S32x512) (0 : Fin 2)
      (subf (mulf (extractStridedSlice S32x512 ![0, 0] u slices_S64x512_o0_0_S32x512) (shapeCast S32x512 cs shapeCasts_S32x512_S32x512))
        (mulf (extractStridedSlice S32x512 ![32, 0] u slices_S64x512_o32_0_S32x512) (shapeCast S32x512 sn shapeCasts_S32x512_S32x512)))
      (addf (mulf (extractStridedSlice S32x512 ![32, 0] u slices_S64x512_o32_0_S32x512) (shapeCast S32x512 cs shapeCasts_S32x512_S32x512))
        (mulf (extractStridedSlice S32x512 ![0, 0] u slices_S64x512_o0_0_S32x512) (shapeCast S32x512 sn shapeCasts_S32x512_S32x512)))
      _ (ix2 i r) rfl rfl (ix2 ⟨i.val % 32, by omega⟩ r) ?_ ?_).trans ?_
    · intro k hk; fin_cases k
      · exact absurd rfl hk
      · rfl
    · show i.val % 32 + 32 = i.val
      omega
    · show _ * _ + _ * _ = _
      rw [p1 _ i (by show i.val = 32 + i.val % 32; omega), p0 _ ⟨(i.val + 32) % 64, by omega⟩ (by show (i.val + 32) % 64 = i.val % 32; omega), pc, pc]

/-- The block of keys a group ends as, and the block of queries: scaled, rounded and given a leading axis. -/
def keyTurn (a : ℕ) (h : S256x512.Slices ![a, 0] S64x512) (p : FVec Ideal S256x512 .f32) (g : Vec Ideal S64x512 .f32)
    (cs sn : Vec Ideal S32x512 .f32) : FVec Ideal S64x512 .f32 := shapeCast S64x512 (turned (group a h p g) cs sn) shapeCasts_S64x512_S64x512
def queryTurn (a : ℕ) (h : S256x512.Slices ![a, 0] S64x512) (p : FVec Ideal S256x512 .f32) (g : Vec Ideal S64x512 .f32)
    (cs sn : Vec Ideal S32x512 .f32) : FVec Ideal S1x64x512 .bf16 :=
  shapeCast S1x64x512 (truncf .bf16 (mulf (turned (group a h p g) cs sn) (broadcast S64x512 (Scalar.ofBits .f32 0x3E38AA3B#32))) bitsLt_bf16_f32)
    shapeCasts_S64x512_S1x64x512

section Tile

/- The block's rows `xr`, the gains, the matrix and the angles' tables the inputs hold. -/
variable (x0 : Vec Ideal S512x1024 .f32) (x1 : Vec Ideal S1x1024 .f32) (x2 : Vec Ideal S3072x1024 .bf16) (x3 : Vec Ideal S1024x512 .f32)
  (x5 x6 : Vec Ideal S32x512 .f32)
  (xr : Fin 512 → Fin 1024 → EReal) (g : Fin 1024 → EReal) (w : Fin 1024 → Fin 3072 → EReal) (gain : Fin 64 → EReal)
  (cs sn : Fin 512 → Fin 32 → EReal)
  (h0 : ∀ r k, x0 (ix2 r k) = xr r k) (h1 : ∀ k, x1 (ix2 0 k) = g k) (h2 : ∀ f k, x2 (ix2 f k) = w k f)
  (h3 : ∀ f r, x3 (ix2 f r) = gain (groupPlace f)) (h5 : ∀ i r, x5 (ix2 i r) = cs r i) (h6 : ∀ i r, x6 (ix2 i r) = sn r i)

include h0 h1 h2 h3 h5 h6

/-- A turned group of features from `f` on, in third `n` of the product. -/
theorem turned_tile (n : Fin 3) (a o f : ℕ) (ha : a + 64 ≤ 256) (ho : o + a = n.val * 1024 + f) (hf : f % 64 = 0) (hf' : f + 64 ≤ 1024) (hs inb inb')
    (i : Fin 64) (r : Fin 512) :
    turned (group a hs (k0_pay28 (F := Ideal) (k0_pay2 x0 x1) (View.ld (Val := Elt Ideal) (e' := .bf16) x2 (Rect.unit (s := S3072x1024) ![o, 0] ![256, 1024] inb)))
        (View.ld (Val := Elt Ideal) (e' := .f32) x3 (Rect.unit (s := S1024x512) ![f, 0] ![64, 512] inb'))) x5 x6 (ix2 i r)
      = turn (cs r) (sn r) (groupNorm (third (xr r) g w n) gain) ⟨f + i.val, by omega⟩ := by
  have e : ∀ i : Fin 64, group a hs (k0_pay28 (F := Ideal) (k0_pay2 x0 x1) (View.ld (Val := Elt Ideal) (e' := .bf16) x2 (Rect.unit (s := S3072x1024) ![o, 0] ![256, 1024] inb)))
        (View.ld (Val := Elt Ideal) (e' := .f32) x3 (Rect.unit (s := S1024x512) ![f, 0] ![64, 512] inb')) (ix2 i r)
      = groupNorm (third (xr r) g w n) gain ⟨f + i.val, by omega⟩ := fun i =>
    Cert.BandProjIdeal.RefValue.group_tile x0 x1 x2 x3 xr g w gain h0 h1 h2 h3 n a o f ha ho hf hf' hs inb inb' i r
  have ep : pairOf ⟨f + i.val, by omega⟩ = ⟨i.val % 32, by omega⟩ := Fin.ext (by show (f + i.val) % 32 = i.val % 32; omega)
  have er : ropePartner ⟨f + i.val, by omega⟩ = ⟨f + (i.val + 32) % 64, by omega⟩ :=
    Fin.ext (by show (f + i.val) / 64 * 64 + ((f + i.val) % 64 + 32) % 64 = f + (i.val + 32) % 64; omega)
  rw [turned_apply, e, e, h5, h6]
  unfold turn
  rw [ep, er]
  exact if_congr (by show i.val < 32 ↔ (f + i.val) % 64 < 32; omega) rfl rfl

theorem key_tile (n : Fin 3) (a o f : ℕ) (ha : a + 64 ≤ 256) (ho : o + a = n.val * 1024 + f) (hf : f % 64 = 0) (hf' : f + 64 ≤ 1024) (hs inb inb')
    (y : S64x512.Idx) :
    keyTurn a hs (k0_pay28 (F := Ideal) (k0_pay2 x0 x1) (View.ld (Val := Elt Ideal) (e' := .bf16) x2 (Rect.unit (s := S3072x1024) ![o, 0] ![256, 1024] inb)))
        (View.ld (Val := Elt Ideal) (e' := .f32) x3 (Rect.unit (s := S1024x512) ![f, 0] ![64, 512] inb')) x5 x6 y
      = (fun z : S1024x512.Idx => turn (cs (z 1)) (sn (z 1)) (groupNorm (third (xr (z 1)) g w n) gain) (z 0))
          ((Rect.unit (s := S1024x512) ![f, 0] ![64, 512] inb').emb y) := by
  idx_vars y
  unfold keyTurn
  pointwise
  refine (turned_tile x0 x1 x2 x3 x5 x6 xr g w gain cs sn h0 h1 h2 h3 h5 h6 n a o f ha ho hf hf' hs inb inb' y0 y1).trans ?_
  refine congrArg₂ (fun r f => turn (cs r) (sn r) (groupNorm (third (xr r) g w n) gain) f) (Fin.ext ?_) (Fin.ext ?_) <;> simp [Rect.emb, Rect.unit]

theorem query_tile (n : Fin 3) (a o f : ℕ) (ha : a + 64 ≤ 256) (ho : o + a = n.val * 1024 + f) (hf : f % 64 = 0) (hf' : f + 64 ≤ 1024) (hs inb inb' inb'')
    (y : S1x64x512.Idx) :
    queryTurn a hs (k0_pay28 (F := Ideal) (k0_pay2 x0 x1) (View.ld (Val := Elt Ideal) (e' := .bf16) x2 (Rect.unit (s := S3072x1024) ![o, 0] ![256, 1024] inb)))
        (View.ld (Val := Elt Ideal) (e' := .f32) x3 (Rect.unit (s := S1024x512) ![f, 0] ![64, 512] inb')) x5 x6 y
      = (fun z : S1x1024x512.Idx => turn (cs (z 2)) (sn (z 2)) (groupNorm (third (xr (z 2)) g w n) gain) (z 1) * queryScale)
          ((Rect.unit (s := S1x1024x512) ![0, f, 0] ![1, 64, 512] inb'').emb y) := by
  idx_vars y
  unfold queryTurn
  pointwise
  refine congrArg (· * queryScale) ((turned_tile x0 x1 x2 x3 x5 x6 xr g w gain cs sn h0 h1 h2 h3 h5 h6 n a o f ha ho hf hf' hs inb inb' y1 y2).trans ?_)
  refine congrArg₂ (fun r f => turn (cs r) (sn r) (groupNorm (third (xr r) g w n) gain) f) (Fin.ext ?_) (Fin.ext ?_) <;> simp [Rect.emb, Rect.unit]

end Tile

end Cert.DiffProjIdeal.RefValue

end
-- ==== Proof.DiffProjValue.lean ====
/-
  What the differential mixer's projection on the prompt reads at each grid point, and the queries it stores: normalised, turned
  by their positions, scaled, feature by feature.
-/
module

public import proofs.«01_k».proof.Proof.DiffProjBlock
public import proofs.«01_k».proof.Proof.Gen.DiffProjIdeal.Frame
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.DiffProjIdeal.RefValue

open Cert.DiffProjIdeal Cert.DiffProjIdeal.Gen Cert.Layer

variable (m : (ℓ : Loc nD τ sig) → Buf (Elt Ideal) ℓ) (c : Dev nD) (t : Fin cfg0.N)

/-- Where each window's block sits, at every grid point. -/
theorem idx_val : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, t.val % 4] ∧ win0_6.index t = ![0, t.val % 4]
    ∧ win0_7.index t = ![t.val / 4, 0, t.val % 4] ∧ win0_8.index t = ![t.val, 0]
    ∧ win0_9.index t = ![t.val, 0, 0] ∧ win0_10.index t = ![0, t.val / 4, 0, t.val % 4] ∧ win0_11.index t = ![0, t.val, 0] :=
  (by decide +kernel : ∀ t : Fin grid0.N, _)

/-- The call's arguments. -/
def inp : ProjIn 2048 := projIn (m ((c : Thread nD τ).loc main_arg0)) (m ((c : Thread nD τ).loc main_arg1))
  (m ((c : Thread nD τ).loc main_arg2)) (m ((c : Thread nD τ).loc main_arg3)) (m ((c : Thread nD τ).loc main_arg4))

theorem pt_lt : t.val < 64 := lt_of_lt_of_eq t.isLt N_0

/-- The sequence a grid point works on, and the position of row `r` of its block. -/
def seqOf : Fin 16 := ⟨t.val / 4, by have := pt_lt t; omega⟩
def posOf (r : Fin 512) : Fin 2048 := ⟨t.val % 4 * 512 + r.val, by omega⟩

theorem blk0 (r : Fin 512) (k : Fin 1024) : iblk m c 0 t (ix2 r k) = (inp m c).x (seqOf t) (posOf t r) k := by
  have e : iblk m c 0 t (ix2 r k) = V m c main_v0 (ix2 ⟨t.val * 512 + r.val, by have := pt_lt t; omega⟩ k) := by
    blk_simp [iblk]
    blk_ext [idx_val t]
  rw [e]
  unfold V V0
  simp only [List.flatten_cons, List.flatten_nil, List.append_nil, hostOps0]
  after_results_simp
  pointwise
  show _ = m ((c : Thread nD τ).loc main_arg0) (ix3 (seqOf t) (posOf t r) k)
  refine congrArg₂ (fun a b => m ((c : Thread nD τ).loc main_arg0) (ix3 a b k)) (Fin.ext ?_) (Fin.ext ?_)
  · show (t.val * 512 + r.val) / 2048 = t.val / 4
    omega
  · show (t.val * 512 + r.val) % 2048 = t.val % 4 * 512 + r.val
    omega

theorem blk1 (k : Fin 1024) : iblk m c 1 t (ix2 0 k) = (inp m c).g k := by
  blk_simp [iblk]
  unfold V V0
  simp only [List.flatten_cons, List.flatten_nil, List.append_nil, hostOps0]
  after_results_simp
  pointwise
  show _ = m ((c : Thread nD τ).loc main_arg1) (ix1 k)
  blk_ext [idx_val t]

theorem blk2 (f : Fin 3072) (k : Fin 1024) : iblk m c 2 t (ix2 f k) = (inp m c).w k f := by
  blk_simp [iblk]
  unfold V V0
  simp only [List.flatten_cons, List.flatten_nil, List.append_nil, hostOps0]
  after_results_simp
  pointwise
  show _ = m ((c : Thread nD τ).loc main_arg2) (ix2 k f)
  blk_ext [idx_val t]

theorem blk3 (f : Fin 1024) (r : Fin 512) : iblk m c 3 t (ix2 f r) = (inp m c).qg (groupPlace f) := by
  have e : iblk m c 3 t (ix2 f r) = V m c main_v9 (ix2 f r) := by
    blk_simp [iblk]
    blk_ext [idx_val t]
  rw [e]
  unfold V V0
  simp only [List.flatten_cons, List.flatten_nil, List.append_nil, hostOps0]
  after_results_simp
  pointwise
  rfl

theorem blk4 (f : Fin 1024) (r : Fin 512) : iblk m c 4 t (ix2 f r) = (inp m c).kg (groupPlace f) := by
  have e : iblk m c 4 t (ix2 f r) = V m c main_v15 (ix2 f r) := by
    blk_simp [iblk]
    blk_ext [idx_val t]
  rw [e]
  unfold V V0
  simp only [List.flatten_cons, List.flatten_nil, List.append_nil, hostOps0]
  after_results_simp
  pointwise
  rfl

/-- The tables of cosines and sines at a block's positions. -/
theorem blk5 (i : Fin 32) (r : Fin 512) : iblk m c 5 t (ix2 i r) = ropeCos (posOf t r) i := by
  have e : iblk m c 5 t (ix2 i r) = V m c main_v30 (ix2 i (posOf t r)) := by
    blk_simp [iblk]
    blk_ext [idx_val t, posOf]
  rw [e]
  unfold V V0
  simp only [List.flatten_cons, List.flatten_nil, List.append_nil, hostOps0]
  after_results_simp
  pointwise
  rfl

theorem blk6 (i : Fin 32) (r : Fin 512) : iblk m c 6 t (ix2 i r) = ropeSin (posOf t r) i := by
  have e : iblk m c 6 t (ix2 i r) = V m c main_v31 (ix2 i (posOf t r)) := by
    blk_simp [iblk]
    blk_ext [idx_val t, posOf]
  rw [e]
  unfold V V0
  simp only [List.flatten_cons, List.flatten_nil, List.append_nil, hostOps0]
  after_results_simp
  pointwise
  rfl

/-- The rows of the block at a grid point, and the cosines and sines of its positions. -/
abbrev xr (r : Fin 512) : Fin 1024 → EReal := (inp m c).x (seqOf t) (posOf t r)
abbrev cosOf (r : Fin 512) : Fin 32 → EReal := ropeCos (posOf t r)
abbrev sinOf (r : Fin 512) : Fin 32 → EReal := ropeSin (posOf t r)

set_option maxHeartbeats 1000000 in
/-- The queries a point stores. -/
theorem point_q (z : S1x1024x512.Idx) : (dats m 0 c).after 7 t z = (inp m c).turnedQuery (seqOf t) (posOf t (z 2)) (z 1) * queryScale := by
  show _ = turn (cosOf t (z 2)) (sinOf t (z 2)) (groupNorm (third (xr m c t (z 2)) (inp m c).g (inp m c).w 0) (inp m c).qg) (z 1) * queryScale
  have b0 : ∀ r k, iblk m c 0 t (ix2 r k) = xr m c t r k := blk0 m c t
  have b1 := blk1 m c t
  have b2 := blk2 m c t
  have b3 := blk3 m c t
  have b5 : ∀ i r, iblk m c 5 t (ix2 i r) = cosOf t r i := blk5 m c t
  have b6 : ∀ i r, iblk m c 6 t (ix2 i r) = sinOf t r i := blk6 m c t
  rw [after0_7]
  unfold outsAt0
  frame_out
  generalize iblk m c 0 t = x0 at b0 ⊢
  generalize iblk m c 1 t = x1 at b1 ⊢
  generalize iblk m c 2 t = x2 at b2 ⊢
  generalize iblk m c 3 t = x3 at b3 ⊢
  generalize iblk m c 5 t = x5 at b5 ⊢
  generalize iblk m c 6 t = x6 at b6 ⊢
  generalize xr m c t = xr at b0 ⊢
  generalize cosOf t = cs at b5 ⊢
  generalize sinOf t = sn at b6 ⊢
  generalize (inp m c).g = g at b1 ⊢
  generalize (inp m c).w = w at b2 ⊢
  generalize (inp m c).qg = gain at b3 ⊢
  refine (View.canon_apply_of_pieces (fun z : S1x1024x512.Idx => turn (cs (z 2)) (sn (z 2)) (groupNorm (third (xr (z 2)) g w 0) gain) (z 1) * queryScale) _ ?_ _
    (View.cover_of_tiled _ ![1, 64, 512] (by rfl) _)).trans rfl
  have q := query_tile x0 x1 x2 x3 x5 x6 xr g w gain cs sn b0 b1 b2 b3 b5 b6 0
  refine List.forall_mem_cons.2 ⟨q 192 768 960 (by decide) rfl rfl (by decide) (by decide) (by decide) (by decide) (by decide), ?_⟩
  refine List.forall_mem_cons.2 ⟨q 128 768 896 (by decide) rfl rfl (by decide) (by decide) (by decide) (by decide) (by decide), ?_⟩
  refine List.forall_mem_cons.2 ⟨q 64 768 832 (by decide) rfl rfl (by decide) (by decide) (by decide) (by decide) (by decide), ?_⟩
  refine List.forall_mem_cons.2 ⟨q 0 768 768 (by decide) rfl rfl (by decide) (by decide) (by decide) (by decide) (by decide), ?_⟩
  refine List.forall_mem_cons.2 ⟨q 192 512 704 (by decide) rfl rfl (by decide) (by decide) (by decide) (by decide) (by decide), ?_⟩
  refine List.forall_mem_cons.2 ⟨q 128 512 640 (by decide) rfl rfl (by decide) (by decide) (by decide) (by decide) (by decide), ?_⟩
  refine List.forall_mem_cons.2 ⟨q 64 512 576 (by decide) rfl rfl (by decide) (by decide) (by decide) (by decide) (by decide), ?_⟩
  refine List.forall_mem_cons.2 ⟨q 0 512 512 (by decide) rfl rfl (by decide) (by decide) (by decide) (by decide) (by decide), ?_⟩
  refine List.forall_mem_cons.2 ⟨q 192 256 448 (by decide) rfl rfl (by decide) (by decide) (by decide) (by decide) (by decide), ?_⟩
  refine List.forall_mem_cons.2 ⟨q 128 256 384 (by decide) rfl rfl (by decide) (by decide) (by decide) (by decide) (by decide), ?_⟩
  refine List.forall_mem_cons.2 ⟨q 64 256 320 (by decide) rfl rfl (by decide) (by decide) (by decide) (by decide) (by decide), ?_⟩
  refine List.forall_mem_cons.2 ⟨q 0 256 256 (by decide) rfl rfl (by decide) (by decide) (by decide) (by decide) (by decide), ?_⟩
  refine List.forall_mem_cons.2 ⟨q 192 0 192 (by decide) rfl rfl (by decide) (by decide) (by decide) (by decide) (by decide), ?_⟩
  refine List.forall_mem_cons.2 ⟨q 128 0 128 (by decide) rfl rfl (by decide) (by decide) (by decide) (by decide) (by decide), ?_⟩
  refine List.forall_mem_cons.2 ⟨q 64 0 64 (by decide) rfl rfl (by decide) (by decide) (by decide) (by decide) (by decide), ?_⟩
  refine List.forall_mem_cons.2 ⟨q 0 0 0 (by decide) rfl rfl (by decide) (by decide) (by decide) (by decide) (by decide), ?_⟩
  exact fun _ hp => absurd hp List.not_mem_nil

end Cert.DiffProjIdeal.RefValue
end
-- ==== Proof.DiffProjStored.lean ====
/-
  The keys and values the differential mixer's projection leaves on the prompt, and the arrays its call returns.
-/
module

public import proofs.«01_k».proof.Proof.DiffProjValue

@[expose] public section

set_option maxRecDepth 16384

noncomputable section

open Idealize.ShloMosaic Idealize.ShloMosaic.TcCoe Idealize.SL.Sem
open Idealize.ShloMosaic.Pipeline (Dat)

namespace Cert.DiffProjIdeal.RefValue

open Cert.DiffProjIdeal Cert.DiffProjIdeal.Gen Cert.Layer
open Cert.BandProjIdeal.RefValue (tiled headTile head_tile ones_tile value_tile)

/-- The keys' rows, the keys for the cache and the values' rows are the scratch contents read another way. -/
theorem key_rows (K : S1024x512.Idx → EReal) (Y : Vec Ideal S1024x512 .f32) (z : S512x1024.Idx) (h : Y = K) :
    k0_pay110 (F := Ideal) Y z = K (ix2 (z 1) (z 0)) := by
  subst h
  idx_vars z
  pointwise [k0_pay110]

theorem cached_keys (K : S1024x512.Idx → EReal) (Y : Vec Ideal S1024x512 .f32) (z : S1x1x1024x512.Idx) (h : Y = K) :
    k0_pay147 (F := Ideal) Y z = K (ix2 (z 2) (z 3)) := by
  subst h
  idx_vars z
  pointwise [k0_pay147]

theorem cached_values (K : S1024x512.Idx → EReal) (Y : Vec Ideal S1024x512 .f32) (z : S1x4096x128.Idx) (h : Y = K) :
    k0_pay1 (k0_pay148 (F := Ideal) Y) z = K (ix2 ⟨(z 1).val % 8 * 128 + (z 2).val, by have : (z 2).val < 128 := (z 2).isLt; omega⟩
      ⟨(z 1).val / 8, by have : (z 1).val < 4096 := (z 1).isLt; omega⟩) := by
  subst h
  idx_vars z
  pointwise [k0_pay1, k0_pay148]

variable (m : (ℓ : Loc nD τ sig) → Buf (Elt Ideal) ℓ) (c : Dev nD) (t : Fin cfg0.N)

set_option maxHeartbeats 1000000 in
/-- The keys a point stores, and those it stores for the cache. -/
theorem point_keys (z : S512x1024.Idx) (z' : S1x1x1024x512.Idx) :
    (dats m 0 c).after 8 t z = (inp m c).turnedKey (seqOf t) (posOf t (z 0)) (z 1)
    ∧ (dats m 0 c).after 10 t z' = (inp m c).turnedKey (seqOf t) (posOf t (z' 3)) (z' 2) := by
  show _ = turn (cosOf t (z 0)) (sinOf t (z 0)) (groupNorm (third (xr m c t (z 0)) (inp m c).g (inp m c).w 1) (inp m c).kg) (z 1)
    ∧ _ = turn (cosOf t (z' 3)) (sinOf t (z' 3)) (groupNorm (third (xr m c t (z' 3)) (inp m c).g (inp m c).w 1) (inp m c).kg) (z' 2)
  have b0 : ∀ r k, iblk m c 0 t (ix2 r k) = xr m c t r k := blk0 m c t
  have b1 := blk1 m c t
  have b2 := blk2 m c t
  have b3 := blk4 m c t
  have b5 : ∀ i r, iblk m c 5 t (ix2 i r) = cosOf t r i := blk5 m c t
  have b6 : ∀ i r, iblk m c 6 t (ix2 i r) = sinOf t r i := blk6 m c t
  refine ⟨?_, ?_⟩
  on_goal 1 => rw [after0_8]
  on_goal 2 => rw [after0_10]
  all_goals unfold outsAt0
  all_goals frame_out
  all_goals
    generalize iblk m c 0 t = x0 at b0 ⊢
    generalize iblk m c 1 t = x1 at b1 ⊢
    generalize iblk m c 2 t = x2 at b2 ⊢
    generalize iblk m c 4 t = x3 at b3 ⊢
    generalize iblk m c 5 t = x5 at b5 ⊢
    generalize iblk m c 6 t = x6 at b6 ⊢
    generalize xr m c t = xr at b0 ⊢
    generalize cosOf t = cs at b5 ⊢
    generalize sinOf t = sn at b6 ⊢
    generalize (inp m c).g = g at b1 ⊢
    generalize (inp m c).w = w at b2 ⊢
    generalize (inp m c).kg = gain at b3 ⊢
  on_goal 1 => refine key_rows (fun z : S1024x512.Idx => turn (cs (z 1)) (sn (z 1)) (groupNorm (third (xr (z 1)) g w 1) gain) (z 0)) _ z ?_
  on_goal 2 => refine cached_keys (fun z : S1024x512.Idx => turn (cs (z 1)) (sn (z 1)) (groupNorm (third (xr (z 1)) g w 1) gain) (z 0)) _ z' ?_
  all_goals
    funext y
    rw [View.readCov_eq_canon']
    refine (View.canon_apply_of_pieces (fun z : S1024x512.Idx => turn (cs (z 1)) (sn (z 1)) (groupNorm (third (xr (z 1)) g w 1) gain) (z 0)) _ ?_ _
      (View.cover_of_tiled _ ![64, 512] (by rfl) _)).trans ?_
    on_goal 2 =>
      refine congrArg₂ (fun r f => turn (cs r) (sn r) (groupNorm (third (xr r) g w 1) gain) f) (Fin.ext ?_) (Fin.ext ?_) <;> simp [LoadRect.idx, Rect.toLoadRect, Rect.unit]
    have q := key_tile x0 x1 x2 x3 x5 x6 xr g w gain cs sn b0 b1 b2 b3 b5 b6 1
    refine List.forall_mem_cons.2 ⟨q 192 1792 960 (by decide) rfl rfl (by decide) (by decide) (by decide) (by decide), ?_⟩
    refine List.forall_mem_cons.2 ⟨q 128 1792 896 (by decide) rfl rfl (by decide) (by decide) (by decide) (by decide), ?_⟩
    refine List.forall_mem_cons.2 ⟨q 64 1792 832 (by decide) rfl rfl (by decide) (by decide) (by decide) (by decide), ?_⟩
    refine List.forall_mem_cons.2 ⟨q 0 1792 768 (by decide) rfl rfl (by decide) (by decide) (by decide) (by decide), ?_⟩
    refine List.forall_mem_cons.2 ⟨q 192 1536 704 (by decide) rfl rfl (by decide) (by decide) (by decide) (by decide), ?_⟩
    refine List.forall_mem_cons.2 ⟨q 128 1536 640 (by decide) rfl rfl (by decide) (by decide) (by decide) (by decide), ?_⟩
    refine List.forall_mem_cons.2 ⟨q 64 1536 576 (by decide) rfl rfl (by decide) (by decide) (by decide) (by decide), ?_⟩
    refine List.forall_mem_cons.2 ⟨q 0 1536 512 (by decide) rfl rfl (by decide) (by decide) (by decide) (by decide), ?_⟩
    refine List.forall_mem_cons.2 ⟨q 192 1280 448 (by decide) rfl rfl (by decide) (by decide) (by decide) (by decide), ?_⟩
    refine List.forall_mem_cons.2 ⟨q 128 1280 384 (by decide) rfl rfl (by decide) (by decide) (by decide) (by decide), ?_⟩
    refine List.forall_mem_cons.2 ⟨q 64 1280 320 (by decide) rfl rfl (by decide) (by decide) (by decide) (by decide), ?_⟩
    refine List.forall_mem_cons.2 ⟨q 0 1280 256 (by decide) rfl rfl (by decide) (by decide) (by decide) (by decide), ?_⟩
    refine List.forall_mem_cons.2 ⟨q 192 1024 192 (by decide) rfl rfl (by decide) (by decide) (by decide) (by decide), ?_⟩
    refine List.forall_mem_cons.2 ⟨q 128 1024 128 (by decide) rfl rfl (by decide) (by decide) (by decide) (by decide), ?_⟩
    refine List.forall_mem_cons.2 ⟨q 64 1024 64 (by decide) rfl rfl (by decide) (by decide) (by decide) (by decide), ?_⟩
    refine List.forall_mem_cons.2 ⟨q 0 1024 0 (by decide) rfl rfl (by decide) (by decide) (by decide) (by decide), ?_⟩
    exact fun _ hp => absurd hp List.not_mem_nil

set_option maxHeartbeats 1000000 in
/-- The tiled values a point stores, and those it stores for the cache. -/
theorem point_values (z : S2x1152x256.Idx) (z' : S1x4096x128.Idx) :
    (dats m 0 c).after 9 t z = tiled (fun z => (inp m c).value (seqOf t) (posOf t (z 1)) (z 0)) z
    ∧ (dats m 0 c).after 11 t z' = (inp m c).value (seqOf t)
        (posOf t ⟨(z' 1).val / 8, by have : (z' 1).val < 4096 := (z' 1).isLt; omega⟩)
        ⟨(z' 1).val % 8 * 128 + (z' 2).val, by have : (z' 2).val < 128 := (z' 2).isLt; omega⟩ := by
  show _ = tiled (fun z => third (xr m c t (z 1)) (inp m c).g (inp m c).w 2 (z 0)) z
    ∧ _ = third (xr m c t ⟨(z' 1).val / 8, by have : (z' 1).val < 4096 := (z' 1).isLt; omega⟩) (inp m c).g (inp m c).w 2
        ⟨(z' 1).val % 8 * 128 + (z' 2).val, by have : (z' 2).val < 128 := (z' 2).isLt; omega⟩
  have b0 : ∀ r k, iblk m c 0 t (ix2 r k) = xr m c t r k := blk0 m c t
  have b1 := blk1 m c t
  have b2 := blk2 m c t
  refine ⟨?_, ?_⟩
  on_goal 1 => rw [after0_9]
  on_goal 2 => rw [after0_11]
  all_goals unfold outsAt0
  all_goals frame_out
  all_goals
    generalize iblk m c 0 t = x0 at b0 ⊢
    generalize iblk m c 1 t = x1 at b1 ⊢
    generalize iblk m c 2 t = x2 at b2 ⊢
    generalize xr m c t = xr at b0 ⊢
    generalize (inp m c).g = g at b1 ⊢
    generalize (inp m c).w = w at b2 ⊢
  on_goal 2 => refine cached_values (fun z : S1024x512.Idx => third (xr (z 1)) g w 2 (z 0)) _ z' ?_
  on_goal 1 =>
    generalize hV : View.readCov (Val := Elt Ideal) (View.whole cc0_scratch1) _ _ = V
    refine (View.canon_apply_of_pieces (tiled V) _ ?_ _ (View.cover_of_tiledBy _ ![1, 16, 256] (by sl_kernel_rfl) _)).trans (congrArg (fun V => tiled V z) (hV.symm.trans ?_))
    on_goal 1 =>
      refine List.forall_mem_cons.2 ⟨ones_tile V 1 1136 (by decide) rfl, ?_⟩
      refine List.forall_mem_cons.2 ⟨head_tile V 1 896 256 1008 (by decide) (by decide) rfl rfl rfl, ?_⟩
      refine List.forall_mem_cons.2 ⟨ones_tile V 1 992 (by decide) rfl, ?_⟩
      refine List.forall_mem_cons.2 ⟨head_tile V 1 768 256 864 (by decide) (by decide) rfl rfl rfl, ?_⟩
      refine List.forall_mem_cons.2 ⟨ones_tile V 1 848 (by decide) rfl, ?_⟩
      refine List.forall_mem_cons.2 ⟨head_tile V 1 640 256 720 (by decide) (by decide) rfl rfl rfl, ?_⟩
      refine List.forall_mem_cons.2 ⟨ones_tile V 1 704 (by decide) rfl, ?_⟩
      refine List.forall_mem_cons.2 ⟨head_tile V 1 512 256 576 (by decide) (by decide) rfl rfl rfl, ?_⟩
      refine List.forall_mem_cons.2 ⟨ones_tile V 1 560 (by decide) rfl, ?_⟩
      refine List.forall_mem_cons.2 ⟨head_tile V 1 384 256 432 (by decide) (by decide) rfl rfl rfl, ?_⟩
      refine List.forall_mem_cons.2 ⟨ones_tile V 1 416 (by decide) rfl, ?_⟩
      refine List.forall_mem_cons.2 ⟨head_tile V 1 256 256 288 (by decide) (by decide) rfl rfl rfl, ?_⟩
      refine List.forall_mem_cons.2 ⟨ones_tile V 1 272 (by decide) rfl, ?_⟩
      refine List.forall_mem_cons.2 ⟨head_tile V 1 128 256 144 (by decide) (by decide) rfl rfl rfl, ?_⟩
      refine List.forall_mem_cons.2 ⟨ones_tile V 1 128 (by decide) rfl, ?_⟩
      refine List.forall_mem_cons.2 ⟨head_tile V 1 0 256 0 (by decide) (by decide) rfl rfl rfl, ?_⟩
      refine List.forall_mem_cons.2 ⟨ones_tile V 0 1136 (by decide) rfl, ?_⟩
      refine List.forall_mem_cons.2 ⟨head_tile V 0 896 0 1008 (by decide) (by decide) rfl rfl rfl, ?_⟩
      refine List.forall_mem_cons.2 ⟨ones_tile V 0 992 (by decide) rfl, ?_⟩
      refine List.forall_mem_cons.2 ⟨head_tile V 0 768 0 864 (by decide) (by decide) rfl rfl rfl, ?_⟩
      refine List.forall_mem_cons.2 ⟨ones_tile V 0 848 (by decide) rfl, ?_⟩
      refine List.forall_mem_cons.2 ⟨head_tile V 0 640 0 720 (by decide) (by decide) rfl rfl rfl, ?_⟩
      refine List.forall_mem_cons.2 ⟨ones_tile V 0 704 (by decide) rfl, ?_⟩
      refine List.forall_mem_cons.2 ⟨head_tile V 0 512 0 576 (by decide) (by decide) rfl rfl rfl, ?_⟩
      refine List.forall_mem_cons.2 ⟨ones_tile V 0 560 (by decide) rfl, ?_⟩
      refine List.forall_mem_cons.2 ⟨head_tile V 0 384 0 432 (by decide) (by decide) rfl rfl rfl, ?_⟩
      refine List.forall_mem_cons.2 ⟨ones_tile V 0 416 (by decide) rfl, ?_⟩
      refine List.forall_mem_cons.2 ⟨head_tile V 0 256 0 288 (by decide) (by decide) rfl rfl rfl, ?_⟩
      refine List.forall_mem_cons.2 ⟨ones_tile V 0 272 (by decide) rfl, ?_⟩
      refine List.forall_mem_cons.2 ⟨head_tile V 0 128 0 144 (by decide) (by decide) rfl rfl rfl, ?_⟩
      refine List.forall_mem_cons.2 ⟨ones_tile V 0 128 (by decide) rfl, ?_⟩
      refine List.forall_mem_cons.2 ⟨head_tile V 0 0 0 0 (by decide) (by decide) rfl rfl rfl, ?_⟩
      exact fun _ hp => absurd hp List.not_mem_nil
  all_goals
    funext y
    rw [View.readCov_eq_canon']
    refine (View.canon_apply_of_pieces (fun z : S1024x512.Idx => third (xr (z 1)) g w 2 (z 0)) _ ?_ _
      (View.cover_of_tiled _ ![256, 512] (by rfl) _)).trans ?_
    on_goal 2 =>
      refine congrArg₂ (fun r f => third (xr r) g w 2 f) (Fin.ext ?_) (Fin.ext ?_) <;> simp [LoadRect.idx, Rect.toLoadRect, Rect.unit]
    have q := value_tile x0 x1 x2 xr g w b0 b1 b2
    refine List.forall_mem_cons.2 ⟨q 2816 768 rfl (by decide) (by decide), ?_⟩
    refine List.forall_mem_cons.2 ⟨q 2560 512 rfl (by decide) (by decide), ?_⟩
    refine List.forall_mem_cons.2 ⟨q 2304 256 rfl (by decide) (by decide), ?_⟩
    refine List.forall_mem_cons.2 ⟨q 2048 0 rfl (by decide) (by decide), ?_⟩
    exact fun _ hp => absurd hp List.not_mem_nil

/-- The arrays the call writes. -/
theorem final_q : (dats m 0 c).arrAt 7 (cfgs 0).N = scaledQueries (inp m c).turnedQuery := by
  refine (dats m 0 c).arrAt_eq_of_covers 7 _ (by decide +kernel) fun t _ y => ?_
  have := pt_lt t
  blk_simp
  idx_vars y
  have e : (((cfg0.win 7).blk t).view.emb (ix3 y0 y1 y2) : S16x1024x2048.Idx) = ix3 (seqOf t) y1 (posOf t y2) := by
    blk_ext [idx_val t, seqOf, posOf]
  rw [e]
  exact point_q m c t (ix3 y0 y1 y2)

theorem final_k : (dats m 0 c).arrAt 8 (cfgs 0).N = keyRows (inp m c).turnedKey := by
  refine (dats m 0 c).arrAt_eq_of_covers 8 _ (by decide +kernel) fun t _ y => ?_
  have := pt_lt t
  blk_simp
  idx_vars y
  have e : (((cfg0.win 8).blk t).view.emb (ix2 y0 y1) : S32768x1024.Idx) = ix2 ⟨t.val * 512 + y0.val, by omega⟩ y1 := by
    blk_ext [idx_val t]
  rw [e]
  refine (point_keys m c t (ix2 y0 y1) (fun _ => ⟨0, by decide +revert⟩)).1.trans ?_
  refine congrArg₂ (fun a b => (inp m c).turnedKey a b y1) (Fin.ext ?_) (Fin.ext ?_)
  · show t.val / 4 = (t.val * 512 + y0.val) / 2048
    omega
  · show t.val % 4 * 512 + y0.val = (t.val * 512 + y0.val) % 2048
    omega

theorem final_v : (dats m 0 c).arrAt 9 (cfgs 0).N = valueTiles (inp m c).value := by
  refine (dats m 0 c).arrAt_eq_of_covers 9 _ (by decide +kernel) fun t _ y => ?_
  have := pt_lt t
  blk_simp
  idx_vars y
  have e : (((cfg0.win 9).blk t).view.emb (ix3 y0 y1 y2) : S128x1152x256.Idx) = ix3 ⟨t.val * 2 + y0.val, by omega⟩ y1 y2 := by
    blk_ext [idx_val t]
  rw [e]
  refine (point_values m c t (ix3 y0 y1 y2) (fun _ => ⟨0, by decide +revert⟩)).1.trans ?_
  unfold tiled valueTiles
  refine if_congr Iff.rfl ?_ rfl
  refine congrArg₂ (fun a b => (inp m c).value a b _) (Fin.ext ?_) (Fin.ext ?_)
  · show t.val / 4 = (t.val * 2 + y0.val) / 8
    omega
  · show t.val % 4 * 512 + (y0.val * 256 + y2.val) = (t.val * 2 + y0.val) % 8 * 256 + y2.val
    omega

/-- The keys of all positions feature by feature, and the values head by head. -/
abbrev cachedKeys (k : Fin 16 → Fin 2048 → Fin 1024 → EReal) : FVec Ideal S1x16x1024x2048 .f32 := fun i => k (i 1) (i 3) (i 2)
abbrev cachedValues (k : Fin 16 → Fin 2048 → Fin 1024 → EReal) : FVec Ideal S1x262144x128 .f32 := fun i =>
  k ⟨(i 1).val / 16384, by have : (i 1).val < 262144 := (i 1).isLt; omega⟩ ⟨(i 1).val / 8 % 2048, by omega⟩
    ⟨(i 1).val % 8 * 128 + (i 2).val, by have : (i 2).val < 128 := (i 2).isLt; omega⟩

theorem final_kk : (dats m 0 c).arrAt 10 (cfgs 0).N = cachedKeys (inp m c).turnedKey := by
  refine (dats m 0 c).arrAt_eq_of_covers 10 _ (by decide +kernel) fun t _ y => ?_
  have := pt_lt t
  blk_simp
  idx_vars y
  have e : (((cfg0.win 10).blk t).view.emb (ix4 y0 y1 y2 y3) : S1x16x1024x2048.Idx) = ix4 0 (seqOf t) y2 (posOf t y3) := by
    blk_ext [idx_val t, seqOf, posOf]
  rw [e]
  exact (point_keys m c t (fun _ => ⟨0, by decide +revert⟩) (ix4 y0 y1 y2 y3)).2

theorem final_kv : (dats m 0 c).arrAt 11 (cfgs 0).N = cachedValues (inp m c).value := by
  refine (dats m 0 c).arrAt_eq_of_covers 11 _ (by decide +kernel) fun t _ y => ?_
  have := pt_lt t
  blk_simp
  idx_vars y
  have e : (((cfg0.win 11).blk t).view.emb (ix3 y0 y1 y2) : S1x262144x128.Idx) = ix3 0 ⟨t.val * 4096 + y1.val, by omega⟩ y2 := by
    blk_ext [idx_val t]
  rw [e]
  refine (point_values m c t (fun _ => ⟨0, by decide +revert⟩) (ix3 y0 y1 y2)).2.trans ?_
  have e1 : seqOf t = ⟨(t.val * 4096 + y1.val) / 16384, by omega⟩ := Fin.ext (by show t.val / 4 = (t.val * 4096 + y1.val) / 16384; omega)
  have e2 : posOf t ⟨y1.val / 8, by omega⟩ = ⟨(t.val * 4096 + y1.val) / 8 % 2048, by omega⟩ :=
    Fin.ext (by show t.val % 4 * 512 + y1.val / 8 = (t.val * 4096 + y1.val) / 8 % 2048; omega)
  have e3 : (⟨y1.val % 8 * 128 + y2.val, by omega⟩ : Fin 1024) = ⟨(t.val * 4096 + y1.val) % 8 * 128 + y2.val, by omega⟩ :=
    Fin.ext (by show y1.val % 8 * 128 + y2.val = (t.val * 4096 + y1.val) % 8 * 128 + y2.val; omega)
  exact (congrArg (fun f => (inp m c).value (seqOf t) (posOf t ⟨y1.val / 8, by omega⟩) f) e3).trans
    (congrArg₂ (fun a b => (inp m c).value a b ⟨(t.val * 4096 + y1.val) % 8 * 128 + y2.val, by omega⟩) e1 e2)

/-- The host splits the features into pairs of groups and puts the positions first. -/
theorem pair_groups (k : Fin 16 → Fin 2048 → Fin 1024 → EReal) :
    transpose S1x16x2048x8x2x64 [0, 1, 5, 2, 3, 4] (shapeCast S1x16x8x2x64x2048 (cachedKeys k) shapeCasts_S1x16x1024x2048_S1x16x8x2x64x2048)
      transposes_S1x16x8x2x64x2048_S1x16x2048x8x2x64_0_1_5_2_3_4 = pairGroups k := by
  funext i
  idx_vars i
  unfold pairGroups
  pointwise
  refine congrArg (k i1 i2) (Fin.ext ?_)
  simp
  omega

theorem head_values (k : Fin 16 → Fin 2048 → Fin 1024 → EReal) :
    shapeCast S1x16x2048x8x128 (cachedValues k) shapeCasts_S1x262144x128_S1x16x2048x8x128 = headValues k := by
  funext i
  idx_vars i
  unfold headValues
  pointwise
  have e1 : (⟨(i1.val * 16384 + i2.val * 8 + i3.val) / 16384, by omega⟩ : Fin 16) = i1 := Fin.ext (by show (i1.val * 16384 + i2.val * 8 + i3.val) / 16384 = i1.val; omega)
  have e2 : (⟨(i1.val * 16384 + i2.val * 8 + i3.val) / 8 % 2048, by omega⟩ : Fin 2048) = i2 := Fin.ext (by show (i1.val * 16384 + i2.val * 8 + i3.val) / 8 % 2048 = i2.val; omega)
  have e3 : (⟨(i1.val * 16384 + i2.val * 8 + i3.val) % 8 * 128 + i4.val, by omega⟩ : Fin 1024) = ⟨i3.val * 128 + i4.val, by omega⟩ :=
    Fin.ext (by show (i1.val * 16384 + i2.val * 8 + i3.val) % 8 * 128 + i4.val = i3.val * 128 + i4.val; omega)
  exact (congrArg (k _ _) e3).trans (congrArg₂ (fun a b => k a b ⟨i3.val * 128 + i4.val, by omega⟩) e1 e2)

/-- The call's results are the projection in its layouts. -/
theorem run (ρ : Dev nD → PrngReg) : θ_run defs (onTc (τ := τ) (main (F := Ideal))) ⟨m, fun _ => 0, ρ⟩ fun r => ∀ c : Dev nD,
      r.2.mem ((c : Thread nD τ).loc main_v32_0) = scaledQueries (inp m c).turnedQuery
      ∧ r.2.mem ((c : Thread nD τ).loc main_v32_1) = keyRows (inp m c).turnedKey
      ∧ r.2.mem ((c : Thread nD τ).loc main_v32_2) = valueTiles (inp m c).value
      ∧ r.2.mem ((c : Thread nD τ).loc main_v34) = pairGroups (inp m c).turnedKey
      ∧ r.2.mem ((c : Thread nD τ).loc main_v35) = headValues (inp m c).value := by
  refine (θ_run defs _ _).mono (fun r h c => ⟨?_, ?_, ?_, ?_, ?_⟩) (run_main (F := Ideal) m ρ)
  · exact ((h c).1 7).trans (final_q m c)
  · exact ((h c).1 8).trans (final_k m c)
  · exact ((h c).1 9).trans (final_v m c)
  · refine ((h c).2 main_v34 (by decide)).trans ?_
    unfold Pipeline.afterTail₀
    simp only [List.flatten_cons, List.flatten_nil, List.append_nil, hostOps1]
    after_region_results
    have e := (Pipeline.withArrays_arr (cfgs 0).spec launch0.win.arr_inj c (V0 m c) (fun w => (dats m 0 c).arrAt w (cfgs 0).N) 10).trans
      (final_kk m c)
    exact (congrArg (fun Y => transpose S1x16x2048x8x2x64 [0, 1, 5, 2, 3, 4] (shapeCast S1x16x8x2x64x2048 Y shapeCasts_S1x16x1024x2048_S1x16x8x2x64x2048)
      transposes_S1x16x8x2x64x2048_S1x16x2048x8x2x64_0_1_5_2_3_4) e).trans (pair_groups _)
  · refine ((h c).2 main_v35 (by decide)).trans ?_
    unfold Pipeline.afterTail₀
    simp only [List.flatten_cons, List.flatten_nil, List.append_nil, hostOps1]
    after_region_results
    have e := (Pipeline.withArrays_arr (cfgs 0).spec launch0.win.arr_inj c (V0 m c) (fun w => (dats m 0 c).arrAt w (cfgs 0).N) 11).trans
      (final_kv m c)
    exact (congrArg (fun Y => shapeCast S1x16x2048x8x128 Y shapeCasts_S1x262144x128_S1x16x2048x8x128) e).trans (head_values _)

end Cert.DiffProjIdeal.RefValue
end
-- ==== Proof.DiffProjClaims.lean ====
/-
  The claims about the differential mixer's projection on the prompt: the frames of the kernel and of its two idealized programs, and that
  the kernel over the reals computes what the reference computes.
-/
module

public import proofs.«01_k».proof.Proof.DiffProjStored
public import proofs.«01_k».proof.Proof.DiffProjRef
public import proofs.«01_k».proof.Proof.Gen.DiffProj.Frame
public import Idealize.ShloMosaic.Lib.Quiescent

@[expose] public section

noncomputable section

open Idealize.ShloMosaic Idealize.ShloMosaic.TcCoe Idealize.SL.Sem

namespace Cert.Proof.DiffProjClaims

open Cert.DiffProjIdeal.RefValue Cert.DiffProjRefIdeal.RefValue Cert.Layer

/-- The frames: every run ends, leaves the arguments as they were and no semaphore raised. -/
theorem frame_k : Cert.quiescent_DiffProj := fun m ρ _ => Cert.DiffProj.Gen.frame m ρ
theorem frame_i : Cert.quiescent_DiffProjIdeal := fun m ρ _ => Cert.DiffProjIdeal.Gen.frame m ρ
theorem frame_r : Cert.quiescent_DiffProjRefIdeal := fun m ρ _ =>
  (θ_run Cert.DiffProjRefIdeal.defs _ _).mono
    (fun r h => ⟨fun c => (h c).2.2.2.2.2, Idealize.ShloMosaic.sem_eq_zero_of_no_sems (by decide) r.2⟩)
    (Cert.DiffProjRefIdeal.Value.run (F := Ideal) m ρ)

/-- The kernel and the reference compute the same function of the same arguments. -/
theorem algebraic : Cert.algebraic_DiffProjIdeal_DiffProjRefIdeal := by
  intro m ρ m' ρ' _ hag
  refine ⟨fun c => scaledQueries (inp m c).turnedQuery, fun c => keyRows (inp m c).turnedKey, fun c => valueTiles (inp m c).value,
    fun c => pairGroups (inp m c).turnedKey, fun c => headValues (inp m c).value, ?_, ?_⟩
  · exact (θ_run Cert.DiffProjIdeal.defs _ _).mono
      (fun _ h c => ⟨(h.1 c).1, (h.1 c).2.1, (h.1 c).2.2.1, (h.1 c).2.2.2.1, (h.1 c).2.2.2.2, h.2 c⟩)
      (θ_run_and (run m ρ) (Cert.DiffProjIdeal.Gen.unchanged (F := Ideal) m ρ))
  · refine (θ_run Cert.DiffProjRefIdeal.defs _ _).mono (fun _ h c => ?_)
      (Cert.DiffProjRefIdeal.Value.run (F := Ideal) m' ρ')
    obtain ⟨e0, e1, e2, e3, e4⟩ := hag c
    have es : projIn (m' ((c.tc : Thread Cert.DiffProjRefIdeal.nD Cert.DiffProjRefIdeal.τ).loc Cert.DiffProjRefIdeal.main_arg0)) (m' ((c.tc : Thread Cert.DiffProjRefIdeal.nD Cert.DiffProjRefIdeal.τ).loc Cert.DiffProjRefIdeal.main_arg1)) (m' ((c.tc : Thread Cert.DiffProjRefIdeal.nD Cert.DiffProjRefIdeal.τ).loc Cert.DiffProjRefIdeal.main_arg2)) (m' ((c.tc : Thread Cert.DiffProjRefIdeal.nD Cert.DiffProjRefIdeal.τ).loc Cert.DiffProjRefIdeal.main_arg3)) (m' ((c.tc : Thread Cert.DiffProjRefIdeal.nD Cert.DiffProjRefIdeal.τ).loc Cert.DiffProjRefIdeal.main_arg4)) = inp m c := by
      rw [e0, e1, e2, e3, e4]
      rfl
    refine ⟨(h c).1.trans ?_, (h c).2.1.trans ?_, (h c).2.2.1.trans ?_, (h c).2.2.2.1.trans ?_, (h c).2.2.2.2.1.trans ?_, (h c).2.2.2.2.2⟩
    · rw [Cert.DiffProjRefIdeal.Read.val_main_v114_eq, queries_eq _ _ _ _ (m' ((c.tc : Thread Cert.DiffProjRefIdeal.nD Cert.DiffProjRefIdeal.τ).loc Cert.DiffProjRefIdeal.main_arg4))]
      exact congrArg (fun I : ProjIn 2048 => scaledQueries I.turnedQuery) es
    · rw [Cert.DiffProjRefIdeal.Read.val_main_v116_eq, keys_eq _ _ _ (m' ((c.tc : Thread Cert.DiffProjRefIdeal.nD Cert.DiffProjRefIdeal.τ).loc Cert.DiffProjRefIdeal.main_arg3))]
      exact congrArg (fun I : ProjIn 2048 => keyRows I.turnedKey) es
    · rw [Cert.DiffProjRefIdeal.Read.val_main_v117_eq, tiles_eq _ _ _ (m' ((c.tc : Thread Cert.DiffProjRefIdeal.nD Cert.DiffProjRefIdeal.τ).loc Cert.DiffProjRefIdeal.main_arg3)) (m' ((c.tc : Thread Cert.DiffProjRefIdeal.nD Cert.DiffProjRefIdeal.τ).loc Cert.DiffProjRefIdeal.main_arg4))]
      exact congrArg (fun I : ProjIn 2048 => valueTiles I.value) es
    · rw [Cert.DiffProjRefIdeal.Read.val_main_v118_eq, cached_keys_eq _ _ _ (m' ((c.tc : Thread Cert.DiffProjRefIdeal.nD Cert.DiffProjRefIdeal.τ).loc Cert.DiffProjRefIdeal.main_arg3))]
      exact congrArg (fun I : ProjIn 2048 => pairGroups I.turnedKey) es
    · rw [Cert.DiffProjRefIdeal.Read.val_main_v119_eq, cached_values_eq _ _ _ (m' ((c.tc : Thread Cert.DiffProjRefIdeal.nD Cert.DiffProjRefIdeal.τ).loc Cert.DiffProjRefIdeal.main_arg3)) (m' ((c.tc : Thread Cert.DiffProjRefIdeal.nD Cert.DiffProjRefIdeal.τ).loc Cert.DiffProjRefIdeal.main_arg4))]
      exact congrArg (fun I : ProjIn 2048 => headValues I.value) es

end Cert.Proof.DiffProjClaims

end
-- ==== Proof.lean ====
module

public import proofs.«01_k».proof.Defs
public import proofs.«01_k».proof.Proof.MlpValue
public import proofs.«01_k».proof.Proof.MlpLastValue
public import proofs.«01_k».proof.Proof.MlpSampleValue
public import proofs.«01_k».proof.Proof.RgSampleClaims
public import proofs.«01_k».proof.Proof.BandProjClaims
public import proofs.«01_k».proof.Proof.BandRowsClaims
public import proofs.«01_k».proof.Proof.DiffRowsClaims
public import proofs.«01_k».proof.Proof.DiffProjClaims

@[expose] public section

noncomputable section

namespace Cert.Proof

open Idealize.ShloMosaic Idealize.SL.Sem

theorem claim : Cert.Claim := ⟨Cert.Mlp.Gen.facts, Cert.MlpIdeal.Gen.facts, Cert.MlpRefIdeal.Gen.facts, Cert.MlpLast.Gen.facts, Cert.MlpLastIdeal.Gen.facts, Cert.MlpLastRefIdeal.Gen.facts, Cert.MlpSample.Gen.facts, Cert.MlpSampleIdeal.Gen.facts, Cert.MlpSampleRefIdeal.Gen.facts, Cert.RgSample.Gen.facts, Cert.RgSampleIdeal.Gen.facts, Cert.RgSampleRefIdeal.Gen.facts, Cert.BandProj.Gen.facts, Cert.BandProjIdeal.Gen.facts, Cert.BandProjRefIdeal.Gen.facts, Cert.BandRows.Gen.facts, Cert.BandRowsIdeal.Gen.facts, Cert.BandRowsRefIdeal.Gen.facts, Cert.DiffRows.Gen.facts, Cert.DiffRowsIdeal.Gen.facts, Cert.DiffRowsRefIdeal.Gen.facts, Cert.DiffProj.Gen.facts, Cert.DiffProjIdeal.Gen.facts, Cert.DiffProjRefIdeal.Gen.facts, by
  exact ⟨
    MlpClaims.frame_k, MlpClaims.frame_i, MlpClaims.frame_r,
    MlpLastClaims.frame_k, MlpLastClaims.frame_i, MlpLastClaims.frame_r,
    MlpSampleClaims.frame_k, MlpSampleClaims.frame_i, MlpSampleClaims.frame_r,
    RgSampleClaims.frame_k, RgSampleClaims.frame_i, RgSampleClaims.frame_r,
    BandProjClaims.frame_k, BandProjClaims.frame_i, BandProjClaims.frame_r,
    BandRowsClaims.frame_k, BandRowsClaims.frame_i, BandRowsClaims.frame_r,
    DiffRowsClaims.frame_k, DiffRowsClaims.frame_i, DiffRowsClaims.frame_r,
    DiffProjClaims.frame_k, DiffProjClaims.frame_i, DiffProjClaims.frame_r,
    trivial, MlpClaims.algebraic,
    trivial, MlpLastClaims.algebraic,
    trivial, MlpSampleClaims.algebraic,
    RgSampleClaims.preserved, RgSampleClaims.algebraic,
    trivial, BandProjClaims.algebraic,
    trivial, BandRowsClaims.algebraic,
    trivial, DiffRowsClaims.algebraic,
    trivial, DiffProjClaims.algebraic⟩⟩

end Cert.Proof

end
